-- ==== Defs.lean ====
def Pre_GainKernel (m : (ℓ : Loc Cert.GainKernel.nD Cert.GainKernel.τ Cert.GainKernel.sig) → Buf (Elt Bits) ℓ) : Prop :=
  True

def Pre_GainKernelIdeal (m : (ℓ : Loc Cert.GainKernelIdeal.nD Cert.GainKernelIdeal.τ Cert.GainKernelIdeal.sig) → Buf (Elt Ideal) ℓ) : Prop :=
  True

def Pre_GainReferenceIdeal (m : (ℓ : Loc Cert.GainReferenceIdeal.nD Cert.GainReferenceIdeal.τ Cert.GainReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormKernelIdeal_norm_finite [hPre_norm_finite : Cert.Pre_norm_finite.Facts] (m : (ℓ : Loc Cert.NormKernelIdeal.nD Cert.NormKernelIdeal.τ Cert.NormKernelIdeal.sig) → Buf (Elt Ideal) ℓ) : Prop :=
  ∀ c : Dev Cert.NormKernelIdeal.nD,
    (Cert.Pre_norm_finite.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3))) = (fun _ => 1#1)

def Pre_NormReferenceIdeal (m : (ℓ : Loc Cert.NormReferenceIdeal.nD Cert.NormReferenceIdeal.τ Cert.NormReferenceIdeal.sig) → Buf (Elt Ideal) ℓ) : Prop :=
  True

def Pre_NormReferenceIdeal_norm_finite [hPre_norm_finite : Cert.Pre_norm_finite.Facts] (m : (ℓ : Loc Cert.NormReferenceIdeal.nD Cert.NormReferenceIdeal.τ Cert.NormReferenceIdeal.sig) → Buf (Elt Ideal) ℓ) : Prop :=
  ∀ c : Dev Cert.NormReferenceIdeal.nD,
    (Cert.Pre_norm_finite.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3))) = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_loss_finite [hPre_loss_finite : Cert.Pre_loss_finite.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))) = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_loss_finite [hPre_loss_finite : Cert.Pre_loss_finite.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))) = (fun _ => 1#1)

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_attn_finite [hPre_attn_finite : Cert.Pre_attn_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2))) = (fun _ => 1#1)

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_GmlpKernel (m : (ℓ : Loc Cert.GmlpKernel.nD Cert.GmlpKernel.τ Cert.GmlpKernel.sig) → Buf (Elt Bits) ℓ) : Prop :=
  True

def Pre_GmlpKernelIdeal (m : (ℓ : Loc Cert.GmlpKernelIdeal.nD Cert.GmlpKernelIdeal.τ Cert.GmlpKernelIdeal.sig) → Buf (Elt Ideal) ℓ) : Prop :=
  True

def Pre_GmlpKernelIdeal_gmlp_finite [hPre_gmlp_finite : Cert.Pre_gmlp_finite.Facts] (m : (ℓ : Loc Cert.GmlpKernelIdeal.nD Cert.GmlpKernelIdeal.τ Cert.GmlpKernelIdeal.sig) → Buf (Elt Ideal) ℓ) : Prop :=
  ∀ c : Dev Cert.GmlpKernelIdeal.nD,
    (Cert.Pre_gmlp_finite.fn (F := Ideal) (m ((c.tc : Thread Cert.GmlpKernelIdeal.nD Cert.GmlpKernelIdeal.τ).loc Cert.GmlpKernelIdeal.main_arg0)) (m ((c.tc : Thread Cert.GmlpKernelIdeal.nD Cert.GmlpKernelIdeal.τ).loc Cert.GmlpKernelIdeal.main_arg1)) (m ((c.tc : Thread Cert.GmlpKernelIdeal.nD Cert.GmlpKernelIdeal.τ).loc Cert.GmlpKernelIdeal.main_arg2)) (m ((c.tc : Thread Cert.GmlpKernelIdeal.nD Cert.GmlpKernelIdeal.τ).loc Cert.GmlpKernelIdeal.main_arg3)) (m ((c.tc : Thread Cert.GmlpKernelIdeal.nD Cert.GmlpKernelIdeal.τ).loc Cert.GmlpKernelIdeal.main_arg4)) (m ((c.tc : Thread Cert.GmlpKernelIdeal.nD Cert.GmlpKernelIdeal.τ).loc Cert.GmlpKernelIdeal.main_arg5))) = (fun _ => 1#1)

def Pre_GmlpReferenceIdeal (m : (ℓ : Loc Cert.GmlpReferenceIdeal.nD Cert.GmlpReferenceIdeal.τ Cert.GmlpReferenceIdeal.sig) → Buf (Elt Ideal) ℓ) : Prop :=
  True

def Pre_GmlpReferenceIdeal_gmlp_finite [hPre_gmlp_finite : Cert.Pre_gmlp_finite.Facts] (m : (ℓ : Loc Cert.GmlpReferenceIdeal.nD Cert.GmlpReferenceIdeal.τ Cert.GmlpReferenceIdeal.sig) → Buf (Elt Ideal) ℓ) : Prop :=
  ∀ c : Dev Cert.GmlpReferenceIdeal.nD,
    (Cert.Pre_gmlp_finite.fn (F := Ideal) (m ((c.tc : Thread Cert.GmlpReferenceIdeal.nD Cert.GmlpReferenceIdeal.τ).loc Cert.GmlpReferenceIdeal.main_arg0)) (m ((c.tc : Thread Cert.GmlpReferenceIdeal.nD Cert.GmlpReferenceIdeal.τ).loc Cert.GmlpReferenceIdeal.main_arg1)) (m ((c.tc : Thread Cert.GmlpReferenceIdeal.nD Cert.GmlpReferenceIdeal.τ).loc Cert.GmlpReferenceIdeal.main_arg2)) (m ((c.tc : Thread Cert.GmlpReferenceIdeal.nD Cert.GmlpReferenceIdeal.τ).loc Cert.GmlpReferenceIdeal.main_arg3)) (m ((c.tc : Thread Cert.GmlpReferenceIdeal.nD Cert.GmlpReferenceIdeal.τ).loc Cert.GmlpReferenceIdeal.main_arg4)) (m ((c.tc : Thread Cert.GmlpReferenceIdeal.nD Cert.GmlpReferenceIdeal.τ).loc Cert.GmlpReferenceIdeal.main_arg5))) = (fun _ => 1#1)

def Pre_RmsFwdKernel (m : (ℓ : Loc Cert.RmsFwdKernel.nD Cert.RmsFwdKernel.τ Cert.RmsFwdKernel.sig) → Buf (Elt Bits) ℓ) : Prop :=
  True

def Pre_RmsFwdKernelIdeal (m : (ℓ : Loc Cert.RmsFwdKernelIdeal.nD Cert.RmsFwdKernelIdeal.τ Cert.RmsFwdKernelIdeal.sig) → Buf (Elt Ideal) ℓ) : Prop :=
  True

def Pre_RmsFwdReferenceIdeal (m : (ℓ : Loc Cert.RmsFwdReferenceIdeal.nD Cert.RmsFwdReferenceIdeal.τ Cert.RmsFwdReferenceIdeal.sig) → Buf (Elt Ideal) ℓ) : Prop :=
  True

def Pre_AttnFwdKernel (m : (ℓ : Loc Cert.AttnFwdKernel.nD Cert.AttnFwdKernel.τ Cert.AttnFwdKernel.sig) → Buf (Elt Bits) ℓ) : Prop :=
  True

def Pre_AttnFwdKernelIdeal (m : (ℓ : Loc Cert.AttnFwdKernelIdeal.nD Cert.AttnFwdKernelIdeal.τ Cert.AttnFwdKernelIdeal.sig) → Buf (Elt Ideal) ℓ) : Prop :=
  True

def Pre_AttnFwdReferenceIdeal (m : (ℓ : Loc Cert.AttnFwdReferenceIdeal.nD Cert.AttnFwdReferenceIdeal.τ Cert.AttnFwdReferenceIdeal.sig) → Buf (Elt Ideal) ℓ) : Prop :=
  True

def Pre_ConvFwdKernel (m : (ℓ : Loc Cert.ConvFwdKernel.nD Cert.ConvFwdKernel.τ Cert.ConvFwdKernel.sig) → Buf (Elt Bits) ℓ) : Prop :=
  True

def Pre_ConvFwdKernelIdeal (m : (ℓ : Loc Cert.ConvFwdKernelIdeal.nD Cert.ConvFwdKernelIdeal.τ Cert.ConvFwdKernelIdeal.sig) → Buf (Elt Ideal) ℓ) : Prop :=
  True

def Pre_ConvFwdReferenceIdeal (m : (ℓ : Loc Cert.ConvFwdReferenceIdeal.nD Cert.ConvFwdReferenceIdeal.τ Cert.ConvFwdReferenceIdeal.sig) → Buf (Elt Ideal) ℓ) : Prop :=
  True

def Pre_GmlpFwdKernel (m : (ℓ : Loc Cert.GmlpFwdKernel.nD Cert.GmlpFwdKernel.τ Cert.GmlpFwdKernel.sig) → Buf (Elt Bits) ℓ) : Prop :=
  True

def Pre_GmlpFwdKernelIdeal (m : (ℓ : Loc Cert.GmlpFwdKernelIdeal.nD Cert.GmlpFwdKernelIdeal.τ Cert.GmlpFwdKernelIdeal.sig) → Buf (Elt Ideal) ℓ) : Prop :=
  True

def Pre_GmlpFwdReferenceIdeal (m : (ℓ : Loc Cert.GmlpFwdReferenceIdeal.nD Cert.GmlpFwdReferenceIdeal.τ Cert.GmlpFwdReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjKernelIdeal_proj_finite [hPre_proj_finite : Cert.Pre_proj_finite.Facts] (m : (ℓ : Loc Cert.ProjKernelIdeal.nD Cert.ProjKernelIdeal.τ Cert.ProjKernelIdeal.sig) → Buf (Elt Ideal) ℓ) : Prop :=
  ∀ c : Dev Cert.ProjKernelIdeal.nD,
    (Cert.Pre_proj_finite.fn (F := Ideal) (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2)) (m ((c.tc : Thread Cert.ProjKernelIdeal.nD Cert.ProjKernelIdeal.τ).loc Cert.ProjKernelIdeal.main_arg3)) (m ((c.tc : Thread Cert.ProjKernelIdeal.nD Cert.ProjKernelIdeal.τ).loc Cert.ProjKernelIdeal.main_arg4))) = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_proj_finite [hPre_proj_finite : Cert.Pre_proj_finite.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_proj_finite.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_ffn_finite [hPre_ffn_finite : Cert.Pre_ffn_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3))) = (fun _ => 1#1)

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_DwKernel (m : (ℓ : Loc Cert.DwKernel.nD Cert.DwKernel.τ Cert.DwKernel.sig) → Buf (Elt Bits) ℓ) : Prop :=
  True

def Pre_DwKernelIdeal (m : (ℓ : Loc Cert.DwKernelIdeal.nD Cert.DwKernelIdeal.τ Cert.DwKernelIdeal.sig) → Buf (Elt Ideal) ℓ) : Prop :=
  True

def Pre_DwReferenceIdeal (m : (ℓ : Loc Cert.DwReferenceIdeal.nD Cert.DwReferenceIdeal.τ Cert.DwReferenceIdeal.sig) → Buf (Elt Ideal) ℓ) : Prop :=
  True

def Pre_DxnKernel (m : (ℓ : Loc Cert.DxnKernel.nD Cert.DxnKernel.τ Cert.DxnKernel.sig) → Buf (Elt Bits) ℓ) : Prop :=
  True

def Pre_DxnKernelIdeal (m : (ℓ : Loc Cert.DxnKernelIdeal.nD Cert.DxnKernelIdeal.τ Cert.DxnKernelIdeal.sig) → Buf (Elt Ideal) ℓ) : Prop :=
  True

def Pre_DxnReferenceIdeal (m : (ℓ : Loc Cert.DxnReferenceIdeal.nD Cert.DxnReferenceIdeal.τ Cert.DxnReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_FlatKernel (m : (ℓ : Loc Cert.FlatKernel.nD Cert.FlatKernel.τ Cert.FlatKernel.sig) → Buf (Elt Bits) ℓ) : Prop :=
  True

def Pre_FlatKernelIdeal (m : (ℓ : Loc Cert.FlatKernelIdeal.nD Cert.FlatKernelIdeal.τ Cert.FlatKernelIdeal.sig) → Buf (Elt Ideal) ℓ) : Prop :=
  True

def Pre_FlatReferenceIdeal (m : (ℓ : Loc Cert.FlatReferenceIdeal.nD Cert.FlatReferenceIdeal.τ Cert.FlatReferenceIdeal.sig) → Buf (Elt Ideal) ℓ) : Prop :=
  True

def quiescent_GainKernel [hGainKernel : Cert.GainKernel.Facts] : Prop :=
  ∀ (m : (ℓ : Loc Cert.GainKernel.nD Cert.GainKernel.τ Cert.GainKernel.sig) → Buf (Elt Bits) ℓ) (g : Dev Cert.GainKernel.nD → PrngReg), Pre_GainKernel m →
    θ_run (Cert.GainKernel.defs (F := Bits)) (onTc (τ := Cert.GainKernel.τ) (Cert.GainKernel.main (F := Bits))) ⟨m, fun _ => 0, g⟩ (fun r => (∀ c : Dev Cert.GainKernel.nD,
      r.2.mem ((c.tc : Thread Cert.GainKernel.nD Cert.GainKernel.τ).loc Cert.GainKernel.main_arg0) = m ((c.tc : Thread Cert.GainKernel.nD Cert.GainKernel.τ).loc Cert.GainKernel.main_arg0)
      ∧ r.2.mem ((c.tc : Thread Cert.GainKernel.nD Cert.GainKernel.τ).loc Cert.GainKernel.main_arg1) = m ((c.tc : Thread Cert.GainKernel.nD Cert.GainKernel.τ).loc Cert.GainKernel.main_arg1))
      ∧ r.2.sem = fun _ => 0)

def quiescent_GainKernelIdeal [hGainKernelIdeal : Cert.GainKernelIdeal.Facts] : Prop :=
  ∀ (m : (ℓ : Loc Cert.GainKernelIdeal.nD Cert.GainKernelIdeal.τ Cert.GainKernelIdeal.sig) → Buf (Elt Ideal) ℓ) (g : Dev Cert.GainKernelIdeal.nD → PrngReg), Pre_GainKernelIdeal m →
    θ_run (Cert.GainKernelIdeal.defs (F := Ideal)) (onTc (τ := Cert.GainKernelIdeal.τ) (Cert.GainKernelIdeal.main (F := Ideal))) ⟨m, fun _ => 0, g⟩ (fun r => (∀ c : Dev Cert.GainKernelIdeal.nD,
      r.2.mem ((c.tc : Thread Cert.GainKernelIdeal.nD Cert.GainKernelIdeal.τ).loc Cert.GainKernelIdeal.main_arg0) = m ((c.tc : Thread Cert.GainKernelIdeal.nD Cert.GainKernelIdeal.τ).loc Cert.GainKernelIdeal.main_arg0)
      ∧ r.2.mem ((c.tc : Thread Cert.GainKernelIdeal.nD Cert.GainKernelIdeal.τ).loc Cert.GainKernelIdeal.main_arg1) = m ((c.tc : Thread Cert.GainKernelIdeal.nD Cert.GainKernelIdeal.τ).loc Cert.GainKernelIdeal.main_arg1))
      ∧ r.2.sem = fun _ => 0)

def quiescent_GainReferenceIdeal [hGainReferenceIdeal : Cert.GainReferenceIdeal.Facts] : Prop :=
  ∀ (m : (ℓ : Loc Cert.GainReferenceIdeal.nD Cert.GainReferenceIdeal.τ Cert.GainReferenceIdeal.sig) → Buf (Elt Ideal) ℓ) (g : Dev Cert.GainReferenceIdeal.nD → PrngReg), Pre_GainReferenceIdeal m →
    θ_run (Cert.GainReferenceIdeal.defs (F := Ideal)) (onTc (τ := Cert.GainReferenceIdeal.τ) (Cert.GainReferenceIdeal.main (F := Ideal))) ⟨m, fun _ => 0, g⟩ (fun r => (∀ c : Dev Cert.GainReferenceIdeal.nD,
      r.2.mem ((c.tc : Thread Cert.GainReferenceIdeal.nD Cert.GainReferenceIdeal.τ).loc Cert.GainReferenceIdeal.main_arg0) = m ((c.tc : Thread Cert.GainReferenceIdeal.nD Cert.GainReferenceIdeal.τ).loc Cert.GainReferenceIdeal.main_arg0)
      ∧ r.2.mem ((c.tc : Thread Cert.GainReferenceIdeal.nD Cert.GainReferenceIdeal.τ).loc Cert.GainReferenceIdeal.main_arg1) = m ((c.tc : Thread Cert.GainReferenceIdeal.nD Cert.GainReferenceIdeal.τ).loc Cert.GainReferenceIdeal.main_arg1))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ r.2.sem = fun _ => 0)

def quiescent_NormKernelIdeal_pre_norm_finite [hNormKernelIdeal : Cert.NormKernelIdeal.Facts] [hPre_norm_finite : Cert.Pre_norm_finite.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal_norm_finite m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_NormReferenceIdeal_pre_norm_finite [hNormReferenceIdeal : Cert.NormReferenceIdeal.Facts] [hPre_norm_finite : Cert.Pre_norm_finite.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal_norm_finite m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossKernelIdeal_pre_loss_finite [hLossKernelIdeal : Cert.LossKernelIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_loss_finite m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_LossReferenceIdeal_pre_loss_finite [hLossReferenceIdeal : Cert.LossReferenceIdeal.Facts] [hPre_loss_finite : Cert.Pre_loss_finite.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_loss_finite m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ r.2.sem = fun _ => 0)

def quiescent_AttnKernelIdeal_pre_attn_finite [hAttnKernelIdeal : Cert.AttnKernelIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_attn_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_GmlpKernel [hGmlpKernel : Cert.GmlpKernel.Facts] : Prop :=
  ∀ (m : (ℓ : Loc Cert.GmlpKernel.nD Cert.GmlpKernel.τ Cert.GmlpKernel.sig) → Buf (Elt Bits) ℓ) (g : Dev Cert.GmlpKernel.nD → PrngReg), Pre_GmlpKernel m →
    θ_run (Cert.GmlpKernel.defs (F := Bits)) (onTc (τ := Cert.GmlpKernel.τ) (Cert.GmlpKernel.main (F := Bits))) ⟨m, fun _ => 0, g⟩ (fun r => (∀ c : Dev Cert.GmlpKernel.nD,
      r.2.mem ((c.tc : Thread Cert.GmlpKernel.nD Cert.GmlpKernel.τ).loc Cert.GmlpKernel.main_arg0) = m ((c.tc : Thread Cert.GmlpKernel.nD Cert.GmlpKernel.τ).loc Cert.GmlpKernel.main_arg0)
      ∧ r.2.mem ((c.tc : Thread Cert.GmlpKernel.nD Cert.GmlpKernel.τ).loc Cert.GmlpKernel.main_arg1) = m ((c.tc : Thread Cert.GmlpKernel.nD Cert.GmlpKernel.τ).loc Cert.GmlpKernel.main_arg1)
      ∧ r.2.mem ((c.tc : Thread Cert.GmlpKernel.nD Cert.GmlpKernel.τ).loc Cert.GmlpKernel.main_arg2) = m ((c.tc : Thread Cert.GmlpKernel.nD Cert.GmlpKernel.τ).loc Cert.GmlpKernel.main_arg2)
      ∧ r.2.mem ((c.tc : Thread Cert.GmlpKernel.nD Cert.GmlpKernel.τ).loc Cert.GmlpKernel.main_arg3) = m ((c.tc : Thread Cert.GmlpKernel.nD Cert.GmlpKernel.τ).loc Cert.GmlpKernel.main_arg3)
      ∧ r.2.mem ((c.tc : Thread Cert.GmlpKernel.nD Cert.GmlpKernel.τ).loc Cert.GmlpKernel.main_arg4) = m ((c.tc : Thread Cert.GmlpKernel.nD Cert.GmlpKernel.τ).loc Cert.GmlpKernel.main_arg4)
      ∧ r.2.mem ((c.tc : Thread Cert.GmlpKernel.nD Cert.GmlpKernel.τ).loc Cert.GmlpKernel.main_arg5) = m ((c.tc : Thread Cert.GmlpKernel.nD Cert.GmlpKernel.τ).loc Cert.GmlpKernel.main_arg5))
      ∧ r.2.sem = fun _ => 0)

def quiescent_GmlpKernelIdeal [hGmlpKernelIdeal : Cert.GmlpKernelIdeal.Facts] : Prop :=
  ∀ (m : (ℓ : Loc Cert.GmlpKernelIdeal.nD Cert.GmlpKernelIdeal.τ Cert.GmlpKernelIdeal.sig) → Buf (Elt Ideal) ℓ) (g : Dev Cert.GmlpKernelIdeal.nD → PrngReg), Pre_GmlpKernelIdeal m →
    θ_run (Cert.GmlpKernelIdeal.defs (F := Ideal)) (onTc (τ := Cert.GmlpKernelIdeal.τ) (Cert.GmlpKernelIdeal.main (F := Ideal))) ⟨m, fun _ => 0, g⟩ (fun r => (∀ c : Dev Cert.GmlpKernelIdeal.nD,
      r.2.mem ((c.tc : Thread Cert.GmlpKernelIdeal.nD Cert.GmlpKernelIdeal.τ).loc Cert.GmlpKernelIdeal.main_arg0) = m ((c.tc : Thread Cert.GmlpKernelIdeal.nD Cert.GmlpKernelIdeal.τ).loc Cert.GmlpKernelIdeal.main_arg0)
      ∧ r.2.mem ((c.tc : Thread Cert.GmlpKernelIdeal.nD Cert.GmlpKernelIdeal.τ).loc Cert.GmlpKernelIdeal.main_arg1) = m ((c.tc : Thread Cert.GmlpKernelIdeal.nD Cert.GmlpKernelIdeal.τ).loc Cert.GmlpKernelIdeal.main_arg1)
      ∧ r.2.mem ((c.tc : Thread Cert.GmlpKernelIdeal.nD Cert.GmlpKernelIdeal.τ).loc Cert.GmlpKernelIdeal.main_arg2) = m ((c.tc : Thread Cert.GmlpKernelIdeal.nD Cert.GmlpKernelIdeal.τ).loc Cert.GmlpKernelIdeal.main_arg2)
      ∧ r.2.mem ((c.tc : Thread Cert.GmlpKernelIdeal.nD Cert.GmlpKernelIdeal.τ).loc Cert.GmlpKernelIdeal.main_arg3) = m ((c.tc : Thread Cert.GmlpKernelIdeal.nD Cert.GmlpKernelIdeal.τ).loc Cert.GmlpKernelIdeal.main_arg3)
      ∧ r.2.mem ((c.tc : Thread Cert.GmlpKernelIdeal.nD Cert.GmlpKernelIdeal.τ).loc Cert.GmlpKernelIdeal.main_arg4) = m ((c.tc : Thread Cert.GmlpKernelIdeal.nD Cert.GmlpKernelIdeal.τ).loc Cert.GmlpKernelIdeal.main_arg4)
      ∧ r.2.mem ((c.tc : Thread Cert.GmlpKernelIdeal.nD Cert.GmlpKernelIdeal.τ).loc Cert.GmlpKernelIdeal.main_arg5) = m ((c.tc : Thread Cert.GmlpKernelIdeal.nD Cert.GmlpKernelIdeal.τ).loc Cert.GmlpKernelIdeal.main_arg5))
      ∧ r.2.sem = fun _ => 0)

def quiescent_GmlpKernelIdeal_pre_gmlp_finite [hGmlpKernelIdeal : Cert.GmlpKernelIdeal.Facts] [hPre_gmlp_finite : Cert.Pre_gmlp_finite.Facts] : Prop :=
  ∀ (m : (ℓ : Loc Cert.GmlpKernelIdeal.nD Cert.GmlpKernelIdeal.τ Cert.GmlpKernelIdeal.sig) → Buf (Elt Ideal) ℓ) (g : Dev Cert.GmlpKernelIdeal.nD → PrngReg), Pre_GmlpKernelIdeal_gmlp_finite m →
    θ_run (Cert.GmlpKernelIdeal.defs (F := Ideal)) (onTc (τ := Cert.GmlpKernelIdeal.τ) (Cert.GmlpKernelIdeal.main (F := Ideal))) ⟨m, fun _ => 0, g⟩ (fun r => (∀ c : Dev Cert.GmlpKernelIdeal.nD,
      r.2.mem ((c.tc : Thread Cert.GmlpKernelIdeal.nD Cert.GmlpKernelIdeal.τ).loc Cert.GmlpKernelIdeal.main_arg0) = m ((c.tc : Thread Cert.GmlpKernelIdeal.nD Cert.GmlpKernelIdeal.τ).loc Cert.GmlpKernelIdeal.main_arg0)
      ∧ r.2.mem ((c.tc : Thread Cert.GmlpKernelIdeal.nD Cert.GmlpKernelIdeal.τ).loc Cert.GmlpKernelIdeal.main_arg1) = m ((c.tc : Thread Cert.GmlpKernelIdeal.nD Cert.GmlpKernelIdeal.τ).loc Cert.GmlpKernelIdeal.main_arg1)
      ∧ r.2.mem ((c.tc : Thread Cert.GmlpKernelIdeal.nD Cert.GmlpKernelIdeal.τ).loc Cert.GmlpKernelIdeal.main_arg2) = m ((c.tc : Thread Cert.GmlpKernelIdeal.nD Cert.GmlpKernelIdeal.τ).loc Cert.GmlpKernelIdeal.main_arg2)
      ∧ r.2.mem ((c.tc : Thread Cert.GmlpKernelIdeal.nD Cert.GmlpKernelIdeal.τ).loc Cert.GmlpKernelIdeal.main_arg3) = m ((c.tc : Thread Cert.GmlpKernelIdeal.nD Cert.GmlpKernelIdeal.τ).loc Cert.GmlpKernelIdeal.main_arg3)
      ∧ r.2.mem ((c.tc : Thread Cert.GmlpKernelIdeal.nD Cert.GmlpKernelIdeal.τ).loc Cert.GmlpKernelIdeal.main_arg4) = m ((c.tc : Thread Cert.GmlpKernelIdeal.nD Cert.GmlpKernelIdeal.τ).loc Cert.GmlpKernelIdeal.main_arg4)
      ∧ r.2.mem ((c.tc : Thread Cert.GmlpKernelIdeal.nD Cert.GmlpKernelIdeal.τ).loc Cert.GmlpKernelIdeal.main_arg5) = m ((c.tc : Thread Cert.GmlpKernelIdeal.nD Cert.GmlpKernelIdeal.τ).loc Cert.GmlpKernelIdeal.main_arg5))
      ∧ r.2.sem = fun _ => 0)

def quiescent_GmlpReferenceIdeal [hGmlpReferenceIdeal : Cert.GmlpReferenceIdeal.Facts] : Prop :=
  ∀ (m : (ℓ : Loc Cert.GmlpReferenceIdeal.nD Cert.GmlpReferenceIdeal.τ Cert.GmlpReferenceIdeal.sig) → Buf (Elt Ideal) ℓ) (g : Dev Cert.GmlpReferenceIdeal.nD → PrngReg), Pre_GmlpReferenceIdeal m →
    θ_run (Cert.GmlpReferenceIdeal.defs (F := Ideal)) (onTc (τ := Cert.GmlpReferenceIdeal.τ) (Cert.GmlpReferenceIdeal.main (F := Ideal))) ⟨m, fun _ => 0, g⟩ (fun r => (∀ c : Dev Cert.GmlpReferenceIdeal.nD,
      r.2.mem ((c.tc : Thread Cert.GmlpReferenceIdeal.nD Cert.GmlpReferenceIdeal.τ).loc Cert.GmlpReferenceIdeal.main_arg0) = m ((c.tc : Thread Cert.GmlpReferenceIdeal.nD Cert.GmlpReferenceIdeal.τ).loc Cert.GmlpReferenceIdeal.main_arg0)
      ∧ r.2.mem ((c.tc : Thread Cert.GmlpReferenceIdeal.nD Cert.GmlpReferenceIdeal.τ).loc Cert.GmlpReferenceIdeal.main_arg1) = m ((c.tc : Thread Cert.GmlpReferenceIdeal.nD Cert.GmlpReferenceIdeal.τ).loc Cert.GmlpReferenceIdeal.main_arg1)
      ∧ r.2.mem ((c.tc : Thread Cert.GmlpReferenceIdeal.nD Cert.GmlpReferenceIdeal.τ).loc Cert.GmlpReferenceIdeal.main_arg2) = m ((c.tc : Thread Cert.GmlpReferenceIdeal.nD Cert.GmlpReferenceIdeal.τ).loc Cert.GmlpReferenceIdeal.main_arg2)
      ∧ r.2.mem ((c.tc : Thread Cert.GmlpReferenceIdeal.nD Cert.GmlpReferenceIdeal.τ).loc Cert.GmlpReferenceIdeal.main_arg3) = m ((c.tc : Thread Cert.GmlpReferenceIdeal.nD Cert.GmlpReferenceIdeal.τ).loc Cert.GmlpReferenceIdeal.main_arg3)
      ∧ r.2.mem ((c.tc : Thread Cert.GmlpReferenceIdeal.nD Cert.GmlpReferenceIdeal.τ).loc Cert.GmlpReferenceIdeal.main_arg4) = m ((c.tc : Thread Cert.GmlpReferenceIdeal.nD Cert.GmlpReferenceIdeal.τ).loc Cert.GmlpReferenceIdeal.main_arg4)
      ∧ r.2.mem ((c.tc : Thread Cert.GmlpReferenceIdeal.nD Cert.GmlpReferenceIdeal.τ).loc Cert.GmlpReferenceIdeal.main_arg5) = m ((c.tc : Thread Cert.GmlpReferenceIdeal.nD Cert.GmlpReferenceIdeal.τ).loc Cert.GmlpReferenceIdeal.main_arg5))
      ∧ r.2.sem = fun _ => 0)

def quiescent_GmlpReferenceIdeal_pre_gmlp_finite [hGmlpReferenceIdeal : Cert.GmlpReferenceIdeal.Facts] [hPre_gmlp_finite : Cert.Pre_gmlp_finite.Facts] : Prop :=
  ∀ (m : (ℓ : Loc Cert.GmlpReferenceIdeal.nD Cert.GmlpReferenceIdeal.τ Cert.GmlpReferenceIdeal.sig) → Buf (Elt Ideal) ℓ) (g : Dev Cert.GmlpReferenceIdeal.nD → PrngReg), Pre_GmlpReferenceIdeal_gmlp_finite m →
    θ_run (Cert.GmlpReferenceIdeal.defs (F := Ideal)) (onTc (τ := Cert.GmlpReferenceIdeal.τ) (Cert.GmlpReferenceIdeal.main (F := Ideal))) ⟨m, fun _ => 0, g⟩ (fun r => (∀ c : Dev Cert.GmlpReferenceIdeal.nD,
      r.2.mem ((c.tc : Thread Cert.GmlpReferenceIdeal.nD Cert.GmlpReferenceIdeal.τ).loc Cert.GmlpReferenceIdeal.main_arg0) = m ((c.tc : Thread Cert.GmlpReferenceIdeal.nD Cert.GmlpReferenceIdeal.τ).loc Cert.GmlpReferenceIdeal.main_arg0)
      ∧ r.2.mem ((c.tc : Thread Cert.GmlpReferenceIdeal.nD Cert.GmlpReferenceIdeal.τ).loc Cert.GmlpReferenceIdeal.main_arg1) = m ((c.tc : Thread Cert.GmlpReferenceIdeal.nD Cert.GmlpReferenceIdeal.τ).loc Cert.GmlpReferenceIdeal.main_arg1)
      ∧ r.2.mem ((c.tc : Thread Cert.GmlpReferenceIdeal.nD Cert.GmlpReferenceIdeal.τ).loc Cert.GmlpReferenceIdeal.main_arg2) = m ((c.tc : Thread Cert.GmlpReferenceIdeal.nD Cert.GmlpReferenceIdeal.τ).loc Cert.GmlpReferenceIdeal.main_arg2)
      ∧ r.2.mem ((c.tc : Thread Cert.GmlpReferenceIdeal.nD Cert.GmlpReferenceIdeal.τ).loc Cert.GmlpReferenceIdeal.main_arg3) = m ((c.tc : Thread Cert.GmlpReferenceIdeal.nD Cert.GmlpReferenceIdeal.τ).loc Cert.GmlpReferenceIdeal.main_arg3)
      ∧ r.2.mem ((c.tc : Thread Cert.GmlpReferenceIdeal.nD Cert.GmlpReferenceIdeal.τ).loc Cert.GmlpReferenceIdeal.main_arg4) = m ((c.tc : Thread Cert.GmlpReferenceIdeal.nD Cert.GmlpReferenceIdeal.τ).loc Cert.GmlpReferenceIdeal.main_arg4)
      ∧ r.2.mem ((c.tc : Thread Cert.GmlpReferenceIdeal.nD Cert.GmlpReferenceIdeal.τ).loc Cert.GmlpReferenceIdeal.main_arg5) = m ((c.tc : Thread Cert.GmlpReferenceIdeal.nD Cert.GmlpReferenceIdeal.τ).loc Cert.GmlpReferenceIdeal.main_arg5))
      ∧ r.2.sem = fun _ => 0)

def quiescent_RmsFwdKernel [hRmsFwdKernel : Cert.RmsFwdKernel.Facts] : Prop :=
  ∀ (m : (ℓ : Loc Cert.RmsFwdKernel.nD Cert.RmsFwdKernel.τ Cert.RmsFwdKernel.sig) → Buf (Elt Bits) ℓ) (g : Dev Cert.RmsFwdKernel.nD → PrngReg), Pre_RmsFwdKernel m →
    θ_run (Cert.RmsFwdKernel.defs (F := Bits)) (onTc (τ := Cert.RmsFwdKernel.τ) (Cert.RmsFwdKernel.main (F := Bits))) ⟨m, fun _ => 0, g⟩ (fun r => (∀ c : Dev Cert.RmsFwdKernel.nD,
      r.2.mem ((c.tc : Thread Cert.RmsFwdKernel.nD Cert.RmsFwdKernel.τ).loc Cert.RmsFwdKernel.main_arg0) = m ((c.tc : Thread Cert.RmsFwdKernel.nD Cert.RmsFwdKernel.τ).loc Cert.RmsFwdKernel.main_arg0)
      ∧ r.2.mem ((c.tc : Thread Cert.RmsFwdKernel.nD Cert.RmsFwdKernel.τ).loc Cert.RmsFwdKernel.main_arg1) = m ((c.tc : Thread Cert.RmsFwdKernel.nD Cert.RmsFwdKernel.τ).loc Cert.RmsFwdKernel.main_arg1))
      ∧ r.2.sem = fun _ => 0)

def quiescent_RmsFwdKernelIdeal [hRmsFwdKernelIdeal : Cert.RmsFwdKernelIdeal.Facts] : Prop :=
  ∀ (m : (ℓ : Loc Cert.RmsFwdKernelIdeal.nD Cert.RmsFwdKernelIdeal.τ Cert.RmsFwdKernelIdeal.sig) → Buf (Elt Ideal) ℓ) (g : Dev Cert.RmsFwdKernelIdeal.nD → PrngReg), Pre_RmsFwdKernelIdeal m →
    θ_run (Cert.RmsFwdKernelIdeal.defs (F := Ideal)) (onTc (τ := Cert.RmsFwdKernelIdeal.τ) (Cert.RmsFwdKernelIdeal.main (F := Ideal))) ⟨m, fun _ => 0, g⟩ (fun r => (∀ c : Dev Cert.RmsFwdKernelIdeal.nD,
      r.2.mem ((c.tc : Thread Cert.RmsFwdKernelIdeal.nD Cert.RmsFwdKernelIdeal.τ).loc Cert.RmsFwdKernelIdeal.main_arg0) = m ((c.tc : Thread Cert.RmsFwdKernelIdeal.nD Cert.RmsFwdKernelIdeal.τ).loc Cert.RmsFwdKernelIdeal.main_arg0)
      ∧ r.2.mem ((c.tc : Thread Cert.RmsFwdKernelIdeal.nD Cert.RmsFwdKernelIdeal.τ).loc Cert.RmsFwdKernelIdeal.main_arg1) = m ((c.tc : Thread Cert.RmsFwdKernelIdeal.nD Cert.RmsFwdKernelIdeal.τ).loc Cert.RmsFwdKernelIdeal.main_arg1))
      ∧ r.2.sem = fun _ => 0)

def quiescent_RmsFwdReferenceIdeal [hRmsFwdReferenceIdeal : Cert.RmsFwdReferenceIdeal.Facts] : Prop :=
  ∀ (m : (ℓ : Loc Cert.RmsFwdReferenceIdeal.nD Cert.RmsFwdReferenceIdeal.τ Cert.RmsFwdReferenceIdeal.sig) → Buf (Elt Ideal) ℓ) (g : Dev Cert.RmsFwdReferenceIdeal.nD → PrngReg), Pre_RmsFwdReferenceIdeal m →
    θ_run (Cert.RmsFwdReferenceIdeal.defs (F := Ideal)) (onTc (τ := Cert.RmsFwdReferenceIdeal.τ) (Cert.RmsFwdReferenceIdeal.main (F := Ideal))) ⟨m, fun _ => 0, g⟩ (fun r => (∀ c : Dev Cert.RmsFwdReferenceIdeal.nD,
      r.2.mem ((c.tc : Thread Cert.RmsFwdReferenceIdeal.nD Cert.RmsFwdReferenceIdeal.τ).loc Cert.RmsFwdReferenceIdeal.main_arg0) = m ((c.tc : Thread Cert.RmsFwdReferenceIdeal.nD Cert.RmsFwdReferenceIdeal.τ).loc Cert.RmsFwdReferenceIdeal.main_arg0)
      ∧ r.2.mem ((c.tc : Thread Cert.RmsFwdReferenceIdeal.nD Cert.RmsFwdReferenceIdeal.τ).loc Cert.RmsFwdReferenceIdeal.main_arg1) = m ((c.tc : Thread Cert.RmsFwdReferenceIdeal.nD Cert.RmsFwdReferenceIdeal.τ).loc Cert.RmsFwdReferenceIdeal.main_arg1))
      ∧ r.2.sem = fun _ => 0)

def quiescent_AttnFwdKernel [hAttnFwdKernel : Cert.AttnFwdKernel.Facts] : Prop :=
  ∀ (m : (ℓ : Loc Cert.AttnFwdKernel.nD Cert.AttnFwdKernel.τ Cert.AttnFwdKernel.sig) → Buf (Elt Bits) ℓ) (g : Dev Cert.AttnFwdKernel.nD → PrngReg), Pre_AttnFwdKernel m →
    θ_run (Cert.AttnFwdKernel.defs (F := Bits)) (onTc (τ := Cert.AttnFwdKernel.τ) (Cert.AttnFwdKernel.main (F := Bits))) ⟨m, fun _ => 0, g⟩ (fun r => (∀ c : Dev Cert.AttnFwdKernel.nD,
      r.2.mem ((c.tc : Thread Cert.AttnFwdKernel.nD Cert.AttnFwdKernel.τ).loc Cert.AttnFwdKernel.main_arg0) = m ((c.tc : Thread Cert.AttnFwdKernel.nD Cert.AttnFwdKernel.τ).loc Cert.AttnFwdKernel.main_arg0)
      ∧ r.2.mem ((c.tc : Thread Cert.AttnFwdKernel.nD Cert.AttnFwdKernel.τ).loc Cert.AttnFwdKernel.main_arg1) = m ((c.tc : Thread Cert.AttnFwdKernel.nD Cert.AttnFwdKernel.τ).loc Cert.AttnFwdKernel.main_arg1))
      ∧ r.2.sem = fun _ => 0)

def quiescent_AttnFwdKernelIdeal [hAttnFwdKernelIdeal : Cert.AttnFwdKernelIdeal.Facts] : Prop :=
  ∀ (m : (ℓ : Loc Cert.AttnFwdKernelIdeal.nD Cert.AttnFwdKernelIdeal.τ Cert.AttnFwdKernelIdeal.sig) → Buf (Elt Ideal) ℓ) (g : Dev Cert.AttnFwdKernelIdeal.nD → PrngReg), Pre_AttnFwdKernelIdeal m →
    θ_run (Cert.AttnFwdKernelIdeal.defs (F := Ideal)) (onTc (τ := Cert.AttnFwdKernelIdeal.τ) (Cert.AttnFwdKernelIdeal.main (F := Ideal))) ⟨m, fun _ => 0, g⟩ (fun r => (∀ c : Dev Cert.AttnFwdKernelIdeal.nD,
      r.2.mem ((c.tc : Thread Cert.AttnFwdKernelIdeal.nD Cert.AttnFwdKernelIdeal.τ).loc Cert.AttnFwdKernelIdeal.main_arg0) = m ((c.tc : Thread Cert.AttnFwdKernelIdeal.nD Cert.AttnFwdKernelIdeal.τ).loc Cert.AttnFwdKernelIdeal.main_arg0)
      ∧ r.2.mem ((c.tc : Thread Cert.AttnFwdKernelIdeal.nD Cert.AttnFwdKernelIdeal.τ).loc Cert.AttnFwdKernelIdeal.main_arg1) = m ((c.tc : Thread Cert.AttnFwdKernelIdeal.nD Cert.AttnFwdKernelIdeal.τ).loc Cert.AttnFwdKernelIdeal.main_arg1))
      ∧ r.2.sem = fun _ => 0)

def quiescent_AttnFwdReferenceIdeal [hAttnFwdReferenceIdeal : Cert.AttnFwdReferenceIdeal.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1))
      ∧ r.2.sem = fun _ => 0)

def quiescent_ConvFwdKernel [hConvFwdKernel : Cert.ConvFwdKernel.Facts] : Prop :=
  ∀ (m : (ℓ : Loc Cert.ConvFwdKernel.nD Cert.ConvFwdKernel.τ Cert.ConvFwdKernel.sig) → Buf (Elt Bits) ℓ) (g : Dev Cert.ConvFwdKernel.nD → PrngReg), Pre_ConvFwdKernel m →
    θ_run (Cert.ConvFwdKernel.defs (F := Bits)) (onTc (τ := Cert.ConvFwdKernel.τ) (Cert.ConvFwdKernel.main (F := Bits))) ⟨m, fun _ => 0, g⟩ (fun r => (∀ c : Dev Cert.ConvFwdKernel.nD,
      r.2.mem ((c.tc : Thread Cert.ConvFwdKernel.nD Cert.ConvFwdKernel.τ).loc Cert.ConvFwdKernel.main_arg0) = m ((c.tc : Thread Cert.ConvFwdKernel.nD Cert.ConvFwdKernel.τ).loc Cert.ConvFwdKernel.main_arg0)
      ∧ r.2.mem ((c.tc : Thread Cert.ConvFwdKernel.nD Cert.ConvFwdKernel.τ).loc Cert.ConvFwdKernel.main_arg1) = m ((c.tc : Thread Cert.ConvFwdKernel.nD Cert.ConvFwdKernel.τ).loc Cert.ConvFwdKernel.main_arg1))
      ∧ r.2.sem = fun _ => 0)

def quiescent_ConvFwdKernelIdeal [hConvFwdKernelIdeal : Cert.ConvFwdKernelIdeal.Facts] : Prop :=
  ∀ (m : (ℓ : Loc Cert.ConvFwdKernelIdeal.nD Cert.ConvFwdKernelIdeal.τ Cert.ConvFwdKernelIdeal.sig) → Buf (Elt Ideal) ℓ) (g : Dev Cert.ConvFwdKernelIdeal.nD → PrngReg), Pre_ConvFwdKernelIdeal m →
    θ_run (Cert.ConvFwdKernelIdeal.defs (F := Ideal)) (onTc (τ := Cert.ConvFwdKernelIdeal.τ) (Cert.ConvFwdKernelIdeal.main (F := Ideal))) ⟨m, fun _ => 0, g⟩ (fun r => (∀ c : Dev Cert.ConvFwdKernelIdeal.nD,
      r.2.mem ((c.tc : Thread Cert.ConvFwdKernelIdeal.nD Cert.ConvFwdKernelIdeal.τ).loc Cert.ConvFwdKernelIdeal.main_arg0) = m ((c.tc : Thread Cert.ConvFwdKernelIdeal.nD Cert.ConvFwdKernelIdeal.τ).loc Cert.ConvFwdKernelIdeal.main_arg0)
      ∧ r.2.mem ((c.tc : Thread Cert.ConvFwdKernelIdeal.nD Cert.ConvFwdKernelIdeal.τ).loc Cert.ConvFwdKernelIdeal.main_arg1) = m ((c.tc : Thread Cert.ConvFwdKernelIdeal.nD Cert.ConvFwdKernelIdeal.τ).loc Cert.ConvFwdKernelIdeal.main_arg1))
      ∧ r.2.sem = fun _ => 0)

def quiescent_ConvFwdReferenceIdeal [hConvFwdReferenceIdeal : Cert.ConvFwdReferenceIdeal.Facts] : Prop :=
  ∀ (m : (ℓ : Loc Cert.ConvFwdReferenceIdeal.nD Cert.ConvFwdReferenceIdeal.τ Cert.ConvFwdReferenceIdeal.sig) → Buf (Elt Ideal) ℓ) (g : Dev Cert.ConvFwdReferenceIdeal.nD → PrngReg), Pre_ConvFwdReferenceIdeal m →
    θ_run (Cert.ConvFwdReferenceIdeal.defs (F := Ideal)) (onTc (τ := Cert.ConvFwdReferenceIdeal.τ) (Cert.ConvFwdReferenceIdeal.main (F := Ideal))) ⟨m, fun _ => 0, g⟩ (fun r => (∀ c : Dev Cert.ConvFwdReferenceIdeal.nD,
      r.2.mem ((c.tc : Thread Cert.ConvFwdReferenceIdeal.nD Cert.ConvFwdReferenceIdeal.τ).loc Cert.ConvFwdReferenceIdeal.main_arg0) = m ((c.tc : Thread Cert.ConvFwdReferenceIdeal.nD Cert.ConvFwdReferenceIdeal.τ).loc Cert.ConvFwdReferenceIdeal.main_arg0)
      ∧ r.2.mem ((c.tc : Thread Cert.ConvFwdReferenceIdeal.nD Cert.ConvFwdReferenceIdeal.τ).loc Cert.ConvFwdReferenceIdeal.main_arg1) = m ((c.tc : Thread Cert.ConvFwdReferenceIdeal.nD Cert.ConvFwdReferenceIdeal.τ).loc Cert.ConvFwdReferenceIdeal.main_arg1))
      ∧ r.2.sem = fun _ => 0)

def quiescent_GmlpFwdKernel [hGmlpFwdKernel : Cert.GmlpFwdKernel.Facts] : Prop :=
  ∀ (m : (ℓ : Loc Cert.GmlpFwdKernel.nD Cert.GmlpFwdKernel.τ Cert.GmlpFwdKernel.sig) → Buf (Elt Bits) ℓ) (g : Dev Cert.GmlpFwdKernel.nD → PrngReg), Pre_GmlpFwdKernel m →
    θ_run (Cert.GmlpFwdKernel.defs (F := Bits)) (onTc (τ := Cert.GmlpFwdKernel.τ) (Cert.GmlpFwdKernel.main (F := Bits))) ⟨m, fun _ => 0, g⟩ (fun r => (∀ c : Dev Cert.GmlpFwdKernel.nD,
      r.2.mem ((c.tc : Thread Cert.GmlpFwdKernel.nD Cert.GmlpFwdKernel.τ).loc Cert.GmlpFwdKernel.main_arg0) = m ((c.tc : Thread Cert.GmlpFwdKernel.nD Cert.GmlpFwdKernel.τ).loc Cert.GmlpFwdKernel.main_arg0)
      ∧ r.2.mem ((c.tc : Thread Cert.GmlpFwdKernel.nD Cert.GmlpFwdKernel.τ).loc Cert.GmlpFwdKernel.main_arg1) = m ((c.tc : Thread Cert.GmlpFwdKernel.nD Cert.GmlpFwdKernel.τ).loc Cert.GmlpFwdKernel.main_arg1)
      ∧ r.2.mem ((c.tc : Thread Cert.GmlpFwdKernel.nD Cert.GmlpFwdKernel.τ).loc Cert.GmlpFwdKernel.main_arg2) = m ((c.tc : Thread Cert.GmlpFwdKernel.nD Cert.GmlpFwdKernel.τ).loc Cert.GmlpFwdKernel.main_arg2)
      ∧ r.2.mem ((c.tc : Thread Cert.GmlpFwdKernel.nD Cert.GmlpFwdKernel.τ).loc Cert.GmlpFwdKernel.main_arg3) = m ((c.tc : Thread Cert.GmlpFwdKernel.nD Cert.GmlpFwdKernel.τ).loc Cert.GmlpFwdKernel.main_arg3)
      ∧ r.2.mem ((c.tc : Thread Cert.GmlpFwdKernel.nD Cert.GmlpFwdKernel.τ).loc Cert.GmlpFwdKernel.main_arg4) = m ((c.tc : Thread Cert.GmlpFwdKernel.nD Cert.GmlpFwdKernel.τ).loc Cert.GmlpFwdKernel.main_arg4))
      ∧ r.2.sem = fun _ => 0)

def quiescent_GmlpFwdKernelIdeal [hGmlpFwdKernelIdeal : Cert.GmlpFwdKernelIdeal.Facts] : Prop :=
  ∀ (m : (ℓ : Loc Cert.GmlpFwdKernelIdeal.nD Cert.GmlpFwdKernelIdeal.τ Cert.GmlpFwdKernelIdeal.sig) → Buf (Elt Ideal) ℓ) (g : Dev Cert.GmlpFwdKernelIdeal.nD → PrngReg), Pre_GmlpFwdKernelIdeal m →
    θ_run (Cert.GmlpFwdKernelIdeal.defs (F := Ideal)) (onTc (τ := Cert.GmlpFwdKernelIdeal.τ) (Cert.GmlpFwdKernelIdeal.main (F := Ideal))) ⟨m, fun _ => 0, g⟩ (fun r => (∀ c : Dev Cert.GmlpFwdKernelIdeal.nD,
      r.2.mem ((c.tc : Thread Cert.GmlpFwdKernelIdeal.nD Cert.GmlpFwdKernelIdeal.τ).loc Cert.GmlpFwdKernelIdeal.main_arg0) = m ((c.tc : Thread Cert.GmlpFwdKernelIdeal.nD Cert.GmlpFwdKernelIdeal.τ).loc Cert.GmlpFwdKernelIdeal.main_arg0)
      ∧ r.2.mem ((c.tc : Thread Cert.GmlpFwdKernelIdeal.nD Cert.GmlpFwdKernelIdeal.τ).loc Cert.GmlpFwdKernelIdeal.main_arg1) = m ((c.tc : Thread Cert.GmlpFwdKernelIdeal.nD Cert.GmlpFwdKernelIdeal.τ).loc Cert.GmlpFwdKernelIdeal.main_arg1)
      ∧ r.2.mem ((c.tc : Thread Cert.GmlpFwdKernelIdeal.nD Cert.GmlpFwdKernelIdeal.τ).loc Cert.GmlpFwdKernelIdeal.main_arg2) = m ((c.tc : Thread Cert.GmlpFwdKernelIdeal.nD Cert.GmlpFwdKernelIdeal.τ).loc Cert.GmlpFwdKernelIdeal.main_arg2)
      ∧ r.2.mem ((c.tc : Thread Cert.GmlpFwdKernelIdeal.nD Cert.GmlpFwdKernelIdeal.τ).loc Cert.GmlpFwdKernelIdeal.main_arg3) = m ((c.tc : Thread Cert.GmlpFwdKernelIdeal.nD Cert.GmlpFwdKernelIdeal.τ).loc Cert.GmlpFwdKernelIdeal.main_arg3)
      ∧ r.2.mem ((c.tc : Thread Cert.GmlpFwdKernelIdeal.nD Cert.GmlpFwdKernelIdeal.τ).loc Cert.GmlpFwdKernelIdeal.main_arg4) = m ((c.tc : Thread Cert.GmlpFwdKernelIdeal.nD Cert.GmlpFwdKernelIdeal.τ).loc Cert.GmlpFwdKernelIdeal.main_arg4))
      ∧ r.2.sem = fun _ => 0)

def quiescent_GmlpFwdReferenceIdeal [hGmlpFwdReferenceIdeal : Cert.GmlpFwdReferenceIdeal.Facts] : Prop :=
  ∀ (m : (ℓ : Loc Cert.GmlpFwdReferenceIdeal.nD Cert.GmlpFwdReferenceIdeal.τ Cert.GmlpFwdReferenceIdeal.sig) → Buf (Elt Ideal) ℓ) (g : Dev Cert.GmlpFwdReferenceIdeal.nD → PrngReg), Pre_GmlpFwdReferenceIdeal m →
    θ_run (Cert.GmlpFwdReferenceIdeal.defs (F := Ideal)) (onTc (τ := Cert.GmlpFwdReferenceIdeal.τ) (Cert.GmlpFwdReferenceIdeal.main (F := Ideal))) ⟨m, fun _ => 0, g⟩ (fun r => (∀ c : Dev Cert.GmlpFwdReferenceIdeal.nD,
      r.2.mem ((c.tc : Thread Cert.GmlpFwdReferenceIdeal.nD Cert.GmlpFwdReferenceIdeal.τ).loc Cert.GmlpFwdReferenceIdeal.main_arg0) = m ((c.tc : Thread Cert.GmlpFwdReferenceIdeal.nD Cert.GmlpFwdReferenceIdeal.τ).loc Cert.GmlpFwdReferenceIdeal.main_arg0)
      ∧ r.2.mem ((c.tc : Thread Cert.GmlpFwdReferenceIdeal.nD Cert.GmlpFwdReferenceIdeal.τ).loc Cert.GmlpFwdReferenceIdeal.main_arg1) = m ((c.tc : Thread Cert.GmlpFwdReferenceIdeal.nD Cert.GmlpFwdReferenceIdeal.τ).loc Cert.GmlpFwdReferenceIdeal.main_arg1)
      ∧ r.2.mem ((c.tc : Thread Cert.GmlpFwdReferenceIdeal.nD Cert.GmlpFwdReferenceIdeal.τ).loc Cert.GmlpFwdReferenceIdeal.main_arg2) = m ((c.tc : Thread Cert.GmlpFwdReferenceIdeal.nD Cert.GmlpFwdReferenceIdeal.τ).loc Cert.GmlpFwdReferenceIdeal.main_arg2)
      ∧ r.2.mem ((c.tc : Thread Cert.GmlpFwdReferenceIdeal.nD Cert.GmlpFwdReferenceIdeal.τ).loc Cert.GmlpFwdReferenceIdeal.main_arg3) = m ((c.tc : Thread Cert.GmlpFwdReferenceIdeal.nD Cert.GmlpFwdReferenceIdeal.τ).loc Cert.GmlpFwdReferenceIdeal.main_arg3)
      ∧ r.2.mem ((c.tc : Thread Cert.GmlpFwdReferenceIdeal.nD Cert.GmlpFwdReferenceIdeal.τ).loc Cert.GmlpFwdReferenceIdeal.main_arg4) = m ((c.tc : Thread Cert.GmlpFwdReferenceIdeal.nD Cert.GmlpFwdReferenceIdeal.τ).loc Cert.GmlpFwdReferenceIdeal.main_arg4))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ r.2.sem = fun _ => 0)

def quiescent_ProjKernelIdeal_pre_proj_finite [hProjKernelIdeal : Cert.ProjKernelIdeal.Facts] [hPre_proj_finite : Cert.Pre_proj_finite.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal_proj_finite m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_ProjReferenceIdeal_pre_proj_finite [hProjReferenceIdeal : Cert.ProjReferenceIdeal.Facts] [hPre_proj_finite : Cert.Pre_proj_finite.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_proj_finite m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnKernelIdeal_pre_ffn_finite [hFfnKernelIdeal : Cert.FfnKernelIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_ffn_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_DwKernel [hDwKernel : Cert.DwKernel.Facts] : Prop :=
  ∀ (m : (ℓ : Loc Cert.DwKernel.nD Cert.DwKernel.τ Cert.DwKernel.sig) → Buf (Elt Bits) ℓ) (g : Dev Cert.DwKernel.nD → PrngReg), Pre_DwKernel m →
    θ_run (Cert.DwKernel.defs (F := Bits)) (onTc (τ := Cert.DwKernel.τ) (Cert.DwKernel.main (F := Bits))) ⟨m, fun _ => 0, g⟩ (fun r => (∀ c : Dev Cert.DwKernel.nD,
      r.2.mem ((c.tc : Thread Cert.DwKernel.nD Cert.DwKernel.τ).loc Cert.DwKernel.main_arg0) = m ((c.tc : Thread Cert.DwKernel.nD Cert.DwKernel.τ).loc Cert.DwKernel.main_arg0)
      ∧ r.2.mem ((c.tc : Thread Cert.DwKernel.nD Cert.DwKernel.τ).loc Cert.DwKernel.main_arg1) = m ((c.tc : Thread Cert.DwKernel.nD Cert.DwKernel.τ).loc Cert.DwKernel.main_arg1))
      ∧ r.2.sem = fun _ => 0)

def quiescent_DwKernelIdeal [hDwKernelIdeal : Cert.DwKernelIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg), Pre_DwKernelIdeal m →
    θ_run (Cert.DwKernelIdeal.defs (F := Ideal)) (onTc (τ := Cert.DwKernelIdeal.τ) (Cert.DwKernelIdeal.main (F := Ideal))) ⟨m, fun _ => 0, g⟩ (fun r => (∀ c : Dev Cert.DwKernelIdeal.nD,
      r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
      ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1))
      ∧ r.2.sem = fun _ => 0)

def quiescent_DwReferenceIdeal [hDwReferenceIdeal : Cert.DwReferenceIdeal.Facts] : Prop :=
  ∀ (m : (ℓ : Loc Cert.DwReferenceIdeal.nD Cert.DwReferenceIdeal.τ Cert.DwReferenceIdeal.sig) → Buf (Elt Ideal) ℓ) (g : Dev Cert.DwReferenceIdeal.nD → PrngReg), Pre_DwReferenceIdeal m →
    θ_run (Cert.DwReferenceIdeal.defs (F := Ideal)) (onTc (τ := Cert.DwReferenceIdeal.τ) (Cert.DwReferenceIdeal.main (F := Ideal))) ⟨m, fun _ => 0, g⟩ (fun r => (∀ c : Dev Cert.DwReferenceIdeal.nD,
      r.2.mem ((c.tc : Thread Cert.DwReferenceIdeal.nD Cert.DwReferenceIdeal.τ).loc Cert.DwReferenceIdeal.main_arg0) = m ((c.tc : Thread Cert.DwReferenceIdeal.nD Cert.DwReferenceIdeal.τ).loc Cert.DwReferenceIdeal.main_arg0)
      ∧ r.2.mem ((c.tc : Thread Cert.DwReferenceIdeal.nD Cert.DwReferenceIdeal.τ).loc Cert.DwReferenceIdeal.main_arg1) = m ((c.tc : Thread Cert.DwReferenceIdeal.nD Cert.DwReferenceIdeal.τ).loc Cert.DwReferenceIdeal.main_arg1))
      ∧ r.2.sem = fun _ => 0)

def quiescent_DxnKernel [hDxnKernel : Cert.DxnKernel.Facts] : Prop :=
  ∀ (m : (ℓ : Loc Cert.DxnKernel.nD Cert.DxnKernel.τ Cert.DxnKernel.sig) → Buf (Elt Bits) ℓ) (g : Dev Cert.DxnKernel.nD → PrngReg), Pre_DxnKernel m →
    θ_run (Cert.DxnKernel.defs (F := Bits)) (onTc (τ := Cert.DxnKernel.τ) (Cert.DxnKernel.main (F := Bits))) ⟨m, fun _ => 0, g⟩ (fun r => (∀ c : Dev Cert.DxnKernel.nD,
      r.2.mem ((c.tc : Thread Cert.DxnKernel.nD Cert.DxnKernel.τ).loc Cert.DxnKernel.main_arg0) = m ((c.tc : Thread Cert.DxnKernel.nD Cert.DxnKernel.τ).loc Cert.DxnKernel.main_arg0)
      ∧ r.2.mem ((c.tc : Thread Cert.DxnKernel.nD Cert.DxnKernel.τ).loc Cert.DxnKernel.main_arg1) = m ((c.tc : Thread Cert.DxnKernel.nD Cert.DxnKernel.τ).loc Cert.DxnKernel.main_arg1))
      ∧ r.2.sem = fun _ => 0)

def quiescent_DxnKernelIdeal [hDxnKernelIdeal : Cert.DxnKernelIdeal.Facts] : Prop :=
  ∀ (m : (ℓ : Loc Cert.DxnKernelIdeal.nD Cert.DxnKernelIdeal.τ Cert.DxnKernelIdeal.sig) → Buf (Elt Ideal) ℓ) (g : Dev Cert.DxnKernelIdeal.nD → PrngReg), Pre_DxnKernelIdeal m →
    θ_run (Cert.DxnKernelIdeal.defs (F := Ideal)) (onTc (τ := Cert.DxnKernelIdeal.τ) (Cert.DxnKernelIdeal.main (F := Ideal))) ⟨m, fun _ => 0, g⟩ (fun r => (∀ c : Dev Cert.DxnKernelIdeal.nD,
      r.2.mem ((c.tc : Thread Cert.DxnKernelIdeal.nD Cert.DxnKernelIdeal.τ).loc Cert.DxnKernelIdeal.main_arg0) = m ((c.tc : Thread Cert.DxnKernelIdeal.nD Cert.DxnKernelIdeal.τ).loc Cert.DxnKernelIdeal.main_arg0)
      ∧ r.2.mem ((c.tc : Thread Cert.DxnKernelIdeal.nD Cert.DxnKernelIdeal.τ).loc Cert.DxnKernelIdeal.main_arg1) = m ((c.tc : Thread Cert.DxnKernelIdeal.nD Cert.DxnKernelIdeal.τ).loc Cert.DxnKernelIdeal.main_arg1))
      ∧ r.2.sem = fun _ => 0)

def quiescent_DxnReferenceIdeal [hDxnReferenceIdeal : Cert.DxnReferenceIdeal.Facts] : Prop :=
  ∀ (m : (ℓ : Loc Cert.DxnReferenceIdeal.nD Cert.DxnReferenceIdeal.τ Cert.DxnReferenceIdeal.sig) → Buf (Elt Ideal) ℓ) (g : Dev Cert.DxnReferenceIdeal.nD → PrngReg), Pre_DxnReferenceIdeal m →
    θ_run (Cert.DxnReferenceIdeal.defs (F := Ideal)) (onTc (τ := Cert.DxnReferenceIdeal.τ) (Cert.DxnReferenceIdeal.main (F := Ideal))) ⟨m, fun _ => 0, g⟩ (fun r => (∀ c : Dev Cert.DxnReferenceIdeal.nD,
      r.2.mem ((c.tc : Thread Cert.DxnReferenceIdeal.nD Cert.DxnReferenceIdeal.τ).loc Cert.DxnReferenceIdeal.main_arg0) = m ((c.tc : Thread Cert.DxnReferenceIdeal.nD Cert.DxnReferenceIdeal.τ).loc Cert.DxnReferenceIdeal.main_arg0)
      ∧ r.2.mem ((c.tc : Thread Cert.DxnReferenceIdeal.nD Cert.DxnReferenceIdeal.τ).loc Cert.DxnReferenceIdeal.main_arg1) = m ((c.tc : Thread Cert.DxnReferenceIdeal.nD Cert.DxnReferenceIdeal.τ).loc Cert.DxnReferenceIdeal.main_arg1))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3)
      ∧ r.2.mem ((c.tc : Thread Cert.AdamKernel.nD Cert.AdamKernel.τ).loc Cert.AdamKernel.main_arg4) = m ((c.tc : Thread Cert.AdamKernel.nD Cert.AdamKernel.τ).loc Cert.AdamKernel.main_arg4))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3)
      ∧ r.2.mem ((c.tc : Thread Cert.AdamKernelIdeal.nD Cert.AdamKernelIdeal.τ).loc Cert.AdamKernelIdeal.main_arg4) = m ((c.tc : Thread Cert.AdamKernelIdeal.nD Cert.AdamKernelIdeal.τ).loc Cert.AdamKernelIdeal.main_arg4))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3)
      ∧ r.2.mem ((c.tc : Thread Cert.AdamReferenceIdeal.nD Cert.AdamReferenceIdeal.τ).loc Cert.AdamReferenceIdeal.main_arg4) = m ((c.tc : Thread Cert.AdamReferenceIdeal.nD Cert.AdamReferenceIdeal.τ).loc Cert.AdamReferenceIdeal.main_arg4))
      ∧ r.2.sem = fun _ => 0)

def quiescent_FlatKernel [hFlatKernel : Cert.FlatKernel.Facts] : Prop :=
  ∀ (m : (ℓ : Loc Cert.FlatKernel.nD Cert.FlatKernel.τ Cert.FlatKernel.sig) → Buf (Elt Bits) ℓ) (g : Dev Cert.FlatKernel.nD → PrngReg), Pre_FlatKernel m →
    θ_run (Cert.FlatKernel.defs (F := Bits)) (onTc (τ := Cert.FlatKernel.τ) (Cert.FlatKernel.main (F := Bits))) ⟨m, fun _ => 0, g⟩ (fun r => (∀ c : Dev Cert.FlatKernel.nD,
      r.2.mem ((c.tc : Thread Cert.FlatKernel.nD Cert.FlatKernel.τ).loc Cert.FlatKernel.main_arg0) = m ((c.tc : Thread Cert.FlatKernel.nD Cert.FlatKernel.τ).loc Cert.FlatKernel.main_arg0)
      ∧ r.2.mem ((c.tc : Thread Cert.FlatKernel.nD Cert.FlatKernel.τ).loc Cert.FlatKernel.main_arg1) = m ((c.tc : Thread Cert.FlatKernel.nD Cert.FlatKernel.τ).loc Cert.FlatKernel.main_arg1)
      ∧ r.2.mem ((c.tc : Thread Cert.FlatKernel.nD Cert.FlatKernel.τ).loc Cert.FlatKernel.main_arg2) = m ((c.tc : Thread Cert.FlatKernel.nD Cert.FlatKernel.τ).loc Cert.FlatKernel.main_arg2)
      ∧ r.2.mem ((c.tc : Thread Cert.FlatKernel.nD Cert.FlatKernel.τ).loc Cert.FlatKernel.main_arg3) = m ((c.tc : Thread Cert.FlatKernel.nD Cert.FlatKernel.τ).loc Cert.FlatKernel.main_arg3))
      ∧ r.2.sem = fun _ => 0)

def quiescent_FlatKernelIdeal [hFlatKernelIdeal : Cert.FlatKernelIdeal.Facts] : Prop :=
  ∀ (m : (ℓ : Loc Cert.FlatKernelIdeal.nD Cert.FlatKernelIdeal.τ Cert.FlatKernelIdeal.sig) → Buf (Elt Ideal) ℓ) (g : Dev Cert.FlatKernelIdeal.nD → PrngReg), Pre_FlatKernelIdeal m →
    θ_run (Cert.FlatKernelIdeal.defs (F := Ideal)) (onTc (τ := Cert.FlatKernelIdeal.τ) (Cert.FlatKernelIdeal.main (F := Ideal))) ⟨m, fun _ => 0, g⟩ (fun r => (∀ c : Dev Cert.FlatKernelIdeal.nD,
      r.2.mem ((c.tc : Thread Cert.FlatKernelIdeal.nD Cert.FlatKernelIdeal.τ).loc Cert.FlatKernelIdeal.main_arg0) = m ((c.tc : Thread Cert.FlatKernelIdeal.nD Cert.FlatKernelIdeal.τ).loc Cert.FlatKernelIdeal.main_arg0)
      ∧ r.2.mem ((c.tc : Thread Cert.FlatKernelIdeal.nD Cert.FlatKernelIdeal.τ).loc Cert.FlatKernelIdeal.main_arg1) = m ((c.tc : Thread Cert.FlatKernelIdeal.nD Cert.FlatKernelIdeal.τ).loc Cert.FlatKernelIdeal.main_arg1)
      ∧ r.2.mem ((c.tc : Thread Cert.FlatKernelIdeal.nD Cert.FlatKernelIdeal.τ).loc Cert.FlatKernelIdeal.main_arg2) = m ((c.tc : Thread Cert.FlatKernelIdeal.nD Cert.FlatKernelIdeal.τ).loc Cert.FlatKernelIdeal.main_arg2)
      ∧ r.2.mem ((c.tc : Thread Cert.FlatKernelIdeal.nD Cert.FlatKernelIdeal.τ).loc Cert.FlatKernelIdeal.main_arg3) = m ((c.tc : Thread Cert.FlatKernelIdeal.nD Cert.FlatKernelIdeal.τ).loc Cert.FlatKernelIdeal.main_arg3))
      ∧ r.2.sem = fun _ => 0)

def quiescent_FlatReferenceIdeal [hFlatReferenceIdeal : Cert.FlatReferenceIdeal.Facts] : Prop :=
  ∀ (m : (ℓ : Loc Cert.FlatReferenceIdeal.nD Cert.FlatReferenceIdeal.τ Cert.FlatReferenceIdeal.sig) → Buf (Elt Ideal) ℓ) (g : Dev Cert.FlatReferenceIdeal.nD → PrngReg), Pre_FlatReferenceIdeal m →
    θ_run (Cert.FlatReferenceIdeal.defs (F := Ideal)) (onTc (τ := Cert.FlatReferenceIdeal.τ) (Cert.FlatReferenceIdeal.main (F := Ideal))) ⟨m, fun _ => 0, g⟩ (fun r => (∀ c : Dev Cert.FlatReferenceIdeal.nD,
      r.2.mem ((c.tc : Thread Cert.FlatReferenceIdeal.nD Cert.FlatReferenceIdeal.τ).loc Cert.FlatReferenceIdeal.main_arg0) = m ((c.tc : Thread Cert.FlatReferenceIdeal.nD Cert.FlatReferenceIdeal.τ).loc Cert.FlatReferenceIdeal.main_arg0)
      ∧ r.2.mem ((c.tc : Thread Cert.FlatReferenceIdeal.nD Cert.FlatReferenceIdeal.τ).loc Cert.FlatReferenceIdeal.main_arg1) = m ((c.tc : Thread Cert.FlatReferenceIdeal.nD Cert.FlatReferenceIdeal.τ).loc Cert.FlatReferenceIdeal.main_arg1)
      ∧ r.2.mem ((c.tc : Thread Cert.FlatReferenceIdeal.nD Cert.FlatReferenceIdeal.τ).loc Cert.FlatReferenceIdeal.main_arg2) = m ((c.tc : Thread Cert.FlatReferenceIdeal.nD Cert.FlatReferenceIdeal.τ).loc Cert.FlatReferenceIdeal.main_arg2)
      ∧ r.2.mem ((c.tc : Thread Cert.FlatReferenceIdeal.nD Cert.FlatReferenceIdeal.τ).loc Cert.FlatReferenceIdeal.main_arg3) = m ((c.tc : Thread Cert.FlatReferenceIdeal.nD Cert.FlatReferenceIdeal.τ).loc Cert.FlatReferenceIdeal.main_arg3))
      ∧ r.2.sem = fun _ => 0)

def preserves_GainKernel_GainKernelIdeal : Prop :=
  True

def algebraic_GainKernelIdeal_GainReferenceIdeal [hGainKernelIdeal : Cert.GainKernelIdeal.Facts] [hGainReferenceIdeal : Cert.GainReferenceIdeal.Facts] : Prop :=
  ∀ (m : (ℓ : Loc Cert.GainKernelIdeal.nD Cert.GainKernelIdeal.τ Cert.GainKernelIdeal.sig) → Buf (Elt Ideal) ℓ) (g : Dev Cert.GainKernelIdeal.nD → PrngReg)
    (m' : (ℓ : Loc Cert.GainReferenceIdeal.nD Cert.GainReferenceIdeal.τ Cert.GainReferenceIdeal.sig) → Buf (Elt Ideal) ℓ) (g' : Dev Cert.GainReferenceIdeal.nD → PrngReg), Pre_GainKernelIdeal m →
    (∀ c : Dev Cert.GainKernelIdeal.nD,
      m' ((c.tc : Thread Cert.GainReferenceIdeal.nD Cert.GainReferenceIdeal.τ).loc Cert.GainReferenceIdeal.main_arg0) = m ((c.tc : Thread Cert.GainKernelIdeal.nD Cert.GainKernelIdeal.τ).loc Cert.GainKernelIdeal.main_arg0)
      ∧ m' ((c.tc : Thread Cert.GainReferenceIdeal.nD Cert.GainReferenceIdeal.τ).loc Cert.GainReferenceIdeal.main_arg1) = m ((c.tc : Thread Cert.GainKernelIdeal.nD Cert.GainKernelIdeal.τ).loc Cert.GainKernelIdeal.main_arg1)) →
    ∃ (v0 : (c : Dev Cert.GainKernelIdeal.nD) → Buf (Elt Ideal) ((c.tc : Thread Cert.GainKernelIdeal.nD Cert.GainKernelIdeal.τ).loc Cert.GainKernelIdeal.main_v0)),
      θ_run (Cert.GainKernelIdeal.defs (F := Ideal)) (onTc (τ := Cert.GainKernelIdeal.τ) (Cert.GainKernelIdeal.main (F := Ideal))) ⟨m, fun _ => 0, g⟩ (fun r => ∀ c : Dev Cert.GainKernelIdeal.nD,
          r.2.mem ((c.tc : Thread Cert.GainKernelIdeal.nD Cert.GainKernelIdeal.τ).loc Cert.GainKernelIdeal.main_v0) = v0 c
          ∧ r.2.mem ((c.tc : Thread Cert.GainKernelIdeal.nD Cert.GainKernelIdeal.τ).loc Cert.GainKernelIdeal.main_arg0) = m ((c.tc : Thread Cert.GainKernelIdeal.nD Cert.GainKernelIdeal.τ).loc Cert.GainKernelIdeal.main_arg0)
          ∧ r.2.mem ((c.tc : Thread Cert.GainKernelIdeal.nD Cert.GainKernelIdeal.τ).loc Cert.GainKernelIdeal.main_arg1) = m ((c.tc : Thread Cert.GainKernelIdeal.nD Cert.GainKernelIdeal.τ).loc Cert.GainKernelIdeal.main_arg1))
      ∧ θ_run (Cert.GainReferenceIdeal.defs (F := Ideal)) (onTc (τ := Cert.GainReferenceIdeal.τ) (Cert.GainReferenceIdeal.main (F := Ideal))) ⟨m', fun _ => 0, g'⟩ (fun r => ∀ c : Dev Cert.GainReferenceIdeal.nD,
          r.2.mem ((c.tc : Thread Cert.GainReferenceIdeal.nD Cert.GainReferenceIdeal.τ).loc Cert.GainReferenceIdeal.main_v18) = v0 c
          ∧ r.2.mem ((c.tc : Thread Cert.GainReferenceIdeal.nD Cert.GainReferenceIdeal.τ).loc Cert.GainReferenceIdeal.main_arg0) = m' ((c.tc : Thread Cert.GainReferenceIdeal.nD Cert.GainReferenceIdeal.τ).loc Cert.GainReferenceIdeal.main_arg0)
          ∧ r.2.mem ((c.tc : Thread Cert.GainReferenceIdeal.nD Cert.GainReferenceIdeal.τ).loc Cert.GainReferenceIdeal.main_arg1) = m' ((c.tc : Thread Cert.GainReferenceIdeal.nD Cert.GainReferenceIdeal.τ).loc Cert.GainReferenceIdeal.main_arg1))

def preserves_NormKernel_NormKernelIdeal : Prop :=
  True

def algebraic_NormKernelIdeal_NormReferenceIdeal_pre_norm_finite [hNormKernelIdeal : Cert.NormKernelIdeal.Facts] [hNormReferenceIdeal : Cert.NormReferenceIdeal.Facts] [hPre_norm_finite : Cert.Pre_norm_finite.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal_norm_finite m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)) →
    ∃ (v0 : (c : Dev Cert.NormKernelIdeal.nD) → Buf (Elt Ideal) ((c.tc : Thread Cert.NormKernelIdeal.nD Cert.NormKernelIdeal.τ).loc Cert.NormKernelIdeal.main_v1_0)) (v1 : (c : Dev Cert.NormKernelIdeal.nD) → Buf (Elt Ideal) ((c.tc : Thread Cert.NormKernelIdeal.nD Cert.NormKernelIdeal.τ).loc Cert.NormKernelIdeal.main_v1_1)) (v2 : (c : Dev Cert.NormKernelIdeal.nD) → Buf (Elt Ideal) ((c.tc : Thread Cert.NormKernelIdeal.nD Cert.NormKernelIdeal.τ).loc Cert.NormKernelIdeal.main_v1_2)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v1_0) = v0 c
          ∧ r.2.mem ((c.tc : Thread Cert.NormKernelIdeal.nD Cert.NormKernelIdeal.τ).loc Cert.NormKernelIdeal.main_v1_1) = v1 c
          ∧ r.2.mem ((c.tc : Thread Cert.NormKernelIdeal.nD Cert.NormKernelIdeal.τ).loc Cert.NormKernelIdeal.main_v1_2) = v2 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v37) = v0 c
          ∧ r.2.mem ((c.tc : Thread Cert.NormReferenceIdeal.nD Cert.NormReferenceIdeal.τ).loc Cert.NormReferenceIdeal.main_v40) = v1 c
          ∧ r.2.mem ((c.tc : Thread Cert.NormReferenceIdeal.nD Cert.NormReferenceIdeal.τ).loc Cert.NormReferenceIdeal.main_v41) = v2 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_LossKernel_LossKernelIdeal : Prop :=
  True

def algebraic_LossKernelIdeal_LossReferenceIdeal_pre_loss_finite [hLossKernelIdeal : Cert.LossKernelIdeal.Facts] [hLossReferenceIdeal : Cert.LossReferenceIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_loss_finite m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v1_0)) (v1 : (c : Dev Cert.LossKernelIdeal.nD) → Buf (Elt Ideal) ((c.tc : Thread Cert.LossKernelIdeal.nD Cert.LossKernelIdeal.τ).loc Cert.LossKernelIdeal.main_v1_1)) (v2 : (c : Dev Cert.LossKernelIdeal.nD) → Buf (Elt Ideal) ((c.tc : Thread Cert.LossKernelIdeal.nD Cert.LossKernelIdeal.τ).loc Cert.LossKernelIdeal.main_v1_2)) (v3 : (c : Dev Cert.LossKernelIdeal.nD) → Buf (Elt Ideal) ((c.tc : Thread Cert.LossKernelIdeal.nD Cert.LossKernelIdeal.τ).loc Cert.LossKernelIdeal.main_v1_3)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v1_0) = v0 c
          ∧ r.2.mem ((c.tc : Thread Cert.LossKernelIdeal.nD Cert.LossKernelIdeal.τ).loc Cert.LossKernelIdeal.main_v1_1) = v1 c
          ∧ r.2.mem ((c.tc : Thread Cert.LossKernelIdeal.nD Cert.LossKernelIdeal.τ).loc Cert.LossKernelIdeal.main_v1_2) = v2 c
          ∧ r.2.mem ((c.tc : Thread Cert.LossKernelIdeal.nD Cert.LossKernelIdeal.τ).loc Cert.LossKernelIdeal.main_v1_3) = v3 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v51) = v0 c
          ∧ r.2.mem ((c.tc : Thread Cert.LossReferenceIdeal.nD Cert.LossReferenceIdeal.τ).loc Cert.LossReferenceIdeal.main_v50) = v1 c
          ∧ r.2.mem ((c.tc : Thread Cert.LossReferenceIdeal.nD Cert.LossReferenceIdeal.τ).loc Cert.LossReferenceIdeal.main_v54) = v2 c
          ∧ r.2.mem ((c.tc : Thread Cert.LossReferenceIdeal.nD Cert.LossReferenceIdeal.τ).loc Cert.LossReferenceIdeal.main_v55) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_AttnKernel_AttnKernelIdeal : Prop :=
  True

def algebraic_AttnKernelIdeal_AttnReferenceIdeal_pre_attn_finite [hAttnKernelIdeal : Cert.AttnKernelIdeal.Facts] [hAttnReferenceIdeal : Cert.AttnReferenceIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_attn_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)) →
    ∃ (v0 : (c : Dev Cert.AttnKernelIdeal.nD) → Buf (Elt Ideal) ((c.tc : Thread Cert.AttnKernelIdeal.nD Cert.AttnKernelIdeal.τ).loc Cert.AttnKernelIdeal.main_v0_0)) (v1 : (c : Dev Cert.AttnKernelIdeal.nD) → Buf (Elt Ideal) ((c.tc : Thread Cert.AttnKernelIdeal.nD Cert.AttnKernelIdeal.τ).loc Cert.AttnKernelIdeal.main_v0_1)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v0_0) = v0 c
          ∧ r.2.mem ((c.tc : Thread Cert.AttnKernelIdeal.nD Cert.AttnKernelIdeal.τ).loc Cert.AttnKernelIdeal.main_v0_1) = v1 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v69) = v0 c
          ∧ r.2.mem ((c.tc : Thread Cert.AttnReferenceIdeal.nD Cert.AttnReferenceIdeal.τ).loc Cert.AttnReferenceIdeal.main_v70) = v1 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2))

def preserves_ConvKernel_ConvKernelIdeal : Prop :=
  True

def algebraic_ConvKernelIdeal_ConvReferenceIdeal [hConvKernelIdeal : Cert.ConvKernelIdeal.Facts] [hConvReferenceIdeal : Cert.ConvReferenceIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)) →
    ∃ (v0 : (c : Dev Cert.ConvKernelIdeal.nD) → Buf (Elt Ideal) ((c.tc : Thread Cert.ConvKernelIdeal.nD Cert.ConvKernelIdeal.τ).loc Cert.ConvKernelIdeal.main_v0_0)) (v1 : (c : Dev Cert.ConvKernelIdeal.nD) → Buf (Elt Ideal) ((c.tc : Thread Cert.ConvKernelIdeal.nD Cert.ConvKernelIdeal.τ).loc Cert.ConvKernelIdeal.main_v0_1)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v0_0) = v0 c
          ∧ r.2.mem ((c.tc : Thread Cert.ConvKernelIdeal.nD Cert.ConvKernelIdeal.τ).loc Cert.ConvKernelIdeal.main_v0_1) = v1 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v70) = v0 c
          ∧ r.2.mem ((c.tc : Thread Cert.ConvReferenceIdeal.nD Cert.ConvReferenceIdeal.τ).loc Cert.ConvReferenceIdeal.main_v62) = v1 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_GmlpKernel_GmlpKernelIdeal : Prop :=
  IdealRules.named_const.Statement Cert.GmlpKernelIdeal.κ "sqrt_half" .f32 0x3F3504F3#32 (((Real.sqrt 2)⁻¹ : ℝ) : EReal)
  ∧ IdealRules.named_const.Statement Cert.GmlpKernelIdeal.κ "inv_sqrt_2pi" .f32 0x3ECC422A#32 (((9465531 / 16777216) * (Real.sqrt 2)⁻¹ : ℝ) : EReal)

def algebraic_GmlpKernelIdeal_GmlpReferenceIdeal_pre_gmlp_finite [hGmlpKernelIdeal : Cert.GmlpKernelIdeal.Facts] [hGmlpReferenceIdeal : Cert.GmlpReferenceIdeal.Facts] [hPre_gmlp_finite : Cert.Pre_gmlp_finite.Facts] : Prop :=
  ∀ (m : (ℓ : Loc Cert.GmlpKernelIdeal.nD Cert.GmlpKernelIdeal.τ Cert.GmlpKernelIdeal.sig) → Buf (Elt Ideal) ℓ) (g : Dev Cert.GmlpKernelIdeal.nD → PrngReg)
    (m' : (ℓ : Loc Cert.GmlpReferenceIdeal.nD Cert.GmlpReferenceIdeal.τ Cert.GmlpReferenceIdeal.sig) → Buf (Elt Ideal) ℓ) (g' : Dev Cert.GmlpReferenceIdeal.nD → PrngReg), Pre_GmlpKernelIdeal_gmlp_finite m →
    (∀ c : Dev Cert.GmlpKernelIdeal.nD,
      m' ((c.tc : Thread Cert.GmlpReferenceIdeal.nD Cert.GmlpReferenceIdeal.τ).loc Cert.GmlpReferenceIdeal.main_arg0) = m ((c.tc : Thread Cert.GmlpKernelIdeal.nD Cert.GmlpKernelIdeal.τ).loc Cert.GmlpKernelIdeal.main_arg0)
      ∧ m' ((c.tc : Thread Cert.GmlpReferenceIdeal.nD Cert.GmlpReferenceIdeal.τ).loc Cert.GmlpReferenceIdeal.main_arg1) = m ((c.tc : Thread Cert.GmlpKernelIdeal.nD Cert.GmlpKernelIdeal.τ).loc Cert.GmlpKernelIdeal.main_arg1)
      ∧ m' ((c.tc : Thread Cert.GmlpReferenceIdeal.nD Cert.GmlpReferenceIdeal.τ).loc Cert.GmlpReferenceIdeal.main_arg2) = m ((c.tc : Thread Cert.GmlpKernelIdeal.nD Cert.GmlpKernelIdeal.τ).loc Cert.GmlpKernelIdeal.main_arg2)
      ∧ m' ((c.tc : Thread Cert.GmlpReferenceIdeal.nD Cert.GmlpReferenceIdeal.τ).loc Cert.GmlpReferenceIdeal.main_arg3) = m ((c.tc : Thread Cert.GmlpKernelIdeal.nD Cert.GmlpKernelIdeal.τ).loc Cert.GmlpKernelIdeal.main_arg3)
      ∧ m' ((c.tc : Thread Cert.GmlpReferenceIdeal.nD Cert.GmlpReferenceIdeal.τ).loc Cert.GmlpReferenceIdeal.main_arg4) = m ((c.tc : Thread Cert.GmlpKernelIdeal.nD Cert.GmlpKernelIdeal.τ).loc Cert.GmlpKernelIdeal.main_arg4)
      ∧ m' ((c.tc : Thread Cert.GmlpReferenceIdeal.nD Cert.GmlpReferenceIdeal.τ).loc Cert.GmlpReferenceIdeal.main_arg5) = m ((c.tc : Thread Cert.GmlpKernelIdeal.nD Cert.GmlpKernelIdeal.τ).loc Cert.GmlpKernelIdeal.main_arg5)) →
    ∃ (v0 : (c : Dev Cert.GmlpKernelIdeal.nD) → Buf (Elt Ideal) ((c.tc : Thread Cert.GmlpKernelIdeal.nD Cert.GmlpKernelIdeal.τ).loc Cert.GmlpKernelIdeal.main_v5_0)) (v1 : (c : Dev Cert.GmlpKernelIdeal.nD) → Buf (Elt Ideal) ((c.tc : Thread Cert.GmlpKernelIdeal.nD Cert.GmlpKernelIdeal.τ).loc Cert.GmlpKernelIdeal.main_v5_1)) (v2 : (c : Dev Cert.GmlpKernelIdeal.nD) → Buf (Elt Ideal) ((c.tc : Thread Cert.GmlpKernelIdeal.nD Cert.GmlpKernelIdeal.τ).loc Cert.GmlpKernelIdeal.main_v5_2)) (v3 : (c : Dev Cert.GmlpKernelIdeal.nD) → Buf (Elt Ideal) ((c.tc : Thread Cert.GmlpKernelIdeal.nD Cert.GmlpKernelIdeal.τ).loc Cert.GmlpKernelIdeal.main_v5_3)) (v4 : (c : Dev Cert.GmlpKernelIdeal.nD) → Buf (Elt Ideal) ((c.tc : Thread Cert.GmlpKernelIdeal.nD Cert.GmlpKernelIdeal.τ).loc Cert.GmlpKernelIdeal.main_v5_4)),
      θ_run (Cert.GmlpKernelIdeal.defs (F := Ideal)) (onTc (τ := Cert.GmlpKernelIdeal.τ) (Cert.GmlpKernelIdeal.main (F := Ideal))) ⟨m, fun _ => 0, g⟩ (fun r => ∀ c : Dev Cert.GmlpKernelIdeal.nD,
          r.2.mem ((c.tc : Thread Cert.GmlpKernelIdeal.nD Cert.GmlpKernelIdeal.τ).loc Cert.GmlpKernelIdeal.main_v5_0) = v0 c
          ∧ r.2.mem ((c.tc : Thread Cert.GmlpKernelIdeal.nD Cert.GmlpKernelIdeal.τ).loc Cert.GmlpKernelIdeal.main_v5_1) = v1 c
          ∧ r.2.mem ((c.tc : Thread Cert.GmlpKernelIdeal.nD Cert.GmlpKernelIdeal.τ).loc Cert.GmlpKernelIdeal.main_v5_2) = v2 c
          ∧ r.2.mem ((c.tc : Thread Cert.GmlpKernelIdeal.nD Cert.GmlpKernelIdeal.τ).loc Cert.GmlpKernelIdeal.main_v5_3) = v3 c
          ∧ r.2.mem ((c.tc : Thread Cert.GmlpKernelIdeal.nD Cert.GmlpKernelIdeal.τ).loc Cert.GmlpKernelIdeal.main_v5_4) = v4 c
          ∧ r.2.mem ((c.tc : Thread Cert.GmlpKernelIdeal.nD Cert.GmlpKernelIdeal.τ).loc Cert.GmlpKernelIdeal.main_arg0) = m ((c.tc : Thread Cert.GmlpKernelIdeal.nD Cert.GmlpKernelIdeal.τ).loc Cert.GmlpKernelIdeal.main_arg0)
          ∧ r.2.mem ((c.tc : Thread Cert.GmlpKernelIdeal.nD Cert.GmlpKernelIdeal.τ).loc Cert.GmlpKernelIdeal.main_arg1) = m ((c.tc : Thread Cert.GmlpKernelIdeal.nD Cert.GmlpKernelIdeal.τ).loc Cert.GmlpKernelIdeal.main_arg1)
          ∧ r.2.mem ((c.tc : Thread Cert.GmlpKernelIdeal.nD Cert.GmlpKernelIdeal.τ).loc Cert.GmlpKernelIdeal.main_arg2) = m ((c.tc : Thread Cert.GmlpKernelIdeal.nD Cert.GmlpKernelIdeal.τ).loc Cert.GmlpKernelIdeal.main_arg2)
          ∧ r.2.mem ((c.tc : Thread Cert.GmlpKernelIdeal.nD Cert.GmlpKernelIdeal.τ).loc Cert.GmlpKernelIdeal.main_arg3) = m ((c.tc : Thread Cert.GmlpKernelIdeal.nD Cert.GmlpKernelIdeal.τ).loc Cert.GmlpKernelIdeal.main_arg3)
          ∧ r.2.mem ((c.tc : Thread Cert.GmlpKernelIdeal.nD Cert.GmlpKernelIdeal.τ).loc Cert.GmlpKernelIdeal.main_arg4) = m ((c.tc : Thread Cert.GmlpKernelIdeal.nD Cert.GmlpKernelIdeal.τ).loc Cert.GmlpKernelIdeal.main_arg4)
          ∧ r.2.mem ((c.tc : Thread Cert.GmlpKernelIdeal.nD Cert.GmlpKernelIdeal.τ).loc Cert.GmlpKernelIdeal.main_arg5) = m ((c.tc : Thread Cert.GmlpKernelIdeal.nD Cert.GmlpKernelIdeal.τ).loc Cert.GmlpKernelIdeal.main_arg5))
      ∧ θ_run (Cert.GmlpReferenceIdeal.defs (F := Ideal)) (onTc (τ := Cert.GmlpReferenceIdeal.τ) (Cert.GmlpReferenceIdeal.main (F := Ideal))) ⟨m', fun _ => 0, g'⟩ (fun r => ∀ c : Dev Cert.GmlpReferenceIdeal.nD,
          r.2.mem ((c.tc : Thread Cert.GmlpReferenceIdeal.nD Cert.GmlpReferenceIdeal.τ).loc Cert.GmlpReferenceIdeal.main_v112) = v0 c
          ∧ r.2.mem ((c.tc : Thread Cert.GmlpReferenceIdeal.nD Cert.GmlpReferenceIdeal.τ).loc Cert.GmlpReferenceIdeal.main_v68) = v1 c
          ∧ r.2.mem ((c.tc : Thread Cert.GmlpReferenceIdeal.nD Cert.GmlpReferenceIdeal.τ).loc Cert.GmlpReferenceIdeal.main_v114) = v2 c
          ∧ r.2.mem ((c.tc : Thread Cert.GmlpReferenceIdeal.nD Cert.GmlpReferenceIdeal.τ).loc Cert.GmlpReferenceIdeal.main_v115) = v3 c
          ∧ r.2.mem ((c.tc : Thread Cert.GmlpReferenceIdeal.nD Cert.GmlpReferenceIdeal.τ).loc Cert.GmlpReferenceIdeal.main_v116) = v4 c
          ∧ r.2.mem ((c.tc : Thread Cert.GmlpReferenceIdeal.nD Cert.GmlpReferenceIdeal.τ).loc Cert.GmlpReferenceIdeal.main_arg0) = m' ((c.tc : Thread Cert.GmlpReferenceIdeal.nD Cert.GmlpReferenceIdeal.τ).loc Cert.GmlpReferenceIdeal.main_arg0)
          ∧ r.2.mem ((c.tc : Thread Cert.GmlpReferenceIdeal.nD Cert.GmlpReferenceIdeal.τ).loc Cert.GmlpReferenceIdeal.main_arg1) = m' ((c.tc : Thread Cert.GmlpReferenceIdeal.nD Cert.GmlpReferenceIdeal.τ).loc Cert.GmlpReferenceIdeal.main_arg1)
          ∧ r.2.mem ((c.tc : Thread Cert.GmlpReferenceIdeal.nD Cert.GmlpReferenceIdeal.τ).loc Cert.GmlpReferenceIdeal.main_arg2) = m' ((c.tc : Thread Cert.GmlpReferenceIdeal.nD Cert.GmlpReferenceIdeal.τ).loc Cert.GmlpReferenceIdeal.main_arg2)
          ∧ r.2.mem ((c.tc : Thread Cert.GmlpReferenceIdeal.nD Cert.GmlpReferenceIdeal.τ).loc Cert.GmlpReferenceIdeal.main_arg3) = m' ((c.tc : Thread Cert.GmlpReferenceIdeal.nD Cert.GmlpReferenceIdeal.τ).loc Cert.GmlpReferenceIdeal.main_arg3)
          ∧ r.2.mem ((c.tc : Thread Cert.GmlpReferenceIdeal.nD Cert.GmlpReferenceIdeal.τ).loc Cert.GmlpReferenceIdeal.main_arg4) = m' ((c.tc : Thread Cert.GmlpReferenceIdeal.nD Cert.GmlpReferenceIdeal.τ).loc Cert.GmlpReferenceIdeal.main_arg4)
          ∧ r.2.mem ((c.tc : Thread Cert.GmlpReferenceIdeal.nD Cert.GmlpReferenceIdeal.τ).loc Cert.GmlpReferenceIdeal.main_arg5) = m' ((c.tc : Thread Cert.GmlpReferenceIdeal.nD Cert.GmlpReferenceIdeal.τ).loc Cert.GmlpReferenceIdeal.main_arg5))

def preserves_RmsFwdKernel_RmsFwdKernelIdeal : Prop :=
  True

def algebraic_RmsFwdKernelIdeal_RmsFwdReferenceIdeal [hRmsFwdKernelIdeal : Cert.RmsFwdKernelIdeal.Facts] [hRmsFwdReferenceIdeal : Cert.RmsFwdReferenceIdeal.Facts] : Prop :=
  ∀ (m : (ℓ : Loc Cert.RmsFwdKernelIdeal.nD Cert.RmsFwdKernelIdeal.τ Cert.RmsFwdKernelIdeal.sig) → Buf (Elt Ideal) ℓ) (g : Dev Cert.RmsFwdKernelIdeal.nD → PrngReg)
    (m' : (ℓ : Loc Cert.RmsFwdReferenceIdeal.nD Cert.RmsFwdReferenceIdeal.τ Cert.RmsFwdReferenceIdeal.sig) → Buf (Elt Ideal) ℓ) (g' : Dev Cert.RmsFwdReferenceIdeal.nD → PrngReg), Pre_RmsFwdKernelIdeal m →
    (∀ c : Dev Cert.RmsFwdKernelIdeal.nD,
      m' ((c.tc : Thread Cert.RmsFwdReferenceIdeal.nD Cert.RmsFwdReferenceIdeal.τ).loc Cert.RmsFwdReferenceIdeal.main_arg0) = m ((c.tc : Thread Cert.RmsFwdKernelIdeal.nD Cert.RmsFwdKernelIdeal.τ).loc Cert.RmsFwdKernelIdeal.main_arg0)
      ∧ m' ((c.tc : Thread Cert.RmsFwdReferenceIdeal.nD Cert.RmsFwdReferenceIdeal.τ).loc Cert.RmsFwdReferenceIdeal.main_arg1) = m ((c.tc : Thread Cert.RmsFwdKernelIdeal.nD Cert.RmsFwdKernelIdeal.τ).loc Cert.RmsFwdKernelIdeal.main_arg1)) →
    ∃ (v0 : (c : Dev Cert.RmsFwdKernelIdeal.nD) → Buf (Elt Ideal) ((c.tc : Thread Cert.RmsFwdKernelIdeal.nD Cert.RmsFwdKernelIdeal.τ).loc Cert.RmsFwdKernelIdeal.main_v1)),
      θ_run (Cert.RmsFwdKernelIdeal.defs (F := Ideal)) (onTc (τ := Cert.RmsFwdKernelIdeal.τ) (Cert.RmsFwdKernelIdeal.main (F := Ideal))) ⟨m, fun _ => 0, g⟩ (fun r => ∀ c : Dev Cert.RmsFwdKernelIdeal.nD,
          r.2.mem ((c.tc : Thread Cert.RmsFwdKernelIdeal.nD Cert.RmsFwdKernelIdeal.τ).loc Cert.RmsFwdKernelIdeal.main_v1) = v0 c
          ∧ r.2.mem ((c.tc : Thread Cert.RmsFwdKernelIdeal.nD Cert.RmsFwdKernelIdeal.τ).loc Cert.RmsFwdKernelIdeal.main_arg0) = m ((c.tc : Thread Cert.RmsFwdKernelIdeal.nD Cert.RmsFwdKernelIdeal.τ).loc Cert.RmsFwdKernelIdeal.main_arg0)
          ∧ r.2.mem ((c.tc : Thread Cert.RmsFwdKernelIdeal.nD Cert.RmsFwdKernelIdeal.τ).loc Cert.RmsFwdKernelIdeal.main_arg1) = m ((c.tc : Thread Cert.RmsFwdKernelIdeal.nD Cert.RmsFwdKernelIdeal.τ).loc Cert.RmsFwdKernelIdeal.main_arg1))
      ∧ θ_run (Cert.RmsFwdReferenceIdeal.defs (F := Ideal)) (onTc (τ := Cert.RmsFwdReferenceIdeal.τ) (Cert.RmsFwdReferenceIdeal.main (F := Ideal))) ⟨m', fun _ => 0, g'⟩ (fun r => ∀ c : Dev Cert.RmsFwdReferenceIdeal.nD,
          r.2.mem ((c.tc : Thread Cert.RmsFwdReferenceIdeal.nD Cert.RmsFwdReferenceIdeal.τ).loc Cert.RmsFwdReferenceIdeal.main_v13) = v0 c
          ∧ r.2.mem ((c.tc : Thread Cert.RmsFwdReferenceIdeal.nD Cert.RmsFwdReferenceIdeal.τ).loc Cert.RmsFwdReferenceIdeal.main_arg0) = m' ((c.tc : Thread Cert.RmsFwdReferenceIdeal.nD Cert.RmsFwdReferenceIdeal.τ).loc Cert.RmsFwdReferenceIdeal.main_arg0)
          ∧ r.2.mem ((c.tc : Thread Cert.RmsFwdReferenceIdeal.nD Cert.RmsFwdReferenceIdeal.τ).loc Cert.RmsFwdReferenceIdeal.main_arg1) = m' ((c.tc : Thread Cert.RmsFwdReferenceIdeal.nD Cert.RmsFwdReferenceIdeal.τ).loc Cert.RmsFwdReferenceIdeal.main_arg1))

def preserves_AttnFwdKernel_AttnFwdKernelIdeal : Prop :=
  True

def algebraic_AttnFwdKernelIdeal_AttnFwdReferenceIdeal [hAttnFwdKernelIdeal : Cert.AttnFwdKernelIdeal.Facts] [hAttnFwdReferenceIdeal : Cert.AttnFwdReferenceIdeal.Facts] : Prop :=
  ∀ (m : (ℓ : Loc Cert.AttnFwdKernelIdeal.nD Cert.AttnFwdKernelIdeal.τ Cert.AttnFwdKernelIdeal.sig) → Buf (Elt Ideal) ℓ) (g : Dev Cert.AttnFwdKernelIdeal.nD → PrngReg)
    (m' : (ℓ : Loc Cert.AttnFwdReferenceIdeal.nD Cert.AttnFwdReferenceIdeal.τ Cert.AttnFwdReferenceIdeal.sig) → Buf (Elt Ideal) ℓ) (g' : Dev Cert.AttnFwdReferenceIdeal.nD → PrngReg), Pre_AttnFwdKernelIdeal m →
    (∀ c : Dev Cert.AttnFwdKernelIdeal.nD,
      m' ((c.tc : Thread Cert.AttnFwdReferenceIdeal.nD Cert.AttnFwdReferenceIdeal.τ).loc Cert.AttnFwdReferenceIdeal.main_arg0) = m ((c.tc : Thread Cert.AttnFwdKernelIdeal.nD Cert.AttnFwdKernelIdeal.τ).loc Cert.AttnFwdKernelIdeal.main_arg0)
      ∧ m' ((c.tc : Thread Cert.AttnFwdReferenceIdeal.nD Cert.AttnFwdReferenceIdeal.τ).loc Cert.AttnFwdReferenceIdeal.main_arg1) = m ((c.tc : Thread Cert.AttnFwdKernelIdeal.nD Cert.AttnFwdKernelIdeal.τ).loc Cert.AttnFwdKernelIdeal.main_arg1)) →
    ∃ (v0 : (c : Dev Cert.AttnFwdKernelIdeal.nD) → Buf (Elt Ideal) ((c.tc : Thread Cert.AttnFwdKernelIdeal.nD Cert.AttnFwdKernelIdeal.τ).loc Cert.AttnFwdKernelIdeal.main_v0)),
      θ_run (Cert.AttnFwdKernelIdeal.defs (F := Ideal)) (onTc (τ := Cert.AttnFwdKernelIdeal.τ) (Cert.AttnFwdKernelIdeal.main (F := Ideal))) ⟨m, fun _ => 0, g⟩ (fun r => ∀ c : Dev Cert.AttnFwdKernelIdeal.nD,
          r.2.mem ((c.tc : Thread Cert.AttnFwdKernelIdeal.nD Cert.AttnFwdKernelIdeal.τ).loc Cert.AttnFwdKernelIdeal.main_v0) = v0 c
          ∧ r.2.mem ((c.tc : Thread Cert.AttnFwdKernelIdeal.nD Cert.AttnFwdKernelIdeal.τ).loc Cert.AttnFwdKernelIdeal.main_arg0) = m ((c.tc : Thread Cert.AttnFwdKernelIdeal.nD Cert.AttnFwdKernelIdeal.τ).loc Cert.AttnFwdKernelIdeal.main_arg0)
          ∧ r.2.mem ((c.tc : Thread Cert.AttnFwdKernelIdeal.nD Cert.AttnFwdKernelIdeal.τ).loc Cert.AttnFwdKernelIdeal.main_arg1) = m ((c.tc : Thread Cert.AttnFwdKernelIdeal.nD Cert.AttnFwdKernelIdeal.τ).loc Cert.AttnFwdKernelIdeal.main_arg1))
      ∧ θ_run (Cert.AttnFwdReferenceIdeal.defs (F := Ideal)) (onTc (τ := Cert.AttnFwdReferenceIdeal.τ) (Cert.AttnFwdReferenceIdeal.main (F := Ideal))) ⟨m', fun _ => 0, g'⟩ (fun r => ∀ c : Dev Cert.AttnFwdReferenceIdeal.nD,
          r.2.mem ((c.tc : Thread Cert.AttnFwdReferenceIdeal.nD Cert.AttnFwdReferenceIdeal.τ).loc Cert.AttnFwdReferenceIdeal.main_v24) = v0 c
          ∧ r.2.mem ((c.tc : Thread Cert.AttnFwdReferenceIdeal.nD Cert.AttnFwdReferenceIdeal.τ).loc Cert.AttnFwdReferenceIdeal.main_arg0) = m' ((c.tc : Thread Cert.AttnFwdReferenceIdeal.nD Cert.AttnFwdReferenceIdeal.τ).loc Cert.AttnFwdReferenceIdeal.main_arg0)
          ∧ r.2.mem ((c.tc : Thread Cert.AttnFwdReferenceIdeal.nD Cert.AttnFwdReferenceIdeal.τ).loc Cert.AttnFwdReferenceIdeal.main_arg1) = m' ((c.tc : Thread Cert.AttnFwdReferenceIdeal.nD Cert.AttnFwdReferenceIdeal.τ).loc Cert.AttnFwdReferenceIdeal.main_arg1))

def preserves_ConvFwdKernel_ConvFwdKernelIdeal : Prop :=
  True

def algebraic_ConvFwdKernelIdeal_ConvFwdReferenceIdeal [hConvFwdKernelIdeal : Cert.ConvFwdKernelIdeal.Facts] [hConvFwdReferenceIdeal : Cert.ConvFwdReferenceIdeal.Facts] : Prop :=
  ∀ (m : (ℓ : Loc Cert.ConvFwdKernelIdeal.nD Cert.ConvFwdKernelIdeal.τ Cert.ConvFwdKernelIdeal.sig) → Buf (Elt Ideal) ℓ) (g : Dev Cert.ConvFwdKernelIdeal.nD → PrngReg)
    (m' : (ℓ : Loc Cert.ConvFwdReferenceIdeal.nD Cert.ConvFwdReferenceIdeal.τ Cert.ConvFwdReferenceIdeal.sig) → Buf (Elt Ideal) ℓ) (g' : Dev Cert.ConvFwdReferenceIdeal.nD → PrngReg), Pre_ConvFwdKernelIdeal m →
    (∀ c : Dev Cert.ConvFwdKernelIdeal.nD,
      m' ((c.tc : Thread Cert.ConvFwdReferenceIdeal.nD Cert.ConvFwdReferenceIdeal.τ).loc Cert.ConvFwdReferenceIdeal.main_arg0) = m ((c.tc : Thread Cert.ConvFwdKernelIdeal.nD Cert.ConvFwdKernelIdeal.τ).loc Cert.ConvFwdKernelIdeal.main_arg0)
      ∧ m' ((c.tc : Thread Cert.ConvFwdReferenceIdeal.nD Cert.ConvFwdReferenceIdeal.τ).loc Cert.ConvFwdReferenceIdeal.main_arg1) = m ((c.tc : Thread Cert.ConvFwdKernelIdeal.nD Cert.ConvFwdKernelIdeal.τ).loc Cert.ConvFwdKernelIdeal.main_arg1)) →
    ∃ (v0 : (c : Dev Cert.ConvFwdKernelIdeal.nD) → Buf (Elt Ideal) ((c.tc : Thread Cert.ConvFwdKernelIdeal.nD Cert.ConvFwdKernelIdeal.τ).loc Cert.ConvFwdKernelIdeal.main_v0)),
      θ_run (Cert.ConvFwdKernelIdeal.defs (F := Ideal)) (onTc (τ := Cert.ConvFwdKernelIdeal.τ) (Cert.ConvFwdKernelIdeal.main (F := Ideal))) ⟨m, fun _ => 0, g⟩ (fun r => ∀ c : Dev Cert.ConvFwdKernelIdeal.nD,
          r.2.mem ((c.tc : Thread Cert.ConvFwdKernelIdeal.nD Cert.ConvFwdKernelIdeal.τ).loc Cert.ConvFwdKernelIdeal.main_v0) = v0 c
          ∧ r.2.mem ((c.tc : Thread Cert.ConvFwdKernelIdeal.nD Cert.ConvFwdKernelIdeal.τ).loc Cert.ConvFwdKernelIdeal.main_arg0) = m ((c.tc : Thread Cert.ConvFwdKernelIdeal.nD Cert.ConvFwdKernelIdeal.τ).loc Cert.ConvFwdKernelIdeal.main_arg0)
          ∧ r.2.mem ((c.tc : Thread Cert.ConvFwdKernelIdeal.nD Cert.ConvFwdKernelIdeal.τ).loc Cert.ConvFwdKernelIdeal.main_arg1) = m ((c.tc : Thread Cert.ConvFwdKernelIdeal.nD Cert.ConvFwdKernelIdeal.τ).loc Cert.ConvFwdKernelIdeal.main_arg1))
      ∧ θ_run (Cert.ConvFwdReferenceIdeal.defs (F := Ideal)) (onTc (τ := Cert.ConvFwdReferenceIdeal.τ) (Cert.ConvFwdReferenceIdeal.main (F := Ideal))) ⟨m', fun _ => 0, g'⟩ (fun r => ∀ c : Dev Cert.ConvFwdReferenceIdeal.nD,
          r.2.mem ((c.tc : Thread Cert.ConvFwdReferenceIdeal.nD Cert.ConvFwdReferenceIdeal.τ).loc Cert.ConvFwdReferenceIdeal.main_v30) = v0 c
          ∧ r.2.mem ((c.tc : Thread Cert.ConvFwdReferenceIdeal.nD Cert.ConvFwdReferenceIdeal.τ).loc Cert.ConvFwdReferenceIdeal.main_arg0) = m' ((c.tc : Thread Cert.ConvFwdReferenceIdeal.nD Cert.ConvFwdReferenceIdeal.τ).loc Cert.ConvFwdReferenceIdeal.main_arg0)
          ∧ r.2.mem ((c.tc : Thread Cert.ConvFwdReferenceIdeal.nD Cert.ConvFwdReferenceIdeal.τ).loc Cert.ConvFwdReferenceIdeal.main_arg1) = m' ((c.tc : Thread Cert.ConvFwdReferenceIdeal.nD Cert.ConvFwdReferenceIdeal.τ).loc Cert.ConvFwdReferenceIdeal.main_arg1))

def preserves_GmlpFwdKernel_GmlpFwdKernelIdeal : Prop :=
  IdealRules.named_const.Statement Cert.GmlpFwdKernelIdeal.κ "sqrt_half" .f32 0x3F3504F3#32 (((Real.sqrt 2)⁻¹ : ℝ) : EReal)

def algebraic_GmlpFwdKernelIdeal_GmlpFwdReferenceIdeal [hGmlpFwdKernelIdeal : Cert.GmlpFwdKernelIdeal.Facts] [hGmlpFwdReferenceIdeal : Cert.GmlpFwdReferenceIdeal.Facts] : Prop :=
  ∀ (m : (ℓ : Loc Cert.GmlpFwdKernelIdeal.nD Cert.GmlpFwdKernelIdeal.τ Cert.GmlpFwdKernelIdeal.sig) → Buf (Elt Ideal) ℓ) (g : Dev Cert.GmlpFwdKernelIdeal.nD → PrngReg)
    (m' : (ℓ : Loc Cert.GmlpFwdReferenceIdeal.nD Cert.GmlpFwdReferenceIdeal.τ Cert.GmlpFwdReferenceIdeal.sig) → Buf (Elt Ideal) ℓ) (g' : Dev Cert.GmlpFwdReferenceIdeal.nD → PrngReg), Pre_GmlpFwdKernelIdeal m →
    (∀ c : Dev Cert.GmlpFwdKernelIdeal.nD,
      m' ((c.tc : Thread Cert.GmlpFwdReferenceIdeal.nD Cert.GmlpFwdReferenceIdeal.τ).loc Cert.GmlpFwdReferenceIdeal.main_arg0) = m ((c.tc : Thread Cert.GmlpFwdKernelIdeal.nD Cert.GmlpFwdKernelIdeal.τ).loc Cert.GmlpFwdKernelIdeal.main_arg0)
      ∧ m' ((c.tc : Thread Cert.GmlpFwdReferenceIdeal.nD Cert.GmlpFwdReferenceIdeal.τ).loc Cert.GmlpFwdReferenceIdeal.main_arg1) = m ((c.tc : Thread Cert.GmlpFwdKernelIdeal.nD Cert.GmlpFwdKernelIdeal.τ).loc Cert.GmlpFwdKernelIdeal.main_arg1)
      ∧ m' ((c.tc : Thread Cert.GmlpFwdReferenceIdeal.nD Cert.GmlpFwdReferenceIdeal.τ).loc Cert.GmlpFwdReferenceIdeal.main_arg2) = m ((c.tc : Thread Cert.GmlpFwdKernelIdeal.nD Cert.GmlpFwdKernelIdeal.τ).loc Cert.GmlpFwdKernelIdeal.main_arg2)
      ∧ m' ((c.tc : Thread Cert.GmlpFwdReferenceIdeal.nD Cert.GmlpFwdReferenceIdeal.τ).loc Cert.GmlpFwdReferenceIdeal.main_arg3) = m ((c.tc : Thread Cert.GmlpFwdKernelIdeal.nD Cert.GmlpFwdKernelIdeal.τ).loc Cert.GmlpFwdKernelIdeal.main_arg3)
      ∧ m' ((c.tc : Thread Cert.GmlpFwdReferenceIdeal.nD Cert.GmlpFwdReferenceIdeal.τ).loc Cert.GmlpFwdReferenceIdeal.main_arg4) = m ((c.tc : Thread Cert.GmlpFwdKernelIdeal.nD Cert.GmlpFwdKernelIdeal.τ).loc Cert.GmlpFwdKernelIdeal.main_arg4)) →
    ∃ (v0 : (c : Dev Cert.GmlpFwdKernelIdeal.nD) → Buf (Elt Ideal) ((c.tc : Thread Cert.GmlpFwdKernelIdeal.nD Cert.GmlpFwdKernelIdeal.τ).loc Cert.GmlpFwdKernelIdeal.main_v5)),
      θ_run (Cert.GmlpFwdKernelIdeal.defs (F := Ideal)) (onTc (τ := Cert.GmlpFwdKernelIdeal.τ) (Cert.GmlpFwdKernelIdeal.main (F := Ideal))) ⟨m, fun _ => 0, g⟩ (fun r => ∀ c : Dev Cert.GmlpFwdKernelIdeal.nD,
          r.2.mem ((c.tc : Thread Cert.GmlpFwdKernelIdeal.nD Cert.GmlpFwdKernelIdeal.τ).loc Cert.GmlpFwdKernelIdeal.main_v5) = v0 c
          ∧ r.2.mem ((c.tc : Thread Cert.GmlpFwdKernelIdeal.nD Cert.GmlpFwdKernelIdeal.τ).loc Cert.GmlpFwdKernelIdeal.main_arg0) = m ((c.tc : Thread Cert.GmlpFwdKernelIdeal.nD Cert.GmlpFwdKernelIdeal.τ).loc Cert.GmlpFwdKernelIdeal.main_arg0)
          ∧ r.2.mem ((c.tc : Thread Cert.GmlpFwdKernelIdeal.nD Cert.GmlpFwdKernelIdeal.τ).loc Cert.GmlpFwdKernelIdeal.main_arg1) = m ((c.tc : Thread Cert.GmlpFwdKernelIdeal.nD Cert.GmlpFwdKernelIdeal.τ).loc Cert.GmlpFwdKernelIdeal.main_arg1)
          ∧ r.2.mem ((c.tc : Thread Cert.GmlpFwdKernelIdeal.nD Cert.GmlpFwdKernelIdeal.τ).loc Cert.GmlpFwdKernelIdeal.main_arg2) = m ((c.tc : Thread Cert.GmlpFwdKernelIdeal.nD Cert.GmlpFwdKernelIdeal.τ).loc Cert.GmlpFwdKernelIdeal.main_arg2)
          ∧ r.2.mem ((c.tc : Thread Cert.GmlpFwdKernelIdeal.nD Cert.GmlpFwdKernelIdeal.τ).loc Cert.GmlpFwdKernelIdeal.main_arg3) = m ((c.tc : Thread Cert.GmlpFwdKernelIdeal.nD Cert.GmlpFwdKernelIdeal.τ).loc Cert.GmlpFwdKernelIdeal.main_arg3)
          ∧ r.2.mem ((c.tc : Thread Cert.GmlpFwdKernelIdeal.nD Cert.GmlpFwdKernelIdeal.τ).loc Cert.GmlpFwdKernelIdeal.main_arg4) = m ((c.tc : Thread Cert.GmlpFwdKernelIdeal.nD Cert.GmlpFwdKernelIdeal.τ).loc Cert.GmlpFwdKernelIdeal.main_arg4))
      ∧ θ_run (Cert.GmlpFwdReferenceIdeal.defs (F := Ideal)) (onTc (τ := Cert.GmlpFwdReferenceIdeal.τ) (Cert.GmlpFwdReferenceIdeal.main (F := Ideal))) ⟨m', fun _ => 0, g'⟩ (fun r => ∀ c : Dev Cert.GmlpFwdReferenceIdeal.nD,
          r.2.mem ((c.tc : Thread Cert.GmlpFwdReferenceIdeal.nD Cert.GmlpFwdReferenceIdeal.τ).loc Cert.GmlpFwdReferenceIdeal.main_v48) = v0 c
          ∧ r.2.mem ((c.tc : Thread Cert.GmlpFwdReferenceIdeal.nD Cert.GmlpFwdReferenceIdeal.τ).loc Cert.GmlpFwdReferenceIdeal.main_arg0) = m' ((c.tc : Thread Cert.GmlpFwdReferenceIdeal.nD Cert.GmlpFwdReferenceIdeal.τ).loc Cert.GmlpFwdReferenceIdeal.main_arg0)
          ∧ r.2.mem ((c.tc : Thread Cert.GmlpFwdReferenceIdeal.nD Cert.GmlpFwdReferenceIdeal.τ).loc Cert.GmlpFwdReferenceIdeal.main_arg1) = m' ((c.tc : Thread Cert.GmlpFwdReferenceIdeal.nD Cert.GmlpFwdReferenceIdeal.τ).loc Cert.GmlpFwdReferenceIdeal.main_arg1)
          ∧ r.2.mem ((c.tc : Thread Cert.GmlpFwdReferenceIdeal.nD Cert.GmlpFwdReferenceIdeal.τ).loc Cert.GmlpFwdReferenceIdeal.main_arg2) = m' ((c.tc : Thread Cert.GmlpFwdReferenceIdeal.nD Cert.GmlpFwdReferenceIdeal.τ).loc Cert.GmlpFwdReferenceIdeal.main_arg2)
          ∧ r.2.mem ((c.tc : Thread Cert.GmlpFwdReferenceIdeal.nD Cert.GmlpFwdReferenceIdeal.τ).loc Cert.GmlpFwdReferenceIdeal.main_arg3) = m' ((c.tc : Thread Cert.GmlpFwdReferenceIdeal.nD Cert.GmlpFwdReferenceIdeal.τ).loc Cert.GmlpFwdReferenceIdeal.main_arg3)
          ∧ r.2.mem ((c.tc : Thread Cert.GmlpFwdReferenceIdeal.nD Cert.GmlpFwdReferenceIdeal.τ).loc Cert.GmlpFwdReferenceIdeal.main_arg4) = m' ((c.tc : Thread Cert.GmlpFwdReferenceIdeal.nD Cert.GmlpFwdReferenceIdeal.τ).loc Cert.GmlpFwdReferenceIdeal.main_arg4))

def preserves_ProjKernel_ProjKernelIdeal : Prop :=
  True

def algebraic_ProjKernelIdeal_ProjReferenceIdeal_pre_proj_finite [hProjKernelIdeal : Cert.ProjKernelIdeal.Facts] [hProjReferenceIdeal : Cert.ProjReferenceIdeal.Facts] [hPre_proj_finite : Cert.Pre_proj_finite.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal_proj_finite m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)) →
    ∃ (v0 : (c : Dev Cert.ProjKernelIdeal.nD) → Buf (Elt Ideal) ((c.tc : Thread Cert.ProjKernelIdeal.nD Cert.ProjKernelIdeal.τ).loc Cert.ProjKernelIdeal.main_v3_0)) (v1 : (c : Dev Cert.ProjKernelIdeal.nD) → Buf (Elt Ideal) ((c.tc : Thread Cert.ProjKernelIdeal.nD Cert.ProjKernelIdeal.τ).loc Cert.ProjKernelIdeal.main_v3_1)) (v2 : (c : Dev Cert.ProjKernelIdeal.nD) → Buf (Elt Ideal) ((c.tc : Thread Cert.ProjKernelIdeal.nD Cert.ProjKernelIdeal.τ).loc Cert.ProjKernelIdeal.main_v3_2)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v3_0) = v0 c
          ∧ r.2.mem ((c.tc : Thread Cert.ProjKernelIdeal.nD Cert.ProjKernelIdeal.τ).loc Cert.ProjKernelIdeal.main_v3_1) = v1 c
          ∧ r.2.mem ((c.tc : Thread Cert.ProjKernelIdeal.nD Cert.ProjKernelIdeal.τ).loc Cert.ProjKernelIdeal.main_v3_2) = v2 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v39) = v0 c
          ∧ r.2.mem ((c.tc : Thread Cert.ProjReferenceIdeal.nD Cert.ProjReferenceIdeal.τ).loc Cert.ProjReferenceIdeal.main_v42) = v1 c
          ∧ r.2.mem ((c.tc : Thread Cert.ProjReferenceIdeal.nD Cert.ProjReferenceIdeal.τ).loc Cert.ProjReferenceIdeal.main_v43) = v2 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_FfnKernel_FfnKernelIdeal : Prop :=
  True

def algebraic_FfnKernelIdeal_FfnReferenceIdeal_pre_ffn_finite [hFfnKernelIdeal : Cert.FfnKernelIdeal.Facts] [hFfnReferenceIdeal : Cert.FfnReferenceIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_ffn_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)) →
    ∃ (v0 : (c : Dev Cert.FfnKernelIdeal.nD) → Buf (Elt Ideal) ((c.tc : Thread Cert.FfnKernelIdeal.nD Cert.FfnKernelIdeal.τ).loc Cert.FfnKernelIdeal.main_v5)) (v1 : (c : Dev Cert.FfnKernelIdeal.nD) → Buf (Elt Ideal) ((c.tc : Thread Cert.FfnKernelIdeal.nD Cert.FfnKernelIdeal.τ).loc Cert.FfnKernelIdeal.main_v3_1)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v5) = v0 c
          ∧ r.2.mem ((c.tc : Thread Cert.FfnKernelIdeal.nD Cert.FfnKernelIdeal.τ).loc Cert.FfnKernelIdeal.main_v3_1) = v1 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v18) = v0 c
          ∧ r.2.mem ((c.tc : Thread Cert.FfnReferenceIdeal.nD Cert.FfnReferenceIdeal.τ).loc Cert.FfnReferenceIdeal.main_v19) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)) →
    ∃ (v0 : (c : Dev Cert.DownKernelIdeal.nD) → Buf (Elt Ideal) ((c.tc : Thread Cert.DownKernelIdeal.nD Cert.DownKernelIdeal.τ).loc Cert.DownKernelIdeal.main_v2)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v2) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v4) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_DwKernel_DwKernelIdeal : Prop :=
  True

def algebraic_DwKernelIdeal_DwReferenceIdeal [hDwKernelIdeal : Cert.DwKernelIdeal.Facts] [hDwReferenceIdeal : Cert.DwReferenceIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg)
    (m' : (ℓ : Loc Cert.DwReferenceIdeal.nD Cert.DwReferenceIdeal.τ Cert.DwReferenceIdeal.sig) → Buf (Elt Ideal) ℓ) (g' : Dev Cert.DwReferenceIdeal.nD → PrngReg), Pre_DwKernelIdeal m →
    (∀ c : Dev Cert.DwKernelIdeal.nD,
      m' ((c.tc : Thread Cert.DwReferenceIdeal.nD Cert.DwReferenceIdeal.τ).loc Cert.DwReferenceIdeal.main_arg0) = m ((c.tc : Thread Cert.DwKernelIdeal.nD Cert.DwKernelIdeal.τ).loc Cert.DwKernelIdeal.main_arg0)
      ∧ m' ((c.tc : Thread Cert.DwReferenceIdeal.nD Cert.DwReferenceIdeal.τ).loc Cert.DwReferenceIdeal.main_arg1) = m ((c.tc : Thread Cert.DwKernelIdeal.nD Cert.DwKernelIdeal.τ).loc Cert.DwKernelIdeal.main_arg1)) →
    ∃ (v0 : (c : Dev Cert.DwKernelIdeal.nD) → Buf (Elt Ideal) ((c.tc : Thread Cert.DwKernelIdeal.nD Cert.DwKernelIdeal.τ).loc Cert.DwKernelIdeal.main_v0)),
      θ_run (Cert.DwKernelIdeal.defs (F := Ideal)) (onTc (τ := Cert.DwKernelIdeal.τ) (Cert.DwKernelIdeal.main (F := Ideal))) ⟨m, fun _ => 0, g⟩ (fun r => ∀ c : Dev Cert.DwKernelIdeal.nD,
          r.2.mem ((c.tc : Thread Cert.DwKernelIdeal.nD Cert.DwKernelIdeal.τ).loc Cert.DwKernelIdeal.main_v0) = v0 c
          ∧ r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
          ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1))
      ∧ θ_run (Cert.DwReferenceIdeal.defs (F := Ideal)) (onTc (τ := Cert.DwReferenceIdeal.τ) (Cert.DwReferenceIdeal.main (F := Ideal))) ⟨m', fun _ => 0, g'⟩ (fun r => ∀ c : Dev Cert.DwReferenceIdeal.nD,
          r.2.mem ((c.tc : Thread Cert.DwReferenceIdeal.nD Cert.DwReferenceIdeal.τ).loc Cert.DwReferenceIdeal.main_v28) = v0 c
          ∧ r.2.mem ((c.tc : Thread Cert.DwReferenceIdeal.nD Cert.DwReferenceIdeal.τ).loc Cert.DwReferenceIdeal.main_arg0) = m' ((c.tc : Thread Cert.DwReferenceIdeal.nD Cert.DwReferenceIdeal.τ).loc Cert.DwReferenceIdeal.main_arg0)
          ∧ r.2.mem ((c.tc : Thread Cert.DwReferenceIdeal.nD Cert.DwReferenceIdeal.τ).loc Cert.DwReferenceIdeal.main_arg1) = m' ((c.tc : Thread Cert.DwReferenceIdeal.nD Cert.DwReferenceIdeal.τ).loc Cert.DwReferenceIdeal.main_arg1))

def preserves_DxnKernel_DxnKernelIdeal : Prop :=
  True

def algebraic_DxnKernelIdeal_DxnReferenceIdeal [hDxnKernelIdeal : Cert.DxnKernelIdeal.Facts] [hDxnReferenceIdeal : Cert.DxnReferenceIdeal.Facts] : Prop :=
  ∀ (m : (ℓ : Loc Cert.DxnKernelIdeal.nD Cert.DxnKernelIdeal.τ Cert.DxnKernelIdeal.sig) → Buf (Elt Ideal) ℓ) (g : Dev Cert.DxnKernelIdeal.nD → PrngReg)
    (m' : (ℓ : Loc Cert.DxnReferenceIdeal.nD Cert.DxnReferenceIdeal.τ Cert.DxnReferenceIdeal.sig) → Buf (Elt Ideal) ℓ) (g' : Dev Cert.DxnReferenceIdeal.nD → PrngReg), Pre_DxnKernelIdeal m →
    (∀ c : Dev Cert.DxnKernelIdeal.nD,
      m' ((c.tc : Thread Cert.DxnReferenceIdeal.nD Cert.DxnReferenceIdeal.τ).loc Cert.DxnReferenceIdeal.main_arg0) = m ((c.tc : Thread Cert.DxnKernelIdeal.nD Cert.DxnKernelIdeal.τ).loc Cert.DxnKernelIdeal.main_arg0)
      ∧ m' ((c.tc : Thread Cert.DxnReferenceIdeal.nD Cert.DxnReferenceIdeal.τ).loc Cert.DxnReferenceIdeal.main_arg1) = m ((c.tc : Thread Cert.DxnKernelIdeal.nD Cert.DxnKernelIdeal.τ).loc Cert.DxnKernelIdeal.main_arg1)) →
    ∃ (v0 : (c : Dev Cert.DxnKernelIdeal.nD) → Buf (Elt Ideal) ((c.tc : Thread Cert.DxnKernelIdeal.nD Cert.DxnKernelIdeal.τ).loc Cert.DxnKernelIdeal.main_v3)),
      θ_run (Cert.DxnKernelIdeal.defs (F := Ideal)) (onTc (τ := Cert.DxnKernelIdeal.τ) (Cert.DxnKernelIdeal.main (F := Ideal))) ⟨m, fun _ => 0, g⟩ (fun r => ∀ c : Dev Cert.DxnKernelIdeal.nD,
          r.2.mem ((c.tc : Thread Cert.DxnKernelIdeal.nD Cert.DxnKernelIdeal.τ).loc Cert.DxnKernelIdeal.main_v3) = v0 c
          ∧ r.2.mem ((c.tc : Thread Cert.DxnKernelIdeal.nD Cert.DxnKernelIdeal.τ).loc Cert.DxnKernelIdeal.main_arg0) = m ((c.tc : Thread Cert.DxnKernelIdeal.nD Cert.DxnKernelIdeal.τ).loc Cert.DxnKernelIdeal.main_arg0)
          ∧ r.2.mem ((c.tc : Thread Cert.DxnKernelIdeal.nD Cert.DxnKernelIdeal.τ).loc Cert.DxnKernelIdeal.main_arg1) = m ((c.tc : Thread Cert.DxnKernelIdeal.nD Cert.DxnKernelIdeal.τ).loc Cert.DxnKernelIdeal.main_arg1))
      ∧ θ_run (Cert.DxnReferenceIdeal.defs (F := Ideal)) (onTc (τ := Cert.DxnReferenceIdeal.τ) (Cert.DxnReferenceIdeal.main (F := Ideal))) ⟨m', fun _ => 0, g'⟩ (fun r => ∀ c : Dev Cert.DxnReferenceIdeal.nD,
          r.2.mem ((c.tc : Thread Cert.DxnReferenceIdeal.nD Cert.DxnReferenceIdeal.τ).loc Cert.DxnReferenceIdeal.main_v9) = v0 c
          ∧ r.2.mem ((c.tc : Thread Cert.DxnReferenceIdeal.nD Cert.DxnReferenceIdeal.τ).loc Cert.DxnReferenceIdeal.main_arg0) = m' ((c.tc : Thread Cert.DxnReferenceIdeal.nD Cert.DxnReferenceIdeal.τ).loc Cert.DxnReferenceIdeal.main_arg0)
          ∧ r.2.mem ((c.tc : Thread Cert.DxnReferenceIdeal.nD Cert.DxnReferenceIdeal.τ).loc Cert.DxnReferenceIdeal.main_arg1) = m' ((c.tc : Thread Cert.DxnReferenceIdeal.nD Cert.DxnReferenceIdeal.τ).loc Cert.DxnReferenceIdeal.main_arg1))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)
      ∧ m' ((c.tc : Thread Cert.AdamReferenceIdeal.nD Cert.AdamReferenceIdeal.τ).loc Cert.AdamReferenceIdeal.main_arg4) = m ((c.tc : Thread Cert.AdamKernelIdeal.nD Cert.AdamKernelIdeal.τ).loc Cert.AdamKernelIdeal.main_arg4)) →
    ∃ (v0 : (c : Dev Cert.AdamKernelIdeal.nD) → Buf (Elt Ideal) ((c.tc : Thread Cert.AdamKernelIdeal.nD Cert.AdamKernelIdeal.τ).loc Cert.AdamKernelIdeal.main_v0_0)) (v1 : (c : Dev Cert.AdamKernelIdeal.nD) → Buf (Elt Ideal) ((c.tc : Thread Cert.AdamKernelIdeal.nD Cert.AdamKernelIdeal.τ).loc Cert.AdamKernelIdeal.main_v0_1)) (v2 : (c : Dev Cert.AdamKernelIdeal.nD) → Buf (Elt Ideal) ((c.tc : Thread Cert.AdamKernelIdeal.nD Cert.AdamKernelIdeal.τ).loc Cert.AdamKernelIdeal.main_v0_2)) (v3 : (c : Dev Cert.AdamKernelIdeal.nD) → Buf (Elt Ideal) ((c.tc : Thread Cert.AdamKernelIdeal.nD Cert.AdamKernelIdeal.τ).loc Cert.AdamKernelIdeal.main_v0_3)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v0_0) = v0 c
          ∧ r.2.mem ((c.tc : Thread Cert.AdamKernelIdeal.nD Cert.AdamKernelIdeal.τ).loc Cert.AdamKernelIdeal.main_v0_1) = v1 c
          ∧ r.2.mem ((c.tc : Thread Cert.AdamKernelIdeal.nD Cert.AdamKernelIdeal.τ).loc Cert.AdamKernelIdeal.main_v0_2) = v2 c
          ∧ r.2.mem ((c.tc : Thread Cert.AdamKernelIdeal.nD Cert.AdamKernelIdeal.τ).loc Cert.AdamKernelIdeal.main_v0_3) = v3 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3)
          ∧ r.2.mem ((c.tc : Thread Cert.AdamKernelIdeal.nD Cert.AdamKernelIdeal.τ).loc Cert.AdamKernelIdeal.main_arg4) = m ((c.tc : Thread Cert.AdamKernelIdeal.nD Cert.AdamKernelIdeal.τ).loc Cert.AdamKernelIdeal.main_arg4))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v6) = v0 c
          ∧ r.2.mem ((c.tc : Thread Cert.AdamReferenceIdeal.nD Cert.AdamReferenceIdeal.τ).loc Cert.AdamReferenceIdeal.main_v30) = v1 c
          ∧ r.2.mem ((c.tc : Thread Cert.AdamReferenceIdeal.nD Cert.AdamReferenceIdeal.τ).loc Cert.AdamReferenceIdeal.main_v11) = v2 c
          ∧ r.2.mem ((c.tc : Thread Cert.AdamReferenceIdeal.nD Cert.AdamReferenceIdeal.τ).loc Cert.AdamReferenceIdeal.main_v17) = v3 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3)
          ∧ r.2.mem ((c.tc : Thread Cert.AdamReferenceIdeal.nD Cert.AdamReferenceIdeal.τ).loc Cert.AdamReferenceIdeal.main_arg4) = m' ((c.tc : Thread Cert.AdamReferenceIdeal.nD Cert.AdamReferenceIdeal.τ).loc Cert.AdamReferenceIdeal.main_arg4))

def preserves_FlatKernel_FlatKernelIdeal : Prop :=
  True

def algebraic_FlatKernelIdeal_FlatReferenceIdeal [hFlatKernelIdeal : Cert.FlatKernelIdeal.Facts] [hFlatReferenceIdeal : Cert.FlatReferenceIdeal.Facts] : Prop :=
  ∀ (m : (ℓ : Loc Cert.FlatKernelIdeal.nD Cert.FlatKernelIdeal.τ Cert.FlatKernelIdeal.sig) → Buf (Elt Ideal) ℓ) (g : Dev Cert.FlatKernelIdeal.nD → PrngReg)
    (m' : (ℓ : Loc Cert.FlatReferenceIdeal.nD Cert.FlatReferenceIdeal.τ Cert.FlatReferenceIdeal.sig) → Buf (Elt Ideal) ℓ) (g' : Dev Cert.FlatReferenceIdeal.nD → PrngReg), Pre_FlatKernelIdeal m →
    (∀ c : Dev Cert.FlatKernelIdeal.nD,
      m' ((c.tc : Thread Cert.FlatReferenceIdeal.nD Cert.FlatReferenceIdeal.τ).loc Cert.FlatReferenceIdeal.main_arg0) = m ((c.tc : Thread Cert.FlatKernelIdeal.nD Cert.FlatKernelIdeal.τ).loc Cert.FlatKernelIdeal.main_arg0)
      ∧ m' ((c.tc : Thread Cert.FlatReferenceIdeal.nD Cert.FlatReferenceIdeal.τ).loc Cert.FlatReferenceIdeal.main_arg1) = m ((c.tc : Thread Cert.FlatKernelIdeal.nD Cert.FlatKernelIdeal.τ).loc Cert.FlatKernelIdeal.main_arg1)
      ∧ m' ((c.tc : Thread Cert.FlatReferenceIdeal.nD Cert.FlatReferenceIdeal.τ).loc Cert.FlatReferenceIdeal.main_arg2) = m ((c.tc : Thread Cert.FlatKernelIdeal.nD Cert.FlatKernelIdeal.τ).loc Cert.FlatKernelIdeal.main_arg2)
      ∧ m' ((c.tc : Thread Cert.FlatReferenceIdeal.nD Cert.FlatReferenceIdeal.τ).loc Cert.FlatReferenceIdeal.main_arg3) = m ((c.tc : Thread Cert.FlatKernelIdeal.nD Cert.FlatKernelIdeal.τ).loc Cert.FlatKernelIdeal.main_arg3)) →
    ∃ (v0 : (c : Dev Cert.FlatKernelIdeal.nD) → Buf (Elt Ideal) ((c.tc : Thread Cert.FlatKernelIdeal.nD Cert.FlatKernelIdeal.τ).loc Cert.FlatKernelIdeal.main_v0_0)) (v1 : (c : Dev Cert.FlatKernelIdeal.nD) → Buf (Elt Ideal) ((c.tc : Thread Cert.FlatKernelIdeal.nD Cert.FlatKernelIdeal.τ).loc Cert.FlatKernelIdeal.main_v0_1)) (v2 : (c : Dev Cert.FlatKernelIdeal.nD) → Buf (Elt Ideal) ((c.tc : Thread Cert.FlatKernelIdeal.nD Cert.FlatKernelIdeal.τ).loc Cert.FlatKernelIdeal.main_v0_2)),
      θ_run (Cert.FlatKernelIdeal.defs (F := Ideal)) (onTc (τ := Cert.FlatKernelIdeal.τ) (Cert.FlatKernelIdeal.main (F := Ideal))) ⟨m, fun _ => 0, g⟩ (fun r => ∀ c : Dev Cert.FlatKernelIdeal.nD,
          r.2.mem ((c.tc : Thread Cert.FlatKernelIdeal.nD Cert.FlatKernelIdeal.τ).loc Cert.FlatKernelIdeal.main_v0_0) = v0 c
          ∧ r.2.mem ((c.tc : Thread Cert.FlatKernelIdeal.nD Cert.FlatKernelIdeal.τ).loc Cert.FlatKernelIdeal.main_v0_1) = v1 c
          ∧ r.2.mem ((c.tc : Thread Cert.FlatKernelIdeal.nD Cert.FlatKernelIdeal.τ).loc Cert.FlatKernelIdeal.main_v0_2) = v2 c
          ∧ r.2.mem ((c.tc : Thread Cert.FlatKernelIdeal.nD Cert.FlatKernelIdeal.τ).loc Cert.FlatKernelIdeal.main_arg0) = m ((c.tc : Thread Cert.FlatKernelIdeal.nD Cert.FlatKernelIdeal.τ).loc Cert.FlatKernelIdeal.main_arg0)
          ∧ r.2.mem ((c.tc : Thread Cert.FlatKernelIdeal.nD Cert.FlatKernelIdeal.τ).loc Cert.FlatKernelIdeal.main_arg1) = m ((c.tc : Thread Cert.FlatKernelIdeal.nD Cert.FlatKernelIdeal.τ).loc Cert.FlatKernelIdeal.main_arg1)
          ∧ r.2.mem ((c.tc : Thread Cert.FlatKernelIdeal.nD Cert.FlatKernelIdeal.τ).loc Cert.FlatKernelIdeal.main_arg2) = m ((c.tc : Thread Cert.FlatKernelIdeal.nD Cert.FlatKernelIdeal.τ).loc Cert.FlatKernelIdeal.main_arg2)
          ∧ r.2.mem ((c.tc : Thread Cert.FlatKernelIdeal.nD Cert.FlatKernelIdeal.τ).loc Cert.FlatKernelIdeal.main_arg3) = m ((c.tc : Thread Cert.FlatKernelIdeal.nD Cert.FlatKernelIdeal.τ).loc Cert.FlatKernelIdeal.main_arg3))
      ∧ θ_run (Cert.FlatReferenceIdeal.defs (F := Ideal)) (onTc (τ := Cert.FlatReferenceIdeal.τ) (Cert.FlatReferenceIdeal.main (F := Ideal))) ⟨m', fun _ => 0, g'⟩ (fun r => ∀ c : Dev Cert.FlatReferenceIdeal.nD,
          r.2.mem ((c.tc : Thread Cert.FlatReferenceIdeal.nD Cert.FlatReferenceIdeal.τ).loc Cert.FlatReferenceIdeal.main_v23) = v0 c
          ∧ r.2.mem ((c.tc : Thread Cert.FlatReferenceIdeal.nD Cert.FlatReferenceIdeal.τ).loc Cert.FlatReferenceIdeal.main_v4) = v1 c
          ∧ r.2.mem ((c.tc : Thread Cert.FlatReferenceIdeal.nD Cert.FlatReferenceIdeal.τ).loc Cert.FlatReferenceIdeal.main_v10) = v2 c
          ∧ r.2.mem ((c.tc : Thread Cert.FlatReferenceIdeal.nD Cert.FlatReferenceIdeal.τ).loc Cert.FlatReferenceIdeal.main_arg0) = m' ((c.tc : Thread Cert.FlatReferenceIdeal.nD Cert.FlatReferenceIdeal.τ).loc Cert.FlatReferenceIdeal.main_arg0)
          ∧ r.2.mem ((c.tc : Thread Cert.FlatReferenceIdeal.nD Cert.FlatReferenceIdeal.τ).loc Cert.FlatReferenceIdeal.main_arg1) = m' ((c.tc : Thread Cert.FlatReferenceIdeal.nD Cert.FlatReferenceIdeal.τ).loc Cert.FlatReferenceIdeal.main_arg1)
          ∧ r.2.mem ((c.tc : Thread Cert.FlatReferenceIdeal.nD Cert.FlatReferenceIdeal.τ).loc Cert.FlatReferenceIdeal.main_arg2) = m' ((c.tc : Thread Cert.FlatReferenceIdeal.nD Cert.FlatReferenceIdeal.τ).loc Cert.FlatReferenceIdeal.main_arg2)
          ∧ r.2.mem ((c.tc : Thread Cert.FlatReferenceIdeal.nD Cert.FlatReferenceIdeal.τ).loc Cert.FlatReferenceIdeal.main_arg3) = m' ((c.tc : Thread Cert.FlatReferenceIdeal.nD Cert.FlatReferenceIdeal.τ).loc Cert.FlatReferenceIdeal.main_arg3))

def Claim : Prop :=
  ∃ (hGainKernel : Cert.GainKernel.Facts) (hGainKernelIdeal : Cert.GainKernelIdeal.Facts) (hGainReferenceIdeal : Cert.GainReferenceIdeal.Facts) (hNormKernel : Cert.NormKernel.Facts) (hNormKernelIdeal : Cert.NormKernelIdeal.Facts) (hNormReferenceIdeal : Cert.NormReferenceIdeal.Facts) (hLossKernel : Cert.LossKernel.Facts) (hLossKernelIdeal : Cert.LossKernelIdeal.Facts) (hLossReferenceIdeal : Cert.LossReferenceIdeal.Facts) (hAttnKernel : Cert.AttnKernel.Facts) (hAttnKernelIdeal : Cert.AttnKernelIdeal.Facts) (hAttnReferenceIdeal : Cert.AttnReferenceIdeal.Facts) (hConvKernel : Cert.ConvKernel.Facts) (hConvKernelIdeal : Cert.ConvKernelIdeal.Facts) (hConvReferenceIdeal : Cert.ConvReferenceIdeal.Facts) (hGmlpKernel : Cert.GmlpKernel.Facts) (hGmlpKernelIdeal : Cert.GmlpKernelIdeal.Facts) (hGmlpReferenceIdeal : Cert.GmlpReferenceIdeal.Facts) (hRmsFwdKernel : Cert.RmsFwdKernel.Facts) (hRmsFwdKernelIdeal : Cert.RmsFwdKernelIdeal.Facts) (hRmsFwdReferenceIdeal : Cert.RmsFwdReferenceIdeal.Facts) (hAttnFwdKernel : Cert.AttnFwdKernel.Facts) (hAttnFwdKernelIdeal : Cert.AttnFwdKernelIdeal.Facts) (hAttnFwdReferenceIdeal : Cert.AttnFwdReferenceIdeal.Facts) (hConvFwdKernel : Cert.ConvFwdKernel.Facts) (hConvFwdKernelIdeal : Cert.ConvFwdKernelIdeal.Facts) (hConvFwdReferenceIdeal : Cert.ConvFwdReferenceIdeal.Facts) (hGmlpFwdKernel : Cert.GmlpFwdKernel.Facts) (hGmlpFwdKernelIdeal : Cert.GmlpFwdKernelIdeal.Facts) (hGmlpFwdReferenceIdeal : Cert.GmlpFwdReferenceIdeal.Facts) (hProjKernel : Cert.ProjKernel.Facts) (hProjKernelIdeal : Cert.ProjKernelIdeal.Facts) (hProjReferenceIdeal : Cert.ProjReferenceIdeal.Facts) (hFfnKernel : Cert.FfnKernel.Facts) (hFfnKernelIdeal : Cert.FfnKernelIdeal.Facts) (hFfnReferenceIdeal : Cert.FfnReferenceIdeal.Facts) (hDownKernel : Cert.DownKernel.Facts) (hDownKernelIdeal : Cert.DownKernelIdeal.Facts) (hDownReferenceIdeal : Cert.DownReferenceIdeal.Facts) (hDwKernel : Cert.DwKernel.Facts) (hDwKernelIdeal : Cert.DwKernelIdeal.Facts) (hDwReferenceIdeal : Cert.DwReferenceIdeal.Facts) (hDxnKernel : Cert.DxnKernel.Facts) (hDxnKernelIdeal : Cert.DxnKernelIdeal.Facts) (hDxnReferenceIdeal : Cert.DxnReferenceIdeal.Facts) (hAdamKernel : Cert.AdamKernel.Facts) (hAdamKernelIdeal : Cert.AdamKernelIdeal.Facts) (hAdamReferenceIdeal : Cert.AdamReferenceIdeal.Facts) (hFlatKernel : Cert.FlatKernel.Facts) (hFlatKernelIdeal : Cert.FlatKernelIdeal.Facts) (hFlatReferenceIdeal : Cert.FlatReferenceIdeal.Facts) (hPre_norm_finite : Cert.Pre_norm_finite.Facts) (hPre_loss_finite : Cert.Pre_loss_finite.Facts) (hPre_attn_finite : Cert.Pre_attn_finite.Facts) (hPre_gmlp_finite : Cert.Pre_gmlp_finite.Facts) (hPre_proj_finite : Cert.Pre_proj_finite.Facts) (hPre_ffn_finite : Cert.Pre_ffn_finite.Facts),
    quiescent_GainKernel (hGainKernel := hGainKernel)
    ∧ quiescent_GainKernelIdeal (hGainKernelIdeal := hGainKernelIdeal)
    ∧ quiescent_GainReferenceIdeal (hGainReferenceIdeal := hGainReferenceIdeal)
    ∧ quiescent_NormKernel (hNormKernel := hNormKernel)
    ∧ quiescent_NormKernelIdeal (hNormKernelIdeal := hNormKernelIdeal)
    ∧ quiescent_NormKernelIdeal_pre_norm_finite (hNormKernelIdeal := hNormKernelIdeal) (hPre_norm_finite := hPre_norm_finite)
    ∧ quiescent_NormReferenceIdeal (hNormReferenceIdeal := hNormReferenceIdeal)
    ∧ quiescent_NormReferenceIdeal_pre_norm_finite (hNormReferenceIdeal := hNormReferenceIdeal) (hPre_norm_finite := hPre_norm_finite)
    ∧ quiescent_LossKernel (hLossKernel := hLossKernel)
    ∧ quiescent_LossKernelIdeal (hLossKernelIdeal := hLossKernelIdeal)
    ∧ quiescent_LossKernelIdeal_pre_loss_finite (hLossKernelIdeal := hLossKernelIdeal) (hPre_loss_finite := hPre_loss_finite)
    ∧ quiescent_LossReferenceIdeal (hLossReferenceIdeal := hLossReferenceIdeal)
    ∧ quiescent_LossReferenceIdeal_pre_loss_finite (hLossReferenceIdeal := hLossReferenceIdeal) (hPre_loss_finite := hPre_loss_finite)
    ∧ quiescent_AttnKernel (hAttnKernel := hAttnKernel)
    ∧ quiescent_AttnKernelIdeal (hAttnKernelIdeal := hAttnKernelIdeal)
    ∧ quiescent_AttnKernelIdeal_pre_attn_finite (hAttnKernelIdeal := hAttnKernelIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ quiescent_ConvKernel (hConvKernel := hConvKernel)
    ∧ quiescent_ConvKernelIdeal (hConvKernelIdeal := hConvKernelIdeal)
    ∧ quiescent_ConvReferenceIdeal (hConvReferenceIdeal := hConvReferenceIdeal)
    ∧ quiescent_GmlpKernel (hGmlpKernel := hGmlpKernel)
    ∧ quiescent_GmlpKernelIdeal (hGmlpKernelIdeal := hGmlpKernelIdeal)
    ∧ quiescent_GmlpKernelIdeal_pre_gmlp_finite (hGmlpKernelIdeal := hGmlpKernelIdeal) (hPre_gmlp_finite := hPre_gmlp_finite)
    ∧ quiescent_GmlpReferenceIdeal (hGmlpReferenceIdeal := hGmlpReferenceIdeal)
    ∧ quiescent_GmlpReferenceIdeal_pre_gmlp_finite (hGmlpReferenceIdeal := hGmlpReferenceIdeal) (hPre_gmlp_finite := hPre_gmlp_finite)
    ∧ quiescent_RmsFwdKernel (hRmsFwdKernel := hRmsFwdKernel)
    ∧ quiescent_RmsFwdKernelIdeal (hRmsFwdKernelIdeal := hRmsFwdKernelIdeal)
    ∧ quiescent_RmsFwdReferenceIdeal (hRmsFwdReferenceIdeal := hRmsFwdReferenceIdeal)
    ∧ quiescent_AttnFwdKernel (hAttnFwdKernel := hAttnFwdKernel)
    ∧ quiescent_AttnFwdKernelIdeal (hAttnFwdKernelIdeal := hAttnFwdKernelIdeal)
    ∧ quiescent_AttnFwdReferenceIdeal (hAttnFwdReferenceIdeal := hAttnFwdReferenceIdeal)
    ∧ quiescent_ConvFwdKernel (hConvFwdKernel := hConvFwdKernel)
    ∧ quiescent_ConvFwdKernelIdeal (hConvFwdKernelIdeal := hConvFwdKernelIdeal)
    ∧ quiescent_ConvFwdReferenceIdeal (hConvFwdReferenceIdeal := hConvFwdReferenceIdeal)
    ∧ quiescent_GmlpFwdKernel (hGmlpFwdKernel := hGmlpFwdKernel)
    ∧ quiescent_GmlpFwdKernelIdeal (hGmlpFwdKernelIdeal := hGmlpFwdKernelIdeal)
    ∧ quiescent_GmlpFwdReferenceIdeal (hGmlpFwdReferenceIdeal := hGmlpFwdReferenceIdeal)
    ∧ quiescent_ProjKernel (hProjKernel := hProjKernel)
    ∧ quiescent_ProjKernelIdeal (hProjKernelIdeal := hProjKernelIdeal)
    ∧ quiescent_ProjKernelIdeal_pre_proj_finite (hProjKernelIdeal := hProjKernelIdeal) (hPre_proj_finite := hPre_proj_finite)
    ∧ quiescent_ProjReferenceIdeal (hProjReferenceIdeal := hProjReferenceIdeal)
    ∧ quiescent_ProjReferenceIdeal_pre_proj_finite (hProjReferenceIdeal := hProjReferenceIdeal) (hPre_proj_finite := hPre_proj_finite)
    ∧ quiescent_FfnKernel (hFfnKernel := hFfnKernel)
    ∧ quiescent_FfnKernelIdeal (hFfnKernelIdeal := hFfnKernelIdeal)
    ∧ quiescent_FfnKernelIdeal_pre_ffn_finite (hFfnKernelIdeal := hFfnKernelIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_DwKernel (hDwKernel := hDwKernel)
    ∧ quiescent_DwKernelIdeal (hDwKernelIdeal := hDwKernelIdeal)
    ∧ quiescent_DwReferenceIdeal (hDwReferenceIdeal := hDwReferenceIdeal)
    ∧ quiescent_DxnKernel (hDxnKernel := hDxnKernel)
    ∧ quiescent_DxnKernelIdeal (hDxnKernelIdeal := hDxnKernelIdeal)
    ∧ quiescent_DxnReferenceIdeal (hDxnReferenceIdeal := hDxnReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ quiescent_FlatKernel (hFlatKernel := hFlatKernel)
    ∧ quiescent_FlatKernelIdeal (hFlatKernelIdeal := hFlatKernelIdeal)
    ∧ quiescent_FlatReferenceIdeal (hFlatReferenceIdeal := hFlatReferenceIdeal)
    ∧ preserves_GainKernel_GainKernelIdeal
    ∧ algebraic_GainKernelIdeal_GainReferenceIdeal (hGainKernelIdeal := hGainKernelIdeal) (hGainReferenceIdeal := hGainReferenceIdeal)
    ∧ preserves_NormKernel_NormKernelIdeal
    ∧ algebraic_NormKernelIdeal_NormReferenceIdeal_pre_norm_finite (hNormKernelIdeal := hNormKernelIdeal) (hNormReferenceIdeal := hNormReferenceIdeal) (hPre_norm_finite := hPre_norm_finite)
    ∧ preserves_LossKernel_LossKernelIdeal
    ∧ algebraic_LossKernelIdeal_LossReferenceIdeal_pre_loss_finite (hLossKernelIdeal := hLossKernelIdeal) (hLossReferenceIdeal := hLossReferenceIdeal) (hPre_loss_finite := hPre_loss_finite)
    ∧ preserves_AttnKernel_AttnKernelIdeal
    ∧ algebraic_AttnKernelIdeal_AttnReferenceIdeal_pre_attn_finite (hAttnKernelIdeal := hAttnKernelIdeal) (hAttnReferenceIdeal := hAttnReferenceIdeal) (hPre_attn_finite := hPre_attn_finite)
    ∧ preserves_ConvKernel_ConvKernelIdeal
    ∧ algebraic_ConvKernelIdeal_ConvReferenceIdeal (hConvKernelIdeal := hConvKernelIdeal) (hConvReferenceIdeal := hConvReferenceIdeal)
    ∧ preserves_GmlpKernel_GmlpKernelIdeal
    ∧ algebraic_GmlpKernelIdeal_GmlpReferenceIdeal_pre_gmlp_finite (hGmlpKernelIdeal := hGmlpKernelIdeal) (hGmlpReferenceIdeal := hGmlpReferenceIdeal) (hPre_gmlp_finite := hPre_gmlp_finite)
    ∧ preserves_RmsFwdKernel_RmsFwdKernelIdeal
    ∧ algebraic_RmsFwdKernelIdeal_RmsFwdReferenceIdeal (hRmsFwdKernelIdeal := hRmsFwdKernelIdeal) (hRmsFwdReferenceIdeal := hRmsFwdReferenceIdeal)
    ∧ preserves_AttnFwdKernel_AttnFwdKernelIdeal
    ∧ algebraic_AttnFwdKernelIdeal_AttnFwdReferenceIdeal (hAttnFwdKernelIdeal := hAttnFwdKernelIdeal) (hAttnFwdReferenceIdeal := hAttnFwdReferenceIdeal)
    ∧ preserves_ConvFwdKernel_ConvFwdKernelIdeal
    ∧ algebraic_ConvFwdKernelIdeal_ConvFwdReferenceIdeal (hConvFwdKernelIdeal := hConvFwdKernelIdeal) (hConvFwdReferenceIdeal := hConvFwdReferenceIdeal)
    ∧ preserves_GmlpFwdKernel_GmlpFwdKernelIdeal
    ∧ algebraic_GmlpFwdKernelIdeal_GmlpFwdReferenceIdeal (hGmlpFwdKernelIdeal := hGmlpFwdKernelIdeal) (hGmlpFwdReferenceIdeal := hGmlpFwdReferenceIdeal)
    ∧ preserves_ProjKernel_ProjKernelIdeal
    ∧ algebraic_ProjKernelIdeal_ProjReferenceIdeal_pre_proj_finite (hProjKernelIdeal := hProjKernelIdeal) (hProjReferenceIdeal := hProjReferenceIdeal) (hPre_proj_finite := hPre_proj_finite)
    ∧ preserves_FfnKernel_FfnKernelIdeal
    ∧ algebraic_FfnKernelIdeal_FfnReferenceIdeal_pre_ffn_finite (hFfnKernelIdeal := hFfnKernelIdeal) (hFfnReferenceIdeal := hFfnReferenceIdeal) (hPre_ffn_finite := hPre_ffn_finite)
    ∧ preserves_DownKernel_DownKernelIdeal
    ∧ algebraic_DownKernelIdeal_DownReferenceIdeal (hDownKernelIdeal := hDownKernelIdeal) (hDownReferenceIdeal := hDownReferenceIdeal)
    ∧ preserves_DwKernel_DwKernelIdeal
    ∧ algebraic_DwKernelIdeal_DwReferenceIdeal (hDwKernelIdeal := hDwKernelIdeal) (hDwReferenceIdeal := hDwReferenceIdeal)
    ∧ preserves_DxnKernel_DxnKernelIdeal
    ∧ algebraic_DxnKernelIdeal_DxnReferenceIdeal (hDxnKernelIdeal := hDxnKernelIdeal) (hDxnReferenceIdeal := hDxnReferenceIdeal)
    ∧ preserves_AdamKernel_AdamKernelIdeal
    ∧ algebraic_AdamKernelIdeal_AdamReferenceIdeal (hAdamKernelIdeal := hAdamKernelIdeal) (hAdamReferenceIdeal := hAdamReferenceIdeal)
    ∧ preserves_FlatKernel_FlatKernelIdeal
    ∧ algebraic_FlatKernelIdeal_FlatReferenceIdeal (hFlatKernelIdeal := hFlatKernelIdeal) (hFlatReferenceIdeal := hFlatReferenceIdeal)
-- ==== Pre_attn_finite.lean ====
abbrev S8192x2048 : Shape := ⟨2, ![8192, 2048]⟩
abbrev S256x4096 : Shape := ⟨2, ![256, 4096]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S256x4096 : S_.BroadcastsInDim S256x4096 (![] : Fin 0 → Fin S256x4096.rank)
  reducesTo_S256x4096_S_d0_1 : S256x4096.ReducesTo [0, 1] S_

variable [Facts]

def fn {F : FTy → Type} [FloatOps F] (main_arg0 : FVec F S8192x2048 .bf16) (main_arg1 : FVec F S256x4096 .bf16) (main_arg2 : FVec F S8192x2048 .bf16) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S256x4096 .f32 := (extf .f32 · bitsLt_bf16_f32) main_arg1
  let main_v6 : FVec F S256x4096 .f32 := Host.absf main_v5
  let main_cst_0 : FVec F S_ .f32 := constant S_ .f32 0x7F800000#32
  let main_v7 : FVec F S256x4096 .f32 := broadcastInDim S256x4096 ![] bcast_S_S256x4096 main_cst_0
  let main_v8 : IVec S256x4096 1 := cmpf .olt main_v6 main_v7
  let main_c_1 : IVec S_ 1 := constantI S_ 1 1#1
  let main_v9 : IVec S_ 1 := (fun x v => Host.reduce IntOp.andi x v reducesTo_S256x4096_S_d0_1 h_S_) main_v8 main_c_1
  let main_v10 : IVec S_ 1 := andi main_v4 main_v9
  let main_v11 : FVec F S8192x2048 .f32 := (extf .f32 · bitsLt_bf16_f32) main_arg2
  let main_v12 : FVec F S8192x2048 .f32 := Host.absf main_v11
  let main_cst_2 : FVec F S_ .f32 := constant S_ .f32 0x7F800000#32
  let main_v13 : FVec F S8192x2048 .f32 := broadcastInDim S8192x2048 ![] bcast_S_S8192x2048 main_cst_2
  let main_v14 : IVec S8192x2048 1 := cmpf .olt main_v12 main_v13
  let main_c_3 : IVec S_ 1 := constantI S_ 1 1#1
  let main_v15 : IVec S_ 1 := (fun x v => Host.reduce IntOp.andi x v reducesTo_S8192x2048_S_d0_1 h_S_) main_v14 main_c_3
  let main_v16 : IVec S_ 1 := andi main_v10 main_v15
  main_v16
-- ==== Pre_ffn_finite.lean ====
abbrev S8192x2048 : Shape := ⟨2, ![8192, 2048]⟩
abbrev S2048x11264 : Shape := ⟨2, ![2048, 11264]⟩
abbrev S5632x2048 : Shape := ⟨2, ![5632, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x11264 : S_.BroadcastsInDim S2048x11264 (![] : Fin 0 → Fin S2048x11264.rank)
  reducesTo_S2048x11264_S_d0_1 : S2048x11264.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_v14 : IVec S_ 1) (main_v16 : FVec F S8192x2048 .f32) (main_cst_4 : FVec F S_ .f32) : IVec S_ 1 :=
  let main_v17 : FVec F S8192x2048 .f32 := broadcastInDim S8192x2048 ![] bcast_S_S8192x2048 main_cst_4
  let main_v18 : IVec S8192x2048 1 := cmpf .olt main_v16 main_v17
  let main_c_5 : IVec S_ 1 := constantI S_ 1 1#1
  let main_v19 : IVec S_ 1 := (fun x v => Host.reduce IntOp.andi x v reducesTo_S8192x2048_S_d0_1 h_S_) main_v18 main_c_5
  let main_v20 : IVec S_ 1 := andi main_v14 main_v19
  main_v20

def fn {F : FTy → Type} [FloatOps F] (main_arg0 : FVec F S8192x2048 .bf16) (main_arg1 : FVec F S2048x11264 .f32) (main_arg2 : FVec F S5632x2048 .f32) (main_arg3 : FVec F S8192x2048 .bf16) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S2048x11264 .f32 := Host.absf main_arg1
  let main_cst_0 : FVec F S_ .f32 := constant S_ .f32 0x7F800000#32
  let main_v6 : FVec F S2048x11264 .f32 := broadcastInDim S2048x11264 ![] bcast_S_S2048x11264 main_cst_0
  let main_v7 : IVec S2048x11264 1 := cmpf .olt main_v5 main_v6
  let main_c_1 : IVec S_ 1 := constantI S_ 1 1#1
  let main_v8 : IVec S_ 1 := (fun x v => Host.reduce IntOp.andi x v reducesTo_S2048x11264_S_d0_1 h_S_) main_v7 main_c_1
  let main_v9 : IVec S_ 1 := andi main_v4 main_v8
  let main_v10 : FVec F S5632x2048 .f32 := Host.absf main_arg2
  let main_cst_2 : FVec F S_ .f32 := constant S_ .f32 0x7F800000#32
  let main_v11 : FVec F S5632x2048 .f32 := broadcastInDim S5632x2048 ![] bcast_S_S5632x2048 main_cst_2
  let main_v12 : IVec S5632x2048 1 := cmpf .olt main_v10 main_v11
  let main_c_3 : IVec S_ 1 := constantI S_ 1 1#1
  let main_v13 : IVec S_ 1 := (fun x v => Host.reduce IntOp.andi x v reducesTo_S5632x2048_S_d0_1 h_S_) main_v12 main_c_3
  let main_v14 : IVec S_ 1 := andi main_v9 main_v13
  let main_v15 : FVec F S8192x2048 .f32 := (extf .f32 · bitsLt_bf16_f32) main_arg3
  let main_v16 : FVec F S8192x2048 .f32 := Host.absf main_v15
  let main_cst_4 : FVec F S_ .f32 := constant S_ .f32 0x7F800000#32
  fn_part1 (F := F) main_v14 main_v16 main_cst_4
-- ==== Pre_gmlp_finite.lean ====
abbrev S8192x4096 : Shape := ⟨2, ![8192, 4096]⟩
abbrev S2048 : Shape := ⟨1, ![2048]⟩
abbrev S8x128x128 : Shape := ⟨3, ![8, 128, 128]⟩
abbrev S8x128 : Shape := ⟨2, ![8, 128]⟩
abbrev S8192x2048 : Shape := ⟨2, ![8192, 2048]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S2048 : S_.BroadcastsInDim S2048 (![] : Fin 0 → Fin S2048.rank)
  reducesTo_S2048_S_d0 : S2048.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn_part1 {F : FTy → Type} [FloatOps F] (main_arg4 : FVec F S8x128 .f32) (main_arg5 : FVec F S8192x2048 .bf16) (main_v14 : IVec S_ 1) (main_v15 : FVec F S8x128x128 .f32) (main_v16 : FVec F S8x128x128 .f32) : IVec S_ 1 :=
  let main_v17 : IVec S8x128x128 1 := cmpf .olt main_v15 main_v16
  let main_c_5 : IVec S_ 1 := constantI S_ 1 1#1
  let main_v18 : IVec S_ 1 := (fun x v => Host.reduce IntOp.andi x v reducesTo_S8x128x128_S_d0_1_2 h_S_) main_v17 main_c_5
  let main_v19 : IVec S_ 1 := andi main_v14 main_v18
  let main_v20 : FVec F S8x128 .f32 := Host.absf main_arg4
  let main_cst_6 : FVec F S_ .f32 := constant S_ .f32 0x7F800000#32
  let main_v21 : FVec F S8x128 .f32 := broadcastInDim S8x128 ![] bcast_S_S8x128 main_cst_6
  let main_v22 : IVec S8x128 1 := cmpf .olt main_v20 main_v21
  let main_c_7 : IVec S_ 1 := constantI S_ 1 1#1
  let main_v23 : IVec S_ 1 := (fun x v => Host.reduce IntOp.andi x v reducesTo_S8x128_S_d0_1 h_S_) main_v22 main_c_7
  let main_v24 : IVec S_ 1 := andi main_v19 main_v23
  let main_v25 : FVec F S8192x2048 .f32 := (extf .f32 · bitsLt_bf16_f32) main_arg5
  let main_v26 : FVec F S8192x2048 .f32 := Host.absf main_v25
  let main_cst_8 : FVec F S_ .f32 := constant S_ .f32 0x7F800000#32
  let main_v27 : FVec F S8192x2048 .f32 := broadcastInDim S8192x2048 ![] bcast_S_S8192x2048 main_cst_8
  let main_v28 : IVec S8192x2048 1 := cmpf .olt main_v26 main_v27
  let main_c_9 : IVec S_ 1 := constantI S_ 1 1#1
  let main_v29 : IVec S_ 1 := (fun x v => Host.reduce IntOp.andi x v reducesTo_S8192x2048_S_d0_1 h_S_) main_v28 main_c_9
  let main_v30 : IVec S_ 1 := andi main_v24 main_v29
  main_v30

def fn {F : FTy → Type} [FloatOps F] (main_arg0 : FVec F S8192x4096 .bf16) (main_arg1 : FVec F S2048 .f32) (main_arg2 : FVec F S2048 .f32) (main_arg3 : FVec F S8x128x128 .f32) (main_arg4 : FVec F S8x128 .f32) (main_arg5 : FVec F S8192x2048 .bf16) : IVec S_ 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  let main_v5 : FVec F S2048 .f32 := Host.absf main_arg1
  let main_cst_0 : FVec F S_ .f32 := constant S_ .f32 0x7F800000#32
  let main_v6 : FVec F S2048 .f32 := broadcastInDim S2048 ![] bcast_S_S2048 main_cst_0
  let main_v7 : IVec S2048 1 := cmpf .olt main_v5 main_v6
  let main_c_1 : IVec S_ 1 := constantI S_ 1 1#1
  let main_v8 : IVec S_ 1 := (fun x v => Host.reduce IntOp.andi x v reducesTo_S2048_S_d0 h_S_) main_v7 main_c_1
  let main_v9 : IVec S_ 1 := andi main_v4 main_v8
  let main_v10 : FVec F S2048 .f32 := Host.absf main_arg2
  let main_cst_2 : FVec F S_ .f32 := constant S_ .f32 0x7F800000#32
  let main_v11 : FVec F S2048 .f32 := broadcastInDim S2048 ![] bcast_S_S2048 main_cst_2
  let main_v12 : IVec S2048 1 := cmpf .olt main_v10 main_v11
  let main_c_3 : IVec S_ 1 := constantI S_ 1 1#1
  let main_v13 : IVec S_ 1 := (fun x v => Host.reduce IntOp.andi x v reducesTo_S2048_S_d0 h_S_) main_v12 main_c_3
  let main_v14 : IVec S_ 1 := andi main_v9 main_v13
  let main_v15 : FVec F S8x128x128 .f32 := Host.absf main_arg3
  let main_cst_4 : FVec F S_ .f32 := constant S_ .f32 0x7F800000#32
  let main_v16 : FVec F S8x128x128 .f32 := broadcastInDim S8x128x128 ![] bcast_S_S8x128x128 main_cst_4
  fn_part1 (F := F) main_arg4 main_arg5 main_v14 main_v15 main_v16
-- ==== Pre_loss_finite.lean ====
abbrev S8192x2048 : Shape := ⟨2, ![8192, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S2048 .f32) (main_arg2 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  main_v13
-- ==== Pre_norm_finite.lean ====
abbrev S8192x2048 : Shape := ⟨2, ![8192, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048 : S_.BroadcastsInDim S2048 (![] : Fin 0 → Fin S2048.rank)
  reducesTo_S2048_S_d0 : S2048.ReducesTo [0] S_
  bitsLt_bf16_f32 : FTy.bits .bf16 < FTy.bits .f32

variable [Facts]

def fn {F : FTy → Type} [FloatOps F] (main_arg0 : FVec F S8192x2048 .f32) (main_arg1 : FVec F S2048 .f32) (main_arg2 : FVec F S8192x2048 .bf16) (main_arg3 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S8192x2048 .f32 := (extf .f32 · bitsLt_bf16_f32) main_arg2
  let main_v10 : FVec F S8192x2048 .f32 := Host.absf main_v9
  let main_cst_2 : FVec F S_ .f32 := constant S_ .f32 0x7F800000#32
  let main_v11 : FVec F S8192x2048 .f32 := broadcastInDim S8192x2048 ![] bcast_S_S8192x2048 main_cst_2
  let main_v12 : IVec S8192x2048 1 := cmpf .olt main_v10 main_v11
  let main_c_3 : IVec S_ 1 := constantI S_ 1 1#1
  let main_v13 : IVec S_ 1 := (fun x v => Host.reduce IntOp.andi x v reducesTo_S8192x2048_S_d0_1 h_S_) main_v12 main_c_3
  let main_v14 : IVec S_ 1 := andi main_v8 main_v13
  main_v14
-- ==== Pre_proj_finite.lean ====
abbrev S8192x2048 : Shape := ⟨2, ![8192, 2048]⟩
abbrev S2048 : Shape := ⟨1, ![2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bitsLt_bf16_f32 : FTy.bits .bf16 < FTy.bits .f32

variable [Facts]

def fn_part1 {F : FTy → Type} [FloatOps F] (main_v13 : IVec S_ 1) (main_v15 : FVec F S8192x2048 .f32) (main_v16 : FVec F S8192x2048 .f32) : IVec S_ 1 :=
  let main_v17 : IVec S8192x2048 1 := cmpf .olt main_v15 main_v16
  let main_c_5 : IVec S_ 1 := constantI S_ 1 1#1
  let main_v18 : IVec S_ 1 := (fun x v => Host.reduce IntOp.andi x v reducesTo_S8192x2048_S_d0_1 h_S_) main_v17 main_c_5
  let main_v19 : IVec S_ 1 := andi main_v13 main_v18
  main_v19

def fn {F : FTy → Type} [FloatOps F] (main_arg0 : FVec F S8192x2048 .f32) (main_arg1 : FVec F S2048 .f32) (main_arg2 : FVec F S2048x2048 .f32) (main_arg3 : FVec F S8192x2048 .bf16) (main_arg4 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S8192x2048 .f32 := (extf .f32 · bitsLt_bf16_f32) main_arg3
  let main_v15 : FVec F S8192x2048 .f32 := Host.absf main_v14
  let main_cst_4 : FVec F S_ .f32 := constant S_ .f32 0x7F800000#32
  let main_v16 : FVec F S8192x2048 .f32 := broadcastInDim S8192x2048 ![] bcast_S_S8192x2048 main_cst_4
  fn_part1 (F := F) main_v13 main_v15 main_v16
-- ==== GainKernel.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S2048 : Shape := ⟨1, ![2048]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32 : BitVec 32 := 0#32
  let v15 : BitVec 1 := Scalar.cmpi .eq arg0 c0_i32
  let v_true : BitVec 1 := 1#1
  let v18 : BitVec 1 := Scalar.xori v15 v_true
  let v19 : BitVec 32 := Scalar.extui v18
  let c0_i32_7 : BitVec 32 := 0#32
  let v20 : BitVec 1 := Scalar.cmpi .ne v19 c0_i32_7
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GainReferenceIdeal.lean ====
abbrev S256x2048 : Shape := ⟨2, ![256, 2048]⟩
abbrev S_ : Shape := ⟨0, ![]⟩
abbrev S2048 : Shape := ⟨1, ![2048]⟩
abbrev S256 : Shape := ⟨1, ![256]⟩
abbrev S256x1 : Shape := ⟨2, ![256, 1]⟩
abbrev S1x2048 : Shape := ⟨2, ![1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S_, .f32⟩
  | .hbm, ⟨3, _⟩ => ⟨S2048, .f32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x2048, .f32⟩
  | .hbm, ⟨16, _⟩ => ⟨S256x2048, .f32⟩
  | .hbm, ⟨17, _⟩ => ⟨S1x2048, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S_, .f32⟩
  | .hbm, ⟨22, _⟩ => ⟨S2048, .f32⟩
  | .hbm, ⟨23, _⟩ => ⟨S1x2048, .f32⟩
  | .hbm, ⟨24, _⟩ => ⟨S_, .f32⟩
  | .hbm, ⟨25, _⟩ => ⟨S2048, .f32⟩
  | .hbm, ⟨26, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== NormKernel.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .bf16⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .bf16⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_17 : BitVec 32 := 0#32
  let v39 : BitVec 1 := Scalar.cmpi .ne v38 c0_i32_17
  v39

def k0_cond2 (i : grid0.Coords) : BitVec 1 :=
  let arg0 : BitVec 32 := BitVec.ofNat 32 (i 0).val
  let c0_i32 : BitVec 32 := 0#32
  let v37 : BitVec 1 := Scalar.cmpi .eq arg0 c0_i32
  let v_true : BitVec 1 := 1#1
  let v40 : BitVec 1 := Scalar.xori v37 v_true
  let v41 : BitVec 32 := Scalar.extui v40
  let c0_i32_18 : BitVec 32 := 0#32
  let v42 : BitVec 1 := Scalar.cmpi .ne v41 c0_i32_18
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192x2048, .f32⟩
  | .hbm, ⟨53, _⟩ => ⟨S8192x2048, .f32⟩
  | .hbm, ⟨54, _⟩ => ⟨S8192x2048, .bf16⟩
  | .hbm, ⟨55, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== LossKernel.lean ====
abbrev S8192x2048 : Shape := ⟨2, ![8192, 2048]⟩
abbrev S2048 : Shape := ⟨1, ![2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S1x128, .f32⟩
  | .hbm, ⟨5, _⟩ => ⟨S8192x2048, .f32⟩
  | .hbm, ⟨6, _⟩ => ⟨S8192x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x128, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v29 : BitVec 32 := Scalar.extui v0
  let c0_i32_11 : BitVec 32 := 0#32
  let v30 : BitVec 1 := Scalar.cmpi .ne v29 c0_i32_11
  v30

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v31 : BitVec 1 := Scalar.xori v0 v_true
  let v32 : BitVec 32 := Scalar.extui v31
  let c0_i32_12 : BitVec 32 := 0#32
  let v33 : BitVec 1 := Scalar.cmpi .ne v32 c0_i32_12
  v33

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v56 : BitVec 32 := Scalar.extui v0
  let c0_i32_22 : BitVec 32 := 0#32
  let v57 : BitVec 1 := Scalar.cmpi .ne v56 c0_i32_22
  v57

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_23 : BitVec 1 := 1#1
  let v58 : BitVec 1 := Scalar.xori v0 true_23
  let v59 : BitVec 32 := Scalar.extui v58
  let c0_i32_24 : BitVec 32 := 0#32
  let v60 : BitVec 1 := Scalar.cmpi .ne v59 c0_i32_24
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S2048, .f32⟩
  | .hbm, ⟨54, _⟩ => ⟨S8192x2048, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S1x128, .f32⟩
  | .hbm, ⟨72, _⟩ => ⟨S_, .f32⟩
  | .hbm, ⟨73, _⟩ => ⟨S8192x2048, .f32⟩
  | .hbm, ⟨74, _⟩ => ⟨S8192x2048, .f32⟩
  | .hbm, ⟨75, _⟩ => ⟨S8192x2048, .bf16⟩
  | .hbm, ⟨76, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_16 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== AttnKernel.lean ====
abbrev S8192x2048 : Shape := ⟨2, ![8192, 2048]⟩
abbrev S256x4096 : Shape := ⟨2, ![256, 4096]⟩
abbrev S512x2048 : Shape := ⟨2, ![512, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S256x4096, .bf16⟩
  | .hbm, ⟨2, _⟩ => ⟨S8192x2048, .bf16⟩
  | .hbm, ⟨3, _⟩ => ⟨S8192x2048, .bf16⟩
  | .hbm, ⟨4, _⟩ => ⟨S256x4096, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S256x4096, .bf16⟩
  | .local _ .vmem, ⟨5, _⟩ => ⟨S512x2048, .bf16⟩
  | .local _ .vmem, ⟨6, _⟩ => ⟨S512x2048, .bf16⟩
  | .local _ .vmem, ⟨7, _⟩ => ⟨S256x4096, .bf16⟩
  | .local _ .vmem, ⟨8, _⟩ => ⟨S256x4096, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v171 : BitVec 1 := Scalar.cmpi .eq arg0 c15_i32
  let v172 : BitVec 32 := Scalar.extui v171
  let c0_i32_104 : BitVec 32 := 0#32
  let v173 : BitVec 1 := Scalar.cmpi .ne v172 c0_i32_104
  v173

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== AttnReferenceIdeal.lean ====
abbrev S8192x2048 : Shape := ⟨2, ![8192, 2048]⟩
abbrev S256x4096 : Shape := ⟨2, ![256, 4096]⟩
abbrev S8192x4x512 : Shape := ⟨3, ![8192, 4, 512]⟩
abbrev S256x2048 : Shape := ⟨2, ![256, 2048]⟩
abbrev S256x4x512 : Shape := ⟨3, ![256, 4, 512]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x512x8192 : Shape := ⟨3, ![4, 512, 8192]⟩
abbrev S4x512x256 : Shape := ⟨3, ![4, 512, 256]⟩
abbrev S4x256x512 : Shape := ⟨3, ![4, 256, 512]⟩
abbrev S4x8192x512 : Shape := ⟨3, ![4, 8192, 512]⟩

abbrev nBuf : Space → Nat
  | .hbm => 88
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S256x4096, .bf16⟩
  | .hbm, ⟨2, _⟩ => ⟨S8192x2048, .bf16⟩
  | .hbm, ⟨3, _⟩ => ⟨S8192x2048, .f32⟩
  | .hbm, ⟨4, _⟩ => ⟨S256x4096, .f32⟩
  | .hbm, ⟨5, _⟩ => ⟨S8192x2048, .f32⟩
  | .hbm, ⟨6, _⟩ => ⟨S8192x4x512, .f32⟩
  | .hbm, ⟨7, _⟩ => ⟨S256x2048, .f32⟩
  | .hbm, ⟨8, _⟩ => ⟨S256x2048, .f32⟩
  | .hbm, ⟨9, _⟩ => ⟨S256x4x512, .f32⟩
  | .hbm, ⟨10, _⟩ => ⟨S256x4x512, .f32⟩
  | .hbm, ⟨11, _⟩ => ⟨S4x8192x256, .f32⟩
  | .hbm, ⟨12, _⟩ => ⟨S_, .f32⟩
  | .hbm, ⟨13, _⟩ => ⟨S4x8192x256, .f32⟩
  | .hbm, ⟨14, _⟩ => ⟨S4x8192x256, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S4x8192x256, .f32⟩
  | .hbm, ⟨19, _⟩ => ⟨S4x8192x256, .i1⟩
  | .hbm, ⟨20, _⟩ => ⟨S4x8192x256, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S4x8192, .f32⟩
  | .hbm, ⟨26, _⟩ => ⟨S_, .f32⟩
  | .hbm, ⟨27, _⟩ => ⟨S4x8192, .f32⟩
  | .hbm, ⟨28, _⟩ => ⟨S4x8192, .i1⟩
  | .hbm, ⟨29, _⟩ => ⟨S_, .f32⟩
  | .hbm, ⟨30, _⟩ => ⟨S4x8192, .f32⟩
  | .hbm, ⟨31, _⟩ => ⟨S4x8192, .i1⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S_, .f32⟩
  | .hbm, ⟨37, _⟩ => ⟨S4x8192, .f32⟩
  | .hbm, ⟨38, _⟩ => ⟨S4x8192, .f32⟩
  | .hbm, ⟨39, _⟩ => ⟨S4x8192, .f32⟩
  | .hbm, ⟨40, _⟩ => ⟨S4x8192x1, .f32⟩
  | .hbm, ⟨41, _⟩ => ⟨S4x8192x256, .f32⟩
  | .hbm, ⟨42, _⟩ => ⟨S4x8192x256, .f32⟩
  | .hbm, ⟨43, _⟩ => ⟨S4x8192x256, .f32⟩
  | .hbm, ⟨44, _⟩ => ⟨S_, .f32⟩
  | .hbm, ⟨45, _⟩ => ⟨S4x8192, .f32⟩
  | .hbm, ⟨46, _⟩ => ⟨S4x8192x1, .f32⟩
  | .hbm, ⟨47, _⟩ => ⟨S4x8192x256, .f32⟩
  | .hbm, ⟨48, _⟩ => ⟨S4x8192x256, .f32⟩
  | .hbm, ⟨49, _⟩ => ⟨S4x8192x1, .f32⟩
  | .hbm, ⟨50, _⟩ => ⟨S_, .f32⟩
  | .hbm, ⟨51, _⟩ => ⟨S4x8192x1, .f32⟩
  | .hbm, ⟨52, _⟩ => ⟨S4x8192x1, .f32⟩
  | .hbm, ⟨53, _⟩ => ⟨S4x512x8192, .f32⟩
  | .hbm, ⟨54, _⟩ => ⟨S8192x4x512, .f32⟩
  | .hbm, ⟨55, _⟩ => ⟨S8192x2048, .f32⟩
  | .hbm, ⟨56, _⟩ => ⟨S8192x4x512, .f32⟩
  | .hbm, ⟨57, _⟩ => ⟨S4x512x8192, .f32⟩
  | .hbm, ⟨58, _⟩ => ⟨S4x8192x256, .f32⟩
  | .hbm, ⟨59, _⟩ => ⟨S4x512x256, .f32⟩
  | .hbm, ⟨60, _⟩ => ⟨S256x4x512, .f32⟩
  | .hbm, ⟨61, _⟩ => ⟨S4x8192x256, .f32⟩
  | .hbm, ⟨62, _⟩ => ⟨S4x8192x256, .f32⟩
  | .hbm, ⟨63, _⟩ => ⟨S4x8192x256, .f32⟩
  | .hbm, ⟨64, _⟩ => ⟨S_, .f32⟩
  | .hbm, ⟨65, _⟩ => ⟨S4x8192, .f32⟩
  | .hbm, ⟨66, _⟩ => ⟨S4x8192x1, .f32⟩
  | .hbm, ⟨67, _⟩ => ⟨S4x8192x1, .f32⟩
  | .hbm, ⟨68, _⟩ => ⟨S4x8192x256, .f32⟩
  | .hbm, ⟨69, _⟩ => ⟨S4x8192x256, .f32⟩
  | .hbm, ⟨70, _⟩ => ⟨S_, .f32⟩
  | .hbm, ⟨71, _⟩ => ⟨S4x8192, .f32⟩
  | .hbm, ⟨72, _⟩ => ⟨S4x8192x256, .f32⟩
  | .hbm, ⟨73, _⟩ => ⟨S4x8192x256, .f32⟩
  | .hbm, ⟨74, _⟩ => ⟨S4x8192x256, .f32⟩
  | .hbm, ⟨75, _⟩ => ⟨S_, .f32⟩
  | .hbm, ⟨76, _⟩ => ⟨S4x8192x256, .f32⟩
  | .hbm, ⟨77, _⟩ => ⟨S4x8192x256, .f32⟩
  | .hbm, ⟨78, _⟩ => ⟨S4x256x512, .f32⟩
  | .hbm, ⟨79, _⟩ => ⟨S256x4x512, .f32⟩
  | .hbm, ⟨80, _⟩ => ⟨S4x8192x512, .f32⟩
  | .hbm, ⟨81, _⟩ => ⟨S8192x4x512, .f32⟩
  | .hbm, ⟨82, _⟩ => ⟨S256x2048, .f32⟩
  | .hbm, ⟨83, _⟩ => ⟨S256x2048, .f32⟩
  | .hbm, ⟨84, _⟩ => ⟨S256x4096, .f32⟩
  | .hbm, ⟨85, _⟩ => ⟨S8192x2048, .f32⟩
  | .hbm, ⟨86, _⟩ => ⟨S8192x2048, .bf16⟩
  | .hbm, ⟨87, _⟩ => ⟨S256x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== ConvKernel.lean ====
abbrev S8192x6144 : Shape := ⟨2, ![8192, 6144]⟩
abbrev S3x2048 : Shape := ⟨2, ![3, 2048]⟩
abbrev S8192x2048 : Shape := ⟨2, ![8192, 2048]⟩
abbrev S256x6144 : Shape := ⟨2, ![256, 6144]⟩
abbrev S16x6144 : Shape := ⟨2, ![16, 6144]⟩
abbrev S256x2048 : Shape := ⟨2, ![256, 2048]⟩
abbrev S16x2048 : Shape := ⟨2, ![16, 2048]⟩
abbrev S2048 : Shape := ⟨1, ![2048]⟩
abbrev S1x2048 : Shape := ⟨2, ![1, 2048]⟩

abbrev nBuf : Space → Nat
  | .hbm => 5
  | .vmem => 14
  | .smem => 0
  | _ => 0

abbrev bufTy : (tb : Table) → Fin (tcTables nBuf tb) → BufTy
  | .hbm, ⟨0, _⟩ => ⟨S8192x6144, .bf16⟩
  | .hbm, ⟨1, _⟩ => ⟨S3x2048, .f32⟩
  | .hbm, ⟨2, _⟩ => ⟨S8192x2048, .bf16⟩
  | .hbm, ⟨3, _⟩ => ⟨S8192x6144, .bf16⟩
  | .hbm, ⟨4, _⟩ => ⟨S3x2048, .f32⟩
  | .local _ .vmem, ⟨0, _⟩ => ⟨S256x6144, .bf16⟩
  | .local _ .vmem, ⟨1, _⟩ => ⟨S256x6144, .bf16⟩
  | .local _ .vmem, ⟨2, _⟩ => ⟨S16x6144, .bf16⟩
  | .local _ .vmem, ⟨3, _⟩ => ⟨S16x6144, .bf16⟩
  | .local _ .vmem, ⟨4, _⟩ => ⟨S16x6144, .bf16⟩
  | .local _ .vmem, ⟨5, _⟩ => ⟨S16x6144, .bf16⟩
  | .local _ .vmem, ⟨6, _⟩ => ⟨S256x2048, .bf16⟩
  | .local _ .vmem, ⟨7, _⟩ => ⟨S256x2048, .bf16⟩
  | .local _ .vmem, ⟨8, _⟩ => ⟨S16x2048, .bf16⟩
  | .local _ .vmem, ⟨9, _⟩ => ⟨S16x2048, .bf16⟩
  | .local _ .vmem, ⟨10, _⟩ => ⟨S3x2048, .f32⟩
  | .local _ .vmem, ⟨11, _⟩ => ⟨S256x6144, .bf16⟩
  | .local _ .vmem, ⟨12, _⟩ => ⟨S256x6144, .bf16⟩
  | .local _ .vmem, ⟨13, _⟩ => ⟨S3x2048, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_40 : BitVec 32 := 0#32
  let v122 : BitVec 1 := Scalar.cmpi .eq arg0 c0_i32_40
  let v132 : BitVec 32 := Scalar.extui v122
  let c0_i32_44 : BitVec 32 := 0#32
  let v133 : BitVec 1 := Scalar.cmpi .ne v132 c0_i32_44
  v133

def k0_cond2 (i : grid0.Coords) : BitVec 1 :=
  let arg0 : BitVec 32 := BitVec.ofNat 32 (i 0).val
  let c0_i32_40 : BitVec 32 := 0#32
  let v122 : BitVec 1 := Scalar.cmpi .eq arg0 c0_i32_40
  let v_true : BitVec 1 := 1#1
  let v134 : BitVec 1 := Scalar.xori v122 v_true
  let v135 : BitVec 32 := Scalar.extui v134
  let c0_i32_45 : BitVec 32 := 0#32
  let v136 : BitVec 1 := Scalar.cmpi .ne v135 c0_i32_45
  v136

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvReferenceIdeal.lean ====
abbrev S8192x6144 : Shape := ⟨2, ![8192, 6144]⟩
abbrev S3x2048 : Shape := ⟨2, ![3, 2048]⟩
abbrev S8192x2048 : Shape := ⟨2, ![8192, 2048]⟩
abbrev S_ : Shape := ⟨0, ![]⟩
abbrev S2x2048 : Shape := ⟨2, ![2, 2048]⟩
abbrev S8194x2048 : Shape := ⟨2, ![8194, 2048]⟩
abbrev S1x2048 : Shape := ⟨2, ![1, 2048]⟩
abbrev S2048 : Shape := ⟨1, ![2048]⟩

abbrev nBuf : Space → Nat
  | .hbm => 89
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S3x2048, .f32⟩
  | .hbm, ⟨2, _⟩ => ⟨S8192x2048, .bf16⟩
  | .hbm, ⟨3, _⟩ => ⟨S8192x6144, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S2x2048, .f32⟩
  | .hbm, ⟨11, _⟩ => ⟨S8194x2048, .f32⟩
  | .hbm, ⟨12, _⟩ => ⟨S_, .f32⟩
  | .hbm, ⟨13, _⟩ => ⟨S2x2048, .f32⟩
  | .hbm, ⟨14, _⟩ => ⟨S8192x2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S1x2048, .f32⟩
  | .hbm, ⟨32, _⟩ => ⟨S2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S_, .f32⟩
  | .hbm, ⟨50, _⟩ => ⟨S3x2048, .f32⟩
  | .hbm, ⟨51, _⟩ => ⟨S_, .f32⟩
  | .hbm, ⟨52, _⟩ => ⟨S8194x2048, .f32⟩
  | .hbm, ⟨53, _⟩ => ⟨S8192x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S8192x2048, .f32⟩
  | .hbm, ⟨58, _⟩ => ⟨S8192x2048, .f32⟩
  | .hbm, ⟨59, _⟩ => ⟨S_, .f32⟩
  | .hbm, ⟨60, _⟩ => ⟨S2048, .f32⟩
  | .hbm, ⟨61, _⟩ => ⟨S1x2048, .f32⟩
  | .hbm, ⟨62, _⟩ => ⟨S_, .f32⟩
  | .hbm, ⟨63, _⟩ => ⟨S3x2048, .f32⟩
  | .hbm, ⟨64, _⟩ => ⟨S3x2048, .f32⟩
  | .hbm, ⟨65, _⟩ => ⟨S_, .f32⟩
  | .hbm, ⟨66, _⟩ => ⟨S8194x2048, .f32⟩
  | .hbm, ⟨67, _⟩ => ⟨S8194x2048, .f32⟩
  | .hbm, ⟨68, _⟩ => ⟨S8192x2048, .f32⟩
  | .hbm, ⟨69, _⟩ => ⟨S_, .f32⟩
  | .hbm, ⟨70, _⟩ => ⟨S2048, .f32⟩
  | .hbm, ⟨71, _⟩ => ⟨S1x2048, .f32⟩
  | .hbm, ⟨72, _⟩ => ⟨S8192x2048, .f32⟩
  | .hbm, ⟨73, _⟩ => ⟨S8192x2048, .f32⟩
  | .hbm, ⟨74, _⟩ => ⟨S_, .f32⟩
  | .hbm, ⟨75, _⟩ => ⟨S2048, .f32⟩
  | .hbm, ⟨76, _⟩ => ⟨S1x2048, .f32⟩
  | .hbm, ⟨77, _⟩ => ⟨S_, .f32⟩
  | .hbm, ⟨78, _⟩ => ⟨S3x2048, .f32⟩
  | .hbm, ⟨79, _⟩ => ⟨S3x2048, .f32⟩
  | .hbm, ⟨80, _⟩ => ⟨S_, .f32⟩
  | .hbm, ⟨81, _⟩ => ⟨S8194x2048, .f32⟩
  | .hbm, ⟨82, _⟩ => ⟨S8194x2048, .f32⟩
  | .hbm, ⟨83, _⟩ => ⟨S2x2048, .f32⟩
  | .hbm, ⟨84, _⟩ => ⟨S8192x2048, .f32⟩
  | .hbm, ⟨85, _⟩ => ⟨S8192x2048, .f32⟩
  | .hbm, ⟨86, _⟩ => ⟨S8192x2048, .f32⟩
  | .hbm, ⟨87, _⟩ => ⟨S8192x6144, .f32⟩
  | .hbm, ⟨88, _⟩ => ⟨S8192x6144, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_cst_13 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== GmlpKernel.lean ====
abbrev S8192x4096 : Shape := ⟨2, ![8192, 4096]⟩
abbrev S2048 : Shape := ⟨1, ![2048]⟩
abbrev S8x128x128 : Shape := ⟨3, ![8, 128, 128]⟩
abbrev S8x128 : Shape := ⟨2, ![8, 128]⟩
abbrev S8192x2048 : Shape := ⟨2, ![8192, 2048]⟩
abbrev S128x8 : Shape := ⟨2, ![128, 8]⟩
abbrev S128x8x256 : Shape := ⟨3, ![128, 8, 256]⟩
abbrev S128x2048 : Shape := ⟨2, ![128, 2048]⟩
abbrev S1x2048 : Shape := ⟨2, ![1, 2048]⟩
abbrev S256x4096 : Shape := ⟨2, ![256, 4096]⟩
abbrev S256x2048 : Shape := ⟨2, ![256, 2048]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x256 : Shape := ⟨2, ![128, 256]⟩
abbrev S128 : Shape := ⟨1, ![128]⟩
abbrev S128x1 : Shape := ⟨2, ![128, 1]⟩

abbrev nBuf : Space → Nat
  | .hbm => 16
  | .vmem => 17
  | .smem => 0
  | _ => 0

abbrev bufTy : (tb : Table) → Fin (tcTables nBuf tb) → BufTy
  | .hbm, ⟨0, _⟩ => ⟨S8192x4096, .bf16⟩
  | .hbm, ⟨1, _⟩ => ⟨S2048, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S8192x2048, .bf16⟩
  | .hbm, ⟨6, _⟩ => ⟨S128x8, .f32⟩
  | .hbm, ⟨7, _⟩ => ⟨S128x8x256, .f32⟩
  | .hbm, ⟨8, _⟩ => ⟨S128x2048, .f32⟩
  | .hbm, ⟨9, _⟩ => ⟨S1x2048, .f32⟩
  | .hbm, ⟨10, _⟩ => ⟨S1x2048, .f32⟩
  | .hbm, ⟨11, _⟩ => ⟨S8192x4096, .bf16⟩
  | .hbm, ⟨12, _⟩ => ⟨S8x128x128, .f32⟩
  | .hbm, ⟨13, _⟩ => ⟨S8x128x128, .f32⟩
  | .hbm, ⟨14, _⟩ => ⟨S1x2048, .f32⟩
  | .hbm, ⟨15, _⟩ => ⟨S1x2048, .f32⟩
  | .local _ .vmem, ⟨0, _⟩ => ⟨S256x4096, .bf16⟩
  | .local _ .vmem, ⟨1, _⟩ => ⟨S256x4096, .bf16⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S1x2048, .f32⟩
  | .local _ .vmem, ⟨6, _⟩ => ⟨S8x128x128, .f32⟩
  | .local _ .vmem, ⟨7, _⟩ => ⟨S128x2048, .f32⟩
  | .local _ .vmem, ⟨8, _⟩ => ⟨S256x4096, .bf16⟩
  | .local _ .vmem, ⟨9, _⟩ => ⟨S256x4096, .bf16⟩
  | .local _ .vmem, ⟨10, _⟩ => ⟨S8x128x128, .f32⟩
  | .local _ .vmem, ⟨11, _⟩ => ⟨S8x128x128, .f32⟩
  | .local _ .vmem, ⟨12, _⟩ => ⟨S1x2048, .f32⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | .local _ .vmem, ⟨16, _⟩ => ⟨S128x2048, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![32], ![false]⟩

def k0_cond6 (i : grid0.Coords) : BitVec 1 :=
  let arg0 : BitVec 32 := BitVec.ofNat 32 (i 0).val
  let c31_i32 : BitVec 32 := 31#32
  let v554 : BitVec 1 := Scalar.cmpi .eq arg0 c31_i32
  let v555 : BitVec 32 := Scalar.extui v554
  let c0_i32_286 : BitVec 32 := 0#32
  let v556 : BitVec 1 := Scalar.cmpi .ne v555 c0_i32_286
  v556

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v506 : BitVec 32 := Scalar.extui v0
  let c0_i32_269 : BitVec 32 := 0#32
  let v507 : BitVec 1 := Scalar.cmpi .ne v506 c0_i32_269
  v507

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v508 : BitVec 1 := Scalar.xori v0 v_true
  let v509 : BitVec 32 := Scalar.extui v508
  let c0_i32_270 : BitVec 32 := 0#32
  let v510 : BitVec 1 := Scalar.cmpi .ne v509 c0_i32_270
  v510

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v513 : BitVec 32 := Scalar.extui v0
  let c0_i32_272 : BitVec 32 := 0#32
  let v514 : BitVec 1 := Scalar.cmpi .ne v513 c0_i32_272
  v514

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let true_273 : BitVec 1 := 1#1
  let v515 : BitVec 1 := Scalar.xori v0 true_273
  let v516 : BitVec 32 := Scalar.extui v515
  let c0_i32_274 : BitVec 32 := 0#32
  let v517 : BitVec 1 := Scalar.cmpi .ne v516 c0_i32_274
  v517

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GmlpKernelIdeal.lean ====
variable {F : FTy → Type} [FloatOps F] [Named F]
def κ : String → Option EReal := fun
  | "inv_sqrt_2pi" => some (((9465531 / 16777216) * (Real.sqrt 2)⁻¹ : ℝ) : EReal)
  | "sqrt_half" => some (((Real.sqrt 2)⁻¹ : ℝ) : EReal)
  | _ => none
-- ==== GmlpReferenceIdeal.lean ====
abbrev S8192x4096 : Shape := ⟨2, ![8192, 4096]⟩
abbrev S2048 : Shape := ⟨1, ![2048]⟩
abbrev S8x128x128 : Shape := ⟨3, ![8, 128, 128]⟩
abbrev S8x128 : Shape := ⟨2, ![8, 128]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S64x128x8x256 : Shape := ⟨4, ![64, 128, 8, 256]⟩
abbrev S128x128 : Shape := ⟨2, ![128, 128]⟩
abbrev S1x128x128 : Shape := ⟨3, ![1, 128, 128]⟩
abbrev S8x64x256x128 : Shape := ⟨4, ![8, 64, 256, 128]⟩
abbrev S128x8 : Shape := ⟨2, ![128, 8]⟩
abbrev S128x8x1 : Shape := ⟨3, ![128, 8, 1]⟩
abbrev S1x128x8x1 : Shape := ⟨4, ![1, 128, 8, 1]⟩
abbrev S8x128x1 : Shape := ⟨3, ![8, 128, 1]⟩

abbrev nBuf : Space → Nat
  | .hbm => 161
  | .vmem => 0
  | .smem => 0
  | _ => 0

abbrev hbmTy0_0 (i : Nat) : BufTy := match i % 128 with
  | 0 => ⟨S8192x4096, .bf16⟩
  | 1 => ⟨S2048, .f32⟩
  | 2 => ⟨S2048, .f32⟩
  | 3 => ⟨S8x128x128, .f32⟩
  | 4 => ⟨S8x128, .f32⟩
  | 5 => ⟨S8192x2048, .bf16⟩
  | 6 => ⟨S8192x4096, .f32⟩
  | 7 => ⟨S8192x2048, .f32⟩
  | 8 => ⟨S_, .f32⟩
  | 9 => ⟨S8192x4096, .f32⟩
  | 10 => ⟨S8192x4096, .f32⟩
  | 11 => ⟨S8192x4096, .f32⟩
  | 12 => ⟨S_, .f32⟩
  | 13 => ⟨S8192x4096, .f32⟩
  | 14 => ⟨S8192x4096, .f32⟩
  | 15 => ⟨S8192x4096, .f32⟩
  | 16 => ⟨S8192x4096, .f32⟩
  | 17 => ⟨S8192x4096, .f32⟩
  | 18 => ⟨S8192x4096, .f32⟩
  | 19 => ⟨S8192x4096, .f32⟩
  | 20 => ⟨S8192x4096, .f32⟩
  | 21 => ⟨S8192x2048, .f32⟩
  | 22 => ⟨S8192x2048, .f32⟩
  | 23 => ⟨S_, .f32⟩
  | 24 => ⟨S8192, .f32⟩
  | 25 => ⟨S8192x1, .f32⟩
  | 26 => ⟨S_, .f32⟩
  | 27 => ⟨S8192x1, .f32⟩
  | 28 => ⟨S8192x1, .f32⟩
  | 29 => ⟨S8192x2048, .f32⟩
  | 30 => ⟨S8192x2048, .f32⟩
  | 31 => ⟨S8192x2048, .f32⟩
  | 32 => ⟨S_, .f32⟩
  | 33 => ⟨S8192, .f32⟩
  | 34 => ⟨S8192x1, .f32⟩
  | 35 => ⟨S_, .f32⟩
  | 36 => ⟨S8192x1, .f32⟩
  | 37 => ⟨S8192x1, .f32⟩
  | 38 => ⟨S_, .f32⟩
  | 39 => ⟨S8192x1, .f32⟩
  | 40 => ⟨S8192x1, .f32⟩
  | 41 => ⟨S8192x1, .f32⟩
  | 42 => ⟨S8192x1, .f32⟩
  | 43 => ⟨S_, .f32⟩
  | 44 => ⟨S8192x1, .f32⟩
  | 45 => ⟨S8192x1, .f32⟩
  | 46 => ⟨S8192x2048, .f32⟩
  | 47 => ⟨S8192x2048, .f32⟩
  | 48 => ⟨S1x2048, .f32⟩
  | 49 => ⟨S8192x2048, .f32⟩
  | 50 => ⟨S8192x2048, .f32⟩
  | 51 => ⟨S1x2048, .f32⟩
  | 52 => ⟨S8192x2048, .f32⟩
  | 53 => ⟨S8192x2048, .f32⟩
  | 54 => ⟨S64x128x8x256, .f32⟩
  | 55 => ⟨S_, .i1⟩
  | 56 => ⟨S128x128, .i1⟩
  | 57 => ⟨S128x128, .i32⟩
  | 58 => ⟨S_, .i32⟩
  | 59 => ⟨S128x128, .i32⟩
  | 60 => ⟨S128x128, .i32⟩
  | 61 => ⟨S128x128, .i32⟩
  | 62 => ⟨S128x128, .i1⟩
  | 63 => ⟨S_, .i1⟩
  | 64 => ⟨S128x128, .i1⟩
  | 65 => ⟨S128x128, .i1⟩
  | 66 => ⟨S1x128x128, .i1⟩
  | 67 => ⟨S_, .f32⟩
  | 68 => ⟨S8x128x128, .f32⟩
  | 69 => ⟨S8x128x128, .i1⟩
  | 70 => ⟨S8x128x128, .f32⟩
  | 71 => ⟨S_, .f32⟩
  | 72 => ⟨S8x128x128, .f32⟩
  | 73 => ⟨S8x64x256x128, .f32⟩
  | 74 => ⟨S64x128x8x256, .f32⟩
  | 75 => ⟨S128x8, .f32⟩
  | 76 => ⟨S128x8x1, .f32⟩
  | 77 => ⟨S1x128x8x1, .f32⟩
  | 78 => ⟨S64x128x8x256, .f32⟩
  | 79 => ⟨S64x128x8x256, .f32⟩
  | 80 => ⟨S8192x2048, .f32⟩
  | 81 => ⟨S8192x2048, .f32⟩
  | 82 => ⟨S8192x2048, .f32⟩
  | 83 => ⟨S8192x2048, .f32⟩
  | 84 => ⟨S64x128x8x256, .f32⟩
  | 85 => ⟨S_, .f32⟩
  | 86 => ⟨S128x8, .f32⟩
  | 87 => ⟨S1x128x8x1, .f32⟩
  | 88 => ⟨S_, .f32⟩
  | 89 => ⟨S128x8, .f32⟩
  | 90 => ⟨S128x8x1, .f32⟩
  | 91 => ⟨S_, .f32⟩
  | 92 => ⟨S128x8, .f32⟩
  | 93 => ⟨S8x128, .f32⟩
  | 94 => ⟨S8x64x256x128, .f32⟩
  | 95 => ⟨S8x128x128, .f32⟩
  | 96 => ⟨S8x64x256x128, .f32⟩
  | 97 => ⟨S64x128x8x256, .f32⟩
  | 98 => ⟨S_, .f32⟩
  | 99 => ⟨S8x128x128, .f32⟩
  | 100 => ⟨S8x128x128, .f32⟩
  | 101 => ⟨S8192x2048, .f32⟩
  | 102 => ⟨S_, .f32⟩
  | 103 => ⟨S2048, .f32⟩
  | 104 => ⟨S1x2048, .f32⟩
  | 105 => ⟨S_, .f32⟩
  | 106 => ⟨S2048, .f32⟩
  | 107 => ⟨S8192x2048, .f32⟩
  | 108 => ⟨S_, .f32⟩
  | 109 => ⟨S2048, .f32⟩
  | 110 => ⟨S1x2048, .f32⟩
  | 111 => ⟨S8192x2048, .f32⟩
  | 112 => ⟨S8192x2048, .f32⟩
  | 113 => ⟨S_, .f32⟩
  | 114 => ⟨S2048, .f32⟩
  | 115 => ⟨S8192x2048, .f32⟩
  | 116 => ⟨S_, .f32⟩
  | 117 => ⟨S8192, .f32⟩
  | 118 => ⟨S8192x1, .f32⟩
  | 119 => ⟨S8192x2048, .f32⟩
  | 120 => ⟨S8192x2048, .f32⟩
  | 121 => ⟨S8192x1, .f32⟩
  | 122 => ⟨S_, .f32⟩
  | 123 => ⟨S8192x1, .f32⟩
  | 124 => ⟨S8192x1, .f32⟩
  | 125 => ⟨S_, .f32⟩
  | 126 => ⟨S8192, .f32⟩
  | 127 => ⟨S8192x2048, .f32⟩
  | _ => ⟨S8192x4096, .bf16⟩

abbrev hbmTy0_1 (i : Nat) : BufTy := match i % 128 with
  | 0 => ⟨S8192x2048, .f32⟩
  | 1 => ⟨S8192x2048, .f32⟩
  | 2 => ⟨S8192x2048, .f32⟩
  | 3 => ⟨S8192x2048, .f32⟩
  | 4 => ⟨S8192x2048, .f32⟩
  | 5 => ⟨S_, .f32⟩
  | 6 => ⟨S8192, .f32⟩
  | 7 => ⟨S8192x1, .f32⟩
  | 8 => ⟨S_, .f32⟩
  | 9 => ⟨S8192x1, .f32⟩
  | 10 => ⟨S8192x1, .f32⟩
  | 11 => ⟨S_, .f32⟩
  | 12 => ⟨S8192, .f32⟩
  | 13 => ⟨S8192x2048, .f32⟩
  | 14 => ⟨S8192x2048, .f32⟩
  | 15 => ⟨S8192x4096, .f32⟩
  | 16 => ⟨S8192x4096, .f32⟩
  | 17 => ⟨S8192x4096, .f32⟩
  | 18 => ⟨S_, .f32⟩
  | 19 => ⟨S8192x4096, .f32⟩
  | 20 => ⟨S8192x4096, .f32⟩
  | 21 => ⟨S8192x4096, .f32⟩
  | 22 => ⟨S8192x4096, .f32⟩
  | 23 => ⟨S8192x4096, .f32⟩
  | 24 => ⟨S_, .f32⟩
  | 25 => ⟨S8192x4096, .f32⟩
  | 26 => ⟨S8192x4096, .f32⟩
  | 27 => ⟨S8192x4096, .f32⟩
  | 28 => ⟨S8192x4096, .bf16⟩
  | 29 => ⟨S8x128x1, .f32⟩
  | 30 => ⟨S8x128x128, .f32⟩
  | 31 => ⟨S1x2048, .f32⟩
  | 32 => ⟨S1x2048, .f32⟩
  | _ => ⟨S8192x4096, .bf16⟩

abbrev hbmTy (i : Nat) : BufTy := match i / 128 with
  | 0 => hbmTy0_0 i
  | 1 => hbmTy0_1 i
  | _ => ⟨S8192x4096, .bf16⟩

abbrev bufTy : (tb : Table) → Fin (tcTables nBuf tb) → BufTy
  | .hbm, ⟨i, _⟩ => hbmTy i
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_v41 : Ref sig .tc := ⟨.hbm, 56, rfl⟩
abbrev main_call0_v0 : Ref sig .tc := ⟨.hbm, 57, rfl⟩
abbrev main_call0_c : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_c_0 : Ref sig .tc := ⟨.hbm, 63, rfl⟩
abbrev main_call0_v5 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45_1 : Ref sig .tc := ⟨.hbm, 69, rfl⟩
abbrev main_v45_0 : Ref sig .tc := ⟨.hbm, 70, rfl⟩
abbrev main_call1_cst : Ref sig .tc := ⟨.hbm, 71, rfl⟩
abbrev main_v45_2 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_8 : Ref sig .tc := ⟨.hbm, 85, rfl⟩
abbrev main_v58 : Ref sig .tc := ⟨.hbm, 86, rfl⟩
abbrev main_v59 : Ref sig .tc := ⟨.hbm, 87, rfl⟩
abbrev main_cst_9 : Ref sig .tc := ⟨.hbm, 88, rfl⟩
abbrev main_v60 : Ref sig .tc := ⟨.hbm, 89, rfl⟩
abbrev main_v61 : Ref sig .tc := ⟨.hbm, 90, rfl⟩
abbrev main_cst_10 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_call2_cst : Ref sig .tc := ⟨.hbm, 98, rfl⟩
abbrev main_call2_v0 : Ref sig .tc := ⟨.hbm, 99, rfl⟩
abbrev main_v68 : Ref sig .tc := ⟨.hbm, 100, rfl⟩
abbrev main_v69 : Ref sig .tc := ⟨.hbm, 101, rfl⟩
abbrev main_cst_11 : Ref sig .tc := ⟨.hbm, 102, rfl⟩
abbrev main_v70 : Ref sig .tc := ⟨.hbm, 103, rfl⟩
abbrev main_v71 : Ref sig .tc := ⟨.hbm, 104, rfl⟩
abbrev main_cst_12 : Ref sig .tc := ⟨.hbm, 105, rfl⟩
abbrev main_v72 : Ref sig .tc := ⟨.hbm, 106, rfl⟩
abbrev main_v73 : Ref sig .tc := ⟨.hbm, 107, rfl⟩
abbrev main_cst_13 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_14 : Ref sig .tc := ⟨.hbm, 113, rfl⟩
abbrev main_v78 : Ref sig .tc := ⟨.hbm, 114, rfl⟩
abbrev main_v79 : Ref sig .tc := ⟨.hbm, 115, rfl⟩
abbrev main_cst_15 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_16 : Ref sig .tc := ⟨.hbm, 122, rfl⟩
abbrev main_v85 : Ref sig .tc := ⟨.hbm, 123, rfl⟩
abbrev main_v86 : Ref sig .tc := ⟨.hbm, 124, rfl⟩
abbrev main_cst_17 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_18 : Ref sig .tc := ⟨.hbm, 133, rfl⟩
abbrev main_v94 : Ref sig .tc := ⟨.hbm, 134, rfl⟩
abbrev main_v95 : Ref sig .tc := ⟨.hbm, 135, rfl⟩
abbrev main_cst_19 : Ref sig .tc := ⟨.hbm, 136, rfl⟩
abbrev main_v96 : Ref sig .tc := ⟨.hbm, 137, rfl⟩
abbrev main_v97 : Ref sig .tc := ⟨.hbm, 138, rfl⟩
abbrev main_cst_20 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_21 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_22 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩

abbrev nD : Nat := 1
abbrev τ : Topo := Topo.v7x

variable {F : FTy → Type} [FloatOps F]
-- ==== RmsFwdKernel.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== AttnFwdKernel.lean ====
abbrev S8192x2048 : Shape := ⟨2, ![8192, 2048]⟩
abbrev S256x4096 : Shape := ⟨2, ![256, 4096]⟩
abbrev S512x2048 : Shape := ⟨2, ![512, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S256x4096, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S256x4096, .bf16⟩
  | .local _ .vmem, ⟨3, _⟩ => ⟨S512x2048, .bf16⟩
  | .local _ .vmem, ⟨4, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AttnFwdReferenceIdeal.lean ====
abbrev S8192x2048 : Shape := ⟨2, ![8192, 2048]⟩
abbrev S256x4096 : Shape := ⟨2, ![256, 4096]⟩
abbrev S8192x4x512 : Shape := ⟨3, ![8192, 4, 512]⟩
abbrev S256x2048 : Shape := ⟨2, ![256, 2048]⟩
abbrev S256x4x512 : Shape := ⟨3, ![256, 4, 512]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x512x8192 : Shape := ⟨3, ![4, 512, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S256x4096, .bf16⟩
  | .hbm, ⟨2, _⟩ => ⟨S8192x2048, .f32⟩
  | .hbm, ⟨3, _⟩ => ⟨S256x4096, .f32⟩
  | .hbm, ⟨4, _⟩ => ⟨S8192x4x512, .f32⟩
  | .hbm, ⟨5, _⟩ => ⟨S256x2048, .f32⟩
  | .hbm, ⟨6, _⟩ => ⟨S256x2048, .f32⟩
  | .hbm, ⟨7, _⟩ => ⟨S256x4x512, .f32⟩
  | .hbm, ⟨8, _⟩ => ⟨S256x4x512, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S_, .f32⟩
  | .hbm, ⟨16, _⟩ => ⟨S4x8192, .f32⟩
  | .hbm, ⟨17, _⟩ => ⟨S4x8192, .f32⟩
  | .hbm, ⟨18, _⟩ => ⟨S4x8192x1, .f32⟩
  | .hbm, ⟨19, _⟩ => ⟨S4x8192x256, .f32⟩
  | .hbm, ⟨20, _⟩ => ⟨S4x8192x256, .f32⟩
  | .hbm, ⟨21, _⟩ => ⟨S4x8192x256, .f32⟩
  | .hbm, ⟨22, _⟩ => ⟨S_, .f32⟩
  | .hbm, ⟨23, _⟩ => ⟨S4x8192, .f32⟩
  | .hbm, ⟨24, _⟩ => ⟨S4x8192x1, .f32⟩
  | .hbm, ⟨25, _⟩ => ⟨S4x8192x256, .f32⟩
  | .hbm, ⟨26, _⟩ => ⟨S4x8192x256, .f32⟩
  | .hbm, ⟨27, _⟩ => ⟨S4x512x8192, .f32⟩
  | .hbm, ⟨28, _⟩ => ⟨S8192x4x512, .f32⟩
  | .hbm, ⟨29, _⟩ => ⟨S8192x2048, .f32⟩
  | .hbm, ⟨30, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== ConvFwdKernel.lean ====
abbrev S8192x6144 : Shape := ⟨2, ![8192, 6144]⟩
abbrev S3x2048 : Shape := ⟨2, ![3, 2048]⟩
abbrev S8192x2048 : Shape := ⟨2, ![8192, 2048]⟩
abbrev S256x6144 : Shape := ⟨2, ![256, 6144]⟩
abbrev S16x6144 : Shape := ⟨2, ![16, 6144]⟩
abbrev S256x2048 : Shape := ⟨2, ![256, 2048]⟩
abbrev S16x2048 : Shape := ⟨2, ![16, 2048]⟩
abbrev S2048 : Shape := ⟨1, ![2048]⟩
abbrev S1x2048 : Shape := ⟨2, ![1, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S3x2048, .f32⟩
  | .hbm, ⟨2, _⟩ => ⟨S8192x2048, .bf16⟩
  | .local _ .vmem, ⟨0, _⟩ => ⟨S256x6144, .bf16⟩
  | .local _ .vmem, ⟨1, _⟩ => ⟨S256x6144, .bf16⟩
  | .local _ .vmem, ⟨2, _⟩ => ⟨S16x6144, .bf16⟩
  | .local _ .vmem, ⟨3, _⟩ => ⟨S16x6144, .bf16⟩
  | .local _ .vmem, ⟨4, _⟩ => ⟨S3x2048, .f32⟩
  | .local _ .vmem, ⟨5, _⟩ => ⟨S256x2048, .bf16⟩
  | .local _ .vmem, ⟨6, _⟩ => ⟨S256x2048, .bf16⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvFwdReferenceIdeal.lean ====
abbrev S8192x6144 : Shape := ⟨2, ![8192, 6144]⟩
abbrev S3x2048 : Shape := ⟨2, ![3, 2048]⟩
abbrev S8192x2048 : Shape := ⟨2, ![8192, 2048]⟩
abbrev S_ : Shape := ⟨0, ![]⟩
abbrev S2x2048 : Shape := ⟨2, ![2, 2048]⟩
abbrev S8194x2048 : Shape := ⟨2, ![8194, 2048]⟩
abbrev S1x2048 : Shape := ⟨2, ![1, 2048]⟩
abbrev S2048 : Shape := ⟨1, ![2048]⟩

abbrev nBuf : Space → Nat
  | .hbm => 35
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S3x2048, .f32⟩
  | .hbm, ⟨2, _⟩ => ⟨S8192x6144, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S2x2048, .f32⟩
  | .hbm, ⟨9, _⟩ => ⟨S8194x2048, .f32⟩
  | .hbm, ⟨10, _⟩ => ⟨S8192x2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== GmlpFwdKernel.lean ====
abbrev S8192x4096 : Shape := ⟨2, ![8192, 4096]⟩
abbrev S2048 : Shape := ⟨1, ![2048]⟩
abbrev S8x128x128 : Shape := ⟨3, ![8, 128, 128]⟩
abbrev S8x128 : Shape := ⟨2, ![8, 128]⟩
abbrev S128x8 : Shape := ⟨2, ![128, 8]⟩
abbrev S128x8x256 : Shape := ⟨3, ![128, 8, 256]⟩
abbrev S128x2048 : Shape := ⟨2, ![128, 2048]⟩
abbrev S1x2048 : Shape := ⟨2, ![1, 2048]⟩
abbrev S8192x2048 : Shape := ⟨2, ![8192, 2048]⟩
abbrev S256x4096 : Shape := ⟨2, ![256, 4096]⟩
abbrev S256x2048 : Shape := ⟨2, ![256, 2048]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x256 : Shape := ⟨2, ![128, 256]⟩

abbrev nBuf : Space → Nat
  | .hbm => 11
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S2048, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S128x8, .f32⟩
  | .hbm, ⟨6, _⟩ => ⟨S128x8x256, .f32⟩
  | .hbm, ⟨7, _⟩ => ⟨S128x2048, .f32⟩
  | .hbm, ⟨8, _⟩ => ⟨S1x2048, .f32⟩
  | .hbm, ⟨9, _⟩ => ⟨S1x2048, .f32⟩
  | .hbm, ⟨10, _⟩ => ⟨S8192x2048, .bf16⟩
  | .local _ .vmem, ⟨0, _⟩ => ⟨S256x4096, .bf16⟩
  | .local _ .vmem, ⟨1, _⟩ => ⟨S256x4096, .bf16⟩
  | .local _ .vmem, ⟨2, _⟩ => ⟨S1x2048, .f32⟩
  | .local _ .vmem, ⟨3, _⟩ => ⟨S1x2048, .f32⟩
  | .local _ .vmem, ⟨4, _⟩ => ⟨S8x128x128, .f32⟩
  | .local _ .vmem, ⟨5, _⟩ => ⟨S128x2048, .f32⟩
  | .local _ .vmem, ⟨6, _⟩ => ⟨S256x2048, .bf16⟩
  | .local _ .vmem, ⟨7, _⟩ => ⟨S256x2048, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GmlpFwdKernelIdeal.lean ====
variable {F : FTy → Type} [FloatOps F] [Named F]
def κ : String → Option EReal := fun
  | "sqrt_half" => some (((Real.sqrt 2)⁻¹ : ℝ) : EReal)
  | _ => none
-- ==== GmlpFwdReferenceIdeal.lean ====
abbrev S8192x4096 : Shape := ⟨2, ![8192, 4096]⟩
abbrev S2048 : Shape := ⟨1, ![2048]⟩
abbrev S8x128x128 : Shape := ⟨3, ![8, 128, 128]⟩
abbrev S8x128 : Shape := ⟨2, ![8, 128]⟩
abbrev S_ : Shape := ⟨0, ![]⟩
abbrev S8192x2048 : Shape := ⟨2, ![8192, 2048]⟩
abbrev S8192 : Shape := ⟨1, ![8192]⟩
abbrev S8192x1 : Shape := ⟨2, ![8192, 1]⟩
abbrev S1x2048 : Shape := ⟨2, ![1, 2048]⟩
abbrev S64x128x8x256 : Shape := ⟨4, ![64, 128, 8, 256]⟩
abbrev S128x128 : Shape := ⟨2, ![128, 128]⟩
abbrev S1x128x128 : Shape := ⟨3, ![1, 128, 128]⟩
abbrev S8x64x256x128 : Shape := ⟨4, ![8, 64, 256, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 72
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2048, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S64x128x8x256, .f32⟩
  | .hbm, ⟨46, _⟩ => ⟨S_, .i1⟩
  | .hbm, ⟨47, _⟩ => ⟨S128x128, .i1⟩
  | .hbm, ⟨48, _⟩ => ⟨S128x128, .i32⟩
  | .hbm, ⟨49, _⟩ => ⟨S_, .i32⟩
  | .hbm, ⟨50, _⟩ => ⟨S128x128, .i32⟩
  | .hbm, ⟨51, _⟩ => ⟨S128x128, .i32⟩
  | .hbm, ⟨52, _⟩ => ⟨S128x128, .i32⟩
  | .hbm, ⟨53, _⟩ => ⟨S128x128, .i1⟩
  | .hbm, ⟨54, _⟩ => ⟨S_, .i1⟩
  | .hbm, ⟨55, _⟩ => ⟨S128x128, .i1⟩
  | .hbm, ⟨56, _⟩ => ⟨S128x128, .i1⟩
  | .hbm, ⟨57, _⟩ => ⟨S1x128x128, .i1⟩
  | .hbm, ⟨58, _⟩ => ⟨S_, .f32⟩
  | .hbm, ⟨59, _⟩ => ⟨S8x128x128, .f32⟩
  | .hbm, ⟨60, _⟩ => ⟨S8x128x128, .i1⟩
  | .hbm, ⟨61, _⟩ => ⟨S8x128x128, .f32⟩
  | .hbm, ⟨62, _⟩ => ⟨S8x64x256x128, .f32⟩
  | .hbm, ⟨63, _⟩ => ⟨S64x128x8x256, .f32⟩
  | .hbm, ⟨64, _⟩ => ⟨S128x8, .f32⟩
  | .hbm, ⟨65, _⟩ => ⟨S128x8x1, .f32⟩
  | .hbm, ⟨66, _⟩ => ⟨S1x128x8x1, .f32⟩
  | .hbm, ⟨67, _⟩ => ⟨S64x128x8x256, .f32⟩
  | .hbm, ⟨68, _⟩ => ⟨S64x128x8x256, .f32⟩
  | .hbm, ⟨69, _⟩ => ⟨S8192x2048, .f32⟩
  | .hbm, ⟨70, _⟩ => ⟨S8192x2048, .f32⟩
  | .hbm, ⟨71, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c : Ref sig .tc := ⟨.hbm, 46, rfl⟩
abbrev main_v34 : Ref sig .tc := ⟨.hbm, 47, rfl⟩
abbrev main_call0_v0 : Ref sig .tc := ⟨.hbm, 48, rfl⟩
abbrev main_call0_c : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_c_0 : Ref sig .tc := ⟨.hbm, 54, rfl⟩
abbrev main_call0_v5 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_call1_v0 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩

abbrev nD : Nat := 1
abbrev τ : Topo := Topo.v7x

variable {F : FTy → Type} [FloatOps F]
-- ==== ProjKernel.lean ====
abbrev S8192x2048 : Shape := ⟨2, ![8192, 2048]⟩
abbrev S2048 : Shape := ⟨1, ![2048]⟩
abbrev S2048x2048 : Shape := ⟨2, ![2048, 2048]⟩
abbrev S1x2048x2048 : Shape := ⟨3, ![1, 2048, 2048]⟩
abbrev S1x2048 : Shape := ⟨2, ![1, 2048]⟩
abbrev S512x2048 : Shape := ⟨2, ![512, 2048]⟩
abbrev S64x2048 : Shape := ⟨2, ![64, 2048]⟩
abbrev S64 : Shape := ⟨1, ![64]⟩
abbrev S64x1 : Shape := ⟨2, ![64, 1]⟩

abbrev nBuf : Space → Nat
  | .hbm => 11
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .f32⟩
  | .hbm, ⟨3, _⟩ => ⟨S8192x2048, .bf16⟩
  | .hbm, ⟨4, _⟩ => ⟨S8192x2048, .f32⟩
  | .hbm, ⟨5, _⟩ => ⟨S2048x2048, .bf16⟩
  | .hbm, ⟨6, _⟩ => ⟨S1x2048x2048, .bf16⟩
  | .hbm, ⟨7, _⟩ => ⟨S1x2048, .f32⟩
  | .hbm, ⟨8, _⟩ => ⟨S8192x2048, .f32⟩
  | .hbm, ⟨9, _⟩ => ⟨S8192x2048, .bf16⟩
  | .hbm, ⟨10, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | .local _ .vmem, ⟨13, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![16, 1], ![false, false]⟩

def k0_cond3 (i : grid0.Coords) : BitVec 1 :=
  let arg1 : BitVec 32 := BitVec.ofNat 32 (i 1).val
  let c0_i32_2 : BitVec 32 := 0#32
  let v7 : BitVec 1 := Scalar.cmpi .eq arg1 c0_i32_2
  let v8 : BitVec 32 := Scalar.extui v7
  let c0_i32_3 : BitVec 32 := 0#32
  let v9 : BitVec 1 := Scalar.cmpi .ne v8 c0_i32_3
  v9

@[reducible] def k0_t1_loop : Scf.Loop 32 :=
  let c0_i32_5 : BitVec 32 := 0#32
  let c8_i32 : BitVec 32 := 8#32
  let v13 : BitVec 32 := Scalar.addi c0_i32_5 c8_i32
  let c1_i32 : BitVec 32 := 1#32
  ⟨c0_i32_5, v13, c1_i32⟩
def k0_mult1 (k0_t1 : Fin k0_t1_loop.trips) : BitVec 32 :=
  let c0_i32_5 : BitVec 32 := 0#32
  let c1_i32 : BitVec 32 := 1#32
  let arg11 : BitVec 32 := Scf.iv c0_i32_5 c1_i32 k0_t1
  let c64_i32 : BitVec 32 := 64#32
  let v21 : BitVec 32 := Scalar.muli arg11 c64_i32
  v21
def k0_off1 (k0_t1 : Fin k0_t1_loop.trips) : Fin 2 → Nat :=
  let c0_i32_5 : BitVec 32 := 0#32
  let c1_i32 : BitVec 32 := 1#32
  let arg11 : BitVec 32 := Scf.iv c0_i32_5 c1_i32 k0_t1
  let c64_i32 : BitVec 32 := 64#32
  let v21 : BitVec 32 := Scalar.muli arg11 c64_i32
  let v22 : BitVec 32 := v21
  let v23 : Index := Scalar.indexCast v22
  let c0_11 : Index := 0#32
  ![v23.toNat, 0]
def k0_cond4 (i : grid0.Coords) : BitVec 1 :=
  let arg0 : BitVec 32 := BitVec.ofNat 32 (i 0).val
  let c0_i32_7 : BitVec 32 := 0#32
  let v15 : BitVec 1 := Scalar.cmpi .eq arg0 c0_i32_7
  let v16 : BitVec 32 := Scalar.extui v15
  let c0_i32_8 : BitVec 32 := 0#32
  let v17 : BitVec 1 := Scalar.cmpi .ne v16 c0_i32_8
  v17

def k0_cond5 (i : grid0.Coords) : BitVec 1 :=
  let arg0 : BitVec 32 := BitVec.ofNat 32 (i 0).val
  let c0_i32_7 : BitVec 32 := 0#32
  let v15 : BitVec 1 := Scalar.cmpi .eq arg0 c0_i32_7
  let true_9 : BitVec 1 := 1#1
  let v18 : BitVec 1 := Scalar.xori v15 true_9
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ProjReferenceIdeal.lean ====
abbrev S8192x2048 : Shape := ⟨2, ![8192, 2048]⟩
abbrev S2048 : Shape := ⟨1, ![2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 59
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .f32⟩
  | .hbm, ⟨3, _⟩ => ⟨S8192x2048, .bf16⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S2048, .f32⟩
  | .hbm, ⟨36, _⟩ => ⟨S8192x2048, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S_, .f32⟩
  | .hbm, ⟨55, _⟩ => ⟨S8192x2048, .f32⟩
  | .hbm, ⟨56, _⟩ => ⟨S8192x2048, .f32⟩
  | .hbm, ⟨57, _⟩ => ⟨S8192x2048, .bf16⟩
  | .hbm, ⟨58, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== FfnKernel.lean ====
abbrev S8192x2048 : Shape := ⟨2, ![8192, 2048]⟩
abbrev S2048x11264 : Shape := ⟨2, ![2048, 11264]⟩
abbrev S5632x2048 : Shape := ⟨2, ![5632, 2048]⟩
abbrev S2048x8x1408 : Shape := ⟨3, ![2048, 8, 1408]⟩
abbrev S8x2048x1408 : Shape := ⟨3, ![8, 2048, 1408]⟩
abbrev S2x8192x5632 : Shape := ⟨3, ![2, 8192, 5632]⟩
abbrev S8192x5632 : Shape := ⟨2, ![8192, 5632]⟩
abbrev S512x2048 : Shape := ⟨2, ![512, 2048]⟩
abbrev S2x2048x1408 : Shape := ⟨3, ![2, 2048, 1408]⟩
abbrev S2x512x2816 : Shape := ⟨3, ![2, 512, 2816]⟩
abbrev S512x2816 : Shape := ⟨2, ![512, 2816]⟩
abbrev S1x2048x256 : Shape := ⟨3, ![1, 2048, 256]⟩
abbrev S2048x256 : Shape := ⟨2, ![2048, 256]⟩
abbrev S512x256 : Shape := ⟨2, ![512, 256]⟩
abbrev S1x512x256 : Shape := ⟨3, ![1, 512, 256]⟩
abbrev S1x2048x128 : Shape := ⟨3, ![1, 2048, 128]⟩
abbrev S2048x128 : Shape := ⟨2, ![2048, 128]⟩
abbrev S2816x2048 : Shape := ⟨2, ![2816, 2048]⟩
abbrev S256x2048 : Shape := ⟨2, ![256, 2048]⟩

abbrev nBuf : Space → Nat
  | .hbm => 11
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S5632x2048, .f32⟩
  | .hbm, ⟨3, _⟩ => ⟨S8192x2048, .bf16⟩
  | .hbm, ⟨4, _⟩ => ⟨S2048x11264, .bf16⟩
  | .hbm, ⟨5, _⟩ => ⟨S2048x8x1408, .bf16⟩
  | .hbm, ⟨6, _⟩ => ⟨S8x2048x1408, .bf16⟩
  | .hbm, ⟨7, _⟩ => ⟨S2x8192x5632, .bf16⟩
  | .hbm, ⟨8, _⟩ => ⟨S8192x5632, .bf16⟩
  | .hbm, ⟨9, _⟩ => ⟨S5632x2048, .bf16⟩
  | .hbm, ⟨10, _⟩ => ⟨S2x8192x5632, .bf16⟩
  | .local _ .vmem, ⟨0, _⟩ => ⟨S512x2048, .bf16⟩
  | .local _ .vmem, ⟨1, _⟩ => ⟨S512x2048, .bf16⟩
  | .local _ .vmem, ⟨2, _⟩ => ⟨S2x2048x1408, .bf16⟩
  | .local _ .vmem, ⟨3, _⟩ => ⟨S2x2048x1408, .bf16⟩
  | .local _ .vmem, ⟨4, _⟩ => ⟨S2x512x2816, .bf16⟩
  | .local _ .vmem, ⟨5, _⟩ => ⟨S2x512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2048, .bf16⟩
  | .local _ .vmem, ⟨9, _⟩ => ⟨S512x2048, .bf16⟩
  | .local _ .vmem, ⟨10, _⟩ => ⟨S2816x2048, .bf16⟩
  | .local _ .vmem, ⟨11, _⟩ => ⟨S2x512x2816, .bf16⟩
  | .local _ .vmem, ⟨12, _⟩ => ⟨S2x512x2816, .bf16⟩
  | .local _ .vmem, ⟨13, _⟩ => ⟨S2x512x2816, .bf16⟩
  | .local _ .vmem, ⟨14, _⟩ => ⟨S2x512x2816, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2x2048x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2x2048x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S2x512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S2816x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S2x512x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2x512x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== FfnReferenceIdeal.lean ====
abbrev S8192x2048 : Shape := ⟨2, ![8192, 2048]⟩
abbrev S2048x11264 : Shape := ⟨2, ![2048, 11264]⟩
abbrev S5632x2048 : Shape := ⟨2, ![5632, 2048]⟩
abbrev S8192x11264 : Shape := ⟨2, ![8192, 11264]⟩
abbrev S8192x5632 : Shape := ⟨2, ![8192, 5632]⟩
abbrev S_ : Shape := ⟨0, ![]⟩
abbrev S1x8192x5632 : Shape := ⟨3, ![1, 8192, 5632]⟩
abbrev S2x8192x5632 : Shape := ⟨3, ![2, 8192, 5632]⟩

abbrev nBuf : Space → Nat
  | .hbm => 39
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S5632x2048, .f32⟩
  | .hbm, ⟨3, _⟩ => ⟨S8192x2048, .bf16⟩
  | .hbm, ⟨4, _⟩ => ⟨S8192x2048, .f32⟩
  | .hbm, ⟨5, _⟩ => ⟨S8192x11264, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x2048, .f32⟩
  | .hbm, ⟨23, _⟩ => ⟨S8192x2048, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x11264, .f32⟩
  | .hbm, ⟨32, _⟩ => ⟨S8192x5632, .f32⟩
  | .hbm, ⟨33, _⟩ => ⟨S8192x5632, .f32⟩
  | .hbm, ⟨34, _⟩ => ⟨S1x8192x5632, .f32⟩
  | .hbm, ⟨35, _⟩ => ⟨S1x8192x5632, .f32⟩
  | .hbm, ⟨36, _⟩ => ⟨S2x8192x5632, .f32⟩
  | .hbm, ⟨37, _⟩ => ⟨S2x8192x5632, .bf16⟩
  | .hbm, ⟨38, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩

abbrev nD : Nat := 1
abbrev τ : Topo := Topo.v7x

variable {F : FTy → Type} [FloatOps F]
-- ==== DownKernel.lean ====
abbrev S8192x5632 : Shape := ⟨2, ![8192, 5632]⟩
abbrev S5632x2048 : Shape := ⟨2, ![5632, 2048]⟩
abbrev S8192x2048 : Shape := ⟨2, ![8192, 2048]⟩
abbrev S1x5632x2048 : Shape := ⟨3, ![1, 5632, 2048]⟩
abbrev S512x5632 : Shape := ⟨2, ![512, 5632]⟩
abbrev S1x5632x1024 : Shape := ⟨3, ![1, 5632, 1024]⟩
abbrev S512x1024 : Shape := ⟨2, ![512, 1024]⟩
abbrev S5632x1024 : Shape := ⟨2, ![5632, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S5632x2048, .bf16⟩
  | .hbm, ⟨4, _⟩ => ⟨S1x5632x2048, .bf16⟩
  | .hbm, ⟨5, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x1024, .bf16⟩
  | .local _ .vmem, ⟨3, _⟩ => ⟨S1x5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownReferenceIdeal.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S8192x5632, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== DwKernel.lean ====
abbrev S8192x2048 : Shape := ⟨2, ![8192, 2048]⟩
abbrev S2x8192x5632 : Shape := ⟨3, ![2, 8192, 5632]⟩
abbrev S8x2048x1408 : Shape := ⟨3, ![8, 2048, 1408]⟩
abbrev S2048x512 : Shape := ⟨2, ![2048, 512]⟩
abbrev S1x2048x2816 : Shape := ⟨3, ![1, 2048, 2816]⟩
abbrev S2x512x1408 : Shape := ⟨3, ![2, 512, 1408]⟩
abbrev S512x2816 : Shape := ⟨2, ![512, 2816]⟩
abbrev S2048x2816 : Shape := ⟨2, ![2048, 2816]⟩
abbrev S512x1408 : Shape := ⟨2, ![512, 1408]⟩
abbrev S1x512x1408 : Shape := ⟨3, ![1, 512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x8192x5632, .bf16⟩
  | .hbm, ⟨2, _⟩ => ⟨S8x2048x1408, .bf16⟩
  | .local _ .vmem, ⟨0, _⟩ => ⟨S2048x512, .bf16⟩
  | .local _ .vmem, ⟨1, _⟩ => ⟨S2048x512, .bf16⟩
  | .local _ .vmem, ⟨2, _⟩ => ⟨S1x2048x2816, .bf16⟩
  | .local _ .vmem, ⟨3, _⟩ => ⟨S1x2048x2816, .bf16⟩
  | .local _ .vmem, ⟨4, _⟩ => ⟨S2x512x1408, .bf16⟩
  | .local _ .vmem, ⟨5, _⟩ => ⟨S2x512x1408, .bf16⟩
  | .local _ .vmem, ⟨6, _⟩ => ⟨S512x2816, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32_2 : BitVec 32 := 3#32
  let v8 : BitVec 1 := Scalar.cmpi .eq arg2 c3_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwReferenceIdeal.lean ====
abbrev S8192x2048 : Shape := ⟨2, ![8192, 2048]⟩
abbrev S2x8192x5632 : Shape := ⟨3, ![2, 8192, 5632]⟩
abbrev S_ : Shape := ⟨0, ![]⟩
abbrev S2048x11264 : Shape := ⟨2, ![2048, 11264]⟩
abbrev S8192x11264 : Shape := ⟨2, ![8192, 11264]⟩
abbrev S1x8192x5632 : Shape := ⟨3, ![1, 8192, 5632]⟩
abbrev S8192x5632 : Shape := ⟨2, ![8192, 5632]⟩
abbrev S11264x2048 : Shape := ⟨2, ![11264, 2048]⟩
abbrev S2048x1408 : Shape := ⟨2, ![2048, 1408]⟩
abbrev S1x2048x1408 : Shape := ⟨3, ![1, 2048, 1408]⟩
abbrev S8x2048x1408 : Shape := ⟨3, ![8, 2048, 1408]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x8192x5632, .bf16⟩
  | .hbm, ⟨2, _⟩ => ⟨S_, .f32⟩
  | .hbm, ⟨3, _⟩ => ⟨S2048x11264, .f32⟩
  | .hbm, ⟨4, _⟩ => ⟨S8192x2048, .f32⟩
  | .hbm, ⟨5, _⟩ => ⟨S8192x11264, .f32⟩
  | .hbm, ⟨6, _⟩ => ⟨S2x8192x5632, .f32⟩
  | .hbm, ⟨7, _⟩ => ⟨S1x8192x5632, .f32⟩
  | .hbm, ⟨8, _⟩ => ⟨S8192x5632, .f32⟩
  | .hbm, ⟨9, _⟩ => ⟨S1x8192x5632, .f32⟩
  | .hbm, ⟨10, _⟩ => ⟨S8192x5632, .f32⟩
  | .hbm, ⟨11, _⟩ => ⟨S8192x11264, .f32⟩
  | .hbm, ⟨12, _⟩ => ⟨S11264x2048, .f32⟩
  | .hbm, ⟨13, _⟩ => ⟨S2048x11264, .f32⟩
  | .hbm, ⟨14, _⟩ => ⟨S2048x1408, .f32⟩
  | .hbm, ⟨15, _⟩ => ⟨S2048x1408, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S2048x1408, .f32⟩
  | .hbm, ⟨20, _⟩ => ⟨S2048x1408, .f32⟩
  | .hbm, ⟨21, _⟩ => ⟨S2048x1408, .f32⟩
  | .hbm, ⟨22, _⟩ => ⟨S1x2048x1408, .f32⟩
  | .hbm, ⟨23, _⟩ => ⟨S1x2048x1408, .f32⟩
  | .hbm, ⟨24, _⟩ => ⟨S1x2048x1408, .f32⟩
  | .hbm, ⟨25, _⟩ => ⟨S1x2048x1408, .f32⟩
  | .hbm, ⟨26, _⟩ => ⟨S1x2048x1408, .f32⟩
  | .hbm, ⟨27, _⟩ => ⟨S1x2048x1408, .f32⟩
  | .hbm, ⟨28, _⟩ => ⟨S1x2048x1408, .f32⟩
  | .hbm, ⟨29, _⟩ => ⟨S1x2048x1408, .f32⟩
  | .hbm, ⟨30, _⟩ => ⟨S8x2048x1408, .f32⟩
  | .hbm, ⟨31, _⟩ => ⟨S8x2048x1408, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩

abbrev nD : Nat := 1
abbrev τ : Topo := Topo.v7x

variable {F : FTy → Type} [FloatOps F]
-- ==== DxnKernel.lean ====
abbrev S2048x11264 : Shape := ⟨2, ![2048, 11264]⟩
abbrev S2x8192x5632 : Shape := ⟨3, ![2, 8192, 5632]⟩
abbrev S2048x8x1408 : Shape := ⟨3, ![2048, 8, 1408]⟩
abbrev S8x2048x1408 : Shape := ⟨3, ![8, 2048, 1408]⟩
abbrev S8192x2048 : Shape := ⟨2, ![8192, 2048]⟩
abbrev S1x512x2816 : Shape := ⟨3, ![1, 512, 2816]⟩
abbrev S2x2048x1408 : Shape := ⟨3, ![2, 2048, 1408]⟩
abbrev S512x2048 : Shape := ⟨2, ![512, 2048]⟩
abbrev S1x512x1408 : Shape := ⟨3, ![1, 512, 1408]⟩
abbrev S512x1408 : Shape := ⟨2, ![512, 1408]⟩
abbrev S1x2048x1408 : Shape := ⟨3, ![1, 2048, 1408]⟩
abbrev S2048x1408 : Shape := ⟨2, ![2048, 1408]⟩

abbrev nBuf : Space → Nat
  | .hbm => 6
  | .vmem => 7
  | .smem => 0
  | _ => 0

abbrev bufTy : (tb : Table) → Fin (tcTables nBuf tb) → BufTy
  | .hbm, ⟨0, _⟩ => ⟨S2048x11264, .f32⟩
  | .hbm, ⟨1, _⟩ => ⟨S2x8192x5632, .bf16⟩
  | .hbm, ⟨2, _⟩ => ⟨S2048x11264, .bf16⟩
  | .hbm, ⟨3, _⟩ => ⟨S2048x8x1408, .bf16⟩
  | .hbm, ⟨4, _⟩ => ⟨S8x2048x1408, .bf16⟩
  | .hbm, ⟨5, _⟩ => ⟨S8192x2048, .bf16⟩
  | .local _ .vmem, ⟨0, _⟩ => ⟨S1x512x2816, .bf16⟩
  | .local _ .vmem, ⟨1, _⟩ => ⟨S1x512x2816, .bf16⟩
  | .local _ .vmem, ⟨2, _⟩ => ⟨S2x2048x1408, .bf16⟩
  | .local _ .vmem, ⟨3, _⟩ => ⟨S2x2048x1408, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 4], ![false, false, false]⟩

def k0_cond3 (i : grid0.Coords) : BitVec 1 :=
  let arg2 : BitVec 32 := BitVec.ofNat 32 (i 2).val
  let c3_i32_2 : BitVec 32 := 3#32
  let v8 : BitVec 1 := Scalar.cmpi .eq arg2 c3_i32_2
  let v9 : BitVec 32 := Scalar.extui v8
  let c0_i32_3 : BitVec 32 := 0#32
  let v10 : BitVec 1 := Scalar.cmpi .ne v9 c0_i32_3
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxnReferenceIdeal.lean ====
abbrev S2048x11264 : Shape := ⟨2, ![2048, 11264]⟩
abbrev S2x8192x5632 : Shape := ⟨3, ![2, 8192, 5632]⟩
abbrev S_ : Shape := ⟨0, ![]⟩
abbrev S8192x2048 : Shape := ⟨2, ![8192, 2048]⟩
abbrev S8192x11264 : Shape := ⟨2, ![8192, 11264]⟩
abbrev S1x8192x5632 : Shape := ⟨3, ![1, 8192, 5632]⟩
abbrev S8192x5632 : Shape := ⟨2, ![8192, 5632]⟩

abbrev nBuf : Space → Nat
  | .hbm => 13
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S2x8192x5632, .bf16⟩
  | .hbm, ⟨2, _⟩ => ⟨S_, .f32⟩
  | .hbm, ⟨3, _⟩ => ⟨S8192x2048, .f32⟩
  | .hbm, ⟨4, _⟩ => ⟨S8192x11264, .f32⟩
  | .hbm, ⟨5, _⟩ => ⟨S2x8192x5632, .f32⟩
  | .hbm, ⟨6, _⟩ => ⟨S1x8192x5632, .f32⟩
  | .hbm, ⟨7, _⟩ => ⟨S8192x5632, .f32⟩
  | .hbm, ⟨8, _⟩ => ⟨S1x8192x5632, .f32⟩
  | .hbm, ⟨9, _⟩ => ⟨S8192x5632, .f32⟩
  | .hbm, ⟨10, _⟩ => ⟨S8192x11264, .f32⟩
  | .hbm, ⟨11, _⟩ => ⟨S8192x2048, .f32⟩
  | .hbm, ⟨12, _⟩ => ⟨S8192x2048, .bf16⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== AdamKernel.lean ====
abbrev S8x2048x1408 : Shape := ⟨3, ![8, 2048, 1408]⟩
abbrev S2x2048x1408 : Shape := ⟨3, ![2, 2048, 1408]⟩
abbrev S8x256x1408 : Shape := ⟨3, ![8, 256, 1408]⟩
abbrev S1x256x1408 : Shape := ⟨3, ![1, 256, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S8x2048x1408, .bf16⟩
  | .hbm, ⟨1, _⟩ => ⟨S8x2048x1408, .bf16⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S2x2048x1408, .f32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .local _ .vmem, ⟨0, _⟩ => ⟨S8x256x1408, .bf16⟩
  | .local _ .vmem, ⟨1, _⟩ => ⟨S8x256x1408, .bf16⟩
  | .local _ .vmem, ⟨2, _⟩ => ⟨S8x256x1408, .bf16⟩
  | .local _ .vmem, ⟨3, _⟩ => ⟨S8x256x1408, .bf16⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamReferenceIdeal.lean ====
abbrev S8x2048x1408 : Shape := ⟨3, ![8, 2048, 1408]⟩
abbrev S2x2048x1408 : Shape := ⟨3, ![2, 2048, 1408]⟩
abbrev S_ : Shape := ⟨0, ![]⟩
abbrev S2048x1408 : Shape := ⟨2, ![2048, 1408]⟩
abbrev S1x2048x1408 : Shape := ⟨3, ![1, 2048, 1408]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x1408, .bf16⟩
  | .hbm, ⟨1, _⟩ => ⟨S8x2048x1408, .bf16⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S8x2048x1408, .f32⟩
  | .hbm, ⟨6, _⟩ => ⟨S_, .f32⟩
  | .hbm, ⟨7, _⟩ => ⟨S2048x1408, .f32⟩
  | .hbm, ⟨8, _⟩ => ⟨S8x2048x1408, .f32⟩
  | .hbm, ⟨9, _⟩ => ⟨S_, .f32⟩
  | .hbm, ⟨10, _⟩ => ⟨S2048x1408, .f32⟩
  | .hbm, ⟨11, _⟩ => ⟨S1x2048x1408, .f32⟩
  | .hbm, ⟨12, _⟩ => ⟨S1x2048x1408, .f32⟩
  | .hbm, ⟨13, _⟩ => ⟨S2x2048x1408, .f32⟩
  | .hbm, ⟨14, _⟩ => ⟨S_, .f32⟩
  | .hbm, ⟨15, _⟩ => ⟨S2x2048x1408, .f32⟩
  | .hbm, ⟨16, _⟩ => ⟨S2x2048x1408, .f32⟩
  | .hbm, ⟨17, _⟩ => ⟨S_, .f32⟩
  | .hbm, ⟨18, _⟩ => ⟨S2x2048x1408, .f32⟩
  | .hbm, ⟨19, _⟩ => ⟨S2x2048x1408, .f32⟩
  | .hbm, ⟨20, _⟩ => ⟨S2x2048x1408, .f32⟩
  | .hbm, ⟨21, _⟩ => ⟨S_, .f32⟩
  | .hbm, ⟨22, _⟩ => ⟨S2x2048x1408, .f32⟩
  | .hbm, ⟨23, _⟩ => ⟨S2x2048x1408, .f32⟩
  | .hbm, ⟨24, _⟩ => ⟨S2x2048x1408, .f32⟩
  | .hbm, ⟨25, _⟩ => ⟨S_, .f32⟩
  | .hbm, ⟨26, _⟩ => ⟨S2x2048x1408, .f32⟩
  | .hbm, ⟨27, _⟩ => ⟨S2x2048x1408, .f32⟩
  | .hbm, ⟨28, _⟩ => ⟨S2x2048x1408, .f32⟩
  | .hbm, ⟨29, _⟩ => ⟨S_, .f32⟩
  | .hbm, ⟨30, _⟩ => ⟨S2x2048x1408, .f32⟩
  | .hbm, ⟨31, _⟩ => ⟨S2x2048x1408, .f32⟩
  | .hbm, ⟨32, _⟩ => ⟨S_, .f32⟩
  | .hbm, ⟨33, _⟩ => ⟨S2x2048x1408, .f32⟩
  | .hbm, ⟨34, _⟩ => ⟨S2x2048x1408, .f32⟩
  | .hbm, ⟨35, _⟩ => ⟨S2x2048x1408, .f32⟩
  | .hbm, ⟨36, _⟩ => ⟨S_, .f32⟩
  | .hbm, ⟨37, _⟩ => ⟨S2x2048x1408, .f32⟩
  | .hbm, ⟨38, _⟩ => ⟨S2x2048x1408, .f32⟩
  | .hbm, ⟨39, _⟩ => ⟨S2x2048x1408, .f32⟩
  | .hbm, ⟨40, _⟩ => ⟨S_, .f32⟩
  | .hbm, ⟨41, _⟩ => ⟨S2x2048x1408, .f32⟩
  | .hbm, ⟨42, _⟩ => ⟨S2x2048x1408, .f32⟩
  | .hbm, ⟨43, _⟩ => ⟨S2x2048x1408, .f32⟩
  | .hbm, ⟨44, _⟩ => ⟨S_, .f32⟩
  | .hbm, ⟨45, _⟩ => ⟨S2x2048x1408, .f32⟩
  | .hbm, ⟨46, _⟩ => ⟨S2x2048x1408, .f32⟩
  | _, _ => ⟨S8x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== FlatKernel.lean ====
abbrev S1248x128 : Shape := ⟨2, ![1248, 128]⟩

abbrev nBuf : Space → Nat
  | .hbm => 7
  | .vmem => 7
  | .smem => 0
  | _ => 0

abbrev bufTy : (tb : Table) → Fin (tcTables nBuf tb) → BufTy
  | .hbm, ⟨0, _⟩ => ⟨S1248x128, .f32⟩
  | .hbm, ⟨1, _⟩ => ⟨S1248x128, .f32⟩
  | .hbm, ⟨2, _⟩ => ⟨S1248x128, .f32⟩
  | .hbm, ⟨3, _⟩ => ⟨S1248x128, .f32⟩
  | .hbm, ⟨4, _⟩ => ⟨S1248x128, .f32⟩
  | .hbm, ⟨5, _⟩ => ⟨S1248x128, .f32⟩
  | .hbm, ⟨6, _⟩ => ⟨S1248x128, .f32⟩
  | .local _ .vmem, ⟨0, _⟩ => ⟨S1248x128, .f32⟩
  | .local _ .vmem, ⟨1, _⟩ => ⟨S1248x128, .f32⟩
  | .local _ .vmem, ⟨2, _⟩ => ⟨S1248x128, .f32⟩
  | .local _ .vmem, ⟨3, _⟩ => ⟨S1248x128, .f32⟩
  | .local _ .vmem, ⟨4, _⟩ => ⟨S1248x128, .f32⟩
  | .local _ .vmem, ⟨5, _⟩ => ⟨S1248x128, .f32⟩
  | .local _ .vmem, ⟨6, _⟩ => ⟨S1248x128, .f32⟩
  | _, _ => ⟨S1248x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1248x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1248x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1248x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1248x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1248x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1248x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1248x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== FlatReferenceIdeal.lean ====
abbrev S1248x128 : Shape := ⟨2, ![1248, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1248x128, .f32⟩
  | .hbm, ⟨1, _⟩ => ⟨S1248x128, .f32⟩
  | .hbm, ⟨2, _⟩ => ⟨S1248x128, .f32⟩
  | .hbm, ⟨3, _⟩ => ⟨S1248x128, .f32⟩
  | .hbm, ⟨4, _⟩ => ⟨S_, .f32⟩
  | .hbm, ⟨5, _⟩ => ⟨S1248x128, .f32⟩
  | .hbm, ⟨6, _⟩ => ⟨S1248x128, .f32⟩
  | .hbm, ⟨7, _⟩ => ⟨S_, .f32⟩
  | .hbm, ⟨8, _⟩ => ⟨S1248x128, .f32⟩
  | .hbm, ⟨9, _⟩ => ⟨S1248x128, .f32⟩
  | .hbm, ⟨10, _⟩ => ⟨S1248x128, .f32⟩
  | .hbm, ⟨11, _⟩ => ⟨S_, .f32⟩
  | .hbm, ⟨12, _⟩ => ⟨S1248x128, .f32⟩
  | .hbm, ⟨13, _⟩ => ⟨S1248x128, .f32⟩
  | .hbm, ⟨14, _⟩ => ⟨S1248x128, .f32⟩
  | .hbm, ⟨15, _⟩ => ⟨S_, .f32⟩
  | .hbm, ⟨16, _⟩ => ⟨S1248x128, .f32⟩
  | .hbm, ⟨17, _⟩ => ⟨S1248x128, .f32⟩
  | .hbm, ⟨18, _⟩ => ⟨S1248x128, .f32⟩
  | .hbm, ⟨19, _⟩ => ⟨S_, .f32⟩
  | .hbm, ⟨20, _⟩ => ⟨S1248x128, .f32⟩
  | .hbm, ⟨21, _⟩ => ⟨S1248x128, .f32⟩
  | .hbm, ⟨22, _⟩ => ⟨S_, .f32⟩
  | .hbm, ⟨23, _⟩ => ⟨S1248x128, .f32⟩
  | .hbm, ⟨24, _⟩ => ⟨S1248x128, .f32⟩
  | .hbm, ⟨25, _⟩ => ⟨S1248x128, .f32⟩
  | .hbm, ⟨26, _⟩ => ⟨S_, .f32⟩
  | .hbm, ⟨27, _⟩ => ⟨S1248x128, .f32⟩
  | .hbm, ⟨28, _⟩ => ⟨S1248x128, .f32⟩
  | .hbm, ⟨29, _⟩ => ⟨S1248x128, .f32⟩
  | .hbm, ⟨30, _⟩ => ⟨S_, .f32⟩
  | .hbm, ⟨31, _⟩ => ⟨S1248x128, .f32⟩
  | .hbm, ⟨32, _⟩ => ⟨S1248x128, .f32⟩
  | .hbm, ⟨33, _⟩ => ⟨S1248x128, .f32⟩
  | .hbm, ⟨34, _⟩ => ⟨S_, .f32⟩
  | .hbm, ⟨35, _⟩ => ⟨S1248x128, .f32⟩
  | .hbm, ⟨36, _⟩ => ⟨S1248x128, .f32⟩
  | _, _ => ⟨S1248x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.GainValue.lean ====
/- The gain's gradient of a norm over the memory tokens: what the kernel leaves in its result, and that it is what the
   derivative of the reference's norm in its gain computes. Every row is scaled by the reciprocal root of its mean
   square, multiplied by the cotangent, and the rows are summed; both programs compute this, the reference with an
   extra sum over an axis of length one. -/
module

public import proofs.«01_k».proof.Proof.Gen.GainKernelIdeal.Value
public import proofs.«01_k».proof.Proof.Gen.GainReferenceIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GainKernelIdeal.Value

open Cert.GainKernelIdeal Cert.GainKernelIdeal.Gen

variable (m : (ℓ : Loc nD τ sig) → Buf (Elt Ideal) ℓ)

/-- The windows' block indices at the one grid point. -/
theorem idx : ∀ t : Fin cfg0.N, win0_0.index t = ![0, 0] ∧ win0_1.index t = ![0, 0] ∧ win0_2.index t = ![0, 0] :=
  (by decide +kernel : ∀ t : Fin grid0.N, _)

/-- The result is the body's one stored value, read at the whole arguments. -/
theorem final (c : Dev nD) : (dats m 0 c).arrAt 2 (cfgs 0).N
    = k0_pay1 (F := Ideal) (m ((c : Thread nD τ).loc main_arg0)) (m ((c : Thread nD τ).loc main_arg1)) := by
  refine (dats m 0 c).arrAt_eq_of_after_last 2 t0_0 (by decide +kernel) _ fun j => ?_
  blk_simp
  rw [after0_2]
  unfold Gen.outsAt0
  frame_out
  blk_point [iblk, V, idx t0_0]

/-- The stored value is the reference's term. -/
theorem pay_eq (x dxn : FVec Ideal S256x2048 .f32) :
    k0_pay1 (F := Ideal) x dxn = Cert.GainReferenceIdeal.Read.val_main_v18 (F := Ideal) x dxn := by
  rw [← Cert.GainReferenceIdeal.Read.val_main_v18_eq]
  funext j
  pointwise [k0_pay1]
  refine Eq.trans ?_ (Fin.sum_univ_one _).symm
  exact Finset.sum_congr rfl fun i _ => mul_comm _ _

end Cert.GainKernelIdeal.Value

end
-- ==== Proof.GainClaim.lean ====
/- Kernel and reference end with the same gain gradient of the memory norm. -/
module

public import proofs.«01_k».proof.Defs
public import proofs.«01_k».proof.Proof.GainValue
public import Idealize.ShloMosaic.Lib.Claim

@[expose] public section

noncomputable section

open Idealize.ShloMosaic Idealize.SL.Sem

namespace Cert.GainClaim

theorem claim : Cert.algebraic_GainKernelIdeal_GainReferenceIdeal := by
  pair_intro
  · run_from Cert.GainKernelIdeal.Value.run_blocks m g
  · run_from Cert.GainReferenceIdeal.Value.run m' g'
    rw [Cert.GainKernelIdeal.Value.final m c, Cert.GainKernelIdeal.Value.pay_eq, ← Cert.GainReferenceIdeal.Read.val_main_v18_eq]

end Cert.GainClaim

end
-- ==== Proof.Reals.lean ====
/- Extended reals that are real: the operations of the ideal model on real numbers are the real operations, the literals
   of the programs are the rationals their words denote, and a precondition that all values of an array are finite gives
   an array of reals. With these an equation between extended reals becomes one between reals, where the ring laws hold. -/
module

public import Idealize.ShloMosaic.Lib.Pipeline.ValueKit
public import Idealize.ShloMosaic.Lib.Pointwise
public import Idealize.ShloMosaic.Lib.ReduceAll
public import Idealize.ShloMosaic.PureOps.Ideal

@[expose] public section

noncomputable section

open Idealize.ShloMosaic

namespace Cert.Reals

/-- A sum of reals, taken in the extended reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_coe (a : ℝ) {b : ℝ} (h : b ≠ 0) : Ideal.div (a : EReal) (b : EReal) = ((a / b : ℝ) : EReal) := by
  rw [Ideal.div_coe h, ← EReal.coe_mul, mul_one_div]

theorem rsqrt_coe {r : ℝ} (h : 0 < r) : Ideal.rsqrt (r : EReal) = (((Real.sqrt r)⁻¹ : ℝ) : EReal) := by
  show (if r < 0 then ⊥ else if r = 0 then ⊤ else (((Real.sqrt r)⁻¹ : ℝ) : EReal)) = _
  rw [if_neg h.le.not_gt, if_neg h.ne']

theorem exp_coe (r : ℝ) : Ideal.exp (r : EReal) = ((Real.exp r : ℝ) : EReal) := rfl

/-! ## Literals -/

theorem lit_zero : Ideal.ofBits .f32 0#32 = ((0 : ℝ) : EReal) := by simp [Ideal.ofBits, Ideal.ieee]
theorem lit_one : Ideal.ofBits .f32 1065353216#32 = ((1 : ℝ) : EReal) := by simp [Ideal.ofBits, Ideal.ieee, -EReal.coe_mul]; norm_num
theorem lit_neg_half : Ideal.ofBits .f32 3204448256#32 = ((-(1 / 2) : ℝ) : EReal) := by simp [Ideal.ofBits, Ideal.ieee, -EReal.coe_mul]; norm_num
theorem lit_half : Ideal.ofBits .f32 1056964608#32 = ((1 / 2 : ℝ) : EReal) := by simp [Ideal.ofBits, Ideal.ieee, -EReal.coe_mul]; norm_num
theorem lit_2048 : Ideal.ofBits .f32 1157627904#32 = ((2048 : ℝ) : EReal) := by simp [Ideal.ofBits, Ideal.ieee, -EReal.coe_mul]; norm_num
theorem lit_two : Ideal.ofBits .f32 1073741824#32 = ((2 : ℝ) : EReal) := by simp [Ideal.ofBits, Ideal.ieee, -EReal.coe_mul]; norm_num
theorem lit_inv_2048 : Ideal.ofBits .f32 973078528#32 = ((1 / 2048 : ℝ) : EReal) := by simp [Ideal.ofBits, Ideal.ieee, -EReal.coe_mul]; norm_num
/-- The norm's small constant, the float nearest to a millionth. -/
def rmsEps : ℝ := 8796093 / 2 ^ 43
theorem rmsEps_pos : 0 < rmsEps := by unfold rmsEps; positivity
theorem lit_rmsEps : Ideal.ofBits .f32 897988541#32 = ((rmsEps : ℝ) : EReal) := by simp [Ideal.ofBits, Ideal.ieee, rmsEps, -EReal.coe_mul]; norm_num

/-! ## Finite values -/

/-- A value whose magnitude is below infinity is real. -/
theorem real_of_lt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

/-- An array all of whose values are real is an array of reals. -/
theorem real_array {ι : Type} (x : ι → EReal) (h : ∀ i, ∃ r : ℝ, x i = r) : ∃ X : ι → ℝ, ∀ i, x i = ((X i : ℝ) : EReal) :=
  ⟨fun i => (h i).choose, fun i => (h i).choose_spec⟩

/-- The precondition's test over a whole array, read back. -/
theorem real_of_all {s t u : Shape} {axes : List (Fin s.rank)} [Subsingleton t.Idx] (x : FVec Ideal s .f32) (c : FVec Ideal s .f32)
    (hc : ∀ i, c i = Ideal.ofBits .f32 0x7F800000#32) (init : u.Idx → BitVec 1) (h : s.ReducesTo axes t) (hu : 0 < u.numel) (j : t.Idx)
    (e : Host.reduce IntOp.andi (cmpf .olt (Host.absf x) c) init h hu j = 1#1) : ∃ X : s.Idx → ℝ, ∀ i, x i = ((X i : ℝ) : EReal) :=
  real_array x fun i => real_of_lt _ (by
    have h1 := Host.reduce_andi_all _ init h hu j e i
    rw [← hc i]
    exact h1)

end Cert.Reals

end
-- ==== Proof.Rms.lean ====
/- A norm's backward pass on one row of reals, in the two forms the programs print it, and that the forms are equal: the
   kernels' `r·(h − x̂·mean(h·x̂))`, and the reference's derivative, product by product and through the mean. -/
module

public import proofs.«01_k».proof.Proof.Reals

@[expose] public section

noncomputable section

open Idealize.ShloMosaic

namespace Cert.Rms

open Cert.Reals

/-- The mean square of a row plus the small constant. -/
def ms (X : Fin 2048 → ℝ) : ℝ := (∑ k, X k * X k) / 2048 + rmsEps
/-- Its reciprocal root. -/
def rstd (X : Fin 2048 → ℝ) : ℝ := (Real.sqrt (ms X))⁻¹
/-- The gradient of the row from the gradient `H` of the normalised row, as the kernels write it. -/
def back (X H : Fin 2048 → ℝ) (j : Fin 2048) : ℝ := rstd X * (H j - X j * rstd X * ((∑ k, H k * (X k * rstd X)) / 2048))

theorem ms_pos (X : Fin 2048 → ℝ) : 0 < ms X :=
  add_pos_of_nonneg_of_pos (div_nonneg (Finset.sum_nonneg fun k _ => mul_self_nonneg _) (by norm_num)) rmsEps_pos

theorem ms_fold (X : Fin 2048 → ℝ) : (∑ k, X k * X k) / 2048 + rmsEps = ms X := rfl

theorem rstd_coe (X : Fin 2048 → ℝ) : Ideal.rsqrt ((ms X : ℝ) : EReal) = ((rstd X : ℝ) : EReal) := rsqrt_coe (ms_pos X)

theorem div_2048 (a : ℝ) : Ideal.div (a : EReal) ((2048 : ℝ) : EReal) = ((a / 2048 : ℝ) : EReal) := div_coe a (by norm_num)
theorem div_ms (a : ℝ) (X : Fin 2048 → ℝ) : Ideal.div (a : EReal) ((ms X : ℝ) : EReal) = ((a / ms X : ℝ) : EReal) := div_coe a (ms_pos X).ne'

theorem rstd_sq (X : Fin 2048 → ℝ) : rstd X / ms X = rstd X ^ 3 := by
  have h := Real.sq_sqrt (ms_pos X).le
  have hs : Real.sqrt (ms X) ≠ 0 := (Real.sqrt_pos.2 (ms_pos X)).ne'
  unfold rstd
  nth_rewrite 2 [← h]
  field_simp

/-- The reference's derivative of the norm at a row is the kernels' gradient. -/
theorem back_eq (X H : Fin 2048 → ℝ) (j : Fin 2048) :
    H j * rstd X + (X j * (((∑ k, X k * H k) * (-(1 / 2) * (rstd X / ms X))) / 2048) + ((∑ k, X k * H k) * (-(1 / 2) * (rstd X / ms X))) / 2048 * X j)
      = back X H j := by
  have h : ∑ k, H k * (X k * rstd X) = (∑ k, X k * H k) * rstd X := by
    rw [Finset.sum_mul]; exact Finset.sum_congr rfl fun k _ => by ring
  unfold back
  rw [h, rstd_sq]
  ring

end Cert.Rms

end
-- ==== Proof.NormValue.lean ====
/- A norm's backward pass with its residual: what the kernel leaves in its three results, and that this is what the
   reference's derivative computes. At a row of reals the two forms of the gradient agree (`Rms.back_eq`); the gain's
   gradient is the same sum, taken by the kernel in sixteen blocks of rows. -/
module

public import proofs.«01_k».proof.Proof.Gen.NormKernelIdeal.Value
public import proofs.«01_k».proof.Proof.Gen.NormReferenceIdeal.Read
public import Idealize.ShloMosaic.Lib.Pipeline.ValueKit
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.NormKernelIdeal.Value

open Cert.NormKernelIdeal Cert.NormKernelIdeal.Gen

variable (m : (ℓ : Loc nD τ sig) → Buf (Elt Ideal) ℓ)

/-- The windows' block indices at a grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

open Cert.Reals

/-- The kernel's gradient at a row of a block, the row real: the residual is added last. -/
theorem dx_ker (xb : FVec Ideal S512x2048 .f32) (yb : FVec Ideal S512x2048 .bf16) (gb : FVec Ideal S1x2048 .f32)
    (db : FVec Ideal S512x2048 .f32) (X Y G : Fin 2048 → ℝ) (a : Fin 512) (b : Fin 2048)
    (hx : ∀ k, xb (ix2 a k) = ((X k : ℝ) : EReal)) (hy : ∀ k, yb (ix2 a k) = ((Y k : ℝ) : EReal))
    (hg : ∀ k, gb (ix2 0 k) = ((G k : ℝ) : EReal)) :
    k0_pay5 (F := Ideal) xb yb gb db (ix2 a b) = ((Rms.back X (fun k => Y k * G k) b : ℝ) : EReal) + db (ix2 a b) := by
  pointwise [k0_pay5, k0_pay3, k0_pay4, k0_pay2]
  simp only [hx, hy, hg, lit_2048, lit_rmsEps, ← EReal.coe_mul, sum_coe, Rms.div_2048, ← EReal.coe_add, Rms.ms_fold, Rms.rstd_coe,
    ← EReal.coe_sub]
  rfl

/-- The reference's gradient at a row, the row real. -/
theorem dx_ref (x : FVec Ideal S8192x2048 .f32) (g : FVec Ideal S2048 .f32) (y : FVec Ideal S8192x2048 .bf16)
    (d : FVec Ideal S8192x2048 .f32) (X Y G : Fin 2048 → ℝ) (a : Fin 8192) (b : Fin 2048)
    (hx : ∀ k, x (ix2 a k) = ((X k : ℝ) : EReal)) (hy : ∀ k, y (ix2 a k) = ((Y k : ℝ) : EReal))
    (hg : ∀ k, g (ix1 k) = ((G k : ℝ) : EReal)) :
    Cert.NormReferenceIdeal.Read.val_main_v37 (F := Ideal) x g y d (ix2 a b)
      = ((Rms.back X (fun k => Y k * G k) b : ℝ) : EReal) + d (ix2 a b) := by
  rw [← Cert.NormReferenceIdeal.Read.val_main_v37_eq]
  pointwise
  simp only [hx, hy, hg, lit_2048, lit_rmsEps, lit_neg_half, Fin.sum_univ_one, ← EReal.coe_mul, sum_coe, Rms.div_2048, ← EReal.coe_add,
    Rms.ms_fold, Rms.rstd_coe, Rms.div_ms]
  rw [add_assoc, add_assoc, ← EReal.coe_add, add_comm (d _), ← EReal.coe_add, Rms.back_eq X (fun k => Y k * G k) b]

variable (c : Dev nD) (X Y : S8192x2048.Idx → ℝ) (G : S2048.Idx → ℝ)

/-- The array row a block's row is. -/
def row (t : Fin cfg0.N) (a : Fin 512) : Fin 8192 :=
  ⟨512 * t.val + a.val, by have h := lt_of_lt_of_eq t.isLt N_0; have := a.isLt; omega⟩

theorem blk0 (t : Fin cfg0.N) (a : Fin 512) (k : Fin 2048) :
    iblk m c 0 t (ix2 a k) = m ((c : Thread nD τ).loc main_arg0) (ix2 (row t a) k) := by
  blk_ext [iblk, V, idx t, row]
theorem blk1 (t : Fin cfg0.N) (k : Fin 2048) :
    iblk m c 1 t (ix2 0 k) = m ((c : Thread nD τ).loc main_arg1) (ix1 k) := by
  blk_simp [iblk]
  entry_read
  pointwise
  blk_ext [idx t]
theorem blk2 (t : Fin cfg0.N) (a : Fin 512) (k : Fin 2048) :
    iblk m c 2 t (ix2 a k) = m ((c : Thread nD τ).loc main_arg2) (ix2 (row t a) k) := by
  blk_ext [iblk, V, idx t, row]
theorem blk3 (t : Fin cfg0.N) (a : Fin 512) (k : Fin 2048) :
    iblk m c 3 t (ix2 a k) = m ((c : Thread nD τ).loc main_arg3) (ix2 (row t a) k) := by
  blk_ext [iblk, V, idx t, row]

section Final

variable (hX : ∀ i, m ((c : Thread nD τ).loc main_arg0) i = ((X i : ℝ) : EReal))
  (hG : ∀ i, m ((c : Thread nD τ).loc main_arg1) i = ((G i : ℝ) : EReal))
  (hY : ∀ i, m ((c : Thread nD τ).loc main_arg2) i = ((Y i : ℝ) : EReal))

include hX hG hY

/-- What the body computes at a row of a block is the reference's gradient at that row of the array. -/
theorem point (t : Fin cfg0.N) (a : Fin 512) (b : Fin 2048) :
    k0_pay5 (F := Ideal) (iblk m c 0 t) (iblk m c 2 t) (iblk m c 1 t) (iblk m c 3 t) (ix2 a b)
      = Cert.NormReferenceIdeal.Read.val_main_v37 (F := Ideal) (m ((c : Thread nD τ).loc main_arg0)) (m ((c : Thread nD τ).loc main_arg1))
          (m ((c : Thread nD τ).loc main_arg2)) (m ((c : Thread nD τ).loc main_arg3)) (ix2 (row t a) b) := by
  rw [dx_ker _ _ _ _ (fun k => X (ix2 (row t a) k)) (fun k => Y (ix2 (row t a) k)) (fun k => G (ix1 k)) a b
      (fun k => by rw [blk0, hX]) (fun k => by rw [blk2, hY]) (fun k => by rw [blk1, hG]),
    dx_ref _ _ _ _ (fun k => X (ix2 (row t a) k)) (fun k => Y (ix2 (row t a) k)) (fun k => G (ix1 k)) (row t a) b
      (fun k => hX _) (fun k => hY _) (fun k => hG _), blk3]

theorem point' (t : Fin cfg0.N) (y : S512x2048.Idx) :
    k0_pay5 (F := Ideal) (iblk m c 0 t) (iblk m c 2 t) (iblk m c 1 t) (iblk m c 3 t) y
      = Cert.NormReferenceIdeal.Read.val_main_v37 (F := Ideal) (m ((c : Thread nD τ).loc main_arg0)) (m ((c : Thread nD τ).loc main_arg1))
          (m ((c : Thread nD τ).loc main_arg2)) (m ((c : Thread nD τ).loc main_arg3)) (ix2 (row t (y 0)) (y 1)) := by
  rw [eq_ix2 y]
  exact point m c X Y G hX hG hY t (y 0) (y 1)

/-- The gradient of the input. -/
theorem final4 : (dats m 0 c).arrAt 4 (cfgs 0).N
    = Cert.NormReferenceIdeal.Read.val_main_v37 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4, show (win0_4.blk t).view.emb y = ix2 (row t (y 0)) (y 1) by blk_ext [idx t, row]]
  have hN := lt_of_lt_of_eq t.isLt N_0
  by_cases h : t.val % 16 = 0
  · rw [outsAt0_A m c t h (by omega)]
    frame_out
    exact point' m c X Y G hX hG hY t y
  · rw [outsAt0_B m c t h (by omega)]
    frame_out
    exact point' m c X Y G hX hG hY t y

/-- Half of it, for the branch. -/
theorem final5 : (dats m 0 c).arrAt 5 (cfgs 0).N
    = Cert.NormReferenceIdeal.Read.val_main_v40 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  blk_simp
  rw [after0_5, show (win0_5.blk t).view.emb y = ix2 (row t (y 0)) (y 1) by blk_ext [idx t, row]]
  have hN := lt_of_lt_of_eq t.isLt N_0
  have e : k0_pay6 (F := Ideal) (iblk m c 0 t) (iblk m c 2 t) (iblk m c 1 t) (iblk m c 3 t) y
      = Cert.NormReferenceIdeal.Read.val_main_v40 (F := Ideal) (m ((c : Thread nD τ).loc main_arg0)) (m ((c : Thread nD τ).loc main_arg1))
        (m ((c : Thread nD τ).loc main_arg2)) (m ((c : Thread nD τ).loc main_arg3)) (ix2 (row t (y 0)) (y 1)) := by
    refine Eq.trans ?_ (congrArg (Ideal.ofBits .f32 1056964608#32 * ·) (point' m c X Y G hX hG hY t y))
    pointwise [k0_pay6]
  by_cases h : t.val % 16 = 0
  · rw [outsAt0_A m c t h (by omega)]
    frame_out
    exact e
  · rw [outsAt0_B m c t h (by omega)]
    frame_out
    exact e

end Final

/-- The gain's gradient: the sum over the rows, block by block. -/
theorem final6 : (dats m 0 c).arrAt 6 (cfgs 0).N
    = Cert.NormReferenceIdeal.Read.val_main_v41 (F := Ideal) (m ((c : Thread nD τ).loc main_arg0)) (m ((c : Thread nD τ).loc main_arg2)) := by
  refine (dats m 0 c).arrAt_eq_of_after_last 6 t0_15 (by decide +kernel) _ fun j => ?_
  blk_simp
  rw [after0_6, Pipeline.eq_sum_fin_of_reset_step_apply_last (fun n h => (outsAt0 m c n h).2.2) 16 (fun _ => 0)
    (fun t j => k0_pay7 (F := Ideal) (iblk m c 0 t) (iblk m c 2 t) j)
    (fun t h j => by
      have hN := lt_of_lt_of_eq t.isLt N_0
      rw [outsAt0_A m c t h (by omega)]; frame_out; rw [zero_add])
    (fun t h j => by
      have hN := lt_of_lt_of_eq t.isLt N_0
      rw [outsAt0_B m c t h (by omega)]; frame_out; pointwise [k0_pay1])
    (le_of_eq N_0) t0_15 rfl j, zero_add, ← Cert.NormReferenceIdeal.Read.val_main_v41_eq]
  pointwise [k0_pay7, k0_pay4, k0_pay3, k0_pay2]
  show (_ : EReal) = _
  refine Eq.trans ?_ (Fin.sum_univ_one _).symm
  refine Fin.sum_mul_add_congr fun t k hl => ?_
  blk_point [iblk, V, idx t]

end Cert.NormKernelIdeal.Value
end
-- ==== Proof.NormClaim.lean ====
/- Kernel and reference end with the same gradients of a norm, for real inputs, gains and cotangents. -/
module

public import proofs.«01_k».proof.Defs
public import proofs.«01_k».proof.Proof.NormValue
public import proofs.«01_k».proof.Proof.Gen.Pre_norm_finite
public import Idealize.ShloMosaic.Lib.Claim

@[expose] public section

noncomputable section

open Idealize.ShloMosaic Idealize.SL.Sem

namespace Cert.NormClaim

open Cert.NormKernelIdeal

/-- What the precondition says: the input, the gain and the cotangent are arrays of reals. -/
theorem reals (x : FVec Ideal Cert.Pre_norm_finite.S8192x2048 .f32) (g : FVec Ideal Cert.Pre_norm_finite.S2048 .f32)
    (y : FVec Ideal Cert.Pre_norm_finite.S8192x2048 .bf16) (d : FVec Ideal Cert.Pre_norm_finite.S8192x2048 .f32)
    (h : Cert.Pre_norm_finite.fn (F := Ideal) x g y d = fun _ => 1#1) :
    (∃ X : Cert.Pre_norm_finite.S8192x2048.Idx → ℝ, ∀ i, x i = ((X i : ℝ) : EReal))
    ∧ (∃ G : Cert.Pre_norm_finite.S2048.Idx → ℝ, ∀ i, g i = ((G i : ℝ) : EReal))
    ∧ (∃ Y : Cert.Pre_norm_finite.S8192x2048.Idx → ℝ, ∀ i, y i = ((Y i : ℝ) : EReal)) := by
  have h0 := congrFun h (fun a => a.elim0)
  obtain ⟨h1, h2⟩ := IntOp.andi_eq_one.1 h0
  obtain ⟨h3, h4⟩ := IntOp.andi_eq_one.1 h1
  haveI : Subsingleton Cert.Pre_norm_finite.S_.Idx := ⟨fun a b => funext fun i => i.elim0⟩
  exact ⟨Reals.real_of_all _ _ (fun i => rfl) _ _ _ _ h3, Reals.real_of_all _ _ (fun i => rfl) _ _ _ _ h4,
    Reals.real_of_all _ _ (fun i => rfl) _ _ _ _ h2⟩

theorem claim : Cert.algebraic_NormKernelIdeal_NormReferenceIdeal_pre_norm_finite := by
  pair_intro
  · run_from Cert.NormKernelIdeal.Value.run_blocks m g
  · obtain ⟨⟨X, hX⟩, ⟨G, hG⟩, Y, hY⟩ := reals _ _ _ _ (hpre 0)
    run_from Cert.NormReferenceIdeal.Value.run m' g'
    all_goals obtain rfl : c = 0 := Subsingleton.elim _ _
    · rw [Cert.NormKernelIdeal.Value.final4 m 0 X Y G hX hG hY, ← Cert.NormReferenceIdeal.Read.val_main_v37_eq]
    · rw [Cert.NormKernelIdeal.Value.final5 m 0 X Y G hX hG hY]
      rw [Cert.NormReferenceIdeal.Read.val_main_v40_eq, (hagree 0).1, (hagree 0).2.1, (hagree 0).2.2.1, (hagree 0).2.2.2]
    · rw [Cert.NormKernelIdeal.Value.final6 m 0, ← Cert.NormReferenceIdeal.Read.val_main_v41_eq]

end Cert.NormClaim

end
-- ==== Proof.LossValue.lean ====
/- The loss head: the kernel's loss, its gradient of the input and of the gain, and that these are what the reference's
   loss and derivative compute. At a row of reals both are written with the row's error `x̂·g − t`; the loss and the gain's
   gradient are sums over the rows, taken by the kernel in thirty-two blocks. -/
module

public import proofs.«01_k».proof.Proof.Gen.LossKernelIdeal.Value
public import proofs.«01_k».proof.Proof.Gen.LossReferenceIdeal.Read
public import Idealize.ShloMosaic.Lib.Pipeline.ValueKit
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.LossKernelIdeal.Value

open Cert.LossKernelIdeal Cert.LossKernelIdeal.Gen
open Cert.Reals

variable (m : (ℓ : Loc nD τ sig) → Buf (Elt Ideal) ℓ)

/-- The windows' block indices at a grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-! ## One row of reals -/

/-- The row's error: the normalised row, scaled by the gain, less the target. -/
def err (X G T : Fin 2048 → ℝ) (k : Fin 2048) : ℝ := X k * Rms.rstd X * G k - T k
/-- The row's loss. -/
def rowLoss (X G T : Fin 2048 → ℝ) : ℝ := (∑ k, err X G T k * err X G T k) / 2048
/-- The gradient of the normalised row. -/
def grad (X G T : Fin 2048 → ℝ) (k : Fin 2048) : ℝ := err X G T k * (1 / 2048) * G k

theorem err_fold (X G T : Fin 2048 → ℝ) (k : Fin 2048) : X k * Rms.rstd X * G k - T k = err X G T k := rfl

theorem grad_ref (X G T : Fin 2048 → ℝ) (k : Fin 2048) : 1 / 2 / 2048 * (2 * err X G T k) * G k = grad X G T k := by
  unfold grad; ring

section Row

variable (X G T : Fin 2048 → ℝ)

theorem dx_ker (xb tb : FVec Ideal S256x2048 .f32) (gb : FVec Ideal S1x2048 .f32) (a : Fin 256) (b : Fin 2048)
    (hx : ∀ k, xb (ix2 a k) = ((X k : ℝ) : EReal)) (hg : ∀ k, gb (ix2 0 k) = ((G k : ℝ) : EReal))
    (ht : ∀ k, tb (ix2 a k) = ((T k : ℝ) : EReal)) :
    k0_pay1 (F := Ideal) (k0_pay6 xb) (k0_pay7 xb) (k0_pay12 xb gb tb) (k0_pay13 xb gb tb) (ix2 a b)
      = ((Rms.back X (grad X G T) b : ℝ) : EReal) := by
  pointwise [k0_pay1, k0_pay6, k0_pay7, k0_pay12, k0_pay13, k0_pay11, k0_pay5, k0_pay8]
  simp only [hx, hg, ht, lit_2048, lit_rmsEps, lit_inv_2048, ← EReal.coe_mul, sum_coe, Rms.div_2048, ← EReal.coe_add, Rms.ms_fold,
    Rms.rstd_coe, ← EReal.coe_sub]
  rfl

open Cert.LossReferenceIdeal.Read in
theorem dx_ref (x t : FVec Ideal S8192x2048 .f32) (g : FVec Ideal S2048 .f32) (a : Fin 8192) (b : Fin 2048)
    (hx : ∀ k, x (ix2 a k) = ((X k : ℝ) : EReal)) (hg : ∀ k, g (ix1 k) = ((G k : ℝ) : EReal))
    (ht : ∀ k, t (ix2 a k) = ((T k : ℝ) : EReal)) :
    val_main_v50 (F := Ideal) x g t (ix2 a b) = ((Rms.back X (grad X G T) b : ℝ) : EReal) := by
  pointwise [val_main_v0, val_main_cst, val_main_v1, val_main_v2, val_main_cst_0, val_main_v3, val_main_v4, val_main_cst_1, val_main_v5,
      val_main_v6, val_main_v7, val_main_v8, val_main_cst_2, val_main_v9, val_main_v10, val_main_v11, val_main_v12, val_main_v13,
      val_main_v14, val_main_v15, val_main_v16, val_main_v17, val_main_cst_3, val_main_v18, val_main_v19, val_main_cst_4,
      val_main_v20, val_main_cst_5, val_main_v21, val_main_v22, val_main_cst_6, val_main_v23, val_main_cst_7, val_main_v24,
      val_main_cst_8, val_main_cst_9, val_main_v25, val_main_v26, val_main_cst_10, val_main_v27, val_main_v28, val_main_v29,
      val_main_v30, val_main_v31, val_main_cst_11, val_main_v32, val_main_v33, val_main_v34, val_main_v35, val_main_cst_12,
      val_main_v36, val_main_v37, val_main_cst_13, val_main_v38, val_main_v39, val_main_v40, val_main_v41, val_main_v42,
      val_main_cst_14, val_main_v43, val_main_v44, val_main_cst_15, val_main_v45, val_main_v46, val_main_v47, val_main_v48,
      val_main_v49, val_main_v50]
  simp only [hx, hg, ht, lit_2048, lit_rmsEps, lit_two, lit_half, lit_neg_half, Fin.sum_univ_one, ← EReal.coe_mul, sum_coe, Rms.div_2048,
    ← EReal.coe_add, Rms.ms_fold, Rms.rstd_coe, Rms.div_ms, ← EReal.coe_sub, err_fold, grad_ref]
  rw [← Rms.back_eq X (grad X G T) b, add_assoc]

end Row

/-! ## The arrays -/

variable (c : Dev nD) (X T : S8192x2048.Idx → ℝ) (G : S2048.Idx → ℝ)

/-- The array row a block's row is. -/
def row (t : Fin cfg0.N) (a : Fin 256) : Fin 8192 :=
  ⟨256 * t.val + a.val, by have h := lt_of_lt_of_eq t.isLt N_0; have := a.isLt; omega⟩

theorem blk0 (t : Fin cfg0.N) (a : Fin 256) (k : Fin 2048) :
    iblk m c 0 t (ix2 a k) = m ((c : Thread nD τ).loc main_arg0) (ix2 (row t a) k) := by
  blk_ext [iblk, V, idx t, row]
theorem blk1 (t : Fin cfg0.N) (k : Fin 2048) :
    iblk m c 1 t (ix2 0 k) = m ((c : Thread nD τ).loc main_arg1) (ix1 k) := by
  blk_simp [iblk]
  entry_read
  pointwise
  blk_ext [idx t]
theorem blk2 (t : Fin cfg0.N) (a : Fin 256) (k : Fin 2048) :
    iblk m c 2 t (ix2 a k) = m ((c : Thread nD τ).loc main_arg2) (ix2 (row t a) k) := by
  blk_ext [iblk, V, idx t, row]

/-- A row's loss in the arrays. -/
def loss (a : Fin 8192) : ℝ := rowLoss (fun k => X (ix2 a k)) (fun k => G (ix1 k)) (fun k => T (ix2 a k))

/-- A sum over the thirty-two blocks' rows is the sum over all rows. -/
theorem rows (f : Fin 8192 → ℝ) (t : Fin cfg0.N) (h : t.val % 32 = 31) :
    ∑ s : Fin 32, ∑ a : Fin 256, f (row ⟨_, Pipeline.run_point_lt_of_flush t h s⟩ a) = ∑ a, f a := by
  have hN := lt_of_lt_of_eq t.isLt N_0
  refine Fin.sum_mul_add_congr fun s k hl => congrArg f (Fin.ext ?_)
  show 256 * (32 * (t.val / 32) + s.val) + k.val = s.val * 256 + k.val
  omega

variable (hX : ∀ i, m ((c : Thread nD τ).loc main_arg0) i = ((X i : ℝ) : EReal))
  (hG : ∀ i, m ((c : Thread nD τ).loc main_arg1) i = ((G i : ℝ) : EReal))
  (hT : ∀ i, m ((c : Thread nD τ).loc main_arg2) i = ((T i : ℝ) : EReal))

include hX hG hT

theorem point (t : Fin cfg0.N) (y : S256x2048.Idx) :
    k0_pay1 (F := Ideal) (k0_pay6 (iblk m c 0 t)) (k0_pay7 (iblk m c 0 t)) (k0_pay12 (iblk m c 0 t) (iblk m c 1 t) (iblk m c 2 t))
        (k0_pay13 (iblk m c 0 t) (iblk m c 1 t) (iblk m c 2 t)) y
      = Cert.LossReferenceIdeal.Read.val_main_v50 (F := Ideal) (m ((c : Thread nD τ).loc main_arg0)) (m ((c : Thread nD τ).loc main_arg1))
          (m ((c : Thread nD τ).loc main_arg2)) (ix2 (row t (y 0)) (y 1)) := by
  obtain ⟨a, b, rfl⟩ : ∃ (a : Fin 256) (b : Fin 2048), y = ix2 a b := ⟨y 0, y 1, eq_ix2 y⟩
  refine (dx_ker (fun k => X (ix2 (row t a) k)) (fun k => G (ix1 k)) (fun k => T (ix2 (row t a) k)) _ _ _ a b
      (fun k => by rw [blk0, hX]) (fun k => by rw [blk1, hG]) (fun k => by rw [blk2, hT])).trans ?_
  exact (dx_ref (fun k => X (ix2 (row t a) k)) (fun k => G (ix1 k)) (fun k => T (ix2 (row t a) k)) _ _ _ (row t a) b
      (fun k => hX _) (fun k => hG _) (fun k => hT _)).symm

/-- The gradient of the input. -/
theorem final4 : (dats m 0 c).arrAt 4 (cfgs 0).N
    = Cert.LossReferenceIdeal.Read.val_main_v50 (F := Ideal) (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  rw [after0_4, show (win0_4.blk t).view.emb y = ix2 (row t (y 0)) (y 1) by blk_ext [idx t, row]]
  have hN := lt_of_lt_of_eq t.isLt N_0
  by_cases h : t.val % 32 = 0
  · rw [outsAt0_A m c t h (by omega) h (by omega)]
    frame_out
    exact point m c X T G hX hG hT t y
  · rw [outsAt0_B m c t h (by omega) h (by omega)]
    frame_out
    exact point m c X T G hX hG hT t y

/-- Half of it, for the branch. -/
theorem final5 : (dats m 0 c).arrAt 5 (cfgs 0).N
    = Cert.LossReferenceIdeal.Read.val_main_v54 (F := Ideal) (m ((c : Thread nD τ).loc main_arg0)) (m ((c : Thread nD τ).loc main_arg1))
        (m ((c : Thread nD τ).loc main_arg2)) := by
  refine (dats m 0 c).arrAt_eq_of_covers 5 _ (by decide +kernel) fun t _ y => ?_
  blk_simp
  rw [after0_5, show (win0_5.blk t).view.emb y = ix2 (row t (y 0)) (y 1) by blk_ext [idx t, row]]
  have hN := lt_of_lt_of_eq t.isLt N_0
  have e : k0_pay2 (F := Ideal) (k0_pay6 (iblk m c 0 t)) (k0_pay7 (iblk m c 0 t)) (k0_pay12 (iblk m c 0 t) (iblk m c 1 t) (iblk m c 2 t))
        (k0_pay13 (iblk m c 0 t) (iblk m c 1 t) (iblk m c 2 t)) y
      = Cert.LossReferenceIdeal.Read.val_main_v54 (F := Ideal) (m ((c : Thread nD τ).loc main_arg0)) (m ((c : Thread nD τ).loc main_arg1))
        (m ((c : Thread nD τ).loc main_arg2)) (ix2 (row t (y 0)) (y 1)) := by
    refine Eq.trans ?_ (congrArg (Ideal.ofBits .f32 1056964608#32 * ·) (point m c X T G hX hG hT t y))
    pointwise [k0_pay2]
  by_cases h : t.val % 32 = 0
  · rw [outsAt0_A m c t h (by omega) h (by omega)]
    frame_out
    exact e
  · rw [outsAt0_B m c t h (by omega) h (by omega)]
    frame_out
    exact e

/-- The kernel's part of the loss at a block: half the sum of the block's row losses. -/
theorem part (t : Fin cfg0.N) (j : S1x128.Idx) :
    k0_pay9 (F := Ideal) (iblk m c 0 t) (iblk m c 1 t) (iblk m c 2 t) j = ((1 / 2 * ∑ a, loss X T G (row t a) : ℝ) : EReal) := by
  rw [eq_ix2 j]
  pointwise [k0_pay9, k0_pay6, k0_pay7, k0_pay5, k0_pay8]
  simp only [blk0, blk1, blk2, hX, hG, hT, lit_2048, lit_rmsEps, lit_half, ← EReal.coe_mul, sum_coe, Rms.div_2048, ← EReal.coe_add]
  simp only [fun a => Rms.ms_fold fun k => X (ix2 (row t a) k), Rms.rstd_coe, ← EReal.coe_mul, ← EReal.coe_sub, sum_coe, Rms.div_2048]
  rfl

/-- The reference's loss: half the sum of the row losses. -/
theorem loss_ref (j : S1x128.Idx) :
    Cert.LossReferenceIdeal.Read.val_main_v51 (F := Ideal) (m ((c : Thread nD τ).loc main_arg0)) (m ((c : Thread nD τ).loc main_arg1))
        (m ((c : Thread nD τ).loc main_arg2)) j = ((1 / 2 * ∑ a, loss X T G a : ℝ) : EReal) := by
  rw [eq_ix2 j, ← Cert.LossReferenceIdeal.Read.val_main_v51_eq]
  pointwise
  simp only [hX, hG, hT, lit_2048, lit_rmsEps, lit_half, ← EReal.coe_mul, sum_coe, Rms.div_2048, ← EReal.coe_add]
  simp only [fun a => Rms.ms_fold fun k => X (ix2 a k), Rms.rstd_coe, ← EReal.coe_mul, ← EReal.coe_sub, sum_coe, Rms.div_2048]
  rfl

/-- The loss. -/
theorem final3 : (dats m 0 c).arrAt 3 (cfgs 0).N
    = Cert.LossReferenceIdeal.Read.val_main_v51 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3, Pipeline.eq_sum_fin_of_reset_step_apply_of_flush (fun n h => (outsAt0 m c n h).1) 32 (fun _ => 0)
    (fun t j => k0_pay9 (F := Ideal) (iblk m c 0 t) (iblk m c 1 t) (iblk m c 2 t) j)
    (fun t h j => by
      have hN := lt_of_lt_of_eq t.isLt N_0
      rw [outsAt0_A m c t h (by omega) h (by omega)]; frame_out; rw [zero_add])
    (fun t h j => by
      have hN := lt_of_lt_of_eq t.isLt N_0
      rw [outsAt0_B m c t h (by omega) h (by omega)]; frame_out; pointwise [k0_pay10])
    t ((flush0_3 t).mp hf) _, zero_add, loss_ref m c X T G hX hG hT]
  have e := rows (fun a => loss X T G a) t ((flush0_3 t).mp hf)
  show (_ : EReal) = _
  simp only [part m c X T G hX hG hT, sum_coe, ← Finset.mul_sum]
  rw [e]

/-- A row's part of the gain's gradient. -/
def gpart (a : Fin 8192) (b : Fin 2048) : ℝ :=
  err (fun k => X (ix2 a k)) (fun k => G (ix1 k)) (fun k => T (ix2 a k)) b * (1 / 2048) * (X (ix2 a b) * Rms.rstd fun k => X (ix2 a k))

/-- The kernel's part of the gain's gradient at a block. -/
theorem part_g (t : Fin cfg0.N) (j : S1x2048.Idx) :
    k0_pay3 (F := Ideal) (k0_pay7 (iblk m c 0 t)) (k0_pay11 (iblk m c 0 t) (iblk m c 1 t) (iblk m c 2 t)) j
      = ((∑ a, gpart X T G (row t a) (j 1) : ℝ) : EReal) := by
  obtain ⟨b, rfl⟩ : ∃ b : Fin 2048, j = ix2 0 b := ⟨j 1, by rw [eq_ix2 j]; congr 1; exact Subsingleton.elim _ _⟩
  pointwise [k0_pay3, k0_pay6, k0_pay7, k0_pay11, k0_pay5, k0_pay8]
  simp only [blk0, blk1, blk2, hX, hG, hT, lit_2048, lit_rmsEps, lit_inv_2048, ← EReal.coe_mul, sum_coe, Rms.div_2048, ← EReal.coe_add]
  simp only [fun a => Rms.ms_fold fun k => X (ix2 (row t a) k), Rms.rstd_coe, ← EReal.coe_mul, ← EReal.coe_sub, sum_coe]
  rfl

theorem gain_ref (j : S1x2048.Idx) :
    Cert.LossReferenceIdeal.Read.val_main_v55 (F := Ideal) (m ((c : Thread nD τ).loc main_arg0)) (m ((c : Thread nD τ).loc main_arg1))
        (m ((c : Thread nD τ).loc main_arg2)) j = ((∑ a, gpart X T G a (j 1) : ℝ) : EReal) := by
  obtain ⟨b, rfl⟩ : ∃ b : Fin 2048, j = ix2 0 b := ⟨j 1, by rw [eq_ix2 j]; congr 1; exact Subsingleton.elim _ _⟩
  rw [← Cert.LossReferenceIdeal.Read.val_main_v55_eq]
  pointwise
  simp only [hX, hG, hT, lit_2048, lit_rmsEps, lit_half, lit_two, ← EReal.coe_mul, sum_coe, Rms.div_2048, ← EReal.coe_add, Fin.sum_univ_one]
  simp only [fun a => Rms.ms_fold fun k => X (ix2 a k), Rms.rstd_coe, ← EReal.coe_mul, ← EReal.coe_sub, sum_coe]
  refine congrArg _ (Finset.sum_congr rfl fun a _ => ?_)
  show _ = gpart X T G a b
  unfold gpart err
  ring

/-- The gain's gradient. -/
theorem final6 : (dats m 0 c).arrAt 6 (cfgs 0).N
    = Cert.LossReferenceIdeal.Read.val_main_v55 (F := Ideal) (m ((c : Thread nD τ).loc main_arg0)) (m ((c : Thread nD τ).loc main_arg1))
        (m ((c : Thread nD τ).loc main_arg2)) := by
  refine (dats m 0 c).arrAt_eq_of_covers 6 _ (by decide +kernel) fun t hf y => ?_
  blk_simp
  rw [after0_6, Pipeline.eq_sum_fin_of_reset_step_apply_of_flush (fun n h => (outsAt0 m c n h).2.2.2) 32 (fun _ => 0)
    (fun t j => k0_pay3 (F := Ideal) (k0_pay7 (iblk m c 0 t)) (k0_pay11 (iblk m c 0 t) (iblk m c 1 t) (iblk m c 2 t)) j)
    (fun t h j => by
      have hN := lt_of_lt_of_eq t.isLt N_0
      rw [outsAt0_A m c t h (by omega) h (by omega)]; frame_out; rw [zero_add])
    (fun t h j => by
      have hN := lt_of_lt_of_eq t.isLt N_0
      rw [outsAt0_B m c t h (by omega) h (by omega)]; frame_out; pointwise [k0_pay4])
    t ((flush0_6 t).mp hf) _, zero_add, gain_ref m c X T G hX hG hT]
  have e := rows (fun a => gpart X T G a (y 1)) t ((flush0_6 t).mp hf)
  have ey : (((cfg0.win 6).blk t).view.emb y) 1 = y 1 := Fin.ext (by blk_simp [idx t])
  show (_ : EReal) = _
  simp only [part_g m c X T G hX hG hT, sum_coe]
  erw [ey]
  rw [e]

end Cert.LossKernelIdeal.Value
end
-- ==== Proof.LossClaim.lean ====
/- Kernel and reference end with the same loss and gradients, for real inputs, gains and targets. -/
module

public import proofs.«01_k».proof.Defs
public import proofs.«01_k».proof.Proof.LossValue
public import proofs.«01_k».proof.Proof.Gen.Pre_loss_finite
public import Idealize.ShloMosaic.Lib.Claim

@[expose] public section

set_option maxRecDepth 16384

noncomputable section

open Idealize.ShloMosaic Idealize.SL.Sem

namespace Cert.LossClaim

open Cert.LossKernelIdeal

/-- What the precondition says: the input, the gain and the target are arrays of reals. -/
theorem reals (x : FVec Ideal Cert.Pre_loss_finite.S8192x2048 .f32) (g : FVec Ideal Cert.Pre_loss_finite.S2048 .f32)
    (t : FVec Ideal Cert.Pre_loss_finite.S8192x2048 .f32)
    (h : Cert.Pre_loss_finite.fn (F := Ideal) x g t = fun _ => 1#1) :
    (∃ X : Cert.Pre_loss_finite.S8192x2048.Idx → ℝ, ∀ i, x i = ((X i : ℝ) : EReal))
    ∧ (∃ G : Cert.Pre_loss_finite.S2048.Idx → ℝ, ∀ i, g i = ((G i : ℝ) : EReal))
    ∧ (∃ T : Cert.Pre_loss_finite.S8192x2048.Idx → ℝ, ∀ i, t i = ((T i : ℝ) : EReal)) := by
  have h0 := congrFun h (fun a => a.elim0)
  obtain ⟨h1, h2⟩ := IntOp.andi_eq_one.1 h0
  obtain ⟨h3, h4⟩ := IntOp.andi_eq_one.1 h1
  haveI : Subsingleton Cert.Pre_loss_finite.S_.Idx := ⟨fun a b => funext fun i => i.elim0⟩
  exact ⟨Reals.real_of_all _ _ (fun i => rfl) _ _ _ _ h3, Reals.real_of_all _ _ (fun i => rfl) _ _ _ _ h4,
    Reals.real_of_all _ _ (fun i => rfl) _ _ _ _ h2⟩

theorem claim : Cert.algebraic_LossKernelIdeal_LossReferenceIdeal_pre_loss_finite := by
  pair_intro
  · run_from Cert.LossKernelIdeal.Value.run_blocks m g
  · obtain ⟨⟨X, hX⟩, ⟨G, hG⟩, T, hT⟩ := reals _ _ _ (hpre 0)
    run_from Cert.LossReferenceIdeal.Value.run m' g'
    all_goals obtain rfl : c = 0 := Subsingleton.elim _ _
    · rw [Cert.LossKernelIdeal.Value.final3 m 0 X T G hX hG hT, ← Cert.LossReferenceIdeal.Read.val_main_v51_eq]
    · rw [Cert.LossKernelIdeal.Value.final4 m 0 X T G hX hG hT]
      rw [Cert.LossReferenceIdeal.Read.val_main_v50_eq, (hagree 0).1, (hagree 0).2.1, (hagree 0).2.2]
    · rw [Cert.LossKernelIdeal.Value.final5 m 0 X T G hX hG hT]
      rw [Cert.LossReferenceIdeal.Read.val_main_v54_eq, (hagree 0).1, (hagree 0).2.1, (hagree 0).2.2]
    · rw [Cert.LossKernelIdeal.Value.final6 m 0 X T G hX hG hT, ← Cert.LossReferenceIdeal.Read.val_main_v55_eq]

end Cert.LossClaim

end
-- ==== Proof.AttnRef.lean ====
/- The reference's gradients of the cross attention, stage by stage: scores, exponentials, weights, and the gradient of the
   scores, each read at one head, one query row and one key. -/
module

public import proofs.«01_k».proof.Proof.Gen.AttnKernelIdeal.Value
public import proofs.«01_k».proof.Proof.Gen.AttnReferenceIdeal.Read
public import Idealize.ShloMosaic.Lib.Pipeline.ValueKit
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.AttnReferenceIdeal.Read
open Cert.AttnReferenceIdeal

variable (q : FVec Ideal S8192x2048 .bf16) (kv : FVec Ideal S256x4096 .bf16) (dO : FVec Ideal S8192x2048 .bf16)

theorem query (r : Fin 8192) (h : Fin 4) (d : Fin 512) :
    val_main_v3 (F := Ideal) q (ix3 r h d) = q (ix2 r ⟨h.val * 512 + d.val, by have := h.isLt; have := d.isLt; omega⟩) := by
  pointwise [val_main_v0, val_main_v3]
theorem key (r : Fin 256) (h : Fin 4) (d : Fin 512) :
    val_main_v6 (F := Ideal) kv (ix3 r h d) = kv (ix2 r ⟨h.val * 512 + d.val, by have := h.isLt; have := d.isLt; omega⟩) := by
  pointwise [val_main_v1, val_main_v4, val_main_v6]
theorem value (r : Fin 256) (h : Fin 4) (d : Fin 512) :
    val_main_v7 (F := Ideal) kv (ix3 r h d) = kv (ix2 r ⟨2048 + (h.val * 512 + d.val), by have := h.isLt; have := d.isLt; omega⟩) := by
  pointwise [val_main_v1, val_main_v5, val_main_v7]
theorem cotangent (r : Fin 8192) (h : Fin 4) (d : Fin 512) :
    val_main_v43 (F := Ideal) dO (ix3 h d r) = dO (ix2 r ⟨h.val * 512 + d.val, by have := h.isLt; have := d.isLt; omega⟩) := by
  pointwise [val_main_v2, val_main_v42, val_main_v43]
theorem score (h : Fin 4) (r : Fin 8192) (c : Fin 256) :
    val_main_v10 (F := Ideal) q kv (ix3 h r c) = (∑ d : Fin 512, val_main_v3 (F := Ideal) q (ix3 r h d) * val_main_v6 (F := Ideal) kv (ix3 c h d)) * Ideal.ofBits FTy.f32 1026884851#32 := by
  pointwise [val_main_v8, val_main_cst, val_main_v9, val_main_v10]
/-- A maximum over the keys. -/
theorem top_of (s : FVec Ideal S4x8192x256 .f32) (e : FVec Ideal S_ .f32) (hr : S4x8192x256.ReducesTo [2] S4x8192) (hu : 0 < S_.numel)
    (h : Fin 4) (r : Fin 8192) :
    Host.reduce FloatOps.maximumf s e hr hu (ix2 h r) = Finset.univ.fold max (e (Shape.Idx.first hu)) fun k : Fin 256 => s (ix3 h r k) := by
  rw [Host.reduce_eq_fold]
  simp only [pointwise]
theorem top (h : Fin 4) (r : Fin 8192) :
    val_main_v11 (F := Ideal) q kv (ix2 h r)
      = Finset.univ.fold max (Ideal.ofBits .f32 4286578688#32) fun k : Fin 256 => val_main_v10 (F := Ideal) q kv (ix3 h r k) := by
  unfold val_main_v11
  rw [top_of]
  simp only [val_main_cst_0, pointwise]
/-- The maximum with −∞ is read at abstract arrays. -/
theorem top_max (a b : FVec Ideal S4x8192 .f32) (i : S4x8192.Idx) : maximumf a b i = max (a i) (b i) := rfl
theorem top_floor (h : Fin 4) (r : Fin 8192) :
    val_main_v18 (F := Ideal) q kv (ix2 h r) = max (Ideal.ofBits .f32 4286578688#32) (val_main_v11 (F := Ideal) q kv (ix2 h r)) := by
  unfold val_main_v18
  have e : val_main_v17 (F := Ideal) (ix2 h r) = Ideal.ofBits .f32 4286578688#32 := by pointwise [val_main_cst_2, val_main_v17]
  rw [top_max, e]
theorem expo (h : Fin 4) (r : Fin 8192) (c : Fin 256) :
    val_main_v31 (F := Ideal) q kv (ix3 h r c) = Ideal.exp (val_main_v10 (F := Ideal) q kv (ix3 h r c)
      - val_main_v18 (F := Ideal) q kv (ix2 h r)) := by
  pointwise [val_main_v31, val_main_v30, val_main_v29, val_main_v28]
theorem weight (h : Fin 4) (r : Fin 8192) (c : Fin 256) :
    val_main_v35 (F := Ideal) q kv (ix3 h r c) = Ideal.div (val_main_v31 (F := Ideal) q kv (ix3 h r c)) (∑ x, val_main_v31 (F := Ideal) q kv (ix3 h r x)) := by
  pointwise [val_main_cst_8, val_main_v32, val_main_v33, val_main_v34, val_main_v35]
theorem dweight (h : Fin 4) (r : Fin 8192) (c : Fin 256) :
    val_main_v44 (F := Ideal) kv dO (ix3 h r c) = ∑ x, val_main_v43 (F := Ideal) dO (ix3 h x r) * val_main_v7 (F := Ideal) kv (ix3 c h x) := by
  pointwise [val_main_v44]
theorem dscore (h : Fin 4) (r : Fin 8192) (c : Fin 256) :
    val_main_v60 (F := Ideal) q kv dO (ix3 h r c) =
      (Ideal.div (val_main_v44 (F := Ideal) kv dO (ix3 h r c)) (∑ x, val_main_v31 (F := Ideal) q kv (ix3 h r x))
        + ∑ _x : Fin 1, -∑ x, val_main_v44 (F := Ideal) kv dO (ix3 h r x) * Ideal.div (Ideal.ofBits .f32 0x3F800000#32) ((∑ x, val_main_v31 (F := Ideal) q kv (ix3 h r x)) * ∑ x, val_main_v31 (F := Ideal) q kv (ix3 h r x))
            * val_main_v31 (F := Ideal) q kv (ix3 h r x))
      * val_main_v31 (F := Ideal) q kv (ix3 h r c) * Ideal.ofBits .f32 1026884851#32 := by
  pointwise [val_main_cst_8, val_main_v32, val_main_v33, val_main_v36, val_main_cst_9, val_main_v37, val_main_v38, val_main_v47, val_main_v48, val_main_v49,
   val_main_cst_10, val_main_v50, val_main_v51, val_main_v52, val_main_v53, val_main_v54, val_main_cst_11, val_main_v55, val_main_v56, val_main_v57, val_main_v58,
   val_main_cst_12, val_main_v59, val_main_v60]
theorem dq (r : Fin 8192) (h : Fin 4) (d : Fin 512) (j : Fin 2048) (hj : j.val = h.val * 512 + d.val) :
    val_main_v69 (F := Ideal) q kv dO (ix2 r j) = ∑ x, val_main_v60 (F := Ideal) q kv dO (ix3 h r x) * val_main_v6 (F := Ideal) kv (ix3 x h d) := by
  have e1 : j.val / 512 = h.val := by have := d.isLt; omega
  have e2 : j.val % 512 = d.val := by have := d.isLt; omega
  pointwise [val_main_v63, val_main_v64, val_main_v68, val_main_v69]
  simp only [e1, e2]
theorem dk (r : Fin 256) (h : Fin 4) (d : Fin 512) (j : Fin 4096) (hj : j.val = h.val * 512 + d.val) :
    val_main_v70 (F := Ideal) q kv dO (ix2 r j) = ∑ x, val_main_v60 (F := Ideal) q kv dO (ix3 h x r) * val_main_v3 (F := Ideal) q (ix3 x h d) := by
  have e0 : j.val < 2048 := by have := d.isLt; have := h.isLt; omega
  have e1 : j.val / 512 = h.val := by have := d.isLt; omega
  have e2 : j.val % 512 = d.val := by have := d.isLt; omega
  pointwise [val_main_v61, val_main_v62, val_main_v66, val_main_v67, val_main_v70]
  rw [dif_pos e0]
  simp only [e1, e2]
theorem dv (r : Fin 256) (h : Fin 4) (d : Fin 512) (j : Fin 4096) (hj : j.val = 2048 + (h.val * 512 + d.val)) :
    val_main_v70 (F := Ideal) q kv dO (ix2 r j) = ∑ x, val_main_v43 (F := Ideal) dO (ix3 h d x) * val_main_v35 (F := Ideal) q kv (ix3 h x r) := by
  have e0 : ¬j.val < 2048 := by have := d.isLt; have := h.isLt; omega
  have e1 : (j.val - 2048) / 512 = h.val := by have := d.isLt; omega
  have e2 : (j.val - 2048) % 512 = d.val := by have := d.isLt; omega
  pointwise [val_main_v45, val_main_v46, val_main_v65, val_main_v67, val_main_v70]
  rw [dif_neg e0]
  simp only [e1, e2]

end Cert.AttnReferenceIdeal.Read
end
-- ==== Proof.Softmax.lean ====
/- A row of attention weights over the reals: the softmax of 256 scores and its derivative, in the kernel's form
   `p·(dp − Σ dp·p)` and in the reference's, which differentiates the quotient. -/
module

public import proofs.«01_k».proof.Proof.Reals

@[expose] public section

noncomputable section

open Idealize.ShloMosaic

namespace Cert.Softmax

open Cert.Reals

theorem lit_bot : Ideal.ofBits .f32 4286578688#32 = ⊥ := by simp [Ideal.ofBits, Ideal.ieee]
/-- The scale of the scores, the float nearest to the reciprocal root of 512. -/
def scale : ℝ := 11863283 / 2 ^ 28
theorem lit_scale : Ideal.ofBits .f32 1026884851#32 = ((scale : ℝ) : EReal) := by
  simp [Ideal.ofBits, Ideal.ieee, scale, -EReal.coe_mul]; norm_num

/-- The largest score. -/
def top (S : Fin 256 → ℝ) : ℝ := Finset.univ.sup' ⟨0, Finset.mem_univ _⟩ S

theorem fold_top (S : Fin 256 → ℝ) : Finset.univ.fold max (⊥ : EReal) (fun k => ((S k : ℝ) : EReal)) = ((top S : ℝ) : EReal) := by
  show Finset.univ.sup (fun k => ((S k : ℝ) : EReal)) = _
  rw [← Finset.sup'_eq_sup ⟨0, Finset.mem_univ _⟩]
  exact (Finset.comp_sup'_eq_sup'_comp (⟨0, Finset.mem_univ _⟩ : (Finset.univ : Finset (Fin 256)).Nonempty) (fun r : ℝ => (r : EReal))
    (fun x y => EReal.coe_strictMono.monotone.map_max)).symm

theorem max_bot (x : EReal) : max ⊥ x = x := max_eq_right bot_le

/-- The exponentials, their sum, and the weights. -/
def e (S : Fin 256 → ℝ) (k : Fin 256) : ℝ := Real.exp (S k - top S)
def Z (S : Fin 256 → ℝ) : ℝ := ∑ k, e S k
def p (S : Fin 256 → ℝ) (k : Fin 256) : ℝ := e S k / Z S

theorem Z_pos (S : Fin 256 → ℝ) : 0 < Z S := Finset.sum_pos (fun k _ => Real.exp_pos _) ⟨0, Finset.mem_univ _⟩
theorem e_coe (S : Fin 256 → ℝ) (k : Fin 256) : Ideal.exp ((S k - top S : ℝ) : EReal) = ((e S k : ℝ) : EReal) := rfl
theorem Z_fold (S : Fin 256 → ℝ) : ∑ k, e S k = Z S := rfl
theorem div_Z (a : ℝ) (S : Fin 256 → ℝ) : Ideal.div (a : EReal) ((Z S : ℝ) : EReal) = ((a / Z S : ℝ) : EReal) := div_coe a (Z_pos S).ne'
theorem div_ZZ (a : ℝ) (S : Fin 256 → ℝ) : Ideal.div (a : EReal) ((Z S * Z S : ℝ) : EReal) = ((a / (Z S * Z S) : ℝ) : EReal) :=
  div_coe a (mul_pos (Z_pos S) (Z_pos S)).ne'

/-- The gradient of the scores from the gradient `D` of the weights. -/
def ds (S D : Fin 256 → ℝ) (k : Fin 256) : ℝ := p S k * (D k - ∑ x, D x * p S x) * scale

/-- The reference's derivative of the quotient is the kernel's form. -/
theorem ds_ref (S D : Fin 256 → ℝ) (k : Fin 256) :
    (D k / Z S + -∑ x, D x * (1 / (Z S * Z S)) * e S x) * e S k * scale = ds S D k := by
  have hz := (Z_pos S).ne'
  have h : ∑ x, D x * (1 / (Z S * Z S)) * e S x = (∑ x, D x * p S x) / Z S := by
    rw [Finset.sum_div]; exact Finset.sum_congr rfl fun x _ => by unfold p; field_simp
  unfold ds
  rw [h]
  unfold p
  field_simp
  ring

end Cert.Softmax

end
-- ==== Proof.AttnValue.lean ====
/- The cross attention's backward pass: what the kernel leaves in its two results, and that this is what the reference's
   derivative computes. One head of one block of 512 query rows is compared with the reference's rows; the gradients of the
   keys and values are sums over the rows, which the kernel takes in sixteen blocks in its scratch buffer. -/
module

public import proofs.«01_k».proof.Proof.Gen.AttnKernelIdeal.Value
public import proofs.«01_k».proof.Proof.AttnRef
public import Idealize.ShloMosaic.Lib.Pipeline.ValueKit
public import proofs.«01_k».proof.Proof.Softmax

@[expose] public section

set_option maxRecDepth 16384

noncomputable section

open Idealize.ShloMosaic Idealize.ShloMosaic.TcCoe Idealize.SL.Sem
open Idealize.ShloMosaic.Pipeline (Dat)

namespace Cert.AttnKernelIdeal.Value

open Cert.AttnKernelIdeal Cert.AttnKernelIdeal.Gen
open Cert.Reals Cert.Softmax

variable (m : (ℓ : Loc nD τ sig) → Buf (Elt Ideal) ℓ)

/-- The windows' block indices at a grid point. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, _)

/-! ## One row of reals at one head -/

/-- The scores of a query row. -/
def score (Q : Fin 512 → ℝ) (K : Fin 256 → Fin 512 → ℝ) (x : Fin 256) : ℝ := (∑ d, Q d * K x d) * scale
/-- The gradient of the weights. -/
def dweight (O : Fin 512 → ℝ) (V : Fin 256 → Fin 512 → ℝ) (x : Fin 256) : ℝ := ∑ d, O d * V x d

theorem score_fold (Q : Fin 512 → ℝ) (K : Fin 256 → Fin 512 → ℝ) (x : Fin 256) : (∑ d, Q d * K x d) * scale = score Q K x := rfl
theorem dweight_fold (O : Fin 512 → ℝ) (V : Fin 256 → Fin 512 → ℝ) (x : Fin 256) : ∑ d, O d * V x d = dweight O V x := rfl

section Row

variable (Q O : Fin 512 → ℝ) (K V : Fin 256 → Fin 512 → ℝ)
variable (qb ob : FVec Ideal S512x512 .bf16) (kb vb : FVec Ideal S256x512 .bf16) (a : Fin 512)
  (hq : ∀ d, qb (ix2 a d) = ((Q d : ℝ) : EReal)) (hk : ∀ x d, kb (ix2 x d) = ((K x d : ℝ) : EReal))
  (ho : ∀ d, ob (ix2 a d) = ((O d : ℝ) : EReal)) (hv : ∀ x d, vb (ix2 x d) = ((V x d : ℝ) : EReal))

include hq hk in
theorem p_ker (b : Fin 256) : k0_pay3 (F := Ideal) qb kb (ix2 a b) = ((p (score Q K) b : ℝ) : EReal) := by
  pointwise [k0_pay3]
  simp only [hq, hk, lit_scale, lit_bot, ← EReal.coe_mul, sum_coe, score_fold, fold_top, ← EReal.coe_sub, e_coe, Z_fold, div_Z]
  rfl

include hq hk ho hv in
theorem ds_ker (b : Fin 256) : k0_pay4 (F := Ideal) qb kb ob vb (ix2 a b) = ((ds (score Q K) (dweight O V) b : ℝ) : EReal) := by
  pointwise [k0_pay4]
  simp only [p_ker Q K qb kb a hq hk, ho, hv, lit_scale, ← EReal.coe_mul, sum_coe, dweight_fold, ← EReal.coe_sub]
  rfl

variable (q dO : FVec Ideal S8192x2048 .bf16) (kv : FVec Ideal S256x4096 .bf16) (h : Fin 4) (r : Fin 8192)
  (rq : ∀ d, Cert.AttnReferenceIdeal.Read.val_main_v3 (F := Ideal) q (ix3 r h d) = ((Q d : ℝ) : EReal))
  (rk : ∀ x d, Cert.AttnReferenceIdeal.Read.val_main_v6 (F := Ideal) kv (ix3 x h d) = ((K x d : ℝ) : EReal))
  (ro : ∀ d, Cert.AttnReferenceIdeal.Read.val_main_v43 (F := Ideal) dO (ix3 h d r) = ((O d : ℝ) : EReal))
  (rv : ∀ x d, Cert.AttnReferenceIdeal.Read.val_main_v7 (F := Ideal) kv (ix3 x h d) = ((V x d : ℝ) : EReal))

open Cert.AttnReferenceIdeal.Read

include rq rk in
theorem e_ref (b : Fin 256) : val_main_v31 (F := Ideal) q kv (ix3 h r b) = ((e (score Q K) b : ℝ) : EReal) := by
  have hs : ∀ x, val_main_v10 (F := Ideal) q kv (ix3 h r x) = ((score Q K x : ℝ) : EReal) := fun x => by
    rw [Cert.AttnReferenceIdeal.Read.score]
    simp only [rq, rk, lit_scale, ← EReal.coe_mul, sum_coe, score_fold]
  rw [expo, top_floor, Cert.AttnReferenceIdeal.Read.top]
  simp only [hs, lit_bot, fold_top, max_bot, ← EReal.coe_sub, e_coe]

include rq rk in
theorem p_ref (b : Fin 256) : val_main_v35 (F := Ideal) q kv (ix3 h r b) = ((p (score Q K) b : ℝ) : EReal) := by
  rw [weight]
  simp only [e_ref Q K q kv h r rq rk, sum_coe, Z_fold, div_Z]
  rfl

include rq rk ro rv in
theorem ds_refl (b : Fin 256) : val_main_v60 (F := Ideal) q kv dO (ix3 h r b) = ((ds (score Q K) (dweight O V) b : ℝ) : EReal) := by
  have hd : ∀ x, val_main_v44 (F := Ideal) kv dO (ix3 h r x) = ((dweight O V x : ℝ) : EReal) := fun x => by
    rw [Cert.AttnReferenceIdeal.Read.dweight]
    simp only [ro, rv, ← EReal.coe_mul, sum_coe, dweight_fold]
  rw [dscore]
  simp only [hd, e_ref Q K q kv h r rq rk, lit_scale, lit_one, sum_coe, Z_fold, div_Z, ← EReal.coe_mul, div_ZZ, ← EReal.coe_neg,
    Fin.sum_univ_one, ← EReal.coe_add, ds_ref]

end Row

/-! ## The arrays -/

variable (c : Dev nD) (Q O : S8192x2048.Idx → ℝ) (KV : S256x4096.Idx → ℝ)

/-- The array row a block's row is. -/
def row (t : Fin cfg0.N) (a : Fin 512) : Fin 8192 :=
  ⟨512 * t.val + a.val, by have h := lt_of_lt_of_eq t.isLt N_0; have := a.isLt; omega⟩
/-- A head's column of the queries, of the keys, and of the values. -/
def col (h : Fin 4) (d : Fin 512) : Fin 2048 := ⟨h.val * 512 + d.val, by have := h.isLt; have := d.isLt; omega⟩
def kcol (h : Fin 4) (d : Fin 512) : Fin 4096 := ⟨h.val * 512 + d.val, by have := h.isLt; have := d.isLt; omega⟩
def vcol (h : Fin 4) (d : Fin 512) : Fin 4096 := ⟨2048 + (h.val * 512 + d.val), by have := h.isLt; have := d.isLt; omega⟩

/-- The arguments. -/
abbrev aq : FVec Ideal S8192x2048 .bf16 := m ((c : Thread nD τ).loc main_arg0)
abbrev akv : FVec Ideal S256x4096 .bf16 := m ((c : Thread nD τ).loc main_arg1)
abbrev ao : FVec Ideal S8192x2048 .bf16 := m ((c : Thread nD τ).loc main_arg2)

/-- Four blocks of values are the columns of head `h` at grid point `t`. -/
structure Head (t : Fin cfg0.N) (h : Fin 4) (qb ob : FVec Ideal S512x512 .bf16) (kb vb : FVec Ideal S256x512 .bf16) : Prop where
  q : ∀ a d, qb (ix2 a d) = aq m c (ix2 (row t a) (col h d))
  o : ∀ a d, ob (ix2 a d) = ao m c (ix2 (row t a) (col h d))
  k : ∀ x d, kb (ix2 x d) = akv m c (ix2 x (kcol h d))
  v : ∀ x d, vb (ix2 x d) = akv m c (ix2 x (vcol h d))

variable (hQ : ∀ i, aq m c i = ((Q i : ℝ) : EReal)) (hKV : ∀ i, akv m c i = ((KV i : ℝ) : EReal)) (hO : ∀ i, ao m c i = ((O i : ℝ) : EReal))

section Block

open Cert.AttnReferenceIdeal.Read

variable {m c}
variable {t : Fin cfg0.N} {h : Fin 4} {qb ob : FVec Ideal S512x512 .bf16} {kb vb : FVec Ideal S256x512 .bf16} (H : Head m c t h qb ob kb vb)

include hQ hKV H

theorem p_head (a : Fin 512) (b : Fin 256) :
    k0_pay3 (F := Ideal) qb kb (ix2 a b) = val_main_v35 (F := Ideal) (aq m c) (akv m c) (ix3 h (row t a) b) :=
  (p_ker (fun d => Q (ix2 (row t a) (col h d))) (fun x d => KV (ix2 x (kcol h d))) qb kb a
    (fun d => by rw [H.q, hQ]) (fun x d => by rw [H.k, hKV]) b).trans
  (p_ref (fun d => Q (ix2 (row t a) (col h d))) (fun x d => KV (ix2 x (kcol h d))) _ _ h (row t a)
    (fun d => by rw [query]; exact hQ _) (fun x d => by rw [key]; exact hKV _) b).symm

include hO

theorem ds_head (a : Fin 512) (b : Fin 256) :
    k0_pay4 (F := Ideal) qb kb ob vb (ix2 a b) = val_main_v60 (F := Ideal) (aq m c) (akv m c) (ao m c) (ix3 h (row t a) b) :=
  (ds_ker (fun d => Q (ix2 (row t a) (col h d))) (fun d => O (ix2 (row t a) (col h d))) (fun x d => KV (ix2 x (kcol h d)))
    (fun x d => KV (ix2 x (vcol h d))) qb ob kb vb a
    (fun d => by rw [H.q, hQ]) (fun x d => by rw [H.k, hKV]) (fun d => by rw [H.o, hO]) (fun x d => by rw [H.v, hKV]) b).trans
  (ds_refl (fun d => Q (ix2 (row t a) (col h d))) (fun d => O (ix2 (row t a) (col h d))) (fun x d => KV (ix2 x (kcol h d)))
    (fun x d => KV (ix2 x (vcol h d))) _ _ _ h (row t a)
    (fun d => by rw [query]; exact hQ _) (fun x d => by rw [key]; exact hKV _)
    (fun d => by rw [cotangent]; exact hO _) (fun x d => by rw [value]; exact hKV _) b).symm

/-- The gradient of the queries at a head. -/
theorem dq_head (y : S512x512.Idx) (j : S8192x2048.Idx) (h0 : (j 0).val = 512 * t.val + (y 0).val) (h1 : (j 1).val = h.val * 512 + (y 1).val) :
    k0_pay5 (F := Ideal) qb kb ob vb y = val_main_v69 (F := Ideal) (aq m c) (akv m c) (ao m c) j := by
  obtain ⟨a, d, rfl⟩ : ∃ (a d : Fin 512), y = ix2 a d := ⟨y 0, y 1, eq_ix2 y⟩
  obtain rfl : j = ix2 (row t a) (col h d) := by
    rw [eq_ix2 j]; exact congrArg₂ _ (Fin.ext h0) (Fin.ext h1)
  rw [dq _ _ _ (row t a) h d (col h d) rfl]
  pointwise [k0_pay5]
  refine Fin.sum_fin_congr fun x => ?_
  rw [ds_head Q O KV hQ hKV hO H, H.k, key]
  rfl

/-- A row's term in the gradient of the keys and values. -/
def term (m : (ℓ : Loc nD τ sig) → Buf (Elt Ideal) ℓ) (c : Dev nD) (b : Fin 256) (j : Fin 4096) (r : Fin 8192) : EReal :=
  if hj : j.val < 2048 then
    val_main_v60 (F := Ideal) (aq m c) (akv m c) (ao m c) (ix3 ⟨j.val / 512, by omega⟩ r b)
      * val_main_v3 (F := Ideal) (aq m c) (ix3 r ⟨j.val / 512, by omega⟩ ⟨j.val % 512, by omega⟩)
  else
    val_main_v43 (F := Ideal) (ao m c) (ix3 ⟨(j.val - 2048) / 512, by have := j.isLt; omega⟩ ⟨(j.val - 2048) % 512, by omega⟩ r)
      * val_main_v35 (F := Ideal) (aq m c) (akv m c) (ix3 ⟨(j.val - 2048) / 512, by have := j.isLt; omega⟩ r b)

/-- The kernel's part of the gradient at a block of rows. -/
def part (m : (ℓ : Loc nD τ sig) → Buf (Elt Ideal) ℓ) (c : Dev nD) (t : Fin cfg0.N) (i : S256x4096.Idx) : EReal :=
  ∑ a, term m c (i 0) (i 1) (row t a)

theorem dk_head (old : FVec Ideal S256x512 .f32) (x : S256x512.Idx) (i : S256x4096.Idx) (h0 : (i 0).val = (x 0).val)
    (h1 : (i 1).val = h.val * 512 + (x 1).val) :
    k0_pay7 (F := Ideal) old (k0_pay6 qb kb ob vb) x = old x + part m c t i := by
  obtain ⟨b, d, rfl⟩ : ∃ (b : Fin 256) (d : Fin 512), x = ix2 b d := ⟨x 0, x 1, eq_ix2 x⟩
  obtain rfl : i = ix2 b (kcol h d) := by
    rw [eq_ix2 i]; exact congrArg₂ _ (Fin.ext h0) (Fin.ext h1)
  have e0 : (kcol h d).val < 2048 := by have := d.isLt; have := h.isLt; show h.val * 512 + d.val < 2048; omega
  have e1 : (kcol h d).val / 512 = h.val := by have := d.isLt; show (h.val * 512 + d.val) / 512 = _; omega
  have e2 : (kcol h d).val % 512 = d.val := by have := d.isLt; show (h.val * 512 + d.val) % 512 = _; omega
  pointwise [k0_pay7, k0_pay6]
  refine congrArg (old _ + ·) (Fin.sum_fin_congr fun a => ?_)
  rw [ds_head Q O KV hQ hKV hO H, H.q]
  show _ = term m c b (kcol h d) (row t a)
  unfold term
  rw [dif_pos e0]
  simp only [e1, e2, query]
  rfl

theorem dv_head (old : FVec Ideal S256x512 .f32) (x : S256x512.Idx) (i : S256x4096.Idx) (h0 : (i 0).val = (x 0).val)
    (h1 : (i 1).val = 2048 + (h.val * 512 + (x 1).val)) :
    k0_pay8 (F := Ideal) ob (k0_pay3 qb kb) old x = old x + part m c t i := by
  obtain ⟨b, d, rfl⟩ : ∃ (b : Fin 256) (d : Fin 512), x = ix2 b d := ⟨x 0, x 1, eq_ix2 x⟩
  obtain rfl : i = ix2 b (vcol h d) := by
    rw [eq_ix2 i]; exact congrArg₂ _ (Fin.ext h0) (Fin.ext h1)
  have e0 : ¬(vcol h d).val < 2048 := by show ¬(2048 + (h.val * 512 + d.val) < 2048); omega
  have e1 : ((vcol h d).val - 2048) / 512 = h.val := by have := d.isLt; show (2048 + (h.val * 512 + d.val) - 2048) / 512 = _; omega
  have e2 : ((vcol h d).val - 2048) % 512 = d.val := by have := d.isLt; show (2048 + (h.val * 512 + d.val) - 2048) % 512 = _; omega
  pointwise [k0_pay8]
  refine congrArg (old _ + ·) (Fin.sum_fin_congr fun a => ?_)
  rw [p_head Q KV hQ hKV H, H.o]
  show _ = term m c b (vcol h d) (row t a)
  unfold term
  rw [dif_neg e0, mul_comm]
  simp only [e1, e2, cotangent]
  rfl

end Block

/-- The other three heads' payloads are the first's. -/
theorem e13 (qb ob : FVec Ideal S512x512 .bf16) (kb vb : FVec Ideal S256x512 .bf16) (old : FVec Ideal S256x512 .f32) :
    k0_pay13 (F := Ideal) qb (k0_pay10 qb kb ob vb) old = k0_pay7 old (k0_pay6 qb kb ob vb) := rfl
theorem e18 (qb ob : FVec Ideal S512x512 .bf16) (kb vb : FVec Ideal S256x512 .bf16) (old : FVec Ideal S256x512 .f32) :
    k0_pay18 (F := Ideal) qb ob (k0_pay15 qb kb) vb old = k0_pay7 old (k0_pay6 qb kb ob vb) := rfl
theorem e24 (qb ob : FVec Ideal S512x512 .bf16) (kb vb : FVec Ideal S256x512 .bf16) (old : FVec Ideal S256x512 .f32) :
    k0_pay24 (F := Ideal) qb ob (k0_pay20 qb kb) vb old = k0_pay7 old (k0_pay6 qb kb ob vb) := rfl
theorem e14 (qb ob : FVec Ideal S512x512 .bf16) (kb : FVec Ideal S256x512 .bf16) (old : FVec Ideal S256x512 .f32) :
    k0_pay14 (F := Ideal) ob (k0_pay9 qb kb) old = k0_pay8 ob (k0_pay3 qb kb) old := rfl
theorem e19 (qb ob : FVec Ideal S512x512 .bf16) (kb : FVec Ideal S256x512 .bf16) (old : FVec Ideal S256x512 .f32) :
    k0_pay19 (F := Ideal) ob (k0_pay15 qb kb) old = k0_pay8 ob (k0_pay3 qb kb) old := rfl
theorem e25 (qb ob : FVec Ideal S512x512 .bf16) (kb : FVec Ideal S256x512 .bf16) (old : FVec Ideal S256x512 .f32) :
    k0_pay25 (F := Ideal) ob (k0_pay20 qb kb) old = k0_pay8 ob (k0_pay3 qb kb) old := rfl
theorem e12 (qb ob : FVec Ideal S512x512 .bf16) (kb vb : FVec Ideal S256x512 .bf16) :
    k0_pay12 (F := Ideal) kb (k0_pay10 qb kb ob vb) = k0_pay5 qb kb ob vb := rfl
theorem e17 (qb ob : FVec Ideal S512x512 .bf16) (kb vb : FVec Ideal S256x512 .bf16) :
    k0_pay17 (F := Ideal) kb ob (k0_pay15 qb kb) vb = k0_pay5 qb kb ob vb := rfl
theorem e23 (qb ob : FVec Ideal S512x512 .bf16) (kb vb : FVec Ideal S256x512 .bf16) :
    k0_pay23 (F := Ideal) kb ob (k0_pay20 qb kb) vb = k0_pay5 qb kb ob vb := rfl

/-- The values' columns of a head, for a gradient that does not read them. -/
abbrev vals (h : Fin 4) : FVec Ideal S256x512 .bf16 := fun y => akv m c (ix2 (y 0) (vcol h (y 1)))

end Cert.AttnKernelIdeal.Value
end
-- ==== Proof.AttnStep.lean ====
/- The scratch buffer of the attention's backward pass: every block of 512 query rows adds its part of the gradients of the keys
   and values to it, in eight rectangles, and the last block copies it to the result. -/
module

public import proofs.«01_k».proof.Proof.AttnValue
import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttnKernelIdeal.Value

open Cert.AttnKernelIdeal Cert.AttnKernelIdeal.Gen
open Cert.Reals Cert.Softmax

theorem kept {a o o' q : EReal} (h : a = o + q) (e : o = o') : a = o' + q := h.trans (congrArg (· + q) e)
theorem fresh {a o q : EReal} (h : a = o + q) (e : o = 0) : a = q := by rw [h, e, zero_add]

/-- A load of columns that the last store did not touch reads the stores before it. -/
theorem below {κ : Kind} {sp : Space} (v : View sig κ sp S256x4096 .f32) {off size off' size' : Fin 2 → Nat}
    {inb : ∀ a, off a + size a ≤ S256x4096.size a} {inb' : ∀ a, off' a + size' a ≤ S256x4096.size a}
    (w : (Rect.unit (s := S256x4096) off size inb).shape.Idx → Elt Ideal .f32) (L : List (View.Piece (Elt Ideal) S256x4096 .f32))
    (h : off 1 + size 1 ≤ off' 1 ∨ off' 1 + size' 1 ≤ off 1) :
    v.readCov ((⟨Rect.unit (s := S256x4096) off size inb, w⟩ : View.Piece (Elt Ideal) S256x4096 .f32) :: L) (Rect.unit off' size' inb').toLoadRect
      = v.readCov L (Rect.unit off' size' inb').toLoadRect :=
  View.readCov_cons_of_disjoint v _ L _ (Rect.unit_disjoint (s := S256x4096) (inb := inb) (inb' := inb') 1 h)

/-- Where the stores after the first cover a place, the first one does not matter. -/
theorem covered (L : List (View.Piece (Elt Ideal) S256x4096 .f32)) (j : S256x4096.Idx) (h : ∃ p ∈ L.dropLast, j ∈ p.1.set) :
    View.canon L j = View.canon L.dropLast j := by
  induction L with
  | nil => rfl
  | cons p L ih =>
    cases L with
    | nil => exact absurd h (by simp)
    | cons q L =>
      rw [List.dropLast_cons₂] at h ⊢
      by_cases hm : j ∈ p.1.set
      · obtain ⟨x, rfl⟩ := p.1.exists_idx_of_mem hm
        exact (View.canon_cons_emb p.1 p.2 _ x).trans (View.canon_cons_emb p.1 p.2 _ x).symm
      · rw [View.canon_cons_of_not_mem _ _ hm, View.canon_cons_of_not_mem _ _ hm]
        refine ih ?_
        obtain ⟨r, hr, hy⟩ := h
        rcases List.mem_cons.mp hr with rfl | hr
        · exact absurd hy hm
        · exact ⟨r, hr, hy⟩

variable (m : (ℓ : Loc nD τ sig) → Buf (Elt Ideal) ℓ) {c : Dev nD}
variable (Q O : S8192x2048.Idx → ℝ) (KV : S256x4096.Idx → ℝ)
  (hQ : ∀ i, aq m c i = ((Q i : ℝ) : EReal)) (hKV : ∀ i, akv m c i = ((KV i : ℝ) : EReal)) (hO : ∀ i, ao m c i = ((O i : ℝ) : EReal))

include hQ hKV hO

set_option maxHeartbeats 2000000 in
/-- Every later block adds its part. -/
theorem step_B (t : Fin cfg0.N) (h0 : ¬t.val % 16 = 0) (j : S256x4096.Idx) :
    (outsAt0 m c t.val t.isLt).2.2 j = (outsAt0 m c (t.val - 1) (Nat.lt_of_le_of_lt (Nat.sub_le _ _) t.isLt)).2.2 j + part m c t j := by
  by_cases h1 : t.val % 16 = 15
  on_goal 1 => rw [outsAt0_C m c t h0 h1]
  on_goal 2 => rw [outsAt0_B m c t h0 h1]
  all_goals
    frame_out
    simp only [read_unread_whole]
    generalize (outsAt0 m c (t.val - 1) _).2.2 = old
    clear h0 h1
    canon_tiles x h
    case piece0 =>
      rw [e25]
      refine kept (dv_head (t := t) (h := 3) (vb := vals m c 3) Q O KV hQ hKV hO ⟨?_, ?_, ?_, fun _ _ => rfl⟩ _ x j h0 (by omega)) ?_
      all_goals (intros; pointwise; blk_ext [iblk, V, idx t, row, col, kcol, vcol])
    case piece1 =>
      rw [e24]
      refine kept (dk_head (t := t) (h := 3) Q O KV hQ hKV hO ⟨?_, ?_, ?_, ?_⟩ _ x j h0 (by omega)) ?_
      all_goals (intros; pointwise; blk_ext [iblk, V, idx t, row, col, kcol, vcol])
    case piece2 =>
      rw [e19]
      refine kept (dv_head (t := t) (h := 2) (vb := vals m c 2) Q O KV hQ hKV hO ⟨?_, ?_, ?_, fun _ _ => rfl⟩ _ x j h0 (by omega)) ?_
      all_goals (intros; pointwise; blk_ext [iblk, V, idx t, row, col, kcol, vcol])
    case piece3 =>
      rw [e18]
      refine kept (dk_head (t := t) (h := 2) Q O KV hQ hKV hO ⟨?_, ?_, ?_, ?_⟩ _ x j h0 (by omega)) ?_
      all_goals (intros; pointwise; blk_ext [iblk, V, idx t, row, col, kcol, vcol])
    case piece4 =>
      rw [e14]
      refine kept (dv_head (t := t) (h := 1) (vb := vals m c 1) Q O KV hQ hKV hO ⟨?_, ?_, ?_, fun _ _ => rfl⟩ _ x j h0 (by omega)) ?_
      all_goals (intros; pointwise; blk_ext [iblk, V, idx t, row, col, kcol, vcol])
    case piece5 =>
      rw [e13]
      refine kept (dk_head (t := t) (h := 1) Q O KV hQ hKV hO ⟨?_, ?_, ?_, ?_⟩ _ x j h0 (by omega)) ?_
      all_goals (intros; pointwise; blk_ext [iblk, V, idx t, row, col, kcol, vcol])
    case piece6 =>
      refine kept (dv_head (t := t) (h := 0) (vb := vals m c 0) Q O KV hQ hKV hO ⟨?_, ?_, ?_, fun _ _ => rfl⟩ _ x j h0 (by omega)) ?_
      all_goals (intros; pointwise; blk_ext [iblk, V, idx t, row, col, kcol, vcol])
    case piece7 =>
      refine kept (dk_head (t := t) (h := 0) Q O KV hQ hKV hO ⟨?_, ?_, ?_, ?_⟩ _ x j h0 (by omega)) ?_
      all_goals (intros; pointwise; blk_ext [iblk, V, idx t, row, col, kcol, vcol])

set_option maxHeartbeats 1000000 in
/-- The first block clears the buffer and adds its part. -/
theorem step_A (t : Fin cfg0.N) (h0 : t.val % 16 = 0) (h1 : ¬t.val % 16 = 15) (j : S256x4096.Idx) :
    (outsAt0 m c t.val t.isLt).2.2 j = part m c t j := by
  rw [outsAt0_A m c t h0 h1]
  frame_out
  simp (disch := decide) only [below]
  rw [covered _ j (View.cover_of_tiled_head _ _ _ rfl j)]
  simp only [List.dropLast]
  clear h0 h1
  canon_tiles x h
  case piece0 =>
    rw [e25]
    refine fresh (dv_head (t := t) (h := 3) (vb := vals m c 3) Q O KV hQ hKV hO ⟨?_, ?_, ?_, fun _ _ => rfl⟩ _ x j h0 (by omega)) ?_
    rotate_right
    · rw [View.readCov_eq_canon']
      canon_tiles y g
      pointwise [k0_pay2]
    all_goals (intros; pointwise; blk_ext [iblk, V, idx t, row, col, kcol, vcol])
  case piece1 =>
    rw [e24]
    refine fresh (dk_head (t := t) (h := 3) Q O KV hQ hKV hO ⟨?_, ?_, ?_, ?_⟩ _ x j h0 (by omega)) ?_
    rotate_right
    · rw [View.readCov_eq_canon']
      canon_tiles y g
      pointwise [k0_pay2]
    all_goals (intros; pointwise; blk_ext [iblk, V, idx t, row, col, kcol, vcol])
  case piece2 =>
    rw [e19]
    refine fresh (dv_head (t := t) (h := 2) (vb := vals m c 2) Q O KV hQ hKV hO ⟨?_, ?_, ?_, fun _ _ => rfl⟩ _ x j h0 (by omega)) ?_
    rotate_right
    · rw [View.readCov_eq_canon']
      canon_tiles y g
      pointwise [k0_pay2]
    all_goals (intros; pointwise; blk_ext [iblk, V, idx t, row, col, kcol, vcol])
  case piece3 =>
    rw [e18]
    refine fresh (dk_head (t := t) (h := 2) Q O KV hQ hKV hO ⟨?_, ?_, ?_, ?_⟩ _ x j h0 (by omega)) ?_
    rotate_right
    · rw [View.readCov_eq_canon']
      canon_tiles y g
      pointwise [k0_pay2]
    all_goals (intros; pointwise; blk_ext [iblk, V, idx t, row, col, kcol, vcol])
  case piece4 =>
    rw [e14]
    refine fresh (dv_head (t := t) (h := 1) (vb := vals m c 1) Q O KV hQ hKV hO ⟨?_, ?_, ?_, fun _ _ => rfl⟩ _ x j h0 (by omega)) ?_
    rotate_right
    · rw [View.readCov_eq_canon']
      canon_tiles y g
      pointwise [k0_pay2]
    all_goals (intros; pointwise; blk_ext [iblk, V, idx t, row, col, kcol, vcol])
  case piece5 =>
    rw [e13]
    refine fresh (dk_head (t := t) (h := 1) Q O KV hQ hKV hO ⟨?_, ?_, ?_, ?_⟩ _ x j h0 (by omega)) ?_
    rotate_right
    · rw [View.readCov_eq_canon']
      canon_tiles y g
      pointwise [k0_pay2]
    all_goals (intros; pointwise; blk_ext [iblk, V, idx t, row, col, kcol, vcol])
  case piece6 =>
    refine fresh (dv_head (t := t) (h := 0) (vb := vals m c 0) Q O KV hQ hKV hO ⟨?_, ?_, ?_, fun _ _ => rfl⟩ _ x j h0 (by omega)) ?_
    rotate_right
    · rw [View.readCov_eq_canon']
      canon_tiles y g
      pointwise [k0_pay2]
    all_goals (intros; pointwise; blk_ext [iblk, V, idx t, row, col, kcol, vcol])
  case piece7 =>
    refine fresh (dk_head (t := t) (h := 0) Q O KV hQ hKV hO ⟨?_, ?_, ?_, ?_⟩ _ x j h0 (by omega)) ?_
    rotate_right
    · rw [View.readCov_eq_canon']
      canon_tiles y g
      pointwise [k0_pay2]
    all_goals (intros; pointwise; blk_ext [iblk, V, idx t, row, col, kcol, vcol])

omit hQ hKV hO in
/-- The last block writes the buffer to the result. -/
theorem out_C (t : Fin cfg0.N) (h0 : ¬t.val % 16 = 0) (h1 : t.val % 16 = 15) (j : S256x4096.Idx) :
    (outsAt0 m c t.val t.isLt).2.1 j = (outsAt0 m c t.val t.isLt).2.2 j := by
  rw [outsAt0_C m c t h0 h1]
  frame_out
  pointwise [k0_pay1]
  rw [View.readCov_eq_canon']
  refine congrArg (View.canon _) (funext fun a => Fin.ext ?_)
  show ![0, 0] a + 1 * (j a).val = (j a).val
  rw [show ![0, 0] a = 0 from (by decide : ∀ a : Fin 2, ![0, 0] a = 0) a]
  omega

end Cert.AttnKernelIdeal.Value
end
-- ==== Proof.AttnQuery.lean ====
/- The gradient of the queries in the attention's backward pass: a block of 512 rows is written in four rectangles, one per head. -/
module

public import proofs.«01_k».proof.Proof.AttnStep

@[expose] public section

set_option maxRecDepth 16384

noncomputable section

open Idealize.ShloMosaic Idealize.ShloMosaic.TcCoe Idealize.SL.Sem
open Idealize.ShloMosaic.Pipeline (Dat)

namespace Cert.AttnKernelIdeal.Value

open Cert.AttnKernelIdeal Cert.AttnKernelIdeal.Gen
open Cert.AttnReferenceIdeal.Read
open Cert.Reals Cert.Softmax

variable (m : (ℓ : Loc nD τ sig) → Buf (Elt Ideal) ℓ) {c : Dev nD}
variable (Q O : S8192x2048.Idx → ℝ) (KV : S256x4096.Idx → ℝ)
  (hQ : ∀ i, aq m c i = ((Q i : ℝ) : EReal)) (hKV : ∀ i, akv m c i = ((KV i : ℝ) : EReal)) (hO : ∀ i, ao m c i = ((O i : ℝ) : EReal))

include hQ hKV hO

set_option maxHeartbeats 2000000 in
/-- A block's rows of the gradient. -/
theorem block_dq (t : Fin cfg0.N) (j : S512x2048.Idx) :
    (outsAt0 m c t.val t.isLt).1 j = val_main_v69 (F := Ideal) (aq m c) (akv m c) (ao m c) (ix2 (row t (j 0)) (j 1)) := by
  by_cases h0 : t.val % 16 = 0
  on_goal 1 => rw [outsAt0_A m c t h0 (by omega)]
  on_goal 2 => by_cases h1 : t.val % 16 = 15
  on_goal 2 => rw [outsAt0_C m c t h0 h1]
  on_goal 3 => rw [outsAt0_B m c t h0 h1]
  all_goals
    frame_out
    try clear h1
    clear h0
    canon_tiles x h
    case piece0 =>
      rw [e23]
      refine dq_head (t := t) (h := 3) Q O KV hQ hKV hO ⟨?_, ?_, ?_, ?_⟩ x _ (congrArg (512 * t.val + ·) h0) (by show (j 1).val = _; omega)
      all_goals (intros; pointwise; blk_ext [iblk, V, idx t, row, col, kcol, vcol])
    case piece1 =>
      rw [e17]
      refine dq_head (t := t) (h := 2) Q O KV hQ hKV hO ⟨?_, ?_, ?_, ?_⟩ x _ (congrArg (512 * t.val + ·) h0) (by show (j 1).val = _; omega)
      all_goals (intros; pointwise; blk_ext [iblk, V, idx t, row, col, kcol, vcol])
    case piece2 =>
      rw [e12]
      refine dq_head (t := t) (h := 1) Q O KV hQ hKV hO ⟨?_, ?_, ?_, ?_⟩ x _ (congrArg (512 * t.val + ·) h0) (by show (j 1).val = _; omega)
      all_goals (intros; pointwise; blk_ext [iblk, V, idx t, row, col, kcol, vcol])
    case piece3 =>
      refine dq_head (t := t) (h := 0) Q O KV hQ hKV hO ⟨?_, ?_, ?_, ?_⟩ x _ (congrArg (512 * t.val + ·) h0) (by show (j 1).val = _; omega)
      all_goals (intros; pointwise; blk_ext [iblk, V, idx t, row, col, kcol, vcol])

/-- The gradient of the queries. -/
theorem query_grad : (dats m 0 c).arrAt 3 (cfgs 0).N = val_main_v69 (F := Ideal) (aq m c) (akv m c) (ao m c) := by
  refine (dats m 0 c).arrAt_eq_of_covers 3 _ (by decide +kernel) fun t _ y => ?_
  blk_simp
  rw [after0_3, show (win0_3.blk t).view.emb y = ix2 (row t (y 0)) (y 1) by blk_ext [idx t, row]]
  exact block_dq m Q O KV hQ hKV hO t y

omit hQ hKV hO in
/-- The reference's gradient of the keys and values, as one sum over the rows. -/
theorem kv_rows (i : S256x4096.Idx) :
    val_main_v70 (F := Ideal) (aq m c) (akv m c) (ao m c) i = ∑ r, term m c (i 0) (i 1) r := by
  obtain ⟨b, j, rfl⟩ : ∃ (b : Fin 256) (j : Fin 4096), i = ix2 b j := ⟨i 0, i 1, eq_ix2 i⟩
  show _ = ∑ r, term m c b j r
  unfold term
  by_cases hj : j.val < 2048
  · rw [dk _ _ _ b ⟨j.val / 512, by omega⟩ ⟨j.val % 512, by omega⟩ j (by show j.val = j.val / 512 * 512 + j.val % 512; omega)]
    exact Fin.sum_fin_congr fun r => by rw [dif_pos hj]
  · have := j.isLt
    rw [dv _ _ _ b ⟨(j.val - 2048) / 512, by omega⟩ ⟨(j.val - 2048) % 512, by omega⟩ j
      (by show j.val = 2048 + ((j.val - 2048) / 512 * 512 + (j.val - 2048) % 512); omega)]
    exact Fin.sum_fin_congr fun r => by rw [dif_neg hj]

/-- The gradient of the keys and values: the sum of the sixteen blocks' parts. -/
theorem kv_grad : (dats m 0 c).arrAt 4 (cfgs 0).N = val_main_v70 (F := Ideal) (aq m c) (akv m c) (ao m c) := by
  refine (dats m 0 c).arrAt_eq_of_after_last 4 t0_15 (by decide +kernel) _ fun j => ?_
  blk_simp
  rw [after0_4, out_C m t0_15 (by decide) (by decide) j,
    Pipeline.eq_sum_fin_of_reset_step_apply_last (fun n h => (outsAt0 m c n h).2.2) 16 (fun _ => 0) (part m c)
      (fun t h i => by
        rw [zero_add]; exact step_A m Q O KV hQ hKV hO t h (by omega) i)
      (fun t h i => step_B m Q O KV hQ hKV hO t h i)
      (le_of_eq N_0) t0_15 rfl j, zero_add, kv_rows]
  show (_ : EReal) = _
  refine Fin.sum_mul_add_congr fun t k hl => ?_
  exact congrArg (term m c (j 0) (j 1)) (Fin.ext (by show 512 * t.val + k.val = t.val * 512 + k.val; omega))

end Cert.AttnKernelIdeal.Value
end
-- ==== Proof.AttnClaim.lean ====
/- Kernel and reference end with the same gradients of the cross attention, for real queries, keys, values and cotangents. -/
module

public import proofs.«01_k».proof.Defs
public import proofs.«01_k».proof.Proof.AttnQuery
public import proofs.«01_k».proof.Proof.Gen.AttnReferenceIdeal.Read
public import proofs.«01_k».proof.Proof.Gen.Pre_attn_finite
public import Idealize.ShloMosaic.Lib.Claim

@[expose] public section

set_option maxRecDepth 16384

noncomputable section

open Idealize.ShloMosaic Idealize.SL.Sem

namespace Cert.AttnClaim

open Cert.AttnKernelIdeal

/-- What the precondition says: the queries, the keys and values, and the cotangent are arrays of reals. -/
theorem reals (q : FVec Ideal Cert.Pre_attn_finite.S8192x2048 .bf16) (kv : FVec Ideal Cert.Pre_attn_finite.S256x4096 .bf16)
    (o : FVec Ideal Cert.Pre_attn_finite.S8192x2048 .bf16) (h : Cert.Pre_attn_finite.fn (F := Ideal) q kv o = fun _ => 1#1) :
    (∃ Q : Cert.Pre_attn_finite.S8192x2048.Idx → ℝ, ∀ i, q i = ((Q i : ℝ) : EReal))
    ∧ (∃ KV : Cert.Pre_attn_finite.S256x4096.Idx → ℝ, ∀ i, kv i = ((KV i : ℝ) : EReal))
    ∧ (∃ O : Cert.Pre_attn_finite.S8192x2048.Idx → ℝ, ∀ i, o i = ((O i : ℝ) : EReal)) := by
  have h0 := congrFun h (fun a => a.elim0)
  obtain ⟨h1, h2⟩ := IntOp.andi_eq_one.1 h0
  obtain ⟨h3, h4⟩ := IntOp.andi_eq_one.1 h1
  haveI : Subsingleton Cert.Pre_attn_finite.S_.Idx := ⟨fun a b => funext fun i => i.elim0⟩
  exact ⟨Reals.real_of_all _ _ (fun i => rfl) _ _ _ _ h3, Reals.real_of_all _ _ (fun i => rfl) _ _ _ _ h4,
    Reals.real_of_all _ _ (fun i => rfl) _ _ _ _ h2⟩

theorem claim : Cert.algebraic_AttnKernelIdeal_AttnReferenceIdeal_pre_attn_finite := by
  pair_intro
  · run_from Cert.AttnKernelIdeal.Value.run_blocks m g
  · obtain ⟨⟨Q, hQ⟩, ⟨KV, hKV⟩, O, hO⟩ := reals _ _ _ (hpre 0)
    run_from Cert.AttnReferenceIdeal.Value.run m' g'
    all_goals obtain rfl : c = 0 := Subsingleton.elim _ _
    · rw [Cert.AttnKernelIdeal.Value.query_grad m Q O KV hQ hKV hO]
      rw [Cert.AttnReferenceIdeal.Read.val_main_v69_eq, (hagree 0).1, (hagree 0).2.1, (hagree 0).2.2]
    · rw [Cert.AttnKernelIdeal.Value.kv_grad m Q O KV hQ hKV hO]
      rw [Cert.AttnReferenceIdeal.Read.val_main_v70_eq, (hagree 0).1, (hagree 0).2.1, (hagree 0).2.2]

end Cert.AttnClaim

end
-- ==== Proof.ConvValue.lean ====
/- The short gated convolution's backward pass: every block of 256 rows reads the two rows before it and the two rows after it
   from its neighbours, and so computes the reference's shifted products; the taps' gradients are sums over the rows, which the
   kernel takes block by block. Nothing here needs the arguments to be finite. -/
module

public import proofs.«01_k».proof.Proof.Gen.ConvKernelIdeal.Value
public import proofs.«01_k».proof.Proof.Gen.ConvReferenceIdeal.Read
public import Idealize.ShloMosaic.Lib.Pipeline.ValueKit
public import Idealize.ShloMosaic.Lib.WordCmp
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.ConvKernelIdeal.Value

open Cert.ConvKernelIdeal Cert.ConvKernelIdeal.Gen
open Cert.ConvReferenceIdeal.Read
open Cert.Reals

variable (m : (ℓ : Loc nD τ sig) → Buf (Elt Ideal) ℓ)

/-- The windows' block indices at a grid point. -/
theorem idx : ∀ t : Fin cfg0.N, win0_0.index t = ![t.val, 0] ∧ win0_1.index t = ![16 * t.val - 1, 0] ∧ win0_2.index t = ![min (16 * t.val + 16) 511, 0]
    ∧ win0_3.index t = ![t.val, 0] ∧ win0_4.index t = ![min (16 * t.val + 16) 511, 0] ∧ win0_5.index t = ![0, 0] ∧ win0_6.index t = ![t.val, 0] ∧ win0_7.index t = ![0, 0] :=
  (by decide +kernel : ∀ t : Fin grid0.N, _)

theorem coord : ∀ t : Fin cfg0.N, ((grid0.coords t) 0).val = t.val :=
  (by decide +kernel : ∀ t : Fin grid0.N, ((grid0.coords t) 0).val = t.val)

/-- The row of a block's row. -/
def row (t : Fin cfg0.N) (a : Fin 256) : Fin 8192 :=
  ⟨256 * t.val + a.val, by have h := lt_of_lt_of_eq t.isLt N_0; have := a.isLt; omega⟩

/-- A selection by a row's number. -/
theorem sel (a n : Nat) (ha : a < 2 ^ 32) (hn : n < 2 ^ 32) (x y : EReal) :
    Scalar.select (IntOp.cmpi .eq (BitVec.ofNat 32 a) (BitVec.ofNat 32 n)) x y = if a = n then x else y := by
  rw [Idealize.ShloMosaic.WordCmp.cmpi_eq_ofNat ha hn]
  by_cases h : a = n <;> simp [h, Scalar.select]

theorem sel_coord (a n : Nat) (ha : a < 2 ^ 32) (hn : n < 2 ^ 32) (x y : EReal) :
    Scalar.select (Scalar.cmpi .eq (BitVec.ofNat 32 a) (BitVec.ofNat 32 n)) x y = if a = n then x else y :=
  sel a n ha hn x y

/-- One row of sixteen, picked as a sum. -/
theorem picked (n : Nat) (hn : n < 16) (f : Fin 16 → EReal) :
    (∑ x : Fin 16, Scalar.select (IntOp.cmpi .eq (BitVec.ofNat 32 x.val) (BitVec.ofNat 32 n)) (f x) 0) = f ⟨n, hn⟩ := by
  rw [Finset.sum_eq_single ⟨n, hn⟩]
  · rw [sel n n (by omega) (by omega), if_pos rfl]
  · intro b _ hb
    rw [sel b.val n (by have := b.isLt; omega) (by omega), if_neg fun h => hb (Fin.ext h)]
  · intro h
    exact absurd (Finset.mem_univ _) h

/-! ## The products along the sequence -/

section Seq

variable (P : FVec Ideal S8192x6144 .bf16) (C : FVec Ideal S3x2048 .f32) (G : FVec Ideal S8192x2048 .bf16)

/-- The convolution's input at a row. -/
def z (r : Fin 8192) (d : Fin 2048) : EReal :=
  P (ix2 r ⟨2048 + d.val, by have := d.isLt; omega⟩) * P (ix2 r ⟨4096 + d.val, by have := d.isLt; omega⟩)
/-- The same `k` rows earlier, zero before the first row. -/
def before (k : Nat) (r : Fin 8192) (d : Fin 2048) : EReal := if h : r.val < k then 0 else z P ⟨r.val - k, by have := r.isLt; omega⟩ d
/-- The convolution's cotangent at a row. -/
def q (r : Fin 8192) (d : Fin 2048) : EReal := P (ix2 r ⟨d.val, by have := d.isLt; omega⟩) * G (ix2 r d)
/-- The same `k` rows later, zero after the last row. -/
def after (k : Nat) (r : Fin 8192) (d : Fin 2048) : EReal := if h : r.val + k < 8192 then q P G ⟨r.val + k, h⟩ d else 0
/-- The convolution. -/
def conv (r : Fin 8192) (d : Fin 2048) : EReal := before P 2 r d * C (ix2 0 d) + before P 1 r d * C (ix2 1 d) + z P r d * C (ix2 2 d)
/-- The gradient of its input. -/
def dz (r : Fin 8192) (d : Fin 2048) : EReal := q P G r d * C (ix2 2 d) + after P G 1 r d * C (ix2 1 d) + after P G 2 r d * C (ix2 0 d)

theorem ref9 (r : Fin 8192) (d : Fin 2048) : val_main_v9 (F := Ideal) P (ix2 r d) = before P 2 r d := by
  pointwise [val_main_v0, val_main_v1, val_main_v2, val_main_v3, val_main_v4, val_main_v5, val_main_cst, val_main_v6, val_main_v7, val_main_cst_0, val_main_v8, val_main_v9]
  rfl
theorem ref17 (r : Fin 8192) (d : Fin 2048) : val_main_v17 (F := Ideal) P (ix2 r d) = before P 1 r d := by
  pointwise [val_main_v0, val_main_v1, val_main_v2, val_main_v3, val_main_v4, val_main_v5, val_main_cst, val_main_v6, val_main_v7, val_main_cst_0, val_main_v8, val_main_v9, val_main_v10, val_main_v11, val_main_v12, val_main_v13, val_main_v14, val_main_cst_1, val_main_v15, val_main_v16, val_main_v17]
  unfold before z
  by_cases h : r.val = 0
  · rw [dif_pos (by omega), dif_pos (by omega)]
  · rw [dif_neg (by omega), dif_neg (by omega)]
    congr 2 <;> blk_ext
theorem ref24 (r : Fin 8192) (d : Fin 2048) : val_main_v24 (F := Ideal) P (ix2 r d) = z P r d := by
  pointwise [val_main_v0, val_main_v1, val_main_v2, val_main_v3, val_main_v4, val_main_v5, val_main_cst, val_main_v6, val_main_v7, val_main_cst_0, val_main_v8, val_main_v9, val_main_v10, val_main_v11, val_main_v12, val_main_v13, val_main_v14, val_main_cst_1, val_main_v15, val_main_v16, val_main_v17, val_main_v18, val_main_v19, val_main_v20, val_main_v21, val_main_v22, val_main_v23, val_main_v24]
  rfl
theorem ref32 (r : Fin 8192) (d : Fin 2048) : val_main_v32 (F := Ideal) P G (ix2 r d) = q P G r d := by
  pointwise [val_main_v0, val_main_v1, val_main_v2, val_main_v3, val_main_v4, val_main_v5, val_main_cst, val_main_v6, val_main_v7, val_main_cst_0, val_main_v8, val_main_v9, val_main_v10, val_main_v11, val_main_v12, val_main_v13, val_main_v14, val_main_cst_1, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32]
  rfl
theorem ref30 (r : Fin 8192) (d : Fin 2048) : val_main_v30 (F := Ideal) P C (ix2 r d) = conv P C r d := by
  pointwise [val_main_v0, val_main_v1, val_main_v2, val_main_v3, val_main_v4, val_main_v5, val_main_cst, val_main_v6, val_main_v7, val_main_cst_0, val_main_v8, val_main_v10, val_main_v11, val_main_v12, val_main_v13, val_main_v14, val_main_cst_1, val_main_v15, val_main_v16, val_main_v18, val_main_v19, val_main_v20, val_main_v21, val_main_v22, val_main_v23, val_main_v25, val_main_v26, val_main_v27, val_main_v28, val_main_v29, val_main_v30]
  rw [ref9, ref17, ref24]
  rfl
theorem ref66 (r : Fin 8192) (d : Fin 2048) : val_main_v66 (F := Ideal) P C G (ix2 r d) = dz P C G r d := by
  pointwise [val_main_v0, val_main_v1, val_main_v2, val_main_v3, val_main_v4, val_main_v5, val_main_cst, val_main_v6, val_main_v7, val_main_cst_0, val_main_v8, val_main_v9, val_main_v10, val_main_v11, val_main_v12, val_main_v13, val_main_v14, val_main_cst_1, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v33, val_main_v34, val_main_cst_2, val_main_v35, val_main_v36, val_main_v37, val_main_v38, val_main_cst_3, val_main_v39, val_main_v40, val_main_cst_4, val_main_v41, val_main_cst_5, val_main_v42, val_main_v43, val_main_cst_6, val_main_v44, val_main_v45, val_main_v46, val_main_v47, val_main_cst_7, val_main_v48, val_main_v49, val_main_cst_8, val_main_v50, val_main_v51, val_main_cst_9, val_main_v52, val_main_v53, val_main_v54, val_main_cst_10, val_main_v55, val_main_v56, val_main_v57, val_main_v58, val_main_cst_11, val_main_v59, val_main_v60, val_main_cst_12, val_main_v61, val_main_v62, val_main_cst_13, val_main_v63, val_main_v64, val_main_v65, val_main_v66]
  unfold dz after
  simp only [ref32]
  congr 1
  · congr 1
    by_cases h : r.val + 1 < 8192
    · rw [dif_pos (by omega), dif_pos h, show (⟨2 + r.val - 1, by omega⟩ : Fin 8192) = ⟨r.val + 1, h⟩ from Fin.ext (by show 2 + r.val - 1 = r.val + 1; omega)]
    · rw [dif_neg (by omega), dif_neg h, zero_mul]
  · by_cases h : r.val + 2 < 8192
    · rw [dif_pos (by omega), dif_pos h, show (⟨2 + r.val, by omega⟩ : Fin 8192) = ⟨r.val + 2, h⟩ from Fin.ext (by show 2 + r.val = r.val + 2; omega)]
    · rw [dif_neg (by omega), dif_neg h, zero_mul]
theorem ref62 (k : Fin 3) (d : Fin 2048) : val_main_v62 (F := Ideal) P G (ix2 k d)
    = if k.val = 2 then ∑ r, z P r d * q P G r d else if k.val = 1 then ∑ r, before P 1 r d * q P G r d else ∑ r, before P 2 r d * q P G r d := by
  pointwise [val_main_v0, val_main_v1, val_main_v2, val_main_v3, val_main_v4, val_main_v5, val_main_cst, val_main_v6, val_main_v7, val_main_cst_0, val_main_v8, val_main_v10, val_main_v11, val_main_v12, val_main_v13, val_main_v14, val_main_cst_1, val_main_v15, val_main_v16, val_main_v18, val_main_v19, val_main_v20, val_main_v21, val_main_v22, val_main_v23, val_main_v25, val_main_v26, val_main_v27, val_main_v28, val_main_v29, val_main_v30, val_main_v31, val_main_v33, val_main_v34, val_main_cst_2, val_main_v35, val_main_v36, val_main_v37, val_main_v38, val_main_cst_3, val_main_v39, val_main_v40, val_main_cst_4, val_main_v41, val_main_cst_5, val_main_v42, val_main_v43, val_main_cst_6, val_main_v44, val_main_v45, val_main_v46, val_main_v47, val_main_cst_7, val_main_v48, val_main_v49, val_main_cst_8, val_main_v50, val_main_v51, val_main_cst_9, val_main_v52, val_main_v53, val_main_v54, val_main_cst_10, val_main_v55, val_main_v56, val_main_v57, val_main_v58, val_main_cst_11, val_main_v59, val_main_v60, val_main_cst_12, val_main_v61, val_main_v62]
  simp only [ref9, ref17, ref24, ref32, Fin.sum_univ_one]
  obtain ⟨k, hk⟩ := k
  obtain rfl | rfl | rfl : k = 0 ∨ k = 1 ∨ k = 2 := by omega
  all_goals simp
/-- The gradient of the projection: of the gate, of the second factor, of the third. -/
theorem ref70 (r : Fin 8192) (d : Fin 6144) : val_main_v70 (F := Ideal) P C G (ix2 r d)
    = if h : d.val < 2048 then G (ix2 r ⟨d.val, h⟩) * conv P C r ⟨d.val, h⟩
      else if h : d.val < 4096 then dz P C G r ⟨d.val - 2048, by omega⟩ * P (ix2 r ⟨2048 + d.val, by omega⟩)
      else P (ix2 r ⟨d.val - 2048, by have := d.isLt; omega⟩) * dz P C G r ⟨d.val - 4096, by have := d.isLt; omega⟩ := by
  pointwise [val_main_v0, val_main_v1, val_main_v2, val_main_v3, val_main_v4, val_main_v5, val_main_cst, val_main_v6, val_main_v7, val_main_cst_0, val_main_v8, val_main_v9, val_main_v10, val_main_v11, val_main_v12, val_main_v13, val_main_v14, val_main_cst_1, val_main_v15, val_main_v16, val_main_v17, val_main_v18, val_main_v19, val_main_v20, val_main_v21, val_main_v22, val_main_v23, val_main_v24, val_main_v25, val_main_v26, val_main_v27, val_main_v28, val_main_v29, val_main_v31, val_main_v32, val_main_v33, val_main_v34, val_main_cst_2, val_main_v35, val_main_v36, val_main_v37, val_main_v38, val_main_cst_3, val_main_v39, val_main_v40, val_main_cst_4, val_main_v41, val_main_cst_5, val_main_v42, val_main_v43, val_main_cst_6, val_main_v44, val_main_v45, val_main_v46, val_main_v47, val_main_cst_7, val_main_v48, val_main_v49, val_main_cst_8, val_main_v50, val_main_v51, val_main_cst_9, val_main_v52, val_main_v53, val_main_v54, val_main_cst_10, val_main_v55, val_main_v56, val_main_v57, val_main_v58, val_main_cst_11, val_main_v59, val_main_v60, val_main_cst_12, val_main_v61, val_main_v62, val_main_cst_13, val_main_v63, val_main_v64, val_main_v65, val_main_v67, val_main_v68, val_main_v69, val_main_v70]
  by_cases h : d.val < 2048
  · rw [dif_pos h, dif_pos h, ref30]
  · by_cases h' : d.val < 4096
    · rw [dif_neg h, dif_neg h, dif_pos (by omega), dif_pos h', ref66,
        show (⟨4096 + (d.val - 2048), by omega⟩ : Fin 6144) = ⟨2048 + d.val, by omega⟩ from Fin.ext (by show 4096 + (d.val - 2048) = 2048 + d.val; omega)]
    · rw [dif_neg h, dif_neg h, dif_neg (by omega), dif_neg h', ref66,
        show (⟨2048 + (d.val - 2048 - 2048), by omega⟩ : Fin 6144) = ⟨d.val - 2048, by omega⟩ from Fin.ext (by show 2048 + (d.val - 2048 - 2048) = d.val - 2048; omega),
        show (⟨d.val - 2048 - 2048, by omega⟩ : Fin 2048) = ⟨d.val - 4096, by omega⟩ from Fin.ext (by show d.val - 2048 - 2048 = d.val - 4096; omega)]

end Seq

/-! ## One block: what the kernel computes from a block and its neighbours -/

section Block

variable (t : Fin cfg0.N) (P : FVec Ideal S8192x6144 .bf16) (C : FVec Ideal S3x2048 .f32) (G : FVec Ideal S8192x2048 .bf16)
  (v : Vec Ideal S256x6144 .bf16) (w : Vec Ideal S16x6144 .bf16) (g : Vec Ideal S256x2048 .bf16) (nx gn : Vec Ideal S16x2048 .bf16)
  (hv : ∀ a d, v (ix2 a d) = P (ix2 (row t a) d))
  (hw : ∀ (h : 1 ≤ t.val) (x : Fin 16) (d : Fin 6144), w (ix2 x d) = P (ix2 ⟨256 * t.val - 16 + x.val, by have h := lt_of_lt_of_eq t.isLt N_0; have := x.isLt; omega⟩ d))
  (hg : ∀ a d, g (ix2 a d) = G (ix2 (row t a) d))
  (hn : ∀ (h : t.val < 31) (x : Fin 16) (d : Fin 2048), nx (ix2 x d) = P (ix2 ⟨256 * t.val + 256 + x.val, by have := x.isLt; omega⟩ ⟨d.val, by have := d.isLt; omega⟩))
  (hgn : ∀ (h : t.val < 31) (x : Fin 16) (d : Fin 2048), gn (ix2 x d) = G (ix2 ⟨256 * t.val + 256 + x.val, by have := x.isLt; omega⟩ d))

include hv in
theorem here (a : Fin 256) (d : Fin 2048) : k0_pay11 v (ix2 a d) = z P (row t a) d := by
  pointwise [k0_pay11, k0_pay9, k0_pay10, k0_pay7]
  rw [hv, hv]
  rfl

include hw in
/-- The last row before the block. -/
theorem last (a : Fin 1) (d : Fin 2048) : k0_pay13 (grid0.coords t) w (ix2 a d) = if h : 1 ≤ t.val then z P ⟨256 * t.val - 1, by have h := lt_of_lt_of_eq t.isLt N_0; omega⟩ d else 0 := by
  have hN := lt_of_lt_of_eq t.isLt N_0
  pointwise [k0_pay13, k0_pay12]
  simp only [picked 15 (by omega)]
  rw [coord t, sel_coord t.val 0 (by omega) (by omega)]
  by_cases h : 1 ≤ t.val
  · rw [if_neg (by omega), dif_pos h, hw h, hw h]
    exact congrArg (fun r => z P r d) (Fin.ext (by show 256 * t.val - 16 + 15 = 256 * t.val - 1; omega))
  · rw [if_pos (by omega), dif_neg h]

include hv hw in
theorem before_one (a : Fin 256) (d : Fin 2048) : k0_pay14 (grid0.coords t) v w (ix2 a d) = before P 1 (row t a) d := by
  have hN := lt_of_lt_of_eq t.isLt N_0
  have ha := a.isLt
  pointwise [k0_pay14]
  rw [sel a.val 0 (by omega) (by omega), last t P w hw, here t P v hv]
  unfold before
  by_cases h : a.val = 0
  · rw [if_pos h]
    by_cases h1 : 1 ≤ t.val
    · rw [dif_pos h1, dif_neg (by show ¬ 256 * t.val + a.val < 1; omega)]
      exact congrArg (fun r => z P r d) (Fin.ext (by show 256 * t.val - 1 = 256 * t.val + a.val - 1; omega))
    · rw [dif_neg h1, dif_pos (by show 256 * t.val + a.val < 1; omega)]
  · rw [if_neg h, dif_neg (by show ¬ 256 * t.val + a.val < 1; omega)]
    exact congrArg (fun r => z P r d) (Fin.ext (by show 256 * t.val + (a.val + 256 - 1) % 256 = 256 * t.val + a.val - 1; omega))

include hv hw in
theorem before_two (a : Fin 256) (d : Fin 2048) : k0_pay16 (k0_pay13 (grid0.coords t) w) (iota Kind.tc S256x2048 32 [0] iota_S256x2048_d0_w32)
    (k0_pay15 (grid0.coords t) v w) 1#32 (ix2 a d) = before P 2 (row t a) d := by
  have hN := lt_of_lt_of_eq t.isLt N_0
  have ha := a.isLt
  pointwise [k0_pay16, k0_pay15, k0_pay12]
  simp only [picked 14 (by omega)]
  rw [sel a.val 1 (by omega) (by omega), sel a.val 0 (by omega) (by omega), last t P w hw, here t P v hv, coord t, sel_coord t.val 0 (by omega) (by omega)]
  unfold before
  by_cases h : a.val = 1
  · rw [if_pos h]
    by_cases h1 : 1 ≤ t.val
    · rw [dif_pos h1, dif_neg (by show ¬ 256 * t.val + a.val < 2; omega)]
      exact congrArg (fun r => z P r d) (Fin.ext (by show 256 * t.val - 1 = 256 * t.val + a.val - 2; omega))
    · rw [dif_neg h1, dif_pos (by show 256 * t.val + a.val < 2; omega)]
  · rw [if_neg h]
    by_cases h0 : a.val = 0
    · rw [if_pos h0]
      by_cases h1 : 1 ≤ t.val
      · rw [if_neg (by omega), dif_neg (by show ¬ 256 * t.val + a.val < 2; omega), hw h1, hw h1]
        exact congrArg (fun r => z P r d) (Fin.ext (by show 256 * t.val - 16 + 14 = 256 * t.val + a.val - 2; omega))
      · rw [if_pos (by omega), dif_pos (by show 256 * t.val + a.val < 2; omega)]
    · rw [if_neg h0, dif_neg (by show ¬ 256 * t.val + a.val < 2; omega)]
      exact congrArg (fun r => z P r d) (Fin.ext (by show 256 * t.val + (a.val + 256 - 2) % 256 = 256 * t.val + a.val - 2; omega))

include hv hg in
theorem cot (a : Fin 256) (d : Fin 2048) : k0_pay19 (k0_pay8 v) g (ix2 a d) = q P G (row t a) d := by
  pointwise [k0_pay19, k0_pay8, k0_pay18]
  rw [mul_comm, hg]
  pointwise [k0_pay7]
  rw [hv]
  rfl

include hn hgn in
theorem first (a : Fin 1) (d : Fin 2048) : k0_pay21 (BitVec.ofNat 32 (grid0.coords t 0).val) gn nx (ix2 a d)
    = if h : t.val < 31 then q P G ⟨256 * t.val + 256, by omega⟩ d else 0 := by
  have hN := lt_of_lt_of_eq t.isLt N_0
  pointwise [k0_pay21, k0_pay20]
  simp only [picked 0 (by omega)]
  rw [coord t, sel_coord t.val 31 (by omega) (by omega)]
  by_cases h : t.val < 31
  · rw [if_neg (by omega), dif_pos h, hn h, hgn h, mul_comm]
    rfl
  · rw [if_pos (by omega), dif_neg h]

include hn hgn in
theorem second (d : Fin 2048) : k0_pay22 (BitVec.ofNat 32 (grid0.coords t 0).val) gn nx (ix1 d)
    = if h : t.val < 31 then q P G ⟨256 * t.val + 257, by omega⟩ d else 0 := by
  have hN := lt_of_lt_of_eq t.isLt N_0
  pointwise [k0_pay22, k0_pay20]
  simp only [picked 1 (by omega)]
  rw [coord t, sel_coord t.val 31 (by omega) (by omega)]
  by_cases h : t.val < 31
  · rw [if_neg (by omega), dif_pos h, hn h, hgn h, mul_comm]
    rfl
  · rw [if_pos (by omega), dif_neg h]

include hv hg hn hgn in
theorem input_grad (c0 c1 c2 : Vec Ideal S1x2048 .f32) (h0 : ∀ d, c0 (ix2 0 d) = C (ix2 0 d)) (h1 : ∀ d, c1 (ix2 0 d) = C (ix2 1 d))
    (h2 : ∀ d, c2 (ix2 0 d) = C (ix2 2 d)) (a : Fin 256) (d : Fin 2048) :
    k0_pay23 (k0_pay19 (k0_pay8 v) g) (k0_pay21 (BitVec.ofNat 32 (grid0.coords t 0).val) gn nx) (k0_pay22 (BitVec.ofNat 32 (grid0.coords t 0).val) gn nx)
      c2 c1 c0 (ix2 a d) = dz P C G (row t a) d := by
  have hN := lt_of_lt_of_eq t.isLt N_0
  have ha := a.isLt
  pointwise [k0_pay23]
  rw [sel a.val 255 (by omega) (by omega), sel a.val 255 (by omega) (by omega), sel a.val 254 (by omega) (by omega),
    first t P G nx gn hn hgn, second t P G nx gn hn hgn, cot t P G v g hv hg, cot t P G v g hv hg, cot t P G v g hv hg, h0, h1, h2]
  unfold dz after
  congr 1
  · congr 2
    by_cases h : a.val = 255
    · rw [if_pos h]
      by_cases h1 : t.val < 31
      · rw [dif_pos h1, dif_pos (by show 256 * t.val + a.val + 1 < 8192; omega)]
        exact congrArg (fun r => q P G r d) (Fin.ext (by show 256 * t.val + 256 = 256 * t.val + a.val + 1; omega))
      · rw [dif_neg h1, dif_neg (by show ¬ 256 * t.val + a.val + 1 < 8192; omega)]
    · rw [if_neg h, dif_pos (by show 256 * t.val + a.val + 1 < 8192; omega)]
      exact congrArg (fun r => q P G r d) (Fin.ext (by show 256 * t.val + (a.val + 256 - 255) % 256 = 256 * t.val + a.val + 1; omega))
  · congr 1
    by_cases h : a.val = 255
    · rw [if_pos h]
      by_cases h1 : t.val < 31
      · rw [dif_pos h1, dif_pos (by show 256 * t.val + a.val + 2 < 8192; omega)]
        exact congrArg (fun r => q P G r d) (Fin.ext (by show 256 * t.val + 257 = 256 * t.val + a.val + 2; omega))
      · rw [dif_neg h1, dif_neg (by show ¬ 256 * t.val + a.val + 2 < 8192; omega)]
    · rw [if_neg h]
      by_cases h4 : a.val = 254
      · rw [if_pos h4]
        by_cases h1 : t.val < 31
        · rw [dif_pos h1, dif_pos (by show 256 * t.val + a.val + 2 < 8192; omega)]
          exact congrArg (fun r => q P G r d) (Fin.ext (by show 256 * t.val + 256 = 256 * t.val + a.val + 2; omega))
        · rw [dif_neg h1, dif_neg (by show ¬ 256 * t.val + a.val + 2 < 8192; omega)]
      · rw [if_neg h4, dif_pos (by show 256 * t.val + a.val + 2 < 8192; omega)]
        exact congrArg (fun r => q P G r d) (Fin.ext (by show 256 * t.val + (a.val + 256 - 254) % 256 = 256 * t.val + a.val + 2; omega))

end Block

/-! ## The arrays -/

section Final

variable (c : Dev nD)

abbrev ap : FVec Ideal S8192x6144 .bf16 := m ((c : Thread nD τ).loc main_arg0)
abbrev ac : FVec Ideal S3x2048 .f32 := m ((c : Thread nD τ).loc main_arg1)
abbrev ag : FVec Ideal S8192x2048 .bf16 := m ((c : Thread nD τ).loc main_arg2)

theorem blk0 (t : Fin cfg0.N) (a : Fin 256) (d : Fin 6144) : iblk m c 0 t (ix2 a d) = ap m c (ix2 (row t a) d) := by
  blk_ext [iblk, V, idx t, row]
theorem blk1 (t : Fin cfg0.N) (h : 1 ≤ t.val) (x : Fin 16) (d : Fin 6144) : iblk m c 1 t (ix2 x d)
    = ap m c (ix2 ⟨256 * t.val - 16 + x.val, by have h := lt_of_lt_of_eq t.isLt N_0; have := x.isLt; omega⟩ d) := by
  blk_ext [iblk, V, idx t]
theorem blk2 (t : Fin cfg0.N) (h : t.val < 31) (x : Fin 16) (d : Fin 6144) : iblk m c 2 t (ix2 x d)
    = ap m c (ix2 ⟨256 * t.val + 256 + x.val, by have := x.isLt; omega⟩ d) := by
  blk_ext [iblk, V, idx t]
theorem blk3 (t : Fin cfg0.N) (a : Fin 256) (d : Fin 2048) : iblk m c 3 t (ix2 a d) = ag m c (ix2 (row t a) d) := by
  blk_ext [iblk, V, idx t, row]
theorem blk4 (t : Fin cfg0.N) (h : t.val < 31) (x : Fin 16) (d : Fin 2048) : iblk m c 4 t (ix2 x d)
    = ag m c (ix2 ⟨256 * t.val + 256 + x.val, by have := x.isLt; omega⟩ d) := by
  blk_ext [iblk, V, idx t]
theorem blk5 (t : Fin cfg0.N) (k : Fin 3) (d : Fin 2048) : iblk m c 5 t (ix2 k d) = ac m c (ix2 k d) := by
  blk_ext [iblk, V, idx t]

theorem taps (t : Fin cfg0.N) (a : Fin 256) (d : Fin 2048) :
    k0_pay23 (k0_pay19 (k0_pay8 (iblk m c 0 t)) (iblk m c 3 t))
      (k0_pay21 (BitVec.ofNat 32 (grid0.coords t 0).val) (iblk m c 4 t) (View.ld (iblk m c 2 t) (Rect.unit ![0, 0] ![16, 2048] inb_S16x6144_S16x2048_0_0)))
      (k0_pay22 (BitVec.ofNat 32 (grid0.coords t 0).val) (iblk m c 4 t) (View.ld (iblk m c 2 t) (Rect.unit ![0, 0] ![16, 2048] inb_S16x6144_S16x2048_0_0)))
      (View.ld (iblk m c 5 t) (Rect.unit ![2, 0] ![1, 2048] inb_S3x2048_S1x2048_2_0))
      (View.ld (iblk m c 5 t) (Rect.unit ![1, 0] ![1, 2048] inb_S3x2048_S1x2048_1_0))
      (View.ld (iblk m c 5 t) (Rect.unit ![0, 0] ![1, 2048] inb_S3x2048_S1x2048_0_0)) (ix2 a d)
      = dz (ap m c) (ac m c) (ag m c) (row t a) d := by
  refine input_grad t (ap m c) (ac m c) (ag m c) _ _ _ _ (blk0 m c t) (blk3 m c t) (fun h x d => ?_) (blk4 m c t) _ _ _ (fun d => ?_) (fun d => ?_) (fun d => ?_) a d
  · pointwise
    exact blk2 m c t h x ⟨d.val, by have := d.isLt; omega⟩
  all_goals
    pointwise
    exact blk5 m c t _ d

theorem block_dp (t : Fin cfg0.N) (j : S256x6144.Idx) :
    (outsAt0 m c t.val t.isLt).1 j = val_main_v70 (F := Ideal) (ap m c) (ac m c) (ag m c) (ix2 (row t (j 0)) (j 1)) := by
  have hN := lt_of_lt_of_eq t.isLt N_0
  refine Eq.trans ?_ (ref70 _ _ _ (row t (j 0)) (j 1)).symm
  by_cases h : t.val % 32 = 0
  on_goal 1 => rw [outsAt0_A m c t h (by omega)]
  on_goal 2 => rw [outsAt0_B m c t h (by omega)]
  all_goals
    frame_out
    clear h
    canon_tiles x h
    case piece0 =>
      obtain ⟨a, d, rfl⟩ : ∃ (a : Fin 256) (d : Fin 2048), x = ix2 a d := ⟨x 0, x 1, eq_ix2 x⟩
      have e0 : j 0 = a := Fin.ext h0
      have e1 : (j 1).val = 4096 + d.val := h1
      have := d.isLt
      rw [dif_neg (by omega), dif_neg (by omega), e0]
      pointwise [k0_pay26, k0_pay9, k0_pay7]
      refine (congrArg₂ (· * ·) (taps m c t a d) (blk0 m c t a _)).trans ((mul_comm _ _).trans ?_)
      refine congrArg₂ (fun k l => ap m c (ix2 (row t a) k) * dz (ap m c) (ac m c) (ag m c) (row t a) l) (Fin.ext ?_) (Fin.ext ?_)
      · show 2048 + d.val = (j 1).val - 2048; omega
      · show d.val = (j 1).val - 4096; omega
    case piece1 =>
      obtain ⟨a, d, rfl⟩ : ∃ (a : Fin 256) (d : Fin 2048), x = ix2 a d := ⟨x 0, x 1, eq_ix2 x⟩
      have e0 : j 0 = a := Fin.ext h0
      have e1 : (j 1).val = 2048 + d.val := h1
      have := d.isLt
      rw [dif_neg (by omega), dif_pos (by omega), e0]
      pointwise [k0_pay25, k0_pay10, k0_pay7]
      refine (congrArg₂ (· * ·) (taps m c t a d) (blk0 m c t a _)).trans ?_
      refine congrArg₂ (fun k l => dz (ap m c) (ac m c) (ag m c) (row t a) l * ap m c (ix2 (row t a) k)) (Fin.ext ?_) (Fin.ext ?_)
      · show 4096 + d.val = 2048 + (j 1).val; omega
      · show d.val = (j 1).val - 2048; omega
    case piece2 =>
      obtain ⟨a, d, rfl⟩ : ∃ (a : Fin 256) (d : Fin 2048), x = ix2 a d := ⟨x 0, x 1, eq_ix2 x⟩
      have e0 : j 0 = a := Fin.ext h0
      have e1 : (j 1).val = d.val := h1
      have := d.isLt
      rw [dif_pos (by omega), e0, show (⟨(j 1).val, by omega⟩ : Fin 2048) = d from Fin.ext e1]
      pointwise [k0_pay24, k0_pay17, k0_pay18]
      rw [here t (ap m c) _ (blk0 m c t), before_one t (ap m c) _ _ (blk0 m c t) (blk1 m c t), before_two t (ap m c) _ _ (blk0 m c t) (blk1 m c t)]
      rw [blk3, blk5, blk5, blk5]
      rfl

/-- The gradient of the projection. -/
theorem proj_grad : (dats m 0 c).arrAt 6 (cfgs 0).N = val_main_v70 (F := Ideal) (ap m c) (ac m c) (ag m c) := by
  refine (dats m 0 c).arrAt_eq_of_covers 6 _ (by decide +kernel) fun t _ y => ?_
  blk_simp
  rw [after0_6, show (win0_6.blk t).view.emb y = ix2 (row t (y 0)) (y 1) by blk_ext [idx t, row]]
  exact block_dp m c t y

/-- A row's part of a tap's gradient. -/
def tap (P : FVec Ideal S8192x6144 .bf16) (G : FVec Ideal S8192x2048 .bf16) (k : Fin 3) (d : Fin 2048) (r : Fin 8192) : EReal :=
  (if k.val = 2 then z P r d else if k.val = 1 then before P 1 r d else before P 2 r d) * q P G r d

theorem ref_tap (P : FVec Ideal S8192x6144 .bf16) (G : FVec Ideal S8192x2048 .bf16) (k : Fin 3) (d : Fin 2048) :
    val_main_v62 (F := Ideal) P G (ix2 k d) = ∑ r, tap P G k d r := by
  rw [ref62]
  unfold tap
  split_ifs <;> rfl

/-- A block's part. -/
def part (t : Fin cfg0.N) (j : S3x2048.Idx) : EReal := ∑ a, tap (ap m c) (ag m c) (j 0) (j 1) (row t a)

theorem part_two (t : Fin cfg0.N) (d : Fin 2048) :
    k0_pay3 (k0_pay11 (iblk m c 0 t)) (k0_pay19 (k0_pay8 (iblk m c 0 t)) (iblk m c 3 t)) (ix2 0 d) = part m c t (ix2 2 d) := by
  pointwise [k0_pay3]
  refine Fin.sum_fin_congr fun a => ?_
  rw [cot t (ap m c) (ag m c) _ _ (blk0 m c t) (blk3 m c t), here t (ap m c) _ (blk0 m c t)]
  exact mul_comm _ _

theorem part_one (t : Fin cfg0.N) (d : Fin 2048) :
    k0_pay2 (k0_pay14 (grid0.coords t) (iblk m c 0 t) (iblk m c 1 t)) (k0_pay19 (k0_pay8 (iblk m c 0 t)) (iblk m c 3 t)) (ix2 0 d) = part m c t (ix2 1 d) := by
  pointwise [k0_pay2]
  refine Fin.sum_fin_congr fun a => ?_
  rw [cot t (ap m c) (ag m c) _ _ (blk0 m c t) (blk3 m c t), before_one t (ap m c) _ _ (blk0 m c t) (blk1 m c t)]
  exact mul_comm _ _

theorem part_zero (t : Fin cfg0.N) (d : Fin 2048) :
    k0_pay1 (k0_pay16 (k0_pay13 (grid0.coords t) (iblk m c 1 t)) (iota Kind.tc S256x2048 32 [0] iota_S256x2048_d0_w32)
      (k0_pay15 (grid0.coords t) (iblk m c 0 t) (iblk m c 1 t)) 1#32) (k0_pay19 (k0_pay8 (iblk m c 0 t)) (iblk m c 3 t)) (ix2 0 d) = part m c t (ix2 0 d) := by
  pointwise [k0_pay1]
  refine Fin.sum_fin_congr fun a => ?_
  rw [cot t (ap m c) (ag m c) _ _ (blk0 m c t) (blk3 m c t), before_two t (ap m c) _ _ (blk0 m c t) (blk1 m c t)]
  exact mul_comm _ _

theorem reset (t : Fin cfg0.N) (h : t.val % 32 = 0) (j : S3x2048.Idx) : (outsAt0 m c t.val t.isLt).2 j = part m c t j := by
  have hN := lt_of_lt_of_eq t.isLt N_0
  rw [outsAt0_A m c t h (by omega)]
  frame_out
  clear h
  canon_tiles x h
  case piece0 =>
    obtain ⟨a, d, rfl⟩ : ∃ (a : Fin 1) (d : Fin 2048), x = ix2 a d := ⟨x 0, x 1, eq_ix2 x⟩
    obtain rfl : a = 0 := Subsingleton.elim _ _
    obtain rfl : j = ix2 2 d := (eq_ix2 j).trans (congrArg₂ ix2 (Fin.ext h0) (Fin.ext h1))
    exact part_two m c t d
  case piece1 =>
    obtain ⟨a, d, rfl⟩ : ∃ (a : Fin 1) (d : Fin 2048), x = ix2 a d := ⟨x 0, x 1, eq_ix2 x⟩
    obtain rfl : a = 0 := Subsingleton.elim _ _
    obtain rfl : j = ix2 1 d := (eq_ix2 j).trans (congrArg₂ ix2 (Fin.ext h0) (Fin.ext h1))
    exact part_one m c t d
  case piece2 =>
    obtain ⟨a, d, rfl⟩ : ∃ (a : Fin 1) (d : Fin 2048), x = ix2 a d := ⟨x 0, x 1, eq_ix2 x⟩
    obtain rfl : a = 0 := Subsingleton.elim _ _
    obtain rfl : j = ix2 0 d := (eq_ix2 j).trans (congrArg₂ ix2 (Fin.ext h0) (Fin.ext h1))
    exact part_zero m c t d

theorem step (t : Fin cfg0.N) (h : ¬ t.val % 32 = 0) (j : S3x2048.Idx) :
    (outsAt0 m c t.val t.isLt).2 j = (outsAt0 m c (t.val - 1) (by omega)).2 j + part m c t j := by
  have hN := lt_of_lt_of_eq t.isLt N_0
  rw [outsAt0_B m c t h (by omega)]
  frame_out
  generalize (outsAt0 m c (t.val - 1) _).2 = old
  clear h
  canon_tiles x h
  case piece0 =>
    obtain ⟨a, d, rfl⟩ : ∃ (a : Fin 1) (d : Fin 2048), x = ix2 a d := ⟨x 0, x 1, eq_ix2 x⟩
    obtain rfl : a = 0 := Subsingleton.elim _ _
    obtain rfl : j = ix2 2 d := (eq_ix2 j).trans (congrArg₂ ix2 (Fin.ext h0) (Fin.ext h1))
    pointwise [k0_pay6]
    rw [part_two m c t d]
  case piece1 =>
    obtain ⟨a, d, rfl⟩ : ∃ (a : Fin 1) (d : Fin 2048), x = ix2 a d := ⟨x 0, x 1, eq_ix2 x⟩
    obtain rfl : a = 0 := Subsingleton.elim _ _
    obtain rfl : j = ix2 1 d := (eq_ix2 j).trans (congrArg₂ ix2 (Fin.ext h0) (Fin.ext h1))
    pointwise [k0_pay5]
    rw [part_one m c t d]
  case piece2 =>
    obtain ⟨a, d, rfl⟩ : ∃ (a : Fin 1) (d : Fin 2048), x = ix2 a d := ⟨x 0, x 1, eq_ix2 x⟩
    obtain rfl : a = 0 := Subsingleton.elim _ _
    obtain rfl : j = ix2 0 d := (eq_ix2 j).trans (congrArg₂ ix2 (Fin.ext h0) (Fin.ext h1))
    pointwise [k0_pay4]
    rw [part_zero m c t d]

/-- The last block. -/
def end_pt : Fin cfg0.N := ⟨31, by rw [show cfg0.N = 32 from N_0]; decide⟩

/-- The gradient of the taps: the sum of the blocks' parts. -/
theorem tap_grad : (dats m 0 c).arrAt 7 (cfgs 0).N = val_main_v62 (F := Ideal) (ap m c) (ag m c) := by
  refine (dats m 0 c).arrAt_eq_of_after_last 7 end_pt (by decide +kernel) _ fun j => ?_
  blk_simp
  rw [after0_7, Pipeline.eq_sum_fin_of_reset_step_apply_last (fun n h => (outsAt0 m c n h).2) 32 (fun _ => 0) (part m c)
    (fun t h i => by rw [zero_add]; exact reset m c t h i) (fun t h i => step m c t h i) (le_of_eq N_0) end_pt rfl j, zero_add]
  obtain ⟨k, d, rfl⟩ : ∃ (k : Fin 3) (d : Fin 2048), j = ix2 k d := ⟨j 0, j 1, eq_ix2 j⟩
  refine Eq.trans ?_ (ref_tap _ _ k d).symm
  show (_ : EReal) = _
  refine Fin.sum_mul_add_congr fun t a hl => ?_
  exact congrArg (tap (ap m c) (ag m c) k d) (Fin.ext (by show 256 * t.val + a.val = t.val * 256 + a.val; omega))

end Final

end Cert.ConvKernelIdeal.Value
end
-- ==== Proof.ConvClaim.lean ====
/- Kernel and reference end with the same gradients of the gated convolution, for any arguments. -/
module

public import proofs.«01_k».proof.Defs
public import proofs.«01_k».proof.Proof.ConvValue
public import proofs.«01_k».proof.Proof.Gen.ConvReferenceIdeal.Read
public import Idealize.ShloMosaic.Lib.Claim

@[expose] public section

set_option maxRecDepth 16384

noncomputable section

open Idealize.ShloMosaic Idealize.SL.Sem

namespace Cert.ConvClaim

open Cert.ConvKernelIdeal

theorem claim : Cert.algebraic_ConvKernelIdeal_ConvReferenceIdeal := by
  pair_intro
  · run_from Cert.ConvKernelIdeal.Value.run_blocks m g
  · run_from Cert.ConvReferenceIdeal.Value.run m' g'
    all_goals obtain rfl : c = 0 := Subsingleton.elim _ _
    · rw [Cert.ConvKernelIdeal.Value.proj_grad m]
      rw [Cert.ConvReferenceIdeal.Read.val_main_v70_eq, (hagree 0).1, (hagree 0).2.1, (hagree 0).2.2]
    · rw [Cert.ConvKernelIdeal.Value.tap_grad m]
      rw [Cert.ConvReferenceIdeal.Read.val_main_v62_eq]

end Cert.ConvClaim

end
-- ==== Proof.GmlpRow.lean ====
/- The gated spatial mixing's backward pass, row by row: the GELU, the layer norm, the mixing within chunks of 128 rows,
   and what the kernel's blocks and the reference's whole arrays say of them. -/
module

public import proofs.«01_k».proof.Proof.Gen.GmlpKernelIdeal.Value
public import proofs.«01_k».proof.Proof.Gen.GmlpReferenceIdeal.Read
public import Idealize.ShloMosaic.Lib.Pipeline.ValueKit
public import Idealize.ShloMosaic.Lib.WordCmp
public import Idealize.ShloMosaic.PureOps.Ideal.Laws
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.GmlpKernelIdeal.Value

open Cert.GmlpKernelIdeal Cert.GmlpKernelIdeal.Gen
open Cert.GmlpReferenceIdeal.Read
open Cert.Reals

/-! ## Selections -/

/-- A selection by the causal mask, as the kernel compares. -/
theorem keep (a b : Nat) (ha : a < 128) (hb : b < 128) (x y : EReal) :
    Scalar.select (IntOp.cmpi .sge (BitVec.ofNat 32 a) (BitVec.ofNat 32 b)) x y = if b ≤ a then x else y := by
  rw [Idealize.ShloMosaic.WordCmp.cmpi_sge_ofNat (by omega) (by omega)]
  by_cases h : b ≤ a <;> simp [h, Scalar.select]

/-- The same, as the reference does. -/
theorem keep' (a b : Nat) (ha : a < 128) (hb : b < 128) (x y : EReal) :
    Scalar.select (Scalar.select (IntOp.cmpi .sge (IntOp.addi (BitVec.ofNat 32 a) 0#32) (BitVec.ofNat 32 b)) 1#1 0#1) x y = if b ≤ a then x else y := by
  rw [show IntOp.addi (BitVec.ofNat 32 a) 0#32 = BitVec.ofNat 32 a from BitVec.add_zero _, Idealize.ShloMosaic.WordCmp.cmpi_sge_ofNat (by omega) (by omega)]
  by_cases h : b ≤ a <;> simp [h, Scalar.select]

/-- A sum over the first and the last axis of four. -/
theorem ends {n0 n1 n2 n3 : Nat} (h : (⟨4, ![n0, n1, n2, n3]⟩ : Shape).ReducesTo [0, 3] ⟨2, ![n1, n2]⟩) (v : (⟨4, ![n0, n1, n2, n3]⟩ : Shape).Idx → EReal)
    (init : EReal) (a : Fin n1) (b : Fin n2) :
    Ideal.hostReduceAdd h v init (ix2 a b) = init + ∑ x : Fin n0, ∑ y : Fin n3, v (ix4 x a b y) := by
  refine congrArg (init + ·) ?_
  refine (Finset.sum_filter_eq_sum_of_fiber _ (fun k : Fin n0 × Fin n3 => ix4 k.1 a b k.2) (fun k l e => ?_) (fun i => ?_) v).trans (Fintype.sum_prod_type _)
  · exact Prod.ext (congrFun e 0) (congrFun e 3)
  · constructor
    · intro e
      refine ⟨(i 0, i 3), ?_⟩
      funext x; apply Fin.ext
      match x with
      | ⟨0, _⟩ => rfl
      | ⟨1, _⟩ => exact (congrArg Fin.val (congrFun e 0)).symm
      | ⟨2, _⟩ => exact (congrArg Fin.val (congrFun e 1)).symm
      | ⟨3, _⟩ => rfl
    · rintro ⟨k, rfl⟩
      funext x; apply Fin.ext
      match x with
      | ⟨0, _⟩ => rfl
      | ⟨1, _⟩ => rfl

/-! ## One row -/

/-- The share of the normal law below a value. -/
def cdf (e : EReal) : EReal := Ideal.ofBits .f32 1056964608#32 * (Ideal.ofBits .f32 1065353216#32 + Ideal.erf (e * (((Real.sqrt 2)⁻¹ : ℝ) : EReal)))
def gel (e : EReal) : EReal := e * cdf e

section Row

variable (X : Fin 4096 → EReal)

/-- The second half's centred entry. -/
def xc (k : Fin 2048) : EReal := gel (X ⟨2048 + k.val, by have := k.isLt; omega⟩) - Ideal.div (∑ x : Fin 2048, gel (X ⟨2048 + x.val, by have := x.isLt; omega⟩)) (Ideal.ofBits .f32 1157627904#32)
def rs : EReal := Ideal.rsqrt (Ideal.div (∑ x, xc X x * xc X x) (Ideal.ofBits .f32 1157627904#32) + Ideal.ofBits .f32 925353388#32)
def vh (k : Fin 2048) : EReal := xc X k * rs X

end Row

theorem two_root : Ideal.rsqrt (Ideal.ofBits .f32 1073741824#32) = (((Real.sqrt 2)⁻¹ : ℝ) : EReal) := by
  rw [show Ideal.ofBits .f32 1073741824#32 = ((2 : ℝ) : EReal) by simp [Ideal.ofBits, Ideal.ieee, -EReal.coe_mul]; norm_num]
  exact Reals.rsqrt_coe (by norm_num)
theorem one_lit : Ideal.ofBits .f32 1065353216#32 = 1 := by
  simp [Ideal.ofBits, Ideal.ieee, -EReal.coe_mul]; norm_num

/-! ## The whole arrays -/

section Whole

variable (P : FVec Ideal S8192x4096 .bf16) (Gn Bn : FVec Ideal Cert.GmlpReferenceIdeal.S2048 .f32) (W : FVec Ideal S8x128x128 .f32)
  (Bs : FVec Ideal Cert.GmlpReferenceIdeal.S8x128 .f32) (G : FVec Ideal S8192x2048 .bf16)

/-- A row of the projection. -/
def prow (r : Fin 8192) (k : Fin 4096) : EReal := P (ix2 r k)
/-- The normalised half after gain and offset. -/
def vv (r : Fin 8192) (k : Fin 2048) : EReal := vh (prow P r) k * Gn (ix1 k) + Bn (ix1 k)
/-- The mixing's cotangent. -/
def df (r : Fin 8192) (k : Fin 2048) : EReal := G (ix2 r k) * gel (P (ix2 r ⟨k.val, by have := k.isLt; omega⟩))
/-- A group's causal weight. -/
def wm (g : Fin 8) (t s : Fin 128) : EReal := if s.val ≤ t.val then W (ix3 g t s) else 0
/-- A column's group, a row's place in its chunk, the rows of its chunk. -/
def grp (k : Fin 2048) : Fin 8 := ⟨k.val / 256, by have := k.isLt; omega⟩
def plc (r : Fin 8192) : Fin 128 := ⟨r.val % 128, by omega⟩
def mate (r : Fin 8192) (x : Fin 128) : Fin 8192 := ⟨r.val / 128 * 128 + x.val, by have := r.isLt; have := x.isLt; omega⟩
/-- The mixing. -/
def mix (r : Fin 8192) (k : Fin 2048) : EReal := (∑ x, wm W (grp k) (plc r) x * vv P Gn Bn (mate r x) k) + Bs (ix2 (grp k) (plc r))
/-- The cotangent of the normalised half. -/
def dv (r : Fin 8192) (k : Fin 2048) : EReal := ∑ x, wm W (grp k) x (plc r) * df P G (mate r x) k

theorem ref12 (r : Fin 8192) (k : Fin 4096) : val_main_v12 (F := Ideal) P (ix2 r k) = gel (P (ix2 r k)) := by
  pointwise [val_main_v0, val_main_v1, val_main_cst, val_main_v2, val_main_v3, val_main_v4, val_main_cst_0, val_main_v5, val_main_v6, val_main_v7, val_main_v8, val_main_v9, val_main_v10, val_main_v11, val_main_v12]
  rw [two_root, EReal.neg_mul, Ideal.erfc_neg, mul_comm _ (P (ix2 r k)), mul_assoc]
  unfold gel cdf
  rw [one_lit]
theorem ref20 (r : Fin 8192) (k : Fin 2048) : val_main_v20 (F := Ideal) P (ix2 r k) = xc (prow P r) k := by
  pointwise [val_main_v0, val_main_v1, val_main_cst, val_main_v2, val_main_v3, val_main_v4, val_main_cst_0, val_main_v5, val_main_v6, val_main_v7, val_main_v8, val_main_v9, val_main_v10, val_main_v11, val_main_v13, val_main_v14, val_main_cst_1, val_main_v15, val_main_v16, val_main_cst_2, val_main_v17, val_main_v18, val_main_v19, val_main_v20]
  simp only [ref12]
  rfl
theorem ref28 (r : Fin 8192) : val_main_v28 (F := Ideal) P (ix2 r 0) = rs (prow P r) := by
  pointwise [val_main_v0, val_main_v1, val_main_cst, val_main_v2, val_main_v3, val_main_v4, val_main_cst_0, val_main_v5, val_main_v6, val_main_v7, val_main_v8, val_main_v9, val_main_v10, val_main_v11, val_main_v12, val_main_v13, val_main_v14, val_main_cst_1, val_main_v15, val_main_v16, val_main_cst_2, val_main_v17, val_main_v18, val_main_v19, val_main_v21, val_main_cst_3, val_main_v22, val_main_v23, val_main_cst_4, val_main_v24, val_main_v25, val_main_cst_5, val_main_v26, val_main_v27, val_main_v28]
  simp only [ref20]
  rfl
theorem ref33 (r : Fin 8192) (k : Fin 2048) : val_main_v33 (F := Ideal) P (ix2 r k) = vh (prow P r) k := by
  pointwise [val_main_v0, val_main_v1, val_main_cst, val_main_v2, val_main_v3, val_main_v4, val_main_cst_0, val_main_v5, val_main_v6, val_main_v7, val_main_v8, val_main_v9, val_main_v10, val_main_v11, val_main_v12, val_main_v13, val_main_v14, val_main_cst_1, val_main_v15, val_main_v16, val_main_cst_2, val_main_v17, val_main_v18, val_main_v19, val_main_v21, val_main_cst_3, val_main_v22, val_main_v23, val_main_cst_4, val_main_v24, val_main_v25, val_main_cst_5, val_main_v26, val_main_v27, val_main_v29, val_main_cst_6, val_main_v30, val_main_v31, val_main_v32, val_main_v33]
  rw [ref20, ref28]
  rfl
theorem ref39 (r : Fin 8192) (k : Fin 2048) : val_main_v39 (F := Ideal) P Gn Bn (ix2 r k) = vv P Gn Bn r k := by
  pointwise [val_main_v0, val_main_v1, val_main_cst, val_main_v2, val_main_v3, val_main_v4, val_main_cst_0, val_main_v5, val_main_v6, val_main_v7, val_main_v8, val_main_v9, val_main_v10, val_main_v11, val_main_v12, val_main_v13, val_main_v14, val_main_cst_1, val_main_v15, val_main_v16, val_main_cst_2, val_main_v17, val_main_v18, val_main_v19, val_main_v20, val_main_v21, val_main_cst_3, val_main_v22, val_main_v23, val_main_cst_4, val_main_v24, val_main_v25, val_main_cst_5, val_main_v26, val_main_v27, val_main_v28, val_main_v29, val_main_cst_6, val_main_v30, val_main_v31, val_main_v32, val_main_v34, val_main_v35, val_main_v36, val_main_v37, val_main_v38, val_main_v39]
  rw [ref33]
  rfl
theorem ref55 (r : Fin 8192) (k : Fin 2048) : val_main_v55 (F := Ideal) P G (ix2 r k) = df P G r k := by
  pointwise [val_main_v0, val_main_v1, val_main_cst, val_main_v2, val_main_v3, val_main_v4, val_main_cst_0, val_main_v5, val_main_v6, val_main_v7, val_main_v8, val_main_v9, val_main_v10, val_main_v11, val_main_v13, val_main_v14, val_main_cst_1, val_main_v15, val_main_v16, val_main_cst_2, val_main_v17, val_main_v18, val_main_v19, val_main_v20, val_main_v21, val_main_cst_3, val_main_v22, val_main_v23, val_main_cst_4, val_main_v24, val_main_v25, val_main_cst_5, val_main_v26, val_main_v27, val_main_v28, val_main_v29, val_main_cst_6, val_main_v30, val_main_v31, val_main_v32, val_main_v33, val_main_v34, val_main_v35, val_main_v36, val_main_v37, val_main_v38, val_main_v39, val_main_v40, val_main_c, val_main_v41, val_main_call0_v0, val_main_call0_c, val_main_call0_v1, val_main_call0_v2, val_main_call0_v3, val_main_call0_v4, val_main_call0_c_0, val_main_call0_v5, val_main_v42, val_main_v43, val_main_cst_7, val_main_v44, val_main_v45_1, val_main_v45_0, val_main_call1_cst, val_main_v45_2, val_main_v46, val_main_v47, val_main_v48, val_main_v49, val_main_v50, val_main_v51, val_main_v52, val_main_v53, val_main_v54, val_main_v55]
  rw [ref12]
  exact mul_comm _ _
theorem ref53 (r : Fin 8192) (k : Fin 2048) : val_main_v53 (F := Ideal) P Gn Bn W Bs (ix2 r k) = mix P Gn Bn W Bs r k := by
  pointwise [val_main_v0, val_main_v1, val_main_cst, val_main_v2, val_main_v3, val_main_v4, val_main_cst_0, val_main_v5, val_main_v6, val_main_v7, val_main_v8, val_main_v9, val_main_v10, val_main_v11, val_main_v12, val_main_v13, val_main_v14, val_main_cst_1, val_main_v15, val_main_v16, val_main_cst_2, val_main_v17, val_main_v18, val_main_v19, val_main_v20, val_main_v21, val_main_cst_3, val_main_v22, val_main_v23, val_main_cst_4, val_main_v24, val_main_v25, val_main_cst_5, val_main_v26, val_main_v27, val_main_v28, val_main_v29, val_main_cst_6, val_main_v30, val_main_v31, val_main_v32, val_main_v33, val_main_v34, val_main_v35, val_main_v36, val_main_v37, val_main_v38, val_main_v40, val_main_c, val_main_v41, val_main_call0_v0, val_main_call0_c, val_main_call0_v1, val_main_call0_v2, val_main_call0_v3, val_main_call0_v4, val_main_call0_c_0, val_main_call0_v5, val_main_v42, val_main_v43, val_main_cst_7, val_main_v44, val_main_v45_1, val_main_v45_0, val_main_call1_cst, val_main_v45_2, val_main_v46, val_main_v47, val_main_v48, val_main_v49, val_main_v50, val_main_v51, val_main_v52, val_main_v53]
  unfold mix wm
  refine congrArg₂ (· + ·) (Fin.sum_fin_congr fun x => ?_) rfl
  rw [keep' _ _ (by omega) x.isLt, ref39, mul_comm, ite_mul, zero_mul]
  rfl
theorem ref69 (r : Fin 8192) (k : Fin 2048) : val_main_v69 (F := Ideal) P W G (ix2 r k) = dv P W G r k := by
  pointwise [val_main_v0, val_main_v1, val_main_cst, val_main_v2, val_main_v3, val_main_v4, val_main_cst_0, val_main_v5, val_main_v6, val_main_v7, val_main_v8, val_main_v9, val_main_v10, val_main_v11, val_main_v12, val_main_v13, val_main_v14, val_main_cst_1, val_main_v15, val_main_v16, val_main_cst_2, val_main_v17, val_main_v18, val_main_v19, val_main_v20, val_main_v21, val_main_cst_3, val_main_v22, val_main_v23, val_main_cst_4, val_main_v24, val_main_v25, val_main_cst_5, val_main_v26, val_main_v27, val_main_v28, val_main_v29, val_main_cst_6, val_main_v30, val_main_v31, val_main_v32, val_main_v33, val_main_v34, val_main_v35, val_main_v36, val_main_v37, val_main_v38, val_main_v39, val_main_v40, val_main_c, val_main_v41, val_main_call0_v0, val_main_call0_c, val_main_call0_v1, val_main_call0_v2, val_main_call0_v3, val_main_call0_v4, val_main_call0_c_0, val_main_call0_v5, val_main_v42, val_main_v43, val_main_cst_7, val_main_v44, val_main_v45_1, val_main_v45_0, val_main_call1_cst, val_main_v45_2, val_main_v46, val_main_v47, val_main_v48, val_main_v49, val_main_v50, val_main_v51, val_main_v52, val_main_v53, val_main_v54, val_main_v56, val_main_v57, val_main_cst_8, val_main_v58, val_main_v59, val_main_cst_9, val_main_v60, val_main_v61, val_main_cst_10, val_main_v62, val_main_v63, val_main_v64, val_main_v65, val_main_v66, val_main_v67, val_main_call2_cst, val_main_call2_v0, val_main_v68, val_main_v69]
  unfold dv wm
  refine Fin.sum_fin_congr fun x => ?_
  rw [keep' _ _ x.isLt (by omega), ref55, mul_comm, ite_mul, zero_mul]
  rfl
/-- The offset's gradient: over the chunks and a group's columns. -/
theorem ref63 (g : Fin 8) (t : Fin 128) : val_main_v63 (F := Ideal) P G (ix2 g t)
    = ∑ x : Fin 64, ∑ y : Fin 256, df P G ⟨x.val * 128 + t.val, by have := x.isLt; have := t.isLt; omega⟩ ⟨g.val * 256 + y.val, by have := g.isLt; have := y.isLt; omega⟩ := by
  pointwise [val_main_v0, val_main_v1, val_main_cst, val_main_v2, val_main_v3, val_main_v4, val_main_cst_0, val_main_v5, val_main_v6, val_main_v7, val_main_v8, val_main_v9, val_main_v10, val_main_v11, val_main_v12, val_main_v13, val_main_v14, val_main_cst_1, val_main_v15, val_main_v16, val_main_cst_2, val_main_v17, val_main_v18, val_main_v19, val_main_v20, val_main_v21, val_main_cst_3, val_main_v22, val_main_v23, val_main_cst_4, val_main_v24, val_main_v25, val_main_cst_5, val_main_v26, val_main_v27, val_main_v28, val_main_v29, val_main_cst_6, val_main_v30, val_main_v31, val_main_v32, val_main_v33, val_main_v34, val_main_v35, val_main_v36, val_main_v37, val_main_v38, val_main_v39, val_main_v40, val_main_c, val_main_v41, val_main_call0_v0, val_main_call0_c, val_main_call0_v1, val_main_call0_v2, val_main_call0_v3, val_main_call0_v4, val_main_call0_c_0, val_main_call0_v5, val_main_v42, val_main_v43, val_main_cst_7, val_main_v44, val_main_v45_1, val_main_v45_0, val_main_call1_cst, val_main_v45_2, val_main_v46, val_main_v47, val_main_v48, val_main_v49, val_main_v50, val_main_v51, val_main_v52, val_main_v53, val_main_v54, val_main_v56, val_main_v57, val_main_cst_8, val_main_v58, val_main_v59, val_main_cst_9, val_main_v60, val_main_v61, val_main_cst_10, val_main_v62, val_main_v63]
  simp only [Fin.sum_univ_one]
  rw [ends]
  pointwise
  simp only [Fin.sum_univ_one]
  refine (ends _ _ _ _ _).trans ?_
  rw [zero_add]
  refine Fin.sum_fin_congr fun x => Fin.sum_fin_congr fun y => ?_
  pointwise
  exact ref55 _ _ _ _
theorem ref68 (g : Fin 8) (t s : Fin 128) : val_main_v68 (F := Ideal) P Gn Bn G (ix3 g t s)
    = if s.val ≤ t.val then ∑ x : Fin 64, ∑ y : Fin 256, df P G ⟨x.val * 128 + t.val, by have := x.isLt; have := t.isLt; omega⟩ ⟨g.val * 256 + y.val, by have := g.isLt; have := y.isLt; omega⟩
      * vv P Gn Bn ⟨x.val * 128 + s.val, by have := x.isLt; have := s.isLt; omega⟩ ⟨g.val * 256 + y.val, by have := g.isLt; have := y.isLt; omega⟩ else 0 := by
  pointwise [val_main_v0, val_main_v1, val_main_cst, val_main_v2, val_main_v3, val_main_v4, val_main_cst_0, val_main_v5, val_main_v6, val_main_v7, val_main_v8, val_main_v9, val_main_v10, val_main_v11, val_main_v12, val_main_v13, val_main_v14, val_main_cst_1, val_main_v15, val_main_v16, val_main_cst_2, val_main_v17, val_main_v18, val_main_v19, val_main_v20, val_main_v21, val_main_cst_3, val_main_v22, val_main_v23, val_main_cst_4, val_main_v24, val_main_v25, val_main_cst_5, val_main_v26, val_main_v27, val_main_v28, val_main_v29, val_main_cst_6, val_main_v30, val_main_v31, val_main_v32, val_main_v33, val_main_v34, val_main_v35, val_main_v36, val_main_v37, val_main_v38, val_main_v40, val_main_c, val_main_v41, val_main_call0_v0, val_main_call0_c, val_main_call0_v1, val_main_call0_v2, val_main_call0_v3, val_main_call0_v4, val_main_call0_c_0, val_main_call0_v5, val_main_v42, val_main_v43, val_main_cst_7, val_main_v44, val_main_v45_1, val_main_v45_0, val_main_call1_cst, val_main_v45_2, val_main_v46, val_main_v47, val_main_v48, val_main_v49, val_main_v50, val_main_v51, val_main_v52, val_main_v53, val_main_v54, val_main_v56, val_main_v57, val_main_cst_8, val_main_v58, val_main_v59, val_main_cst_9, val_main_v60, val_main_v61, val_main_cst_10, val_main_v62, val_main_v63, val_main_v64, val_main_v65, val_main_v66, val_main_v67, val_main_call2_cst, val_main_call2_v0, val_main_v68]
  rw [keep' _ _ t.isLt s.isLt]
  simp only [ref55, ref39]

end Whole

end Cert.GmlpKernelIdeal.Value
end
-- ==== Proof.GmlpBlock.lean ====
/- The gated spatial mixing's backward pass, block by block: what the kernel holds in its two scratch buffers after the loop over
   groups and chunks is the mixing and the cotangent of the normalised half at the block's rows. -/
module

public import proofs.«01_k».proof.Proof.Gen.GmlpKernelIdeal.Value
public import proofs.«01_k».proof.Proof.Gen.GmlpReferenceIdeal.Read
public import Idealize.ShloMosaic.Lib.Pipeline.ValueKit
public import Idealize.ShloMosaic.Lib.WordCmp
public import Idealize.ShloMosaic.PureOps.Ideal.Laws
public import proofs.«01_k».proof.Proof.GmlpRow

@[expose] public section

set_option maxRecDepth 16384

noncomputable section

open Idealize.ShloMosaic Idealize.ShloMosaic.TcCoe Idealize.SL.Sem
open Idealize.ShloMosaic.Pipeline (Dat)

namespace Cert.GmlpKernelIdeal.Value

open Cert.GmlpKernelIdeal Cert.GmlpKernelIdeal.Gen
open Cert.GmlpReferenceIdeal.Read
open Cert.Reals

/-- The row of a block's row. -/
def row (t : Fin cfg0.N) (a : Fin 256) : Fin 8192 :=
  ⟨256 * t.val + a.val, by have h := lt_of_lt_of_eq t.isLt N_0; have := a.isLt; omega⟩

section Block

variable (t : Fin cfg0.N) (P : FVec Ideal S8192x4096 .bf16) (Gn Bn : FVec Ideal Cert.GmlpReferenceIdeal.S2048 .f32) (W : FVec Ideal S8x128x128 .f32)
  (Bs : FVec Ideal Cert.GmlpReferenceIdeal.S8x128 .f32) (G : FVec Ideal S8192x2048 .bf16)
  (p : Vec Ideal S256x4096 .bf16) (dg : Vec Ideal S256x2048 .bf16) (lg lb : Vec Ideal S1x2048 .f32) (w : Vec Ideal S8x128x128 .f32) (bf : Vec Ideal S128x2048 .f32)

/-- What the block holds of the arguments. -/
structure Holds : Prop where
  p : ∀ a k, p (ix2 a k) = P (ix2 (row t a) k)
  dg : ∀ a k, dg (ix2 a k) = G (ix2 (row t a) k)
  lg : ∀ k, lg (ix2 0 k) = Gn (ix1 k)
  lb : ∀ k, lb (ix2 0 k) = Bn (ix1 k)
  w : ∀ g a b, w (ix3 g a b) = W (ix3 g a b)
  bf : ∀ a k, bf (ix2 a k) = Bs (ix2 (grp k) a)

variable {t P Gn Bn W Bs G p dg lg lb w bf} (H : Holds t P Gn Bn W Bs G p dg lg lb w bf)
include H

theorem b16 (a : Fin 256) (k : Fin 4096) : k0_pay16 (F := Ideal) p (ix2 a k) = gel (P (ix2 (row t a) k)) := by
  pointwise [k0_pay14, k0_pay15, k0_pay16]
  rw [H.p]
  unfold gel cdf
  rw [one_lit]
  rfl
theorem b17 (a : Fin 256) (k : Fin 2048) : k0_pay17 (F := Ideal) p (ix2 a k) = gel (P (ix2 (row t a) ⟨k.val, by have := k.isLt; omega⟩)) := by
  pointwise [k0_pay17]
  exact b16 H _ _
theorem b18 (a : Fin 256) (k : Fin 2048) : k0_pay18 (F := Ideal) p (ix2 a k) = xc (prow P (row t a)) k := by
  pointwise [k0_pay18]
  simp only [b16 H]
  rfl
theorem b19 (a : Fin 256) : k0_pay19 (F := Ideal) p (ix2 a 0) = rs (prow P (row t a)) := by
  pointwise [k0_pay19]
  simp only [b18 H]
  rfl
theorem b20 (a : Fin 256) (k : Fin 2048) : k0_pay20 (F := Ideal) p (ix2 a k) = vh (prow P (row t a)) k := by
  pointwise [k0_pay20]
  rw [b18 H, b19 H]
  rfl
theorem b21 (a : Fin 256) (k : Fin 2048) : k0_pay21 (F := Ideal) p lg lb (ix2 a k) = vv P Gn Bn (row t a) k := by
  pointwise [k0_pay21]
  rw [b20 H, H.lg, H.lb]
  rfl
theorem b23 (a : Fin 256) (k : Fin 2048) : k0_pay23 (F := Ideal) (k0_pay17 p) dg (ix2 a k) = df P G (row t a) k := by
  pointwise [k0_pay22, k0_pay23]
  rw [b17 H, H.dg]
  rfl

/-- The stores of the mixing's cotangent, last first. -/
def dvL (p : Vec Ideal S256x4096 .bf16) (dg : Vec Ideal S256x2048 .bf16) (w : Vec Ideal S8x128x128 .f32) : List (View.Piece (Elt Ideal) S256x2048 .f32) :=
  [⟨Rect.unit ![128, 1792] ![128, 256] inb_S256x2048_S128x256_128_1792, k0_pay109 (k0_pay24 (k0_pay17 p) dg) (k0_pay102 (View.ld w (Rect.unit ![7, 0, 0] ![1, 128, 128] inb_S8x128x128_S1x128x128_7_0_0)))⟩,
   ⟨Rect.unit ![0, 1792] ![128, 256] inb_S256x2048_S128x256_0_1792, k0_pay104 (k0_pay24 (k0_pay17 p) dg) (View.ld w (Rect.unit ![7, 0, 0] ![1, 128, 128] inb_S8x128x128_S1x128x128_7_0_0))⟩,
   ⟨Rect.unit ![128, 1536] ![128, 256] inb_S256x2048_S128x256_128_1536, k0_pay96 (k0_pay24 (k0_pay17 p) dg) (k0_pay91 (View.ld w (Rect.unit ![6, 0, 0] ![1, 128, 128] inb_S8x128x128_S1x128x128_6_0_0)))⟩,
   ⟨Rect.unit ![0, 1536] ![128, 256] inb_S256x2048_S128x256_0_1536, k0_pay94 (k0_pay24 (k0_pay17 p) dg) (k0_pay91 (View.ld w (Rect.unit ![6, 0, 0] ![1, 128, 128] inb_S8x128x128_S1x128x128_6_0_0)))⟩,
   ⟨Rect.unit ![128, 1280] ![128, 256] inb_S256x2048_S128x256_128_1280, k0_pay87 (k0_pay80 (View.ld w (Rect.unit ![5, 0, 0] ![1, 128, 128] inb_S8x128x128_S1x128x128_5_0_0))) (k0_pay86 (k0_pay24 (k0_pay17 p) dg)) (constant S128x256 FTy.f32 0#32)⟩,
   ⟨Rect.unit ![0, 1280] ![128, 256] inb_S256x2048_S128x256_0_1280, k0_pay82 (k0_pay24 (k0_pay17 p) dg) (View.ld w (Rect.unit ![5, 0, 0] ![1, 128, 128] inb_S8x128x128_S1x128x128_5_0_0))⟩,
   ⟨Rect.unit ![128, 1024] ![128, 256] inb_S256x2048_S128x256_128_1024, k0_pay75 (k0_pay24 (k0_pay17 p) dg) (k0_pay70 (View.ld w (Rect.unit ![4, 0, 0] ![1, 128, 128] inb_S8x128x128_S1x128x128_4_0_0)))⟩,
   ⟨Rect.unit ![0, 1024] ![128, 256] inb_S256x2048_S128x256_0_1024, k0_pay73 (k0_pay72 (k0_pay24 (k0_pay17 p) dg) (View.ld w (Rect.unit ![4, 0, 0] ![1, 128, 128] inb_S8x128x128_S1x128x128_4_0_0)))⟩,
   ⟨Rect.unit ![128, 768] ![128, 256] inb_S256x2048_S128x256_128_768, k0_pay65 (k0_pay24 (k0_pay17 p) dg) k0_pay58 (k0_pay59 (View.ld w (Rect.unit ![3, 0, 0] ![1, 128, 128] inb_S8x128x128_S1x128x128_3_0_0)))⟩,
   ⟨Rect.unit ![0, 768] ![128, 256] inb_S256x2048_S128x256_0_768, k0_pay62 (k0_pay24 (k0_pay17 p) dg) k0_pay58 (k0_pay59 (View.ld w (Rect.unit ![3, 0, 0] ![1, 128, 128] inb_S8x128x128_S1x128x128_3_0_0)))⟩,
   ⟨Rect.unit ![128, 512] ![128, 256] inb_S256x2048_S128x256_128_512, k0_pay55 (k0_pay24 (k0_pay17 p) dg) (k0_pay48 (View.ld w (Rect.unit ![2, 0, 0] ![1, 128, 128] inb_S8x128x128_S1x128x128_2_0_0)))⟩,
   ⟨Rect.unit ![0, 512] ![128, 256] inb_S256x2048_S128x256_0_512, k0_pay50 (k0_pay24 (k0_pay17 p) dg) (View.ld w (Rect.unit ![2, 0, 0] ![1, 128, 128] inb_S8x128x128_S1x128x128_2_0_0))⟩,
   ⟨Rect.unit ![128, 256] ![128, 256] inb_S256x2048_S128x256_128_256, k0_pay42 (k0_pay24 (k0_pay17 p) dg) (k0_pay37 (View.ld w (Rect.unit ![1, 0, 0] ![1, 128, 128] inb_S8x128x128_S1x128x128_1_0_0)))⟩,
   ⟨Rect.unit ![0, 256] ![128, 256] inb_S256x2048_S128x256_0_256, k0_pay40 (k0_pay24 (k0_pay17 p) dg) (k0_pay37 (View.ld w (Rect.unit ![1, 0, 0] ![1, 128, 128] inb_S8x128x128_S1x128x128_1_0_0)))⟩,
   ⟨Rect.unit ![128, 0] ![128, 256] inb_S256x2048_S128x256_128_0, k0_pay33 (k0_pay26 (View.ld w (Rect.unit ![0, 0, 0] ![1, 128, 128] inb_S8x128x128_S1x128x128_0_0_0))) (k0_pay32 (k0_pay17 p) dg) (constant S128x256 FTy.f32 0#32)⟩,
   ⟨Rect.unit ![0, 0] ![128, 256] inb_S256x2048_S128x256_0_0, k0_pay28 (k0_pay17 p) dg (View.ld w (Rect.unit ![0, 0, 0] ![1, 128, 128] inb_S8x128x128_S1x128x128_0_0_0))⟩]

/-- The stores of the mixing, last first. -/
def fL (p : Vec Ideal S256x4096 .bf16) (lg lb : Vec Ideal S1x2048 .f32) (w : Vec Ideal S8x128x128 .f32) (bf : Vec Ideal S128x2048 .f32) : List (View.Piece (Elt Ideal) S256x2048 .f32) :=
  [⟨Rect.unit ![128, 1792] ![128, 256] inb_S256x2048_S128x256_128_1792, k0_pay108 (k0_pay107 (k0_pay21 p lg lb) (View.ld w (Rect.unit ![7, 0, 0] ![1, 128, 128] inb_S8x128x128_S1x128x128_7_0_0))) (View.ld bf (Rect.unit ![0, 1792] ![128, 256] inb_S128x2048_S128x256_0_1792))⟩,
   ⟨Rect.unit ![0, 1792] ![128, 256] inb_S256x2048_S128x256_0_1792, k0_pay103 (k0_pay21 p lg lb) (View.ld w (Rect.unit ![7, 0, 0] ![1, 128, 128] inb_S8x128x128_S1x128x128_7_0_0)) (View.ld bf (Rect.unit ![0, 1792] ![128, 256] inb_S128x2048_S128x256_0_1792))⟩,
   ⟨Rect.unit ![128, 1536] ![128, 256] inb_S256x2048_S128x256_128_1536, k0_pay95 (k0_pay21 p lg lb) (k0_pay91 (View.ld w (Rect.unit ![6, 0, 0] ![1, 128, 128] inb_S8x128x128_S1x128x128_6_0_0))) (View.ld bf (Rect.unit ![0, 1536] ![128, 256] inb_S128x2048_S128x256_0_1536))⟩,
   ⟨Rect.unit ![0, 1536] ![128, 256] inb_S256x2048_S128x256_0_1536, k0_pay93 (k0_pay92 (k0_pay21 p lg lb) (View.ld w (Rect.unit ![6, 0, 0] ![1, 128, 128] inb_S8x128x128_S1x128x128_6_0_0)) (View.ld bf (Rect.unit ![0, 1536] ![128, 256] inb_S128x2048_S128x256_0_1536)))⟩,
   ⟨Rect.unit ![128, 1280] ![128, 256] inb_S256x2048_S128x256_128_1280, k0_pay85 (k0_pay21 p lg lb) (View.ld w (Rect.unit ![5, 0, 0] ![1, 128, 128] inb_S8x128x128_S1x128x128_5_0_0)) (View.ld bf (Rect.unit ![0, 1280] ![128, 256] inb_S128x2048_S128x256_0_1280))⟩,
   ⟨Rect.unit ![0, 1280] ![128, 256] inb_S256x2048_S128x256_0_1280, k0_pay81 (k0_pay21 p lg lb) (View.ld w (Rect.unit ![5, 0, 0] ![1, 128, 128] inb_S8x128x128_S1x128x128_5_0_0)) (View.ld bf (Rect.unit ![0, 1280] ![128, 256] inb_S128x2048_S128x256_0_1280))⟩,
   ⟨Rect.unit ![128, 1024] ![128, 256] inb_S256x2048_S128x256_128_1024, k0_pay74 (k0_pay21 p lg lb) (k0_pay70 (View.ld w (Rect.unit ![4, 0, 0] ![1, 128, 128] inb_S8x128x128_S1x128x128_4_0_0))) (View.ld bf (Rect.unit ![0, 1024] ![128, 256] inb_S128x2048_S128x256_0_1024))⟩,
   ⟨Rect.unit ![0, 1024] ![128, 256] inb_S256x2048_S128x256_0_1024, k0_pay71 (k0_pay21 p lg lb) (View.ld w (Rect.unit ![4, 0, 0] ![1, 128, 128] inb_S8x128x128_S1x128x128_4_0_0)) (View.ld bf (Rect.unit ![0, 1024] ![128, 256] inb_S128x2048_S128x256_0_1024))⟩,
   ⟨Rect.unit ![128, 768] ![128, 256] inb_S256x2048_S128x256_128_768, k0_pay64 (k0_pay21 p lg lb) k0_pay58 (k0_pay59 (View.ld w (Rect.unit ![3, 0, 0] ![1, 128, 128] inb_S8x128x128_S1x128x128_3_0_0))) (View.ld bf (Rect.unit ![0, 768] ![128, 256] inb_S128x2048_S128x256_0_768))⟩,
   ⟨Rect.unit ![0, 768] ![128, 256] inb_S256x2048_S128x256_0_768, k0_pay61 (k0_pay21 p lg lb) k0_pay58 (k0_pay59 (View.ld w (Rect.unit ![3, 0, 0] ![1, 128, 128] inb_S8x128x128_S1x128x128_3_0_0))) (View.ld bf (Rect.unit ![0, 768] ![128, 256] inb_S128x2048_S128x256_0_768))⟩,
   ⟨Rect.unit ![128, 512] ![128, 256] inb_S256x2048_S128x256_128_512, k0_pay54 (k0_pay53 (k0_pay21 p lg lb) (View.ld w (Rect.unit ![2, 0, 0] ![1, 128, 128] inb_S8x128x128_S1x128x128_2_0_0))) (View.ld bf (Rect.unit ![0, 512] ![128, 256] inb_S128x2048_S128x256_0_512))⟩,
   ⟨Rect.unit ![0, 512] ![128, 256] inb_S256x2048_S128x256_0_512, k0_pay49 (k0_pay21 p lg lb) (View.ld w (Rect.unit ![2, 0, 0] ![1, 128, 128] inb_S8x128x128_S1x128x128_2_0_0)) (View.ld bf (Rect.unit ![0, 512] ![128, 256] inb_S128x2048_S128x256_0_512))⟩,
   ⟨Rect.unit ![128, 256] ![128, 256] inb_S256x2048_S128x256_128_256, k0_pay41 (k0_pay21 p lg lb) (k0_pay37 (View.ld w (Rect.unit ![1, 0, 0] ![1, 128, 128] inb_S8x128x128_S1x128x128_1_0_0))) (View.ld bf (Rect.unit ![0, 256] ![128, 256] inb_S128x2048_S128x256_0_256))⟩,
   ⟨Rect.unit ![0, 256] ![128, 256] inb_S256x2048_S128x256_0_256, k0_pay39 (k0_pay38 (k0_pay21 p lg lb) (View.ld w (Rect.unit ![1, 0, 0] ![1, 128, 128] inb_S8x128x128_S1x128x128_1_0_0)) (View.ld bf (Rect.unit ![0, 256] ![128, 256] inb_S128x2048_S128x256_0_256)))⟩,
   ⟨Rect.unit ![128, 0] ![128, 256] inb_S256x2048_S128x256_128_0, k0_pay31 (k0_pay21 p lg lb) (View.ld w (Rect.unit ![0, 0, 0] ![1, 128, 128] inb_S8x128x128_S1x128x128_0_0_0)) (View.ld bf (Rect.unit ![0, 0] ![128, 256] inb_S128x2048_S128x256_0_0))⟩,
   ⟨Rect.unit ![0, 0] ![128, 256] inb_S256x2048_S128x256_0_0, k0_pay27 (k0_pay21 p lg lb) (View.ld w (Rect.unit ![0, 0, 0] ![1, 128, 128] inb_S8x128x128_S1x128x128_0_0_0)) (View.ld bf (Rect.unit ![0, 0] ![128, 256] inb_S128x2048_S128x256_0_0))⟩]

/-- A store of the mixing's cotangent: chunk `q`, group `g`. -/
theorem dv_piece (q : Nat) (g : Fin 8) (a : Fin 128) (d : Fin 256) (j : S256x2048.Idx) (y : Fin 128 → S256x2048.Idx)
    (h0 : (j 0).val = 128 * q + a.val) (h1 : (j 1).val = 256 * g.val + d.val) (hy : ∀ x, (y x 0).val = 128 * q + x.val) (hy' : ∀ x, (y x 1).val = 256 * g.val + d.val) :
    (∑ x : Fin 128, Scalar.select (IntOp.cmpi .sge (BitVec.ofNat 32 x.val) (BitVec.ofNat 32 a.val)) (w (ix3 g x a) * k0_pay23 (F := Ideal) (k0_pay17 p) dg (y x)) 0 : EReal)
      = dv P W G (row t (j 0)) (j 1) := by
  have hd := d.isLt
  have ha := a.isLt
  have eg : grp (j 1) = g := Fin.ext (by show (j 1).val / 256 = g.val; omega)
  have ea : plc (row t (j 0)) = a := Fin.ext (by show (256 * t.val + (j 0).val) % 128 = a.val; omega)
  unfold dv
  rw [eg, ea]
  refine Fin.sum_fin_congr fun x => ?_
  have hx := hy x
  have ey : y x = ix2 (y x 0) (y x 1) := eq_ix2 _
  have er : row t (y x 0) = mate (row t (j 0)) x := Fin.ext (by show 256 * t.val + (y x 0).val = (256 * t.val + (j 0).val) / 128 * 128 + x.val; omega)
  have e : k0_pay23 (F := Ideal) (k0_pay17 p) dg (y x) = df P G (mate (row t (j 0)) x) (j 1) :=
    (congrArg _ ey).trans ((b23 H (y x 0) (y x 1)).trans (congrArg₂ (df P G) er (Fin.ext ((hy' x).trans h1.symm))))
  rw [keep _ _ x.isLt a.isLt, e, H.w]
  unfold wm
  rw [ite_mul, zero_mul]

/-- A store of the mixing: chunk `q`, group `g`. -/
theorem f_piece (q : Nat) (g : Fin 8) (a : Fin 128) (d : Fin 256) (j : S256x2048.Idx) (y : Fin 128 → S256x2048.Idx) (k : Fin 2048)
    (h0 : (j 0).val = 128 * q + a.val) (h1 : (j 1).val = 256 * g.val + d.val) (hy : ∀ x, (y x 0).val = 128 * q + x.val) (hy' : ∀ x, (y x 1).val = 256 * g.val + d.val)
    (hk : k.val = 256 * g.val + d.val) :
    ((∑ x : Fin 128, Scalar.select (IntOp.cmpi .sge (BitVec.ofNat 32 a.val) (BitVec.ofNat 32 x.val)) (w (ix3 g a x) * k0_pay21 (F := Ideal) p lg lb (y x)) 0) + bf (ix2 a k) : EReal)
      = mix P Gn Bn W Bs (row t (j 0)) (j 1) := by
  have hd := d.isLt
  have ha := a.isLt
  have eg : grp (j 1) = g := Fin.ext (by show (j 1).val / 256 = g.val; omega)
  have ea : plc (row t (j 0)) = a := Fin.ext (by show (256 * t.val + (j 0).val) % 128 = a.val; omega)
  have ek : k = j 1 := Fin.ext (hk.trans h1.symm)
  unfold mix
  rw [eg, ea, H.bf, ek, eg]
  congr 1
  refine Fin.sum_fin_congr fun x => ?_
  have hx := hy x
  have ey : y x = ix2 (y x 0) (y x 1) := eq_ix2 _
  have er : row t (y x 0) = mate (row t (j 0)) x := Fin.ext (by show 256 * t.val + (y x 0).val = (256 * t.val + (j 0).val) / 128 * 128 + x.val; omega)
  have e : k0_pay21 (F := Ideal) p lg lb (y x) = vv P Gn Bn (mate (row t (j 0)) x) (j 1) :=
    (congrArg _ ey).trans ((b21 H (y x 0) (y x 1)).trans (congrArg₂ (vv P Gn Bn) er (Fin.ext ((hy' x).trans h1.symm))))
  rw [keep _ _ a.isLt x.isLt, e, H.w]
  unfold wm
  rw [ite_mul, zero_mul]

set_option maxHeartbeats 4000000 in
/-- The second scratch buffer. -/
theorem dv_at (j : S256x2048.Idx) : View.canon (dvL p dg w) j = dv P W G (row t (j 0)) (j 1) := by
  unfold dvL
  canon_tiles x h
  all_goals
    obtain ⟨a, d, rfl⟩ : ∃ (a : Fin 128) (d : Fin 256), x = ix2 a d := ⟨x 0, x 1, eq_ix2 x⟩
    pointwise [k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111]
    clear x0_lt x1_lt
  case piece0 => exact dv_piece H 1 7 a d j _ h0 h1 (fun _ => rfl) fun _ => rfl
  case piece1 => exact dv_piece H 0 7 a d j _ (h0.trans (Nat.zero_add _).symm) h1 (fun _ => (Nat.zero_add _).symm) fun _ => rfl
  case piece2 => exact dv_piece H 1 6 a d j _ h0 h1 (fun _ => rfl) fun _ => rfl
  case piece3 => exact dv_piece H 0 6 a d j _ (h0.trans (Nat.zero_add _).symm) h1 (fun _ => (Nat.zero_add _).symm) fun _ => rfl
  case piece4 => exact dv_piece H 1 5 a d j _ h0 h1 (fun _ => rfl) fun _ => rfl
  case piece5 => exact dv_piece H 0 5 a d j _ (h0.trans (Nat.zero_add _).symm) h1 (fun _ => (Nat.zero_add _).symm) fun _ => rfl
  case piece6 => exact dv_piece H 1 4 a d j _ h0 h1 (fun _ => rfl) fun _ => rfl
  case piece7 => exact dv_piece H 0 4 a d j _ (h0.trans (Nat.zero_add _).symm) h1 (fun _ => (Nat.zero_add _).symm) fun _ => rfl
  case piece8 => exact dv_piece H 1 3 a d j _ h0 h1 (fun _ => rfl) fun _ => rfl
  case piece9 => exact dv_piece H 0 3 a d j _ (h0.trans (Nat.zero_add _).symm) h1 (fun _ => (Nat.zero_add _).symm) fun _ => rfl
  case piece10 => exact dv_piece H 1 2 a d j _ h0 h1 (fun _ => rfl) fun _ => rfl
  case piece11 => exact dv_piece H 0 2 a d j _ (h0.trans (Nat.zero_add _).symm) h1 (fun _ => (Nat.zero_add _).symm) fun _ => rfl
  case piece12 => exact dv_piece H 1 1 a d j _ h0 h1 (fun _ => rfl) fun _ => rfl
  case piece13 => exact dv_piece H 0 1 a d j _ (h0.trans (Nat.zero_add _).symm) h1 (fun _ => (Nat.zero_add _).symm) fun _ => rfl
  case piece14 => exact dv_piece H 1 0 a d j _ h0 (h1.trans (Nat.zero_add _).symm) (fun _ => rfl) fun _ => (Nat.zero_add _).symm
  case piece15 => exact dv_piece H 0 0 a d j _ (h0.trans (Nat.zero_add _).symm) (h1.trans (Nat.zero_add _).symm) (fun _ => (Nat.zero_add _).symm) fun _ => (Nat.zero_add _).symm

set_option maxHeartbeats 4000000 in
/-- The first scratch buffer. -/
theorem f_at (j : S256x2048.Idx) : View.canon (fL p lg lb w bf) j = mix P Gn Bn W Bs (row t (j 0)) (j 1) := by
  unfold fL
  canon_tiles x h
  all_goals
    obtain ⟨a, d, rfl⟩ : ∃ (a : Fin 128) (d : Fin 256), x = ix2 a d := ⟨x 0, x 1, eq_ix2 x⟩
    pointwise [k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111]
    clear x0_lt x1_lt
  case piece0 => exact f_piece H 1 7 a d j _ _ h0 h1 (fun _ => rfl) (fun _ => rfl) rfl
  case piece1 => exact f_piece H 0 7 a d j _ _ (h0.trans (Nat.zero_add _).symm) h1 (fun _ => (Nat.zero_add _).symm) (fun _ => rfl) rfl
  case piece2 => exact f_piece H 1 6 a d j _ _ h0 h1 (fun _ => rfl) (fun _ => rfl) rfl
  case piece3 => exact f_piece H 0 6 a d j _ _ (h0.trans (Nat.zero_add _).symm) h1 (fun _ => (Nat.zero_add _).symm) (fun _ => rfl) rfl
  case piece4 => exact f_piece H 1 5 a d j _ _ h0 h1 (fun _ => rfl) (fun _ => rfl) rfl
  case piece5 => exact f_piece H 0 5 a d j _ _ (h0.trans (Nat.zero_add _).symm) h1 (fun _ => (Nat.zero_add _).symm) (fun _ => rfl) rfl
  case piece6 => exact f_piece H 1 4 a d j _ _ h0 h1 (fun _ => rfl) (fun _ => rfl) rfl
  case piece7 => exact f_piece H 0 4 a d j _ _ (h0.trans (Nat.zero_add _).symm) h1 (fun _ => (Nat.zero_add _).symm) (fun _ => rfl) rfl
  case piece8 => exact f_piece H 1 3 a d j _ _ h0 h1 (fun _ => rfl) (fun _ => rfl) rfl
  case piece9 => exact f_piece H 0 3 a d j _ _ (h0.trans (Nat.zero_add _).symm) h1 (fun _ => (Nat.zero_add _).symm) (fun _ => rfl) rfl
  case piece10 => exact f_piece H 1 2 a d j _ _ h0 h1 (fun _ => rfl) (fun _ => rfl) rfl
  case piece11 => exact f_piece H 0 2 a d j _ _ (h0.trans (Nat.zero_add _).symm) h1 (fun _ => (Nat.zero_add _).symm) (fun _ => rfl) rfl
  case piece12 => exact f_piece H 1 1 a d j _ _ h0 h1 (fun _ => rfl) (fun _ => rfl) rfl
  case piece13 => exact f_piece H 0 1 a d j _ _ (h0.trans (Nat.zero_add _).symm) h1 (fun _ => (Nat.zero_add _).symm) (fun _ => rfl) rfl
  case piece14 => exact f_piece H 1 0 a d j _ _ h0 (h1.trans (Nat.zero_add _).symm) (fun _ => rfl) (fun _ => (Nat.zero_add _).symm) (Nat.zero_add _).symm
  case piece15 => exact f_piece H 0 0 a d j _ _ (h0.trans (Nat.zero_add _).symm) (h1.trans (Nat.zero_add _).symm) (fun _ => (Nat.zero_add _).symm) (fun _ => (Nat.zero_add _).symm) (Nat.zero_add _).symm

end Block

end Cert.GmlpKernelIdeal.Value
end
-- ==== Proof.Pieces.lean ====
/- Reading back what several stores left in a buffer: which of them a load sees. -/
module

public import Idealize.ShloMosaic.Lib.Pipeline.ValueKit

@[expose] public section

noncomputable section

open Idealize.ShloMosaic

namespace Cert.Pieces

variable {sig : RefSig} {s : Shape} {e : EltTy}

/-- A load disjoint along an axis from the last store reads the stores before it. -/
theorem below {κ : Kind} {sp : Space} (v : View sig κ sp s e) (k : Fin s.rank) {off size off' size' : Fin s.rank → Nat}
    {inb : ∀ a, off a + size a ≤ s.size a} {inb' : ∀ a, off' a + size' a ≤ s.size a}
    (w : (Rect.unit (s := s) off size inb).shape.Idx → Elt Ideal e) (L : List (View.Piece (Elt Ideal) s e))
    (h : off k + size k ≤ off' k ∨ off' k + size' k ≤ off k) :
    v.readCov ((⟨Rect.unit (s := s) off size inb, w⟩ : View.Piece (Elt Ideal) s e) :: L) (Rect.unit off' size' inb').toLoadRect
      = v.readCov L (Rect.unit off' size' inb').toLoadRect :=
  View.readCov_cons_of_disjoint v _ L _ (Rect.unit_disjoint (s := s) (inb := inb) (inb' := inb') k h)

/-- Where the later stores cover a place, the first one does not matter. -/
theorem covered (L : List (View.Piece (Elt Ideal) s e)) (j : s.Idx) (h : ∃ p ∈ L.dropLast, j ∈ p.1.set) :
    View.canon L j = View.canon L.dropLast j := by
  induction L with
  | nil => rfl
  | cons p L ih =>
    cases L with
    | nil => exact absurd h (by simp)
    | cons q L =>
      rw [List.dropLast_cons₂] at h ⊢
      by_cases hm : j ∈ p.1.set
      · obtain ⟨x, rfl⟩ := p.1.exists_idx_of_mem hm
        exact (View.canon_cons_emb p.1 p.2 _ x).trans (View.canon_cons_emb p.1 p.2 _ x).symm
      · rw [View.canon_cons_of_not_mem _ _ hm, View.canon_cons_of_not_mem _ _ hm]
        refine ih ?_
        obtain ⟨r, hr, hy⟩ := h
        rcases List.mem_cons.mp hr with rfl | hr
        · exact absurd hy hm
        · exact ⟨r, hr, hy⟩

end Cert.Pieces
end
-- ==== Proof.GmlpStep.lean ====
/- The gated spatial mixing's backward pass, point by point: every block of 256 rows adds its part to the gradients of the mixing
   weights, the offsets and the layer norm's gain and offset. -/
module

public import proofs.«01_k».proof.Proof.Gen.GmlpKernelIdeal.Value
public import proofs.«01_k».proof.Proof.Gen.GmlpReferenceIdeal.Read
public import Idealize.ShloMosaic.Lib.Pipeline.ValueKit
public import Idealize.ShloMosaic.Lib.WordCmp
public import Idealize.ShloMosaic.PureOps.Ideal.Laws
public import proofs.«01_k».proof.Proof.GmlpBlock
public import proofs.«01_k».proof.Proof.Pieces
import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GmlpKernelIdeal.Value

open Cert.GmlpKernelIdeal Cert.GmlpKernelIdeal.Gen
open Cert.GmlpReferenceIdeal.Read
open Cert.Reals
variable (m : (ℓ : Loc nD τ sig) → Buf (Elt Ideal) ℓ) {c : Dev nD}

section Block

variable {t : Fin cfg0.N} {P : FVec Ideal S8192x4096 .bf16} {Gn Bn : FVec Ideal Cert.GmlpReferenceIdeal.S2048 .f32} {W : FVec Ideal S8x128x128 .f32}
  {Bs : FVec Ideal Cert.GmlpReferenceIdeal.S8x128 .f32} {G : FVec Ideal S8192x2048 .bf16}
  {p : Vec Ideal S256x4096 .bf16} {dg : Vec Ideal S256x2048 .bf16} {lg lb : Vec Ideal S1x2048 .f32} {w : Vec Ideal S8x128x128 .f32} {bf : Vec Ideal S128x2048 .f32}

/-- A block's two chunks: the rows of the first and of the second. -/
def lo (a : Fin 128) : Fin 256 := ⟨a.val, by have := a.isLt; omega⟩
def hi (a : Fin 128) : Fin 256 := ⟨128 + a.val, by have := a.isLt; omega⟩
/-- A column of a group. -/
def gcol (g : Fin 8) (d : Fin 256) : Fin 2048 := ⟨256 * g.val + d.val, by have := g.isLt; have := d.isLt; omega⟩

/-- A block's part of the offsets' gradient, column by column. -/
def dbPart (t : Fin cfg0.N) (P : FVec Ideal S8192x4096 .bf16) (G : FVec Ideal S8192x2048 .bf16) (a : Fin 128) (k : Fin 2048) : EReal :=
  df P G (row t (lo a)) k + df P G (row t (hi a)) k
/-- A block's part of the weights' gradient. -/
def dwPart (t : Fin cfg0.N) (P : FVec Ideal S8192x4096 .bf16) (Gn Bn : FVec Ideal Cert.GmlpReferenceIdeal.S2048 .f32) (G : FVec Ideal S8192x2048 .bf16) (g : Fin 8) (a b : Fin 128) : EReal :=
  if b.val ≤ a.val then (∑ d, df P G (row t (lo a)) (gcol g d) * vv P Gn Bn (row t (lo b)) (gcol g d))
    + ∑ d, df P G (row t (hi a)) (gcol g d) * vv P Gn Bn (row t (hi b)) (gcol g d) else 0

variable (H : Holds t P Gn Bn W Bs G p dg lg lb w bf)
include H

theorem db_piece (j : S128x2048.Idx) (i i' : S256x2048.Idx) {o o' : EReal} (h0 : (i 0).val = (j 0).val) (h1 : (i 1).val = (j 1).val)
    (h0' : (i' 0).val = 128 + (j 0).val) (h1' : (i' 1).val = (j 1).val) (e : o = o') :
    (o + (k0_pay23 (F := Ideal) (k0_pay17 p) dg i + k0_pay23 (F := Ideal) (k0_pay17 p) dg i') : EReal) = o' + dbPart t P G (j 0) (j 1) := by
  have e1 : i = ix2 (lo (j 0)) (j 1) := (eq_ix2 i).trans (congrArg₂ ix2 (Fin.ext h0) (Fin.ext h1))
  have e2 : i' = ix2 (hi (j 0)) (j 1) := (eq_ix2 i').trans (congrArg₂ ix2 (Fin.ext h0') (Fin.ext h1'))
  exact congrArg₂ (· + ·) e (congrArg₂ (· + ·) ((congrArg _ e1).trans (b23 H _ _)) ((congrArg _ e2).trans (b23 H _ _)))

theorem dw_piece (g : Fin 8) (a b : Fin 128) (i i' k k' : Fin 256 → S256x2048.Idx) {o o' : EReal}
    (h0 : ∀ x, i x = ix2 (lo a) (gcol g x)) (h1 : ∀ x, k x = ix2 (lo b) (gcol g x)) (h0' : ∀ x, i' x = ix2 (hi a) (gcol g x)) (h1' : ∀ x, k' x = ix2 (hi b) (gcol g x)) (e : o = o') :
    (o + Scalar.select (IntOp.cmpi .sge (BitVec.ofNat 32 a.val) (BitVec.ofNat 32 b.val))
      ((∑ x : Fin 256, k0_pay23 (F := Ideal) (k0_pay17 p) dg (i x) * k0_pay21 (F := Ideal) p lg lb (k x))
        + ∑ x : Fin 256, k0_pay23 (F := Ideal) (k0_pay17 p) dg (i' x) * k0_pay21 (F := Ideal) p lg lb (k' x)) 0 : EReal) = o' + dwPart t P Gn Bn G g a b := by
  rw [keep _ _ a.isLt b.isLt, e]
  unfold dwPart
  have s : ∀ (q : Fin 128 → Fin 256) (i k : Fin 256 → S256x2048.Idx) (h : ∀ x, i x = ix2 (q a) (gcol g x)) (h' : ∀ x, k x = ix2 (q b) (gcol g x)),
      (∑ x : Fin 256, k0_pay23 (F := Ideal) (k0_pay17 p) dg (i x) * k0_pay21 (F := Ideal) p lg lb (k x) : EReal) = ∑ d, df P G (row t (q a)) (gcol g d) * vv P Gn Bn (row t (q b)) (gcol g d) :=
    fun q i k h h' => Fin.sum_fin_congr fun x => congrArg₂ (· * ·) ((congrArg _ (h x)).trans (b23 H _ _)) ((congrArg _ (h' x)).trans (b21 H _ _))
  rw [s lo i k h0 h1, s hi i' k' h0' h1']

/-- The cotangent of the normalised half, read back. -/
theorem dv_read : (View.whole cc0_scratch1).readCov (dvL p dg w) (Rect.unit ![0, 0] ![256, 2048] inb_S256x2048_S256x2048_0_0).toLoadRect
    = fun i : S256x2048.Idx => (dv P W G (row t (i 0)) (i 1) : EReal) := by
  rw [View.readCov_eq_canon']
  funext i
  refine Eq.trans ?_ (dv_at H i)
  refine congrArg _ ?_
  blk_ext
  · show 0 + 1 * (i 0).val = (i 0).val; omega
  · show 0 + 1 * (i 1).val = (i 1).val; omega

/-- The mixing, read back. -/
theorem f_read : (View.whole cc0_scratch0).readCov (fL p lg lb w bf) (Rect.unit ![0, 0] ![256, 2048] inb_S256x2048_S256x2048_0_0).toLoadRect
    = fun i : S256x2048.Idx => (mix P Gn Bn W Bs (row t (i 0)) (i 1) : EReal) := by
  rw [View.readCov_eq_canon']
  funext i
  refine Eq.trans ?_ (f_at H i)
  refine congrArg _ ?_
  blk_ext
  · show 0 + 1 * (i 0).val = (i 0).val; omega
  · show 0 + 1 * (i 1).val = (i 1).val; omega

end Block

theorem ix3_congr {n0 n1 n2 : Nat} {a a' : Fin n0} {b b' : Fin n1} {k k' : Fin n2} (h0 : a = a') (h1 : b = b') (h2 : k = k') : ix3 a b k = ix3 a' b' k' := by
  rw [h0, h1, h2]
theorem gcol_zero (x : Fin 256) (h : x.val < 2048) : (⟨x.val, h⟩ : Fin 2048) = gcol 0 x := Fin.ext (Nat.zero_add _).symm

/-- The windows' block indices at a grid point. -/
theorem idx : ∀ t : Fin cfg0.N, win0_0.index t = ![t.val, 0] ∧ win0_1.index t = ![t.val, 0] ∧ win0_2.index t = ![0, 0] ∧ win0_3.index t = ![0, 0]
    ∧ win0_4.index t = ![0, 0, 0] ∧ win0_5.index t = ![0, 0] ∧ win0_6.index t = ![t.val, 0] ∧ win0_7.index t = ![0, 0, 0] ∧ win0_8.index t = ![0, 0, 0]
    ∧ win0_9.index t = ![0, 0] ∧ win0_10.index t = ![0, 0] :=
  (by decide +kernel : ∀ t : Fin grid0.N, _)

section Args

variable (c : Dev nD)

abbrev ap : FVec Ideal S8192x4096 .bf16 := m ((c : Thread nD τ).loc main_arg0)
abbrev agn : FVec Ideal S2048 .f32 := m ((c : Thread nD τ).loc main_arg1)
abbrev abn : FVec Ideal S2048 .f32 := m ((c : Thread nD τ).loc main_arg2)
abbrev aw : FVec Ideal S8x128x128 .f32 := m ((c : Thread nD τ).loc main_arg3)
abbrev abs' : FVec Ideal S8x128 .f32 := m ((c : Thread nD τ).loc main_arg4)
abbrev ag : FVec Ideal S8192x2048 .bf16 := m ((c : Thread nD τ).loc main_arg5)

theorem hold (t : Fin cfg0.N) : Holds t (ap m c) (agn m c) (abn m c) (aw m c) (abs' m c) (ag m c) (iblk m c 0 t) (iblk m c 1 t) (iblk m c 2 t) (iblk m c 3 t) (iblk m c 4 t) (iblk m c 5 t) where
  p a k := by blk_ext [iblk, V, idx t, row]
  dg a k := by blk_ext [iblk, V, idx t, row]
  lg k := by blk_simp [iblk]; entry_read; pointwise; blk_ext [idx t]
  lb k := by blk_simp [iblk]; entry_read; pointwise; blk_ext [idx t]
  w g a b := by blk_ext [iblk, V, idx t]
  bf a k := by blk_simp [iblk]; entry_read; pointwise; blk_ext [idx t, grp]

end Args

set_option maxHeartbeats 4000000 in
/-- Every later block adds its part of the offsets' gradient. -/
theorem db_step (t : Fin cfg0.N) (h0 : ¬t.val % 32 = 0) (h2 : 1 ≤ t.val) (j : S128x2048.Idx) :
    (outsAt0 m c t.val t.isLt).2.2.2.2.2 j = (outsAt0 m c (t.val - 1) (Nat.lt_of_le_of_lt (Nat.sub_le _ _) t.isLt)).2.2.2.2.2 j + dbPart t (ap m c) (ag m c) (j 0) (j 1) := by
  by_cases h5 : t.val % 32 = 31
  on_goal 1 => rw [outsAt0_C m c t h0 h0 h2 h0 h2 h5]
  on_goal 2 => rw [outsAt0_B m c t h0 h0 h2 h0 h2 h5]
  all_goals
    frame_out
    try simp only [read_unread_whole]
    generalize outsAt0 m c (t.val - 1) _ = old
    clear h0 h2 h5
    canon_tiles x h
    all_goals
      obtain ⟨a, d, rfl⟩ : ∃ (a : Fin 128) (d : Fin 256), x = ix2 a d := ⟨x 0, x 1, eq_ix2 x⟩
      pointwise [k0_pay22, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111]
      exact db_piece (hold m c t) j _ _ h0.symm h1.symm (congrArg (128 + ·) h0.symm) h1.symm
        (congrArg old.2.2.2.2.2 ((eq_ix2 j).trans (congrArg₂ ix2 (Fin.ext h0) (Fin.ext h1))).symm)

set_option maxHeartbeats 4000000 in
/-- The first block starts them. -/
theorem db_reset (t : Fin cfg0.N) (h0 : t.val % 32 = 0) (h2 : ¬1 ≤ t.val) (h5 : ¬t.val % 32 = 31) (j : S128x2048.Idx) :
    (outsAt0 m c t.val t.isLt).2.2.2.2.2 j = dbPart t (ap m c) (ag m c) (j 0) (j 1) := by
  rw [outsAt0_A m c t h0 h0 h2 h0 h2 h5]
  frame_out
  simp (disch := decide) only [Pieces.below _ 1]
  rw [Pieces.covered _ j (View.cover_of_tiled_head _ _ _ rfl j)]
  simp only [List.dropLast]
  clear h0 h2 h5
  canon_tiles x h
  all_goals
    obtain ⟨a, d, rfl⟩ : ∃ (a : Fin 128) (d : Fin 256), x = ix2 a d := ⟨x 0, x 1, eq_ix2 x⟩
    pointwise [k0_pay22, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111]
    refine (db_piece (hold m c t) (o' := 0) j _ _ h0.symm h1.symm (congrArg (128 + ·) h0.symm) h1.symm ?_).trans (zero_add _)
    rw [View.readCov_eq_canon']
    canon_tiles y g
    pointwise [k0_pay13]

end Cert.GmlpKernelIdeal.Value
end
-- ==== Proof.GmlpWeights.lean ====
/- The gated spatial mixing's backward pass, continued: every block of 256 rows adds its part to the gradient of the mixing weights. -/
module

public import proofs.«01_k».proof.Proof.Gen.GmlpKernelIdeal.Value
public import proofs.«01_k».proof.Proof.Gen.GmlpReferenceIdeal.Read
public import Idealize.ShloMosaic.Lib.Pipeline.ValueKit
public import Idealize.ShloMosaic.Lib.WordCmp
public import Idealize.ShloMosaic.PureOps.Ideal.Laws
public import proofs.«01_k».proof.Proof.GmlpStep
import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GmlpKernelIdeal.Value

open Cert.GmlpKernelIdeal Cert.GmlpKernelIdeal.Gen
open Cert.GmlpReferenceIdeal.Read
open Cert.Reals
variable (m : (ℓ : Loc nD τ sig) → Buf (Elt Ideal) ℓ) {c : Dev nD}

set_option maxHeartbeats 4000000 in
/-- Every later block adds its part of the weights' gradient. -/
theorem dw_step (t : Fin cfg0.N) (h0 : ¬t.val % 32 = 0) (h2 : 1 ≤ t.val) (j : S8x128x128.Idx) :
    (outsAt0 m c t.val t.isLt).2.1 j = (outsAt0 m c (t.val - 1) (Nat.lt_of_le_of_lt (Nat.sub_le _ _) t.isLt)).2.1 j
      + dwPart t (ap m c) (agn m c) (abn m c) (ag m c) (j 0) (j 1) (j 2) := by
  by_cases h5 : t.val % 32 = 31
  on_goal 1 => rw [outsAt0_C m c t h0 h0 h2 h0 h2 h5]
  on_goal 2 => rw [outsAt0_B m c t h0 h0 h2 h0 h2 h5]
  all_goals
    frame_out
    try simp only [read_unread_whole]
    generalize outsAt0 m c (t.val - 1) _ = old
    clear h0 h2 h5
    canon_tiles x h
    all_goals
      obtain ⟨o, a, b, rfl⟩ : ∃ (o : Fin 1) (a b : Fin 128), x = ix3 o a b := ⟨x 0, x 1, x 2, eq_ix3 x⟩
      obtain rfl : o = 0 := Subsingleton.elim _ _
      pointwise [k0_pay22, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111]
    case piece0 =>
      obtain rfl : j = ix3 (7 : Fin 8) a b := (eq_ix3 j).trans (ix3_congr (Fin.ext (h0.trans rfl)) (Fin.ext h1) (Fin.ext h2))
      exact dw_piece (hold m c t) 7 a b _ _ _ _ (fun _ => rfl) (fun _ => rfl) (fun _ => rfl) (fun _ => rfl) rfl
    case piece1 =>
      obtain rfl : j = ix3 (6 : Fin 8) a b := (eq_ix3 j).trans (ix3_congr (Fin.ext (h0.trans rfl)) (Fin.ext h1) (Fin.ext h2))
      exact dw_piece (hold m c t) 6 a b _ _ _ _ (fun _ => rfl) (fun _ => rfl) (fun _ => rfl) (fun _ => rfl) rfl
    case piece2 =>
      obtain rfl : j = ix3 (5 : Fin 8) a b := (eq_ix3 j).trans (ix3_congr (Fin.ext (h0.trans rfl)) (Fin.ext h1) (Fin.ext h2))
      exact dw_piece (hold m c t) 5 a b _ _ _ _ (fun _ => rfl) (fun _ => rfl) (fun _ => rfl) (fun _ => rfl) rfl
    case piece3 =>
      obtain rfl : j = ix3 (4 : Fin 8) a b := (eq_ix3 j).trans (ix3_congr (Fin.ext (h0.trans rfl)) (Fin.ext h1) (Fin.ext h2))
      exact dw_piece (hold m c t) 4 a b _ _ _ _ (fun _ => rfl) (fun _ => rfl) (fun _ => rfl) (fun _ => rfl) rfl
    case piece4 =>
      obtain rfl : j = ix3 (3 : Fin 8) a b := (eq_ix3 j).trans (ix3_congr (Fin.ext (h0.trans rfl)) (Fin.ext h1) (Fin.ext h2))
      exact dw_piece (hold m c t) 3 a b _ _ _ _ (fun _ => rfl) (fun _ => rfl) (fun _ => rfl) (fun _ => rfl) rfl
    case piece5 =>
      obtain rfl : j = ix3 (2 : Fin 8) a b := (eq_ix3 j).trans (ix3_congr (Fin.ext (h0.trans rfl)) (Fin.ext h1) (Fin.ext h2))
      exact dw_piece (hold m c t) 2 a b _ _ _ _ (fun _ => rfl) (fun _ => rfl) (fun _ => rfl) (fun _ => rfl) rfl
    case piece6 =>
      obtain rfl : j = ix3 (1 : Fin 8) a b := (eq_ix3 j).trans (ix3_congr (Fin.ext (h0.trans rfl)) (Fin.ext h1) (Fin.ext h2))
      exact dw_piece (hold m c t) 1 a b _ _ _ _ (fun _ => rfl) (fun _ => rfl) (fun _ => rfl) (fun _ => rfl) rfl
    case piece7 =>
      obtain rfl : j = ix3 (0 : Fin 8) a b := (eq_ix3 j).trans (ix3_congr (Fin.ext (h0.trans rfl)) (Fin.ext h1) (Fin.ext h2))
      exact dw_piece (hold m c t) 0 a b _ _ _ _ (fun x => congrArg (ix2 _) (gcol_zero x _)) (fun x => congrArg (ix2 _) (gcol_zero x _)) (fun x => congrArg (ix2 _) (gcol_zero x _)) (fun x => congrArg (ix2 _) (gcol_zero x _)) rfl

set_option maxHeartbeats 4000000 in
/-- The first block starts them. -/
theorem dw_reset (t : Fin cfg0.N) (h0 : t.val % 32 = 0) (h2 : ¬1 ≤ t.val) (h5 : ¬t.val % 32 = 31) (j : S8x128x128.Idx) :
    (outsAt0 m c t.val t.isLt).2.1 j = dwPart t (ap m c) (agn m c) (abn m c) (ag m c) (j 0) (j 1) (j 2) := by
  rw [outsAt0_A m c t h0 h0 h2 h0 h2 h5]
  frame_out
  simp (disch := decide) only [Pieces.below _ 0]
  rw [Pieces.covered _ j (View.cover_of_tiled_head _ _ _ rfl j)]
  simp only [List.dropLast]
  clear h0 h2 h5
  canon_tiles x h
  all_goals
    obtain ⟨o, a, b, rfl⟩ : ∃ (o : Fin 1) (a b : Fin 128), x = ix3 o a b := ⟨x 0, x 1, x 2, eq_ix3 x⟩
    obtain rfl : o = 0 := Subsingleton.elim _ _
    pointwise [k0_pay22, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111]
  case piece0 =>
    obtain rfl : j = ix3 (7 : Fin 8) a b := (eq_ix3 j).trans (ix3_congr (Fin.ext (h0.trans rfl)) (Fin.ext h1) (Fin.ext h2))
    refine (dw_piece (hold m c t) (o' := 0) 7 a b _ _ _ _ (fun _ => rfl) (fun _ => rfl) (fun _ => rfl) (fun _ => rfl) ?_).trans (zero_add _)
    rw [View.readCov_eq_canon']
    canon_tiles y g
    pointwise [k0_pay12]
  case piece1 =>
    obtain rfl : j = ix3 (6 : Fin 8) a b := (eq_ix3 j).trans (ix3_congr (Fin.ext (h0.trans rfl)) (Fin.ext h1) (Fin.ext h2))
    refine (dw_piece (hold m c t) (o' := 0) 6 a b _ _ _ _ (fun _ => rfl) (fun _ => rfl) (fun _ => rfl) (fun _ => rfl) ?_).trans (zero_add _)
    rw [View.readCov_eq_canon']
    canon_tiles y g
    pointwise [k0_pay12]
  case piece2 =>
    obtain rfl : j = ix3 (5 : Fin 8) a b := (eq_ix3 j).trans (ix3_congr (Fin.ext (h0.trans rfl)) (Fin.ext h1) (Fin.ext h2))
    refine (dw_piece (hold m c t) (o' := 0) 5 a b _ _ _ _ (fun _ => rfl) (fun _ => rfl) (fun _ => rfl) (fun _ => rfl) ?_).trans (zero_add _)
    rw [View.readCov_eq_canon']
    canon_tiles y g
    pointwise [k0_pay12]
  case piece3 =>
    obtain rfl : j = ix3 (4 : Fin 8) a b := (eq_ix3 j).trans (ix3_congr (Fin.ext (h0.trans rfl)) (Fin.ext h1) (Fin.ext h2))
    refine (dw_piece (hold m c t) (o' := 0) 4 a b _ _ _ _ (fun _ => rfl) (fun _ => rfl) (fun _ => rfl) (fun _ => rfl) ?_).trans (zero_add _)
    rw [View.readCov_eq_canon']
    canon_tiles y g
    pointwise [k0_pay12]
  case piece4 =>
    obtain rfl : j = ix3 (3 : Fin 8) a b := (eq_ix3 j).trans (ix3_congr (Fin.ext (h0.trans rfl)) (Fin.ext h1) (Fin.ext h2))
    refine (dw_piece (hold m c t) (o' := 0) 3 a b _ _ _ _ (fun _ => rfl) (fun _ => rfl) (fun _ => rfl) (fun _ => rfl) ?_).trans (zero_add _)
    rw [View.readCov_eq_canon']
    canon_tiles y g
    pointwise [k0_pay12]
  case piece5 =>
    obtain rfl : j = ix3 (2 : Fin 8) a b := (eq_ix3 j).trans (ix3_congr (Fin.ext (h0.trans rfl)) (Fin.ext h1) (Fin.ext h2))
    refine (dw_piece (hold m c t) (o' := 0) 2 a b _ _ _ _ (fun _ => rfl) (fun _ => rfl) (fun _ => rfl) (fun _ => rfl) ?_).trans (zero_add _)
    rw [View.readCov_eq_canon']
    canon_tiles y g
    pointwise [k0_pay12]
  case piece6 =>
    obtain rfl : j = ix3 (1 : Fin 8) a b := (eq_ix3 j).trans (ix3_congr (Fin.ext (h0.trans rfl)) (Fin.ext h1) (Fin.ext h2))
    refine (dw_piece (hold m c t) (o' := 0) 1 a b _ _ _ _ (fun _ => rfl) (fun _ => rfl) (fun _ => rfl) (fun _ => rfl) ?_).trans (zero_add _)
    rw [View.readCov_eq_canon']
    canon_tiles y g
    pointwise [k0_pay12]
  case piece7 =>
    obtain rfl : j = ix3 (0 : Fin 8) a b := (eq_ix3 j).trans (ix3_congr (Fin.ext (h0.trans rfl)) (Fin.ext h1) (Fin.ext h2))
    refine (dw_piece (hold m c t) (o' := 0) 0 a b _ _ _ _ (fun x => congrArg (ix2 _) (gcol_zero x _)) (fun x => congrArg (ix2 _) (gcol_zero x _)) (fun x => congrArg (ix2 _) (gcol_zero x _)) (fun x => congrArg (ix2 _) (gcol_zero x _)) ?_).trans (zero_add _)
    rw [View.readCov_eq_canon']
    canon_tiles y g
    pointwise [k0_pay12]

end Cert.GmlpKernelIdeal.Value
end
-- ==== Proof.GmlpNorm.lean ====
/- The gated spatial mixing's backward pass, continued: every block of 256 rows adds its part to the gradients of the layer norm's
   gain and offset, and the last block writes the offsets' gradient. -/
module

public import proofs.«01_k».proof.Proof.Gen.GmlpKernelIdeal.Value
public import proofs.«01_k».proof.Proof.Gen.GmlpReferenceIdeal.Read
public import Idealize.ShloMosaic.Lib.Pipeline.ValueKit
public import Idealize.ShloMosaic.Lib.WordCmp
public import Idealize.ShloMosaic.PureOps.Ideal.Laws
public import proofs.«01_k».proof.Proof.GmlpWeights
import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GmlpKernelIdeal.Value

open Cert.GmlpKernelIdeal Cert.GmlpKernelIdeal.Gen
open Cert.GmlpReferenceIdeal.Read
open Cert.Reals
variable (m : (ℓ : Loc nD τ sig) → Buf (Elt Ideal) ℓ) {c : Dev nD}

/-- A block's parts of the gradients of the layer norm's gain and offset. -/
def gPart (c : Dev nD) (t : Fin cfg0.N) (k : Fin 2048) : EReal := ∑ a, dv (ap m c) (aw m c) (ag m c) (row t a) k * vh (prow (ap m c) (row t a)) k
def bPart (c : Dev nD) (t : Fin cfg0.N) (k : Fin 2048) : EReal := ∑ a, dv (ap m c) (aw m c) (ag m c) (row t a) k

theorem g_reset (t : Fin cfg0.N) (h0 : t.val % 32 = 0) (h2 : ¬1 ≤ t.val) (h5 : ¬t.val % 32 = 31) (j : S1x2048.Idx) :
    (outsAt0 m c t.val t.isLt).2.2.2.1 j = gPart m c t (j 1) := by
  rw [outsAt0_A m c t h0 h0 h2 h0 h2 h5]
  frame_out
  have e := dv_read (hold m c t)
  unfold dvL at e
  rw [e]
  obtain ⟨o, k, rfl⟩ : ∃ (o : Fin 1) (k : Fin 2048), j = ix2 o k := ⟨j 0, j 1, eq_ix2 j⟩
  pointwise [k0_pay113, k0_pay114]
  exact Fin.sum_fin_congr fun a => congrArg (dv (ap m c) (aw m c) (ag m c) (row t a) k * ·) (b20 (hold m c t) a k)
theorem b_reset (t : Fin cfg0.N) (h0 : t.val % 32 = 0) (h2 : ¬1 ≤ t.val) (h5 : ¬t.val % 32 = 31) (j : S1x2048.Idx) :
    (outsAt0 m c t.val t.isLt).2.2.2.2.1 j = bPart m c t (j 1) := by
  rw [outsAt0_A m c t h0 h0 h2 h0 h2 h5]
  frame_out
  have e := dv_read (hold m c t)
  unfold dvL at e
  rw [e]
  obtain ⟨o, k, rfl⟩ : ∃ (o : Fin 1) (k : Fin 2048), j = ix2 o k := ⟨j 0, j 1, eq_ix2 j⟩
  pointwise [k0_pay116]
  rfl
theorem g_step (t : Fin cfg0.N) (h0 : ¬t.val % 32 = 0) (h2 : 1 ≤ t.val) (j : S1x2048.Idx) :
    (outsAt0 m c t.val t.isLt).2.2.2.1 j = (outsAt0 m c (t.val - 1) (Nat.lt_of_le_of_lt (Nat.sub_le _ _) t.isLt)).2.2.2.1 j + gPart m c t (j 1) := by
  by_cases h5 : t.val % 32 = 31
  on_goal 1 => rw [outsAt0_C m c t h0 h0 h2 h0 h2 h5]
  on_goal 2 => rw [outsAt0_B m c t h0 h0 h2 h0 h2 h5]
  all_goals
    frame_out
    have e := dv_read (hold m c t)
    unfold dvL at e
    rw [e]
    obtain ⟨o, k, rfl⟩ : ∃ (o : Fin 1) (k : Fin 2048), j = ix2 o k := ⟨j 0, j 1, eq_ix2 j⟩
    generalize outsAt0 m c (t.val - 1) _ = old
    pointwise [k0_pay113, k0_pay114, k0_pay115]
    refine congrArg (_ + ·) ?_
    exact Fin.sum_fin_congr fun a => congrArg (dv (ap m c) (aw m c) (ag m c) (row t a) k * ·) (b20 (hold m c t) a k)
theorem b_step (t : Fin cfg0.N) (h0 : ¬t.val % 32 = 0) (h2 : 1 ≤ t.val) (j : S1x2048.Idx) :
    (outsAt0 m c t.val t.isLt).2.2.2.2.1 j = (outsAt0 m c (t.val - 1) (Nat.lt_of_le_of_lt (Nat.sub_le _ _) t.isLt)).2.2.2.2.1 j + bPart m c t (j 1) := by
  by_cases h5 : t.val % 32 = 31
  on_goal 1 => rw [outsAt0_C m c t h0 h0 h2 h0 h2 h5]
  on_goal 2 => rw [outsAt0_B m c t h0 h0 h2 h0 h2 h5]
  all_goals
    frame_out
    have e := dv_read (hold m c t)
    unfold dvL at e
    rw [e]
    obtain ⟨o, k, rfl⟩ : ∃ (o : Fin 1) (k : Fin 2048), j = ix2 o k := ⟨j 0, j 1, eq_ix2 j⟩
    generalize outsAt0 m c (t.val - 1) _ = old
    pointwise [k0_pay116, k0_pay117]
    rfl

set_option maxHeartbeats 4000000 in
/-- The last block writes each group's sum over its columns, in every lane. -/
theorem dbs_last (t : Fin cfg0.N) (h0 : ¬t.val % 32 = 0) (h2 : 1 ≤ t.val) (h5 : t.val % 32 = 31) (j : S8x128x128.Idx) :
    (outsAt0 m c t.val t.isLt).2.2.1 j = (∑ d : Fin 256, (outsAt0 m c t.val t.isLt).2.2.2.2.2 (ix2 (j 1) (gcol (j 0) d)) : EReal) := by
  rw [outsAt0_C m c t h0 h0 h2 h0 h2 h5]
  frame_out
  simp only [View.readCov_eq_canon']
  generalize View.canon (Val := Elt Ideal) (s := S128x2048) (e := .f32) _ = S
  clear h0 h2 h5
  canon_tiles x h
  all_goals
    obtain ⟨o, a, b, rfl⟩ : ∃ (o : Fin 1) (a : Fin 128) (b : Fin 128), x = ix3 o a b := ⟨x 0, x 1, x 2, eq_ix3 x⟩
    pointwise [k0_pay4, k0_pay5, k0_pay6, k0_pay7, k0_pay8, k0_pay9, k0_pay10, k0_pay11]
  all_goals
    refine Fin.sum_fin_congr fun d => congrArg S (congrArg₂ ix2 (Fin.ext h1.symm) (Fin.ext ?_))
    simp only [gcol]
    omega

end Cert.GmlpKernelIdeal.Value
end
-- ==== Proof.GmlpReal.lean ====
/- The gated spatial mixing's backward pass over the reals: where the arguments are finite everything in between is, the two
   forms of the GELU's derivative are one function, and so are the two forms of the layer norm's. -/
module

public import proofs.«01_k».proof.Proof.GmlpRow

@[expose] public section

set_option maxRecDepth 16384

noncomputable section

open Idealize.ShloMosaic Idealize.ShloMosaic.TcCoe Idealize.SL.Sem

namespace Cert.GmlpKernelIdeal.Value

open Cert.GmlpKernelIdeal Cert.GmlpKernelIdeal.Gen
open Cert.GmlpReferenceIdeal.Read
open Cert.Reals

/-! ## Real values -/

/-- A value that is a real number. -/
def Real' (x : EReal) : Prop := ∃ r : ℝ, x = r

theorem Real'.coe (r : ℝ) : Real' (r : EReal) := ⟨r, rfl⟩
theorem Real'.mul {x y : EReal} (hx : Real' x) (hy : Real' y) : Real' (x * y) := by
  obtain ⟨a, rfl⟩ := hx; obtain ⟨b, rfl⟩ := hy; exact ⟨a * b, (EReal.coe_mul a b).symm⟩
theorem Real'.add {x y : EReal} (hx : Real' x) (hy : Real' y) : Real' (x + y) := by
  obtain ⟨a, rfl⟩ := hx; obtain ⟨b, rfl⟩ := hy; exact ⟨a + b, (EReal.coe_add a b).symm⟩
theorem Real'.sum {ι : Type} [Fintype ι] {f : ι → EReal} (h : ∀ i, Real' (f i)) : Real' (∑ i, f i) := by
  choose g hg using h
  exact ⟨∑ i, g i, by rw [← sum_coe]; exact Finset.sum_congr rfl fun i _ => hg i⟩
theorem Real'.sub {x y : EReal} (hx : Real' x) (hy : Real' y) : Real' (x - y) := by
  obtain ⟨a, rfl⟩ := hx; obtain ⟨b, rfl⟩ := hy; exact ⟨a - b, (EReal.coe_sub a b).symm⟩
theorem Real'.mean {x : EReal} (hx : Real' x) : Real' (Ideal.div x (Ideal.ofBits .f32 1157627904#32)) := by
  obtain ⟨a, rfl⟩ := hx; exact ⟨a / 2048, by rw [lit_2048, div_coe _ (by norm_num)]⟩

/-! ## The GELU's derivative -/

/-- The error function's slope at nought, rounded, and the layer norm's addend. -/
def slope : ℝ := 9465531 / 8388608
theorem lit_slope : Ideal.ofBits .f32 3213913787#32 = ((-slope : ℝ) : EReal) := by
  show _ = ((-(9465531 / 8388608) : ℝ) : EReal)
  simp [Ideal.ofBits, Ideal.ieee, -EReal.coe_mul, -EReal.coe_neg]
  norm_num
def lnEps : ℝ := 2748779 / 274877906944
theorem lnEps_pos : 0 < lnEps := by unfold lnEps; positivity
theorem lit_lnEps : Ideal.ofBits .f32 925353388#32 = ((lnEps : ℝ) : EReal) := by simp [Ideal.ofBits, Ideal.ieee, lnEps, -EReal.coe_mul]; norm_num

/-- The error function of a real number. -/
def erfR (r : ℝ) : ℝ := 2 / Real.sqrt Real.pi * ∫ t in (0 : ℝ)..r, Real.exp (-(t ^ 2))
theorem erf_coe (r : ℝ) : Ideal.erf (r : EReal) = ((erfR r : ℝ) : EReal) := rfl

theorem real_gel {x : EReal} (h : Real' x) : Real' (gel x) := by
  obtain ⟨p, rfl⟩ := h
  unfold gel cdf
  rw [← EReal.coe_mul, erf_coe, lit_half, lit_one, ← EReal.coe_add, ← EReal.coe_mul, ← EReal.coe_mul]
  exact Real'.coe _

/-- The kernel's derivative times a cotangent is the reference's. -/
theorem gel_back {x d : EReal} (hx : Real' x) (hd : Real' d) :
    d * (Ideal.ofBits .f32 1056964608#32 * (Ideal.ofBits .f32 1065353216#32 + Ideal.erf (x * (((Real.sqrt 2)⁻¹ : ℝ) : EReal)))
        + x * ((((9465531 / 16777216) * (Real.sqrt 2)⁻¹ : ℝ) : EReal) * Ideal.exp (Ideal.ofBits .f32 3204448256#32 * x * x)))
      = -(Ideal.ofBits .f32 3213913787#32 * (Ideal.ofBits .f32 1056964608#32 * x * d)
          * Ideal.exp (-(-x * Ideal.rsqrt (Ideal.ofBits .f32 1073741824#32) * (-x * Ideal.rsqrt (Ideal.ofBits .f32 1073741824#32))))
          * Ideal.rsqrt (Ideal.ofBits .f32 1073741824#32))
        + Ideal.ofBits .f32 1056964608#32 * (d * Ideal.erfc (-x * Ideal.rsqrt (Ideal.ofBits .f32 1073741824#32))) := by
  obtain ⟨p, rfl⟩ := hx
  obtain ⟨e, rfl⟩ := hd
  rw [two_root]
  have h2 : (Real.sqrt 2)⁻¹ * (Real.sqrt 2)⁻¹ = 1 / 2 := by
    rw [← mul_inv, Real.mul_self_sqrt (by norm_num)]; norm_num
  have hp : -(-p * (Real.sqrt 2)⁻¹ * (-p * (Real.sqrt 2)⁻¹)) = -(1 / 2) * p * p := by
    linear_combination -(p * p) * h2
  rw [show ((-(p : EReal)) * (((Real.sqrt 2)⁻¹ : ℝ) : EReal)) = -((p : EReal) * (((Real.sqrt 2)⁻¹ : ℝ) : EReal)) from EReal.neg_mul _ _, Ideal.erfc_neg]
  rw [← EReal.coe_mul p, erf_coe, lit_half, lit_one, lit_neg_half, lit_slope]
  simp only [← EReal.coe_mul, ← EReal.coe_add, ← EReal.coe_neg, exp_coe, ← EReal.coe_one]
  rw [show -(-(p * (Real.sqrt 2)⁻¹) * -(p * (Real.sqrt 2)⁻¹)) = -(1 / 2) * p * p by rw [← hp]; ring]
  unfold slope
  congr 1
  ring

/-! ## The layer norm's derivative -/

/-- Over the reals, for a centred row. -/
theorem ln_real (x d : Fin 2048 → ℝ) (hx : ∑ k, x k = 0) (v R : ℝ) (hv : 0 < v) (hR : R = (Real.sqrt v)⁻¹) (k : Fin 2048) :
    R * (d k - (∑ y, d y) / 2048 - x k * R * ((∑ y, d y * (x y * R)) / 2048))
      = d k * R + x k * ((∑ y, x y * d y) * (-(1 / 2) * (R / v)) / 2048) + (∑ y, x y * d y) * (-(1 / 2) * (R / v)) / 2048 * x k
        + (∑ y, -(d y * R + x y * ((∑ y, x y * d y) * (-(1 / 2) * (R / v)) / 2048) + (∑ y, x y * d y) * (-(1 / 2) * (R / v)) / 2048 * x y)) / 2048 := by
  have hRR : R * R = 1 / v := by
    rw [hR, ← mul_inv, Real.mul_self_sqrt hv.le, one_div]
  have hs : ∑ y, d y * (x y * R) = (∑ y, x y * d y) * R := by
    rw [Finset.sum_mul]; exact Finset.sum_congr rfl fun y _ => by ring
  rw [hs]
  generalize (∑ y, x y * d y) = S
  have hm : ∑ y, -(d y * R + x y * (S * (-(1 / 2) * (R / v)) / 2048) + S * (-(1 / 2) * (R / v)) / 2048 * x y) = -((∑ y, d y) * R) := by
    have : ∀ y, -(d y * R + x y * (S * (-(1 / 2) * (R / v)) / 2048) + S * (-(1 / 2) * (R / v)) / 2048 * x y) = -(d y * R) + x y * (S * (R / v) / 2048) := fun y => by ring
    rw [Finset.sum_congr rfl fun y _ => this y, Finset.sum_add_distrib, Finset.sum_neg_distrib, ← Finset.sum_mul, ← Finset.sum_mul, hx]
    ring
  rw [hm]
  rw [div_eq_mul_one_div R v, ← hRR]
  ring

variable (X : Fin 4096 → EReal)

/-- A finite row's centred half: real, with sum nought. -/
theorem xc_coe (hX : ∀ k, Real' (X k)) : ∃ x : Fin 2048 → ℝ, (∀ k, xc X k = ((x k : ℝ) : EReal)) ∧ ∑ k, x k = 0 := by
  choose z hz using fun k : Fin 2048 => real_gel (hX ⟨2048 + k.val, by have := k.isLt; omega⟩)
  refine ⟨fun k => z k - (∑ y, z y) / 2048, fun k => ?_, ?_⟩
  · unfold xc
    rw [Finset.sum_congr rfl fun y _ => hz y, hz k, sum_coe, lit_2048, div_coe _ (by norm_num), ← EReal.coe_sub]
  · rw [Finset.sum_sub_distrib, Finset.sum_const, Finset.card_univ, Fintype.card_fin, nsmul_eq_mul]
    push_cast
    ring

theorem rs_coe (x : Fin 2048 → ℝ) (hx : ∀ k, xc X k = ((x k : ℝ) : EReal)) :
    0 < (∑ y, x y * x y) / 2048 + lnEps ∧ rs X = (((Real.sqrt ((∑ y, x y * x y) / 2048 + lnEps))⁻¹ : ℝ) : EReal) := by
  have hpos : 0 < (∑ y, x y * x y) / 2048 + lnEps :=
    add_pos_of_nonneg_of_pos (div_nonneg (Finset.sum_nonneg fun y _ => mul_self_nonneg _) (by norm_num)) lnEps_pos
  refine ⟨hpos, ?_⟩
  unfold rs
  rw [Finset.sum_congr rfl fun y _ => by rw [hx y, ← EReal.coe_mul], sum_coe, lit_2048, div_coe _ (by norm_num), lit_lnEps, ← EReal.coe_add, rsqrt_coe hpos]

theorem real_rs (hX : ∀ k, Real' (X k)) : Real' (rs X) := by
  obtain ⟨x, hx, _⟩ := xc_coe X hX
  exact ⟨_, (rs_coe X x hx).2⟩
theorem real_vh (hX : ∀ k, Real' (X k)) (k : Fin 2048) : Real' (vh X k) := by
  obtain ⟨x, hx, _⟩ := xc_coe X hX
  exact Real'.mul ⟨_, hx k⟩ (real_rs X hX)

/-- The kernel's cotangent of the row is the reference's. -/
theorem ln_back (hX : ∀ k, Real' (X k)) (D : Fin 2048 → EReal) (hD : ∀ k, Real' (D k)) (k : Fin 2048) (C : EReal)
    (hC : C = Ideal.div ((∑ y, xc X y * D y) * (Ideal.ofBits .f32 3204448256#32
        * Ideal.div (rs X) (Ideal.div (∑ y, xc X y * xc X y) (Ideal.ofBits .f32 1157627904#32) + Ideal.ofBits .f32 925353388#32))) (Ideal.ofBits .f32 1157627904#32)) :
    rs X * (D k - Ideal.div (∑ y, D y) (Ideal.ofBits .f32 1157627904#32) - vh X k * Ideal.div (∑ y, D y * vh X y) (Ideal.ofBits .f32 1157627904#32))
      = D k * rs X + xc X k * C + C * xc X k + Ideal.div (∑ y, -(D y * rs X + xc X y * C + C * xc X y)) (Ideal.ofBits .f32 1157627904#32) := by
  obtain ⟨x, hx, h0⟩ := xc_coe X hX
  obtain ⟨hv, hr⟩ := rs_coe X x hx
  choose d hd using hD
  obtain rfl : D = fun k => ((d k : ℝ) : EReal) := funext hd
  have hc : C = (((∑ y, x y * d y) * (-(1 / 2) * ((Real.sqrt ((∑ y, x y * x y) / 2048 + lnEps))⁻¹ / ((∑ y, x y * x y) / 2048 + lnEps))) / 2048 : ℝ) : EReal) := by
    rw [hC, hr]
    simp only [hx, ← EReal.coe_mul, sum_coe, lit_2048, lit_lnEps, lit_neg_half]
    rw [div_coe _ (by norm_num), ← EReal.coe_add, div_coe _ hv.ne', ← EReal.coe_mul, ← EReal.coe_mul, div_coe _ (by norm_num)]
  rw [hc]
  unfold vh
  rw [hr]
  simp only [hx, ← EReal.coe_mul, ← EReal.coe_add, ← EReal.coe_neg, sum_coe, lit_2048]
  rw [div_coe _ (by norm_num), div_coe _ (by norm_num), div_coe _ (by norm_num), ← EReal.coe_sub, ← EReal.coe_mul, ← EReal.coe_sub, ← EReal.coe_mul, ← EReal.coe_add]
  exact congrArg _ (ln_real x d h0 _ _ hv rfl k)

theorem real_ln (hX : ∀ k, Real' (X k)) (D : Fin 2048 → EReal) (hD : ∀ k, Real' (D k)) (k : Fin 2048) :
    Real' (rs X * (D k - Ideal.div (∑ y, D y) (Ideal.ofBits .f32 1157627904#32) - vh X k * Ideal.div (∑ y, D y * vh X y) (Ideal.ofBits .f32 1157627904#32))) :=
  (real_rs X hX).mul (((hD k).sub (Real'.sum hD).mean).sub ((real_vh X hX k).mul (Real'.sum fun y => (hD y).mul (real_vh X hX y)).mean))

/-! ## The whole arrays -/

section Whole

variable {P : FVec Ideal S8192x4096 .bf16} {Gn Bn : FVec Ideal Cert.GmlpReferenceIdeal.S2048 .f32} {W : FVec Ideal S8x128x128 .f32}
  {Bs : FVec Ideal S8x128 .f32} {G : FVec Ideal S8192x2048 .bf16}

theorem real_wm (hW : ∀ i, Real' (W i)) (g : Fin 8) (t s : Fin 128) : Real' (wm W g t s) := by
  unfold wm
  split
  · exact hW _
  · exact Real'.coe 0

theorem real_dv (hP : ∀ i, Real' (P i)) (hW : ∀ i, Real' (W i)) (hG : ∀ i, Real' (G i)) (r : Fin 8192) (k : Fin 2048) : Real' (dv P W G r k) :=
  Real'.sum fun x => (real_wm hW _ _ _).mul ((hG _).mul (real_gel (hP _)))

theorem real_mix (hP : ∀ i, Real' (P i)) (hGn : ∀ i, Real' (Gn i)) (hBn : ∀ i, Real' (Bn i)) (hW : ∀ i, Real' (W i)) (hBs : ∀ i, Real' (Bs i))
    (r : Fin 8192) (k : Fin 2048) : Real' (mix P Gn Bn W Bs r k) :=
  (Real'.sum fun x => (real_wm hW _ _ _).mul (((real_vh _ (fun _ => hP _) _).mul (hGn _)).add (hBn _))).add (hBs _)

end Whole

end Cert.GmlpKernelIdeal.Value
end
-- ==== Proof.GmlpDp.lean ====
/- The gated spatial mixing's backward pass: the projection's own gradient, block by block and in the reference. -/
module

public import proofs.«01_k».proof.Proof.Gen.GmlpKernelIdeal.Value
public import proofs.«01_k».proof.Proof.Gen.GmlpReferenceIdeal.Read
public import Idealize.ShloMosaic.Lib.Pipeline.ValueKit
public import Idealize.ShloMosaic.Lib.WordCmp
public import Idealize.ShloMosaic.PureOps.Ideal.Laws
public import proofs.«01_k».proof.Proof.GmlpNorm
public import proofs.«01_k».proof.Proof.GmlpReal
import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GmlpKernelIdeal.Value

open Cert.GmlpKernelIdeal Cert.GmlpKernelIdeal.Gen
open Cert.GmlpReferenceIdeal.Read
open Cert.Reals
variable (m : (ℓ : Loc nD τ sig) → Buf (Elt Ideal) ℓ) {c : Dev nD}

section Reference

variable (P : FVec Ideal S8192x4096 .bf16) (Gn Bn : FVec Ideal Cert.GmlpReferenceIdeal.S2048 .f32) (W : FVec Ideal S8x128x128 .f32) (Bs : FVec Ideal Cert.GmlpReferenceIdeal.S8x128 .f32) (G : FVec Ideal S8192x2048 .bf16)

/-- The cotangent before the layer norm. -/
def dh (r : Fin 8192) (k : Fin 2048) : EReal := dv P W G r k * Gn (ix1 k)
/-- The part that goes through the variance. -/
def cv (r : Fin 8192) : EReal := Ideal.div ((∑ y, xc (prow P r) y * dh P Gn W G r y) * (Ideal.ofBits .f32 3204448256#32
        * Ideal.div (rs (prow P r)) (Ideal.div (∑ y, xc (prow P r) y * xc (prow P r) y) (Ideal.ofBits .f32 1157627904#32) + Ideal.ofBits .f32 925353388#32))) (Ideal.ofBits .f32 1157627904#32)

theorem ref83 (r : Fin 8192) (k : Fin 2048) : val_main_v83 (F := Ideal) P Gn W G (ix2 r k) = dh P Gn W G r k * rs (prow P r) := by
  pointwise [val_main_v0, val_main_v1, val_main_cst, val_main_v2, val_main_v3, val_main_v4, val_main_cst_0, val_main_v5, val_main_v6, val_main_v7, val_main_v8, val_main_v9, val_main_v10, val_main_v11, val_main_v12, val_main_v13, val_main_v14, val_main_cst_1, val_main_v15, val_main_v16, val_main_cst_2, val_main_v17, val_main_v18, val_main_v19, val_main_v20, val_main_v21, val_main_cst_3, val_main_v22, val_main_v23, val_main_cst_4, val_main_v24, val_main_v25, val_main_cst_5, val_main_v26, val_main_v27, val_main_v29, val_main_cst_6, val_main_v30, val_main_v31, val_main_v32, val_main_v33, val_main_v34, val_main_v35, val_main_v36, val_main_v37, val_main_v38, val_main_v39, val_main_v40, val_main_c, val_main_v41, val_main_call0_v0, val_main_call0_c, val_main_call0_v1, val_main_call0_v2, val_main_call0_v3, val_main_call0_v4, val_main_call0_c_0, val_main_call0_v5, val_main_v42, val_main_v43, val_main_cst_7, val_main_v44, val_main_v45_1, val_main_v45_0, val_main_call1_cst, val_main_v45_2, val_main_v46, val_main_v47, val_main_v48, val_main_v49, val_main_v50, val_main_v51, val_main_v52, val_main_v53, val_main_v54, val_main_v55, val_main_v56, val_main_v57, val_main_cst_8, val_main_v58, val_main_v59, val_main_cst_9, val_main_v60, val_main_v61, val_main_cst_10, val_main_v62, val_main_v63, val_main_v64, val_main_v65, val_main_v66, val_main_v67, val_main_call2_cst, val_main_call2_v0, val_main_v68, val_main_cst_11, val_main_v70, val_main_v71, val_main_cst_12, val_main_v72, val_main_v73, val_main_cst_13, val_main_v74, val_main_v75, val_main_v76, val_main_v77, val_main_cst_14, val_main_v78, val_main_v79, val_main_cst_15, val_main_v80, val_main_v81, val_main_v82, val_main_v83]
  rw [ref69, ref28]
  rfl
theorem ref88 (r : Fin 8192) (k : Fin 2048) : val_main_v88 (F := Ideal) P Gn W G (ix2 r k) = cv P Gn W G r := by
  pointwise [val_main_v0, val_main_v1, val_main_cst, val_main_v2, val_main_v3, val_main_v4, val_main_cst_0, val_main_v5, val_main_v6, val_main_v7, val_main_v8, val_main_v9, val_main_v10, val_main_v11, val_main_v12, val_main_v13, val_main_v14, val_main_cst_1, val_main_v15, val_main_v16, val_main_cst_2, val_main_v17, val_main_v18, val_main_v19, val_main_v21, val_main_cst_3, val_main_v22, val_main_v23, val_main_cst_4, val_main_v24, val_main_v25, val_main_cst_5, val_main_v26, val_main_v27, val_main_v29, val_main_cst_6, val_main_v30, val_main_v31, val_main_v32, val_main_v33, val_main_v34, val_main_v35, val_main_v36, val_main_v37, val_main_v38, val_main_v39, val_main_v40, val_main_c, val_main_v41, val_main_call0_v0, val_main_call0_c, val_main_call0_v1, val_main_call0_v2, val_main_call0_v3, val_main_call0_v4, val_main_call0_c_0, val_main_call0_v5, val_main_v42, val_main_v43, val_main_cst_7, val_main_v44, val_main_v45_1, val_main_v45_0, val_main_call1_cst, val_main_v45_2, val_main_v46, val_main_v47, val_main_v48, val_main_v49, val_main_v50, val_main_v51, val_main_v52, val_main_v53, val_main_v54, val_main_v55, val_main_v56, val_main_v57, val_main_cst_8, val_main_v58, val_main_v59, val_main_cst_9, val_main_v60, val_main_v61, val_main_cst_10, val_main_v62, val_main_v63, val_main_v64, val_main_v65, val_main_v66, val_main_v67, val_main_call2_cst, val_main_call2_v0, val_main_v68, val_main_cst_11, val_main_v70, val_main_v71, val_main_cst_12, val_main_v72, val_main_v73, val_main_cst_13, val_main_v74, val_main_v75, val_main_v76, val_main_v77, val_main_cst_14, val_main_v78, val_main_v79, val_main_cst_15, val_main_v80, val_main_v81, val_main_v82, val_main_v83, val_main_v84, val_main_cst_16, val_main_v85, val_main_v86, val_main_cst_17, val_main_v87, val_main_v88]
  rw [Fin.sum_univ_one]
  simp only [ref69, ref20]
  have e := ref28 P r
  rw [e]
  rfl
theorem ref100 (r : Fin 8192) (k : Fin 2048) : val_main_v100 (F := Ideal) P Gn W G (ix2 r k)
    = dh P Gn W G r k * rs (prow P r) + xc (prow P r) k * cv P Gn W G r + cv P Gn W G r * xc (prow P r) k
      + Ideal.div (∑ y, -(dh P Gn W G r y * rs (prow P r) + xc (prow P r) y * cv P Gn W G r + cv P Gn W G r * xc (prow P r) y)) (Ideal.ofBits .f32 1157627904#32) := by
  pointwise [val_main_v0, val_main_v1, val_main_cst, val_main_v2, val_main_v3, val_main_v4, val_main_cst_0, val_main_v5, val_main_v6, val_main_v7, val_main_v8, val_main_v9, val_main_v10, val_main_v11, val_main_v12, val_main_v13, val_main_v14, val_main_cst_1, val_main_v15, val_main_v16, val_main_cst_2, val_main_v17, val_main_v18, val_main_v19, val_main_v21, val_main_cst_3, val_main_v22, val_main_v23, val_main_cst_4, val_main_v24, val_main_v25, val_main_cst_5, val_main_v26, val_main_v27, val_main_v28, val_main_v29, val_main_cst_6, val_main_v30, val_main_v31, val_main_v32, val_main_v33, val_main_v34, val_main_v35, val_main_v36, val_main_v37, val_main_v38, val_main_v39, val_main_v40, val_main_c, val_main_v41, val_main_call0_v0, val_main_call0_c, val_main_call0_v1, val_main_call0_v2, val_main_call0_v3, val_main_call0_v4, val_main_call0_c_0, val_main_call0_v5, val_main_v42, val_main_v43, val_main_cst_7, val_main_v44, val_main_v45_1, val_main_v45_0, val_main_call1_cst, val_main_v45_2, val_main_v46, val_main_v47, val_main_v48, val_main_v49, val_main_v50, val_main_v51, val_main_v52, val_main_v53, val_main_v54, val_main_v55, val_main_v56, val_main_v57, val_main_cst_8, val_main_v58, val_main_v59, val_main_cst_9, val_main_v60, val_main_v61, val_main_cst_10, val_main_v62, val_main_v63, val_main_v64, val_main_v65, val_main_v66, val_main_v67, val_main_call2_cst, val_main_call2_v0, val_main_v68, val_main_v69, val_main_cst_11, val_main_v70, val_main_v71, val_main_cst_12, val_main_v72, val_main_v73, val_main_cst_13, val_main_v74, val_main_v75, val_main_v76, val_main_v77, val_main_cst_14, val_main_v78, val_main_v79, val_main_cst_15, val_main_v80, val_main_v81, val_main_v82, val_main_v84, val_main_cst_16, val_main_v85, val_main_v86, val_main_cst_17, val_main_v87, val_main_v89, val_main_v90, val_main_v91, val_main_v92, val_main_v93, val_main_cst_18, val_main_v94, val_main_v95, val_main_cst_19, val_main_v96, val_main_v97, val_main_cst_20, val_main_v98, val_main_v99, val_main_v100]
  simp only [ref83, ref88, ref20, Fin.sum_univ_one]
theorem ref101l (r : Fin 8192) (k : Fin 2048) : val_main_v101 (F := Ideal) P Gn Bn W Bs G (ix2 r ⟨k.val, by have := k.isLt; omega⟩)
    = G (ix2 r k) * mix P Gn Bn W Bs r k := by
  pointwise [val_main_v0, val_main_v1, val_main_cst, val_main_v2, val_main_v3, val_main_v4, val_main_cst_0, val_main_v5, val_main_v6, val_main_v7, val_main_v8, val_main_v9, val_main_v10, val_main_v11, val_main_v12, val_main_v13, val_main_v14, val_main_cst_1, val_main_v15, val_main_v16, val_main_cst_2, val_main_v17, val_main_v18, val_main_v19, val_main_v20, val_main_v21, val_main_cst_3, val_main_v22, val_main_v23, val_main_cst_4, val_main_v24, val_main_v25, val_main_cst_5, val_main_v26, val_main_v27, val_main_v28, val_main_v29, val_main_cst_6, val_main_v30, val_main_v31, val_main_v32, val_main_v33, val_main_v34, val_main_v35, val_main_v36, val_main_v37, val_main_v38, val_main_v39, val_main_v40, val_main_c, val_main_v41, val_main_call0_v0, val_main_call0_c, val_main_call0_v1, val_main_call0_v2, val_main_call0_v3, val_main_call0_v4, val_main_call0_c_0, val_main_call0_v5, val_main_v42, val_main_v43, val_main_cst_7, val_main_v44, val_main_v45_1, val_main_v45_0, val_main_call1_cst, val_main_v45_2, val_main_v46, val_main_v47, val_main_v48, val_main_v49, val_main_v50, val_main_v51, val_main_v52, val_main_v54, val_main_v55, val_main_v56, val_main_v57, val_main_cst_8, val_main_v58, val_main_v59, val_main_cst_9, val_main_v60, val_main_v61, val_main_cst_10, val_main_v62, val_main_v63, val_main_v64, val_main_v65, val_main_v66, val_main_v67, val_main_call2_cst, val_main_call2_v0, val_main_v68, val_main_v69, val_main_cst_11, val_main_v70, val_main_v71, val_main_cst_12, val_main_v72, val_main_v73, val_main_cst_13, val_main_v74, val_main_v75, val_main_v76, val_main_v77, val_main_cst_14, val_main_v78, val_main_v79, val_main_cst_15, val_main_v80, val_main_v81, val_main_v82, val_main_v83, val_main_v84, val_main_cst_16, val_main_v85, val_main_v86, val_main_cst_17, val_main_v87, val_main_v88, val_main_v89, val_main_v90, val_main_v91, val_main_v92, val_main_v93, val_main_cst_18, val_main_v94, val_main_v95, val_main_cst_19, val_main_v96, val_main_v97, val_main_cst_20, val_main_v98, val_main_v99, val_main_v101]
  rw [ref53]
theorem ref101r (r : Fin 8192) (k : Fin 2048) : val_main_v101 (F := Ideal) P Gn Bn W Bs G (ix2 r ⟨2048 + k.val, by have := k.isLt; omega⟩)
    = val_main_v100 (F := Ideal) P Gn W G (ix2 r k) := by
  pointwise [val_main_v0, val_main_v1, val_main_cst, val_main_v2, val_main_v3, val_main_v4, val_main_cst_0, val_main_v5, val_main_v6, val_main_v7, val_main_v8, val_main_v9, val_main_v10, val_main_v11, val_main_v12, val_main_v13, val_main_v14, val_main_cst_1, val_main_v15, val_main_v16, val_main_cst_2, val_main_v17, val_main_v18, val_main_v19, val_main_v20, val_main_v21, val_main_cst_3, val_main_v22, val_main_v23, val_main_cst_4, val_main_v24, val_main_v25, val_main_cst_5, val_main_v26, val_main_v27, val_main_v28, val_main_v29, val_main_cst_6, val_main_v30, val_main_v31, val_main_v32, val_main_v33, val_main_v34, val_main_v35, val_main_v36, val_main_v37, val_main_v38, val_main_v39, val_main_v40, val_main_c, val_main_v41, val_main_call0_v0, val_main_call0_c, val_main_call0_v1, val_main_call0_v2, val_main_call0_v3, val_main_call0_v4, val_main_call0_c_0, val_main_call0_v5, val_main_v42, val_main_v43, val_main_cst_7, val_main_v44, val_main_v45_1, val_main_v45_0, val_main_call1_cst, val_main_v45_2, val_main_v46, val_main_v47, val_main_v48, val_main_v49, val_main_v50, val_main_v51, val_main_v52, val_main_v54, val_main_v55, val_main_v56, val_main_v57, val_main_cst_8, val_main_v58, val_main_v59, val_main_cst_9, val_main_v60, val_main_v61, val_main_cst_10, val_main_v62, val_main_v63, val_main_v64, val_main_v65, val_main_v66, val_main_v67, val_main_call2_cst, val_main_call2_v0, val_main_v68, val_main_v69, val_main_cst_11, val_main_v70, val_main_v71, val_main_cst_12, val_main_v72, val_main_v73, val_main_cst_13, val_main_v74, val_main_v75, val_main_v76, val_main_v77, val_main_cst_14, val_main_v78, val_main_v79, val_main_cst_15, val_main_v80, val_main_v81, val_main_v82, val_main_v83, val_main_v84, val_main_cst_16, val_main_v85, val_main_v86, val_main_cst_17, val_main_v87, val_main_v88, val_main_v89, val_main_v90, val_main_v91, val_main_v92, val_main_v93, val_main_cst_18, val_main_v94, val_main_v95, val_main_cst_19, val_main_v96, val_main_v97, val_main_cst_20, val_main_v98, val_main_v99, val_main_v101]
theorem ref112 (r : Fin 8192) (k : Fin 4096) : val_main_v112 (F := Ideal) P Gn Bn W Bs G (ix2 r k)
    = -(Ideal.ofBits .f32 3213913787#32 * (Ideal.ofBits .f32 1056964608#32 * P (ix2 r k) * val_main_v101 (F := Ideal) P Gn Bn W Bs G (ix2 r k))
          * Ideal.exp (-(-P (ix2 r k) * Ideal.rsqrt (Ideal.ofBits .f32 1073741824#32) * (-P (ix2 r k) * Ideal.rsqrt (Ideal.ofBits .f32 1073741824#32))))
          * Ideal.rsqrt (Ideal.ofBits .f32 1073741824#32))
        + Ideal.ofBits .f32 1056964608#32 * (val_main_v101 (F := Ideal) P Gn Bn W Bs G (ix2 r k) * Ideal.erfc (-P (ix2 r k) * Ideal.rsqrt (Ideal.ofBits .f32 1073741824#32))) := by
  pointwise [val_main_v0, val_main_v1, val_main_cst, val_main_v2, val_main_v3, val_main_v4, val_main_cst_0, val_main_v5, val_main_v6, val_main_v7, val_main_v8, val_main_v9, val_main_v10, val_main_v11, val_main_v12, val_main_v13, val_main_v14, val_main_cst_1, val_main_v15, val_main_v16, val_main_cst_2, val_main_v17, val_main_v18, val_main_v19, val_main_v20, val_main_v21, val_main_cst_3, val_main_v22, val_main_v23, val_main_cst_4, val_main_v24, val_main_v25, val_main_cst_5, val_main_v26, val_main_v27, val_main_v28, val_main_v29, val_main_cst_6, val_main_v30, val_main_v31, val_main_v32, val_main_v33, val_main_v34, val_main_v35, val_main_v36, val_main_v37, val_main_v38, val_main_v39, val_main_v40, val_main_c, val_main_v41, val_main_call0_v0, val_main_call0_c, val_main_call0_v1, val_main_call0_v2, val_main_call0_v3, val_main_call0_v4, val_main_call0_c_0, val_main_call0_v5, val_main_v42, val_main_v43, val_main_cst_7, val_main_v44, val_main_v45_1, val_main_v45_0, val_main_call1_cst, val_main_v45_2, val_main_v46, val_main_v47, val_main_v48, val_main_v49, val_main_v50, val_main_v51, val_main_v52, val_main_v53, val_main_v54, val_main_v55, val_main_v56, val_main_v57, val_main_cst_8, val_main_v58, val_main_v59, val_main_cst_9, val_main_v60, val_main_v61, val_main_cst_10, val_main_v62, val_main_v63, val_main_v64, val_main_v65, val_main_v66, val_main_v67, val_main_call2_cst, val_main_call2_v0, val_main_v68, val_main_v69, val_main_cst_11, val_main_v70, val_main_v71, val_main_cst_12, val_main_v72, val_main_v73, val_main_cst_13, val_main_v74, val_main_v75, val_main_v76, val_main_v77, val_main_cst_14, val_main_v78, val_main_v79, val_main_cst_15, val_main_v80, val_main_v81, val_main_v82, val_main_v83, val_main_v84, val_main_cst_16, val_main_v85, val_main_v86, val_main_cst_17, val_main_v87, val_main_v88, val_main_v89, val_main_v90, val_main_v91, val_main_v92, val_main_v93, val_main_cst_18, val_main_v94, val_main_v95, val_main_cst_19, val_main_v96, val_main_v97, val_main_cst_20, val_main_v98, val_main_v99, val_main_v100, val_main_v102, val_main_v103, val_main_cst_21, val_main_v104, val_main_v105, val_main_v106, val_main_v107, val_main_v108, val_main_cst_22, val_main_v109, val_main_v110, val_main_v111, val_main_v112]

end Reference

/-- The derivative as the kernel's text has it, with its named constants. -/
theorem gel_named {x d : EReal} (hx : Real' x) (hd : Real' d) :
    d * (Ideal.ofBits .f32 1056964608#32 * (1 + FloatOps.erf (F := Ideal) (φ := .f32) (x * Named.named (F := Ideal) (φ := .f32) κ "sqrt_half" 1060439283#32))
        + x * (Named.named (F := Ideal) (φ := .f32) κ "inv_sqrt_2pi" 1053573674#32 * Ideal.exp (Ideal.ofBits .f32 3204448256#32 * x * x)))
      = -(Ideal.ofBits .f32 3213913787#32 * (Ideal.ofBits .f32 1056964608#32 * x * d)
          * Ideal.exp (-(-x * Ideal.rsqrt (Ideal.ofBits .f32 1073741824#32) * (-x * Ideal.rsqrt (Ideal.ofBits .f32 1073741824#32))))
          * Ideal.rsqrt (Ideal.ofBits .f32 1073741824#32))
        + Ideal.ofBits .f32 1056964608#32 * (d * Ideal.erfc (-x * Ideal.rsqrt (Ideal.ofBits .f32 1073741824#32))) := by
  have e := gel_back hx hd
  rw [one_lit] at e
  exact e

/-- The arguments are finite. -/
structure Fine (P : FVec Ideal S8192x4096 .bf16) (Gn Bn : FVec Ideal Cert.GmlpReferenceIdeal.S2048 .f32) (W : FVec Ideal S8x128x128 .f32) (Bs : FVec Ideal Cert.GmlpReferenceIdeal.S8x128 .f32) (G : FVec Ideal S8192x2048 .bf16) : Prop where
  p : ∀ i, Real' (P i)
  gn : ∀ i, Real' (Gn i)
  bn : ∀ i, Real' (Bn i)
  w : ∀ i, Real' (W i)
  bs : ∀ i, Real' (Bs i)
  g : ∀ i, Real' (G i)

set_option maxHeartbeats 4000000 in
theorem dp_point (t : Fin cfg0.N) (hf : Fine (ap m c) (agn m c) (abn m c) (aw m c) (abs' m c) (ag m c)) (j : S256x4096.Idx) :
    (outsAt0 m c t.val t.isLt).1 j = val_main_v112 (F := Ideal) (ap m c) (agn m c) (abn m c) (aw m c) (abs' m c) (ag m c) (ix2 (row t (j 0)) (j 1)) := by
  have hN := lt_of_lt_of_eq t.isLt N_0
  have e := dv_read (hold m c t)
  unfold dvL at e
  have e' := f_read (hold m c t)
  unfold fL at e'
  by_cases h0 : t.val % 32 = 0
  on_goal 2 => by_cases h5 : t.val % 32 = 31
  on_goal 1 => rw [outsAt0_A m c t h0 h0 (by omega) h0 (by omega) (by omega)]
  on_goal 2 => rw [outsAt0_C m c t h0 h0 (by omega) h0 (by omega) h5]
  on_goal 3 => rw [outsAt0_B m c t h0 h0 (by omega) h0 (by omega) h5]
  all_goals
    frame_out
    rw [e, e']
    clear e e' h0
    canon_tiles x h
    all_goals
      obtain ⟨a, k, rfl⟩ : ∃ (a : Fin 256) (k : Fin 2048), x = ix2 a k := ⟨x 0, x 1, eq_ix2 x⟩
      pointwise [k0_pay1, k0_pay2, k0_pay3, k0_pay112, k0_pay118, k0_pay119, k0_pay14, k0_pay15, k0_pay22]
    case' piece1 =>
      rw [show (ix2 (row t (j 0)) (j 1) : S8192x4096.Idx) = ix2 (row t a) ⟨k.val, by have := k.isLt; omega⟩ from congrArg₂ ix2 (congrArg (row t) (Fin.ext h0)) (Fin.ext h1),
        ref112, ref101l, (hold m c t).dg, (hold m c t).p]
      exact gel_named (hf.p _) ((hf.g _).mul (real_mix hf.p hf.gn hf.bn hf.w hf.bs _ _))
    case' piece0 =>
      rw [show (ix2 (row t (j 0)) (j 1) : S8192x4096.Idx) = ix2 (row t a) ⟨2048 + k.val, by have := k.isLt; omega⟩ from congrArg₂ ix2 (congrArg (row t) (Fin.ext h0)) (Fin.ext h1),
        ref112, ref101r, ref100, ← ln_back (prow (ap m c) (row t a)) (fun _ => hf.p _) (dh (ap m c) (agn m c) (aw m c) (ag m c) (row t a)) (fun y => (real_dv hf.p hf.w hf.g _ _).mul (hf.gn _)) k (cv (ap m c) (agn m c) (aw m c) (ag m c) (row t a)) rfl]
      simp only [b19 (hold m c t), b20 (hold m c t), (hold m c t).p, (hold m c t).lg]
      exact gel_named (hf.p _) (real_ln _ (fun _ => hf.p _) (dh (ap m c) (agn m c) (aw m c) (ag m c) (row t a)) (fun y => (real_dv hf.p hf.w hf.g _ _).mul (hf.gn _)) k)

end Cert.GmlpKernelIdeal.Value
end
-- ==== Proof.GmlpValue.lean ====
/- The gated spatial mixing's backward pass: the five arrays the kernel ends with are the reference's. -/
module

public import proofs.«01_k».proof.Proof.Gen.GmlpKernelIdeal.Value
public import proofs.«01_k».proof.Proof.Gen.GmlpReferenceIdeal.Read
public import Idealize.ShloMosaic.Lib.Pipeline.ValueKit
public import Idealize.ShloMosaic.Lib.WordCmp
public import Idealize.ShloMosaic.PureOps.Ideal.Laws
public import proofs.«01_k».proof.Proof.GmlpDp
import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GmlpKernelIdeal.Value

open Cert.GmlpKernelIdeal Cert.GmlpKernelIdeal.Gen
open Cert.GmlpReferenceIdeal.Read
open Cert.Reals
variable (m : (ℓ : Loc nD τ sig) → Buf (Elt Ideal) ℓ) {c : Dev nD}

/-- The last block. -/
def end_pt : Fin cfg0.N := ⟨31, by rw [show cfg0.N = 32 from N_0]; decide⟩

/-- Two chunks of 128 rows to a block. -/
theorem chunks (f : Fin 64 → EReal) : ∑ p : Fin cfg0.N, (f ⟨2 * p.val, by have := lt_of_lt_of_eq p.isLt N_0; omega⟩ + f ⟨2 * p.val + 1, by have := lt_of_lt_of_eq p.isLt N_0; omega⟩) = ∑ x, f x := by
  refine (Finset.sum_congr rfl fun p _ => (Fin.sum_univ_two (fun q : Fin 2 => f ⟨2 * p.val + q.val, by have := lt_of_lt_of_eq p.isLt N_0; have := q.isLt; omega⟩)).symm).trans ?_
  refine Fin.sum_mul_add_congr fun t a hl => ?_
  exact congrArg f (Fin.ext (by show 2 * t.val + a.val = t.val * 2 + a.val; omega))

/-- A row by its block, a row by its chunk. -/
theorem row_lo (t : Fin cfg0.N) (a : Fin 128) : row t (lo a) = ⟨2 * t.val * 128 + a.val, by have := lt_of_lt_of_eq t.isLt N_0; have := a.isLt; omega⟩ :=
  Fin.ext (by show 256 * t.val + a.val = 2 * t.val * 128 + a.val; omega)
theorem row_hi (t : Fin cfg0.N) (a : Fin 128) : row t (hi a) = ⟨(2 * t.val + 1) * 128 + a.val, by have := lt_of_lt_of_eq t.isLt N_0; have := a.isLt; omega⟩ :=
  Fin.ext (by show 256 * t.val + (128 + a.val) = (2 * t.val + 1) * 128 + a.val; omega)
theorem gcol_eq (g : Fin 8) (d : Fin 256) : gcol g d = ⟨g.val * 256 + d.val, by have := g.isLt; have := d.isLt; omega⟩ :=
  Fin.ext (by show 256 * g.val + d.val = g.val * 256 + d.val; omega)

/-- The projection's gradient. -/
theorem dp_final (hf : Fine (ap m c) (agn m c) (abn m c) (aw m c) (abs' m c) (ag m c)) : (dats m 0 c).arrAt 6 (cfgs 0).N
    = val_main_v112 (F := Ideal) (ap m c) (agn m c) (abn m c) (aw m c) (abs' m c) (ag m c) := by
  refine (dats m 0 c).arrAt_eq_of_covers 6 _ (by decide +kernel) fun t _ y => ?_
  blk_simp
  rw [after0_6, show (win0_6.blk t).view.emb y = ix2 (row t (y 0)) (y 1) by blk_ext [idx t, row]]
  exact dp_point m t hf y

/-- The mixing weights' gradient. -/
theorem dw_final : (dats m 0 c).arrAt 7 (cfgs 0).N = val_main_v68 (F := Ideal) (ap m c) (agn m c) (abn m c) (ag m c) := by
  refine (dats m 0 c).arrAt_eq_of_after_last 7 end_pt (by decide +kernel) _ fun j => ?_
  blk_simp
  rw [after0_7, Pipeline.eq_sum_fin_of_reset_step_apply_last (fun n h => (outsAt0 m c n h).2.1) 32 (fun _ => 0)
    (fun t j => dwPart t (ap m c) (agn m c) (abn m c) (ag m c) (j 0) (j 1) (j 2))
    (fun t h i => by have hN := lt_of_lt_of_eq t.isLt N_0; rw [zero_add]; exact dw_reset m t h (by omega) (by omega) i)
    (fun t h i => dw_step m t h (by omega) i) (le_of_eq N_0) end_pt rfl j, zero_add]
  obtain ⟨g, a, b, rfl⟩ : ∃ (g : Fin 8) (a b : Fin 128), j = ix3 g a b := ⟨j 0, j 1, j 2, eq_ix3 j⟩
  refine Eq.trans ?_ (ref68 _ _ _ _ g a b).symm
  show (∑ p, dwPart p (ap m c) (agn m c) (abn m c) (ag m c) g a b : EReal) = _
  unfold dwPart
  by_cases h : b.val ≤ a.val
  · simp only [h, if_true, row_lo, row_hi, gcol_eq]
    exact chunks (fun x => ∑ y : Fin 256, df (ap m c) (ag m c) ⟨x.val * 128 + a.val, by have := x.isLt; have := a.isLt; omega⟩ ⟨g.val * 256 + y.val, by have := g.isLt; have := y.isLt; omega⟩
      * vv (ap m c) (agn m c) (abn m c) ⟨x.val * 128 + b.val, by have := x.isLt; have := b.isLt; omega⟩ ⟨g.val * 256 + y.val, by have := g.isLt; have := y.isLt; omega⟩)
  · simp only [h, if_false, Finset.sum_const_zero]

/-- The mixing offsets' gradient, in every lane. -/
theorem db_final : (dats m 0 c).arrAt 8 (cfgs 0).N = val_main_v114 (F := Ideal) (ap m c) (ag m c) := by
  refine (dats m 0 c).arrAt_eq_of_after_last 8 end_pt (by decide +kernel) _ fun j => ?_
  blk_simp
  rw [after0_8, dbs_last m end_pt (by decide) (by decide) (by decide) j]
  simp only [Pipeline.eq_sum_fin_of_reset_step_apply_last (fun n h => (outsAt0 m c n h).2.2.2.2.2) 32 (fun _ => 0)
    (fun t j => dbPart t (ap m c) (ag m c) (j 0) (j 1))
    (fun t h i => by have hN := lt_of_lt_of_eq t.isLt N_0; rw [zero_add]; exact db_reset m t h (by omega) (by omega) i)
    (fun t h i => db_step m t h (by omega) i) (le_of_eq N_0) end_pt rfl, zero_add]
  obtain ⟨g, a, b, rfl⟩ : ∃ (g : Fin 8) (a b : Fin 128), j = ix3 g a b := ⟨j 0, j 1, j 2, eq_ix3 j⟩
  refine Eq.trans ?_ (((by pointwise [val_main_v113, val_main_v114]) : val_main_v114 (F := Ideal) (ap m c) (ag m c) (ix3 g a b) = val_main_v63 (F := Ideal) (ap m c) (ag m c) (ix2 g a)).trans (ref63 _ _ g a)).symm
  show (∑ d, ∑ p, dbPart p (ap m c) (ag m c) a (gcol g d) : EReal) = _
  rw [Finset.sum_comm]
  unfold dbPart
  simp only [Finset.sum_add_distrib, row_lo, row_hi, gcol_eq]
  rw [← Finset.sum_add_distrib]
  exact chunks (fun x => ∑ y : Fin 256, df (ap m c) (ag m c) ⟨x.val * 128 + a.val, by have := x.isLt; have := a.isLt; omega⟩ ⟨g.val * 256 + y.val, by have := g.isLt; have := y.isLt; omega⟩)

/-- The layer norm's gain and offset. -/
theorem g_final : (dats m 0 c).arrAt 9 (cfgs 0).N = val_main_v115 (F := Ideal) (ap m c) (aw m c) (ag m c) := by
  refine (dats m 0 c).arrAt_eq_of_after_last 9 end_pt (by decide +kernel) _ fun j => ?_
  blk_simp
  rw [after0_9, Pipeline.eq_sum_fin_of_reset_step_apply_last (fun n h => (outsAt0 m c n h).2.2.2.1) 32 (fun _ => 0)
    (fun t j => gPart m c t (j 1))
    (fun t h i => by have hN := lt_of_lt_of_eq t.isLt N_0; rw [zero_add]; exact g_reset m t h (by omega) (by omega) i)
    (fun t h i => g_step m t h (by omega) i) (le_of_eq N_0) end_pt rfl j, zero_add]
  obtain ⟨o, k, rfl⟩ : ∃ (o : Fin 1) (k : Fin 2048), j = ix2 o k := ⟨j 0, j 1, eq_ix2 j⟩
  obtain rfl : o = 0 := Subsingleton.elim _ _
  pointwise [val_main_v0, val_main_v1, val_main_cst, val_main_v2, val_main_v3, val_main_v4, val_main_cst_0, val_main_v5, val_main_v6, val_main_v7, val_main_v8, val_main_v9, val_main_v10, val_main_v11, val_main_v12, val_main_v13, val_main_v14, val_main_cst_1, val_main_v15, val_main_v16, val_main_cst_2, val_main_v17, val_main_v18, val_main_v19, val_main_v20, val_main_v21, val_main_cst_3, val_main_v22, val_main_v23, val_main_cst_4, val_main_v24, val_main_v25, val_main_cst_5, val_main_v26, val_main_v27, val_main_v28, val_main_v29, val_main_cst_6, val_main_v30, val_main_v31, val_main_v32, val_main_v34, val_main_v35, val_main_v36, val_main_v37, val_main_v38, val_main_v39, val_main_v40, val_main_c, val_main_v41, val_main_call0_v0, val_main_call0_c, val_main_call0_v1, val_main_call0_v2, val_main_call0_v3, val_main_call0_v4, val_main_call0_c_0, val_main_call0_v5, val_main_v42, val_main_v43, val_main_cst_7, val_main_v44, val_main_v45_1, val_main_v45_0, val_main_call1_cst, val_main_v45_2, val_main_v46, val_main_v47, val_main_v48, val_main_v49, val_main_v50, val_main_v51, val_main_v52, val_main_v53, val_main_v54, val_main_v55, val_main_v56, val_main_v57, val_main_cst_8, val_main_v58, val_main_v59, val_main_cst_9, val_main_v60, val_main_v61, val_main_cst_10, val_main_v62, val_main_v63, val_main_v64, val_main_v65, val_main_v66, val_main_v67, val_main_call2_cst, val_main_call2_v0, val_main_v68, val_main_cst_11, val_main_v70, val_main_v71, val_main_cst_12, val_main_v72, val_main_v73, val_main_cst_13, val_main_v74, val_main_v75, val_main_v76, val_main_v77, val_main_cst_14, val_main_v78, val_main_v79, val_main_cst_15, val_main_v80, val_main_v81, val_main_v82, val_main_v83, val_main_v84, val_main_cst_16, val_main_v85, val_main_v86, val_main_cst_17, val_main_v87, val_main_v88, val_main_v89, val_main_v90, val_main_v91, val_main_v92, val_main_v93, val_main_cst_18, val_main_v94, val_main_v95, val_main_cst_19, val_main_v96, val_main_v97, val_main_cst_20, val_main_v98, val_main_v99, val_main_v100, val_main_v101, val_main_v102, val_main_v103, val_main_cst_21, val_main_v104, val_main_v105, val_main_v106, val_main_v107, val_main_v108, val_main_cst_22, val_main_v109, val_main_v110, val_main_v111, val_main_v112, val_main_v113, val_main_v114, val_main_v115]
  show (∑ p, gPart m c p k : EReal) = _
  refine Eq.trans ?_ (Fin.sum_univ_one _).symm
  unfold gPart
  refine Fin.sum_mul_add_congr fun t a hl => ?_
  rw [ref33, ref69, mul_comm]
  exact congrArg (fun r => vh (prow (ap m c) r) k * dv (ap m c) (aw m c) (ag m c) r k) (Fin.ext (by show 256 * t.val + a.val = t.val * 256 + a.val; omega))
theorem b_final : (dats m 0 c).arrAt 10 (cfgs 0).N = val_main_v116 (F := Ideal) (ap m c) (aw m c) (ag m c) := by
  refine (dats m 0 c).arrAt_eq_of_after_last 10 end_pt (by decide +kernel) _ fun j => ?_
  blk_simp
  rw [after0_10, Pipeline.eq_sum_fin_of_reset_step_apply_last (fun n h => (outsAt0 m c n h).2.2.2.2.1) 32 (fun _ => 0)
    (fun t j => bPart m c t (j 1))
    (fun t h i => by have hN := lt_of_lt_of_eq t.isLt N_0; rw [zero_add]; exact b_reset m t h (by omega) (by omega) i)
    (fun t h i => b_step m t h (by omega) i) (le_of_eq N_0) end_pt rfl j, zero_add]
  obtain ⟨o, k, rfl⟩ : ∃ (o : Fin 1) (k : Fin 2048), j = ix2 o k := ⟨j 0, j 1, eq_ix2 j⟩
  obtain rfl : o = 0 := Subsingleton.elim _ _
  pointwise [val_main_v0, val_main_v1, val_main_cst, val_main_v2, val_main_v3, val_main_v4, val_main_cst_0, val_main_v5, val_main_v6, val_main_v7, val_main_v8, val_main_v9, val_main_v10, val_main_v11, val_main_v12, val_main_v13, val_main_v14, val_main_cst_1, val_main_v15, val_main_v16, val_main_cst_2, val_main_v17, val_main_v18, val_main_v19, val_main_v20, val_main_v21, val_main_cst_3, val_main_v22, val_main_v23, val_main_cst_4, val_main_v24, val_main_v25, val_main_cst_5, val_main_v26, val_main_v27, val_main_v28, val_main_v29, val_main_cst_6, val_main_v30, val_main_v31, val_main_v32, val_main_v34, val_main_v35, val_main_v36, val_main_v37, val_main_v38, val_main_v39, val_main_v40, val_main_c, val_main_v41, val_main_call0_v0, val_main_call0_c, val_main_call0_v1, val_main_call0_v2, val_main_call0_v3, val_main_call0_v4, val_main_call0_c_0, val_main_call0_v5, val_main_v42, val_main_v43, val_main_cst_7, val_main_v44, val_main_v45_1, val_main_v45_0, val_main_call1_cst, val_main_v45_2, val_main_v46, val_main_v47, val_main_v48, val_main_v49, val_main_v50, val_main_v51, val_main_v52, val_main_v53, val_main_v54, val_main_v55, val_main_v56, val_main_v57, val_main_cst_8, val_main_v58, val_main_v59, val_main_cst_9, val_main_v60, val_main_v61, val_main_cst_10, val_main_v62, val_main_v63, val_main_v64, val_main_v65, val_main_v66, val_main_v67, val_main_call2_cst, val_main_call2_v0, val_main_v68, val_main_cst_11, val_main_v70, val_main_v71, val_main_cst_12, val_main_v72, val_main_v73, val_main_cst_13, val_main_v74, val_main_v75, val_main_v76, val_main_v77, val_main_cst_14, val_main_v78, val_main_v79, val_main_cst_15, val_main_v80, val_main_v81, val_main_v82, val_main_v83, val_main_v84, val_main_cst_16, val_main_v85, val_main_v86, val_main_cst_17, val_main_v87, val_main_v88, val_main_v89, val_main_v90, val_main_v91, val_main_v92, val_main_v93, val_main_cst_18, val_main_v94, val_main_v95, val_main_cst_19, val_main_v96, val_main_v97, val_main_cst_20, val_main_v98, val_main_v99, val_main_v100, val_main_v101, val_main_v102, val_main_v103, val_main_cst_21, val_main_v104, val_main_v105, val_main_v106, val_main_v107, val_main_v108, val_main_cst_22, val_main_v109, val_main_v110, val_main_v111, val_main_v112, val_main_v113, val_main_v114, val_main_v115, val_main_v116]
  show (∑ p, bPart m c p k : EReal) = _
  refine Eq.trans ?_ (Fin.sum_univ_one _).symm
  unfold bPart
  refine Fin.sum_mul_add_congr fun t a hl => ?_
  rw [ref69]
  exact congrArg (fun r => dv (ap m c) (aw m c) (ag m c) r k) (Fin.ext (by show 256 * t.val + a.val = t.val * 256 + a.val; omega))

end Cert.GmlpKernelIdeal.Value
end
-- ==== Proof.GmlpClaim.lean ====
/- Kernel and reference end with the same gradients of the gated spatial mixing, for real arguments. -/
module

public import proofs.«01_k».proof.Defs
public import proofs.«01_k».proof.Proof.GmlpValue
public import proofs.«01_k».proof.Proof.Gen.Pre_gmlp_finite
public import Idealize.ShloMosaic.Lib.Claim

@[expose] public section

noncomputable section

open Idealize.ShloMosaic Idealize.SL.Sem

namespace Cert.GmlpClaim

open Cert.GmlpKernelIdeal Cert.GmlpKernelIdeal.Value

/-- What the precondition says: all six arguments are arrays of reals. -/
theorem fine (P : FVec Ideal Cert.Pre_gmlp_finite.S8192x4096 .bf16) (Gn Bn : FVec Ideal Cert.Pre_gmlp_finite.S2048 .f32)
    (W : FVec Ideal Cert.Pre_gmlp_finite.S8x128x128 .f32) (Bs : FVec Ideal Cert.Pre_gmlp_finite.S8x128 .f32) (G : FVec Ideal Cert.Pre_gmlp_finite.S8192x2048 .bf16)
    (h : Cert.Pre_gmlp_finite.fn (F := Ideal) P Gn Bn W Bs G = fun _ => 1#1) : Fine P Gn Bn W Bs G := by
  have h0 := congrFun h (fun a => a.elim0)
  obtain ⟨h1, hG⟩ := IntOp.andi_eq_one.1 h0
  obtain ⟨h2, hBs⟩ := IntOp.andi_eq_one.1 h1
  obtain ⟨h3, hW⟩ := IntOp.andi_eq_one.1 h2
  obtain ⟨h4, hBn⟩ := IntOp.andi_eq_one.1 h3
  obtain ⟨hP, hGn⟩ := IntOp.andi_eq_one.1 h4
  haveI : Subsingleton Cert.Pre_gmlp_finite.S_.Idx := ⟨fun a b => funext fun i => i.elim0⟩
  obtain ⟨_, rP⟩ := Reals.real_of_all _ _ (fun i => rfl) _ _ _ _ hP
  obtain ⟨_, rGn⟩ := Reals.real_of_all _ _ (fun i => rfl) _ _ _ _ hGn
  obtain ⟨_, rBn⟩ := Reals.real_of_all _ _ (fun i => rfl) _ _ _ _ hBn
  obtain ⟨_, rW⟩ := Reals.real_of_all _ _ (fun i => rfl) _ _ _ _ hW
  obtain ⟨_, rBs⟩ := Reals.real_of_all _ _ (fun i => rfl) _ _ _ _ hBs
  obtain ⟨_, rG⟩ := Reals.real_of_all _ _ (fun i => rfl) _ _ _ _ hG
  exact ⟨fun i => ⟨_, rP i⟩, fun i => ⟨_, rGn i⟩, fun i => ⟨_, rBn i⟩, fun i => ⟨_, rW i⟩, fun i => ⟨_, rBs i⟩, fun i => ⟨_, rG i⟩⟩

theorem claim : Cert.algebraic_GmlpKernelIdeal_GmlpReferenceIdeal_pre_gmlp_finite := by
  pair_intro
  · run_from Cert.GmlpKernelIdeal.Value.run_blocks m g
  · have hf := fine _ _ _ _ _ _ (hpre 0)
    have e0 : StableHlo.launchContents m' 0 (Proc.tc.devRef Cert.GmlpReferenceIdeal.main_arg0) = ap m 0 := (hagree 0).1
    have e1 : StableHlo.launchContents m' 0 (Proc.tc.devRef Cert.GmlpReferenceIdeal.main_arg1) = agn m 0 := (hagree 0).2.1
    have e2 : StableHlo.launchContents m' 0 (Proc.tc.devRef Cert.GmlpReferenceIdeal.main_arg2) = abn m 0 := (hagree 0).2.2.1
    have e3 : StableHlo.launchContents m' 0 (Proc.tc.devRef Cert.GmlpReferenceIdeal.main_arg3) = aw m 0 := (hagree 0).2.2.2.1
    have e4 : StableHlo.launchContents m' 0 (Proc.tc.devRef Cert.GmlpReferenceIdeal.main_arg4) = abs' m 0 := (hagree 0).2.2.2.2.1
    have e5 : StableHlo.launchContents m' 0 (Proc.tc.devRef Cert.GmlpReferenceIdeal.main_arg5) = ag m 0 := (hagree 0).2.2.2.2.2
    run_from Cert.GmlpReferenceIdeal.Value.run m' g'
    all_goals obtain rfl : c = 0 := Subsingleton.elim _ _
    · rw [dp_final m hf, Cert.GmlpReferenceIdeal.Read.val_main_v112_eq, e0, e1, e2, e3, e4, e5]
    · rw [dw_final m, Cert.GmlpReferenceIdeal.Read.val_main_v68_eq, e0, e1, e2, e5]
    · rw [db_final m, Cert.GmlpReferenceIdeal.Read.val_main_v114_eq, e0, e5]
    · rw [g_final m, Cert.GmlpReferenceIdeal.Read.val_main_v115_eq, e0, e3, e5]
    · rw [b_final m, Cert.GmlpReferenceIdeal.Read.val_main_v116_eq, e0, e3, e5]

end Cert.GmlpClaim

end
-- ==== Proof.RmsFwdValue.lean ====
/- The norm: every block of 512 rows is divided by its rows' root mean squares, as in the reference. -/
module

public import proofs.«01_k».proof.Proof.Gen.RmsFwdKernelIdeal.Value
public import proofs.«01_k».proof.Proof.Gen.RmsFwdReferenceIdeal.Read
public import Idealize.ShloMosaic.Lib.Pipeline.ValueKit
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.RmsFwdKernelIdeal.Value

open Cert.RmsFwdKernelIdeal Cert.RmsFwdKernelIdeal.Gen
open Cert.Reals

theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The array row a block's row is. -/
def row (t : Fin cfg0.N) (a : Fin 512) : Fin 8192 :=
  ⟨512 * t.val + a.val, by have h := lt_of_lt_of_eq t.isLt N_0; have := a.isLt; omega⟩

abbrev ax : FVec Ideal S8192x2048 .f32 := m ((c : Thread nD τ).loc main_arg0)
abbrev ag : FVec Ideal S2048 .f32 := m ((c : Thread nD τ).loc main_arg1)

/-- A row of the norm. -/
def normed (X G : Fin 2048 → EReal) (d : Fin 2048) : EReal :=
  X d * Ideal.rsqrt (Ideal.div (∑ k, X k * X k) (Ideal.ofBits .f32 0x45000000#32) + Ideal.ofBits .f32 0x358637BD#32) * G d

theorem ker (v : Vec Ideal S512x2048 .f32) (w : Vec Ideal S1x2048 .f32) (a : Fin 512) (d : Fin 2048) :
    k0_pay1 v w (ix2 a d) = normed (fun k => v (ix2 a k)) (fun k => w (ix2 0 k)) d := by
  pointwise [k0_pay1]
  rfl

open Cert.RmsFwdReferenceIdeal.Read in
theorem ref (x : FVec Ideal S8192x2048 .f32) (g : FVec Ideal S2048 .f32) (r : Fin 8192) (d : Fin 2048) :
    (val_main_v13 (F := Ideal) x g (ix2 r d) : EReal) = normed (fun k => x (ix2 r k)) (fun k => g (ix1 k)) d := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13]
  rfl

variable {c}

theorem blk_x (t : Fin cfg0.N) (a : Fin 512) (d : Fin 2048) : iblk m c 0 t (ix2 a d) = ax m c (ix2 (row t a) d) := by
  blk_ext [iblk, V, idx t, row]
theorem blk_g (t : Fin cfg0.N) (d : Fin 2048) : iblk m c 1 t (ix2 0 d) = ag m c (ix1 d) := by
  blk_simp [iblk]
  entry_read
  pointwise
  blk_ext [idx t]

/-- A block's rows. -/
theorem block_out (t : Fin cfg0.N) (a : Fin 512) (d : Fin 2048) :
    out0_2 (iblk m c 0 t) (iblk m c 1 t) (ix2 a d) = Cert.RmsFwdReferenceIdeal.Read.val_main_v13 (F := Ideal) (ax m c) (ag m c) (ix2 (row t a) d) := by
  frame_out
  rw [ker, ref]
  simp only [blk_x, blk_g]

/-- The output. -/
theorem output : (dats m 0 c).arrAt 2 (cfgs 0).N = Cert.RmsFwdReferenceIdeal.Read.val_main_v13 (F := Ideal) (ax m c) (ag m c) := by
  refine (dats m 0 c).arrAt_eq_of_covers 2 _ (by decide +kernel) fun t _ y => ?_
  blk_simp
  rw [after0_2, show (win0_2.blk t).view.emb y = ix2 (row t (y 0)) (y 1) by blk_ext [idx t, row], eq_ix2 y]
  exact block_out m t (y 0) (y 1)

end Cert.RmsFwdKernelIdeal.Value
end
-- ==== Proof.RmsFwdClaim.lean ====
/- Kernel and reference end with the same norm. -/
module

public import proofs.«01_k».proof.Defs
public import proofs.«01_k».proof.Proof.RmsFwdValue
public import Idealize.ShloMosaic.Lib.Claim

@[expose] public section

set_option maxRecDepth 16384

noncomputable section

open Idealize.ShloMosaic Idealize.SL.Sem

namespace Cert.RmsFwdClaim

open Cert.RmsFwdKernelIdeal

theorem claim : Cert.algebraic_RmsFwdKernelIdeal_RmsFwdReferenceIdeal := by
  pair_intro
  · run_from Cert.RmsFwdKernelIdeal.Value.run_blocks m g
  · run_from Cert.RmsFwdReferenceIdeal.Value.run m' g'
    all_goals obtain rfl : c = 0 := Subsingleton.elim _ _
    · rw [Cert.RmsFwdKernelIdeal.Value.output m]
      rfl

end Cert.RmsFwdClaim

end
-- ==== Proof.AttnFwdValue.lean ====
/- The cross attention's forward pass: what one head of one query row is, and that kernel and reference both compute it. No
   argument need be finite: both take the same exponentials, the same quotient and the same sums. -/
module

public import proofs.«01_k».proof.Proof.Gen.AttnFwdKernelIdeal.Value
public import proofs.«01_k».proof.Proof.Gen.AttnFwdReferenceIdeal.Read
public import Idealize.ShloMosaic.Lib.Pipeline.ValueKit
public import Idealize.ShloMosaic.Lib.Pipeline.ReadBack
public import proofs.«01_k».proof.Proof.Softmax

@[expose] public section

set_option maxRecDepth 16384

noncomputable section

open Idealize.ShloMosaic Idealize.ShloMosaic.TcCoe Idealize.SL.Sem
open Idealize.ShloMosaic.Pipeline (Dat)

namespace Cert.AttnFwdKernelIdeal.Value

open Cert.AttnFwdKernelIdeal Cert.AttnFwdKernelIdeal.Gen
open Cert.AttnFwdReferenceIdeal.Read
open Cert.Softmax

/-! ## One query row at one head -/

section Row

variable (Q : Fin 512 → EReal) (K V : Fin 256 → Fin 512 → EReal)

/-- The scaled score of a key, the largest score, and the exponential of the difference. -/
def score (x : Fin 256) : EReal := (∑ d, Q d * K x d) * Ideal.ofBits .f32 1026884851#32
def best : EReal := Finset.univ.fold max (Ideal.ofBits .f32 4286578688#32) (score Q K)
def expo (x : Fin 256) : EReal := Ideal.exp (score Q K x - best Q K)
/-- The output: the values, weighted by the exponentials over their sum. -/
def mixed (d : Fin 512) : EReal := ∑ x, Ideal.div (expo Q K x) (∑ y, expo Q K y) * V x d

variable {Q K V} in
theorem mixed_congr {Q' : Fin 512 → EReal} {K' V' : Fin 256 → Fin 512 → EReal} (hq : ∀ d, Q d = Q' d) (hk : ∀ x d, K x d = K' x d)
    (hv : ∀ x d, V x d = V' x d) (d : Fin 512) : mixed Q K V d = mixed Q' K' V' d := by
  obtain rfl : Q = Q' := funext hq
  obtain rfl : K = K' := funext fun x => funext (hk x)
  obtain rfl : V = V' := funext fun x => funext (hv x)
  rfl

end Row

variable (qb : FVec Ideal S512x512 .bf16) (kb vb : FVec Ideal S256x512 .bf16)

/-- The kernel's head, in the three shapes its body has. -/
theorem head_a (a d : Fin 512) : k0_pay2 (F := Ideal) qb kb vb (ix2 a d) = mixed (fun d => qb (ix2 a d)) (fun x d => kb (ix2 x d)) (fun x d => vb (ix2 x d)) d := by
  pointwise [k0_pay2]
  rfl
theorem head_b (a d : Fin 512) : k0_pay4 (F := Ideal) (k0_pay3 (F := Ideal) qb kb) vb (ix2 a d) = mixed (fun d => qb (ix2 a d)) (fun x d => kb (ix2 x d)) (fun x d => vb (ix2 x d)) d := by
  pointwise [k0_pay4, k0_pay3]
  rfl
theorem head_c (a d : Fin 512) : k0_pay5 (F := Ideal) qb kb vb (ix2 a d) = mixed (fun d => qb (ix2 a d)) (fun x d => kb (ix2 x d)) (fun x d => vb (ix2 x d)) d := by
  pointwise [k0_pay5]
  rfl
theorem head_d (a d : Fin 512) : k0_pay1 (F := Ideal) (k0_pay6 (F := Ideal) qb kb) (k0_pay7 (F := Ideal) qb kb) vb (ix2 a d) = mixed (fun d => qb (ix2 a d)) (fun x d => kb (ix2 x d)) (fun x d => vb (ix2 x d)) d := by
  pointwise [k0_pay1, k0_pay6, k0_pay7]
  rfl

/-! ## The reference -/

section Reference

open Cert.AttnFwdReferenceIdeal.Read

variable (q : FVec Ideal S8192x2048 .bf16) (kv : FVec Ideal S256x4096 .bf16)

/-- A head's column of the queries, of the keys, and of the values. -/
def col (h : Fin 4) (d : Fin 512) : Fin 2048 := ⟨h.val * 512 + d.val, by have := h.isLt; have := d.isLt; omega⟩
def kcol (h : Fin 4) (d : Fin 512) : Fin 4096 := ⟨h.val * 512 + d.val, by have := h.isLt; have := d.isLt; omega⟩
def vcol (h : Fin 4) (d : Fin 512) : Fin 4096 := ⟨2048 + (h.val * 512 + d.val), by have := h.isLt; have := d.isLt; omega⟩

/-- A query row's head, and a head's keys and values. -/
abbrev qrow (h : Fin 4) (r : Fin 8192) (d : Fin 512) : EReal := q (ix2 r (col h d))
abbrev keys (h : Fin 4) (x : Fin 256) (d : Fin 512) : EReal := kv (ix2 x (kcol h d))
abbrev vals (h : Fin 4) (x : Fin 256) (d : Fin 512) : EReal := kv (ix2 x (vcol h d))

theorem score_ref (h : Fin 4) (r : Fin 8192) (x : Fin 256) :
    val_main_v9 (F := Ideal) q kv (ix3 h r x) = score (qrow q h r) (keys kv h) x := by
  pointwise [val_main_v0, val_main_v1, val_main_v2, val_main_v3, val_main_v5, val_main_v7, val_main_cst, val_main_v8, val_main_v9]
  rfl
/-- A maximum over the keys. -/
theorem top_of (s : FVec Ideal Cert.AttnFwdReferenceIdeal.S4x8192x256 .f32) (e : FVec Ideal Cert.AttnFwdReferenceIdeal.S_ .f32) (hr : Cert.AttnFwdReferenceIdeal.S4x8192x256.ReducesTo [2] Cert.AttnFwdReferenceIdeal.S4x8192) (hu : 0 < Cert.AttnFwdReferenceIdeal.S_.numel)
    (h : Fin 4) (r : Fin 8192) :
    Host.reduce FloatOps.maximumf s e hr hu (ix2 h r) = Finset.univ.fold max (e (Shape.Idx.first hu)) fun k : Fin 256 => s (ix3 h r k) := by
  rw [Host.reduce_eq_fold]
  simp only [pointwise]
/-- The maximum with −∞ is read at abstract arrays. -/
theorem top_max (a b : FVec Ideal Cert.AttnFwdReferenceIdeal.S4x8192 .f32) (i : Cert.AttnFwdReferenceIdeal.S4x8192.Idx) : maximumf a b i = max (a i) (b i) := rfl
theorem best_ref (h : Fin 4) (r : Fin 8192) : val_main_v12 (F := Ideal) q kv (ix2 h r) = best (qrow q h r) (keys kv h) := by
  unfold val_main_v12
  have e : val_main_v11 (F := Ideal) (ix2 h r) = Ideal.ofBits .f32 4286578688#32 := by pointwise [val_main_cst_1, val_main_v11]
  rw [top_max, e, lit_bot, max_bot]
  unfold val_main_v10
  rw [top_of]
  simp only [val_main_cst_0, pointwise, score_ref]
  rfl
theorem expo_ref (h : Fin 4) (r : Fin 8192) (x : Fin 256) : val_main_v16 (F := Ideal) q kv (ix3 h r x) = expo (qrow q h r) (keys kv h) x := by
  pointwise [val_main_v16, val_main_v15, val_main_v14, val_main_v13]
  rw [score_ref, best_ref]
  rfl
theorem weight_ref (h : Fin 4) (r : Fin 8192) (x : Fin 256) : val_main_v20 (F := Ideal) q kv (ix3 h r x)
    = Ideal.div (expo (qrow q h r) (keys kv h) x) (∑ y, expo (qrow q h r) (keys kv h) y) := by
  pointwise [val_main_cst_2, val_main_v17, val_main_v18, val_main_v19, val_main_v20]
  simp only [expo_ref]
theorem out_ref (r : Fin 8192) (h : Fin 4) (d : Fin 512) (j : Fin 2048) (hj : j.val = h.val * 512 + d.val) :
    val_main_v24 (F := Ideal) q kv (ix2 r j) = mixed (qrow q h r) (keys kv h) (vals kv h) d := by
  have e1 : j.val / 512 = h.val := by have := d.isLt; omega
  have e2 : j.val % 512 = d.val := by have := d.isLt; omega
  pointwise [val_main_v1, val_main_v4, val_main_v6, val_main_v21, val_main_v22, val_main_v23, val_main_v24]
  simp only [e1, e2, weight_ref]
  refine Fin.sum_fin_congr fun x => ?_
  rw [mul_comm]
  exact congrArg (_ * ·) (congrArg (fun i => kv (ix2 x i)) (Fin.ext (by show 2048 + j.val = 2048 + (h.val * 512 + d.val); omega)))

end Reference

/-! ## The array -/

/-- The windows' block indices at a grid point. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The array row a block's row is. -/
def row (t : Fin cfg0.N) (a : Fin 512) : Fin 8192 :=
  ⟨512 * t.val + a.val, by have h := lt_of_lt_of_eq t.isLt N_0; have := a.isLt; omega⟩

abbrev aq : FVec Ideal S8192x2048 .bf16 := m ((c : Thread nD τ).loc main_arg0)
abbrev akv : FVec Ideal S256x4096 .bf16 := m ((c : Thread nD τ).loc main_arg1)

variable {c}

set_option maxHeartbeats 2000000 in
/-- A block's rows of the output: four rectangles, one for each head. -/
theorem block_out (t : Fin cfg0.N) (j : S512x2048.Idx) :
    out0_2 (iblk m c 0 t) (iblk m c 1 t) j = Cert.AttnFwdReferenceIdeal.Read.val_main_v24 (F := Ideal) (aq m c) (akv m c) (ix2 (row t (j 0)) (j 1)) := by
  frame_out
  canon_tiles x h
  all_goals obtain ⟨a, d, rfl⟩ : ∃ (a d : Fin 512), x = ix2 a d := ⟨x 0, x 1, eq_ix2 x⟩
  all_goals replace h0 : (j 0).val = a.val := h0
  case piece0 =>
    refine (head_d _ _ _ a d).trans ((mixed_congr (fun d => ?_) (fun x d => ?_) (fun x d => ?_) d).trans (out_ref _ _ _ 3 d (j 1) (by show (j 1).val = _; exact h1)).symm)
    all_goals (pointwise; blk_ext [iblk, V, idx t, row, col, kcol, vcol])
  case piece1 =>
    refine (head_c _ _ _ a d).trans ((mixed_congr (fun d => ?_) (fun x d => ?_) (fun x d => ?_) d).trans (out_ref _ _ _ 2 d (j 1) (by show (j 1).val = _; exact h1)).symm)
    all_goals (pointwise; blk_ext [iblk, V, idx t, row, col, kcol, vcol])
  case piece2 =>
    refine (head_b _ _ _ a d).trans ((mixed_congr (fun d => ?_) (fun x d => ?_) (fun x d => ?_) d).trans (out_ref _ _ _ 1 d (j 1) (by show (j 1).val = _; exact h1)).symm)
    all_goals (pointwise; blk_ext [iblk, V, idx t, row, col, kcol, vcol])
  case piece3 =>
    refine (head_a _ _ _ a d).trans ((mixed_congr (fun d => ?_) (fun x d => ?_) (fun x d => ?_) d).trans (out_ref _ _ _ 0 d (j 1) (by show (j 1).val = 0 * 512 + d.val; exact h1.trans (show d.val = 0 * 512 + d.val by omega))).symm)
    all_goals (pointwise; blk_ext [iblk, V, idx t, row, col, kcol, vcol])

/-- The output. -/
theorem output : (dats m 0 c).arrAt 2 (cfgs 0).N = Cert.AttnFwdReferenceIdeal.Read.val_main_v24 (F := Ideal) (aq m c) (akv m c) := by
  refine (dats m 0 c).arrAt_eq_of_covers 2 _ (by decide +kernel) fun t _ y => ?_
  blk_simp
  rw [after0_2, show (win0_2.blk t).view.emb y = ix2 (row t (y 0)) (y 1) by blk_ext [idx t, row]]
  exact block_out m t y

end Cert.AttnFwdKernelIdeal.Value
end
-- ==== Proof.AttnFwdClaim.lean ====
/- Kernel and reference end with the same output of the cross attention. -/
module

public import proofs.«01_k».proof.Defs
public import proofs.«01_k».proof.Proof.AttnFwdValue
public import Idealize.ShloMosaic.Lib.Claim

@[expose] public section

set_option maxRecDepth 16384

noncomputable section

open Idealize.ShloMosaic Idealize.SL.Sem

namespace Cert.AttnFwdClaim

open Cert.AttnFwdKernelIdeal

theorem claim : Cert.algebraic_AttnFwdKernelIdeal_AttnFwdReferenceIdeal := by
  pair_intro
  · run_from Cert.AttnFwdKernelIdeal.Value.run_blocks m g
  · run_from Cert.AttnFwdReferenceIdeal.Value.run m' g'
    all_goals obtain rfl : c = 0 := Subsingleton.elim _ _
    · rw [Cert.AttnFwdKernelIdeal.Value.output m]
      rfl

end Cert.AttnFwdClaim

end
-- ==== Proof.ConvFwdValue.lean ====
/- The short gated convolution's forward pass: a block of 256 rows reads the two rows before it from its neighbour, and so
   computes the reference's shifted products. No argument need be finite. -/
module

public import proofs.«01_k».proof.Proof.Gen.ConvFwdKernelIdeal.Value
public import proofs.«01_k».proof.Proof.Gen.ConvFwdReferenceIdeal.Read
public import proofs.«01_k».proof.Proof.ConvValue

@[expose] public section

set_option maxRecDepth 16384

noncomputable section

open Idealize.ShloMosaic Idealize.ShloMosaic.TcCoe Idealize.SL.Sem
open Idealize.ShloMosaic.Pipeline (Dat)

namespace Cert.ConvFwdKernelIdeal.Value

open Cert.ConvFwdKernelIdeal Cert.ConvFwdKernelIdeal.Gen
open Cert.ConvFwdReferenceIdeal.Read
open Cert.ConvKernelIdeal.Value (z before conv sel sel_coord picked)

variable (m : (ℓ : Loc nD τ sig) → Buf (Elt Ideal) ℓ)

/-- The windows' block indices at a grid point. -/
theorem idx : ∀ t : Fin cfg0.N, win0_0.index t = ![t.val, 0] ∧ win0_1.index t = ![16 * t.val - 1, 0] ∧ win0_2.index t = ![0, 0] ∧ win0_3.index t = ![t.val, 0] :=
  (by decide +kernel : ∀ t : Fin grid0.N, _)

theorem coord : ∀ t : Fin cfg0.N, ((grid0.coords t) 0).val = t.val :=
  (by decide +kernel : ∀ t : Fin grid0.N, ((grid0.coords t) 0).val = t.val)

/-- The row of a block's row. -/
def row (t : Fin cfg0.N) (a : Fin 256) : Fin 8192 :=
  ⟨256 * t.val + a.val, by have h := lt_of_lt_of_eq t.isLt N_0; have := a.isLt; omega⟩

/-! ## The reference -/

section Reference

variable (P : FVec Ideal S8192x6144 .bf16) (C : FVec Ideal S3x2048 .f32)

theorem gated (r : Fin 8192) (d : Fin 2048) : val_main_v30 (F := Ideal) P C (ix2 r d) = P (ix2 r ⟨d.val, by have := d.isLt; omega⟩) * conv P C r d := by
  pointwise [val_main_v0, val_main_v1, val_main_v2, val_main_v3, val_main_v4, val_main_cst, val_main_v5, val_main_v6, val_main_v7, val_main_v8, val_main_v9, val_main_v10, val_main_v11, val_main_v12, val_main_cst_0, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30]
  have e : (if h : 1 + r.val < 2 then (0 : EReal) else z P ⟨1 + r.val - 2, by have := r.isLt; omega⟩ d) = before P 1 r d := by
    unfold before
    by_cases h : r.val < 1
    · rw [dif_pos (by omega), dif_pos h]
    · rw [dif_neg (by omega), dif_neg h]
      exact congrArg (fun k => z P k d) (Fin.ext (by show 1 + r.val - 2 = r.val - 1; omega))
  unfold conv
  rw [← e]
  rfl

end Reference

/-! ## One block -/

section Block

variable (t : Fin cfg0.N) (P : FVec Ideal S8192x6144 .bf16) (C : FVec Ideal S3x2048 .f32)
  (v : Vec Ideal S256x6144 .bf16) (w : Vec Ideal S16x6144 .bf16)
  (hv : ∀ a d, v (ix2 a d) = P (ix2 (row t a) d))
  (hw : ∀ (h : 1 ≤ t.val) (x : Fin 16) (d : Fin 6144), w (ix2 x d) = P (ix2 ⟨256 * t.val - 16 + x.val, by have h := lt_of_lt_of_eq t.isLt N_0; have := x.isLt; omega⟩ d))

include hv in
theorem here (a : Fin 256) (d : Fin 2048) : k0_pay4 v (ix2 a d) = z P (row t a) d := by
  pointwise [k0_pay4, k0_pay2]
  rw [hv, hv]
  rfl

include hw in
/-- The last row before the block. -/
theorem last (a : Fin 1) (d : Fin 2048) : k0_pay6 (grid0.coords t) w (ix2 a d) = if h : 1 ≤ t.val then z P ⟨256 * t.val - 1, by have h := lt_of_lt_of_eq t.isLt N_0; omega⟩ d else 0 := by
  have hN := lt_of_lt_of_eq t.isLt N_0
  pointwise [k0_pay6, k0_pay5]
  simp only [picked 15 (by omega)]
  rw [coord t, sel_coord t.val 0 (by omega) (by omega)]
  by_cases h : 1 ≤ t.val
  · rw [if_neg (by omega), dif_pos h, hw h, hw h]
    exact congrArg (fun r => z P r d) (Fin.ext (by show 256 * t.val - 16 + 15 = 256 * t.val - 1; omega))
  · rw [if_pos (by omega), dif_neg h]

include hv hw in
theorem shift_one (a : Fin 256) (d : Fin 2048) : k0_pay7 (grid0.coords t) v w (ix2 a d) = before P 1 (row t a) d := by
  have hN := lt_of_lt_of_eq t.isLt N_0
  have ha := a.isLt
  pointwise [k0_pay7]
  rw [sel a.val 0 (by omega) (by omega), last t P w hw, here t P v hv]
  unfold before
  by_cases h : a.val = 0
  · rw [if_pos h]
    by_cases h1 : 1 ≤ t.val
    · rw [dif_pos h1, dif_neg (by show ¬ 256 * t.val + a.val < 1; omega)]
      exact congrArg (fun r => z P r d) (Fin.ext (by show 256 * t.val - 1 = 256 * t.val + a.val - 1; omega))
    · rw [dif_neg h1, dif_pos (by show 256 * t.val + a.val < 1; omega)]
  · rw [if_neg h, dif_neg (by show ¬ 256 * t.val + a.val < 1; omega)]
    exact congrArg (fun r => z P r d) (Fin.ext (by show 256 * t.val + (a.val + 256 - 1) % 256 = 256 * t.val + a.val - 1; omega))

include hw in
/-- The last row but one before the block, at its first row; below it the rows of the block two earlier. -/
theorem shift_two (a : Fin 256) (d : Fin 2048) (h1 : a.val ≠ 1) (u : Vec Ideal S256x6144 .bf16) (hu : ∀ a d, u (ix2 a d) = P (ix2 (row t a) d)) :
    k0_pay8 (grid0.coords t) u w (ix2 a d) = before P 2 (row t a) d := by
  have hN := lt_of_lt_of_eq t.isLt N_0
  have ha := a.isLt
  pointwise [k0_pay8, k0_pay5]
  simp only [picked 14 (by omega)]
  rw [sel a.val 0 (by omega) (by omega), here t P u hu, coord t, sel_coord t.val 0 (by omega) (by omega)]
  unfold before
  by_cases h0 : a.val = 0
  · rw [if_pos h0]
    by_cases h1 : 1 ≤ t.val
    · rw [if_neg (by omega), dif_neg (by show ¬ 256 * t.val + a.val < 2; omega), hw h1, hw h1]
      exact congrArg (fun r => z P r d) (Fin.ext (by show 256 * t.val - 16 + 14 = 256 * t.val + a.val - 2; omega))
    · rw [if_pos (by omega), dif_pos (by show 256 * t.val + a.val < 2; omega)]
  · rw [if_neg h0, dif_neg (by show ¬ 256 * t.val + a.val < 2; omega)]
    exact congrArg (fun r => z P r d) (Fin.ext (by show 256 * t.val + (a.val + 256 - 2) % 256 = 256 * t.val + a.val - 2; omega))

end Block

/-! ## The array -/

section Final

variable (c : Dev nD)

abbrev ap : FVec Ideal S8192x6144 .bf16 := m ((c : Thread nD τ).loc main_arg0)
abbrev ac : FVec Ideal S3x2048 .f32 := m ((c : Thread nD τ).loc main_arg1)

theorem blk0 (t : Fin cfg0.N) (a : Fin 256) (d : Fin 6144) : iblk m c 0 t (ix2 a d) = ap m c (ix2 (row t a) d) := by
  blk_ext [iblk, V, idx t, row]
theorem blk1 (t : Fin cfg0.N) (h : 1 ≤ t.val) (x : Fin 16) (d : Fin 6144) : iblk m c 1 t (ix2 x d)
    = ap m c (ix2 ⟨256 * t.val - 16 + x.val, by have h := lt_of_lt_of_eq t.isLt N_0; have := x.isLt; omega⟩ d) := by
  blk_ext [iblk, V, idx t]
theorem blk2 (t : Fin cfg0.N) (k : Fin 3) (d : Fin 2048) : iblk m c 2 t (ix2 k d) = ac m c (ix2 k d) := by
  blk_ext [iblk, V, idx t]

theorem block_out (t : Fin cfg0.N) (a : Fin 256) (d : Fin 2048) :
    out0_3 (grid0.coords t) (iblk m c 0 t) (iblk m c 1 t) (iblk m c 2 t) (ix2 a d) = val_main_v30 (F := Ideal) (ap m c) (ac m c) (ix2 (row t a) d) := by
  have hN := lt_of_lt_of_eq t.isLt N_0
  have ha := a.isLt
  rw [gated]
  frame_out
  pointwise [k0_pay1, k0_pay3, k0_pay2]
  rw [blk0, blk2, blk2, blk2, here t (ap m c) _ (blk0 m c t), shift_one t (ap m c) _ _ (blk0 m c t) (blk1 m c t), sel a.val 1 (by omega) (by omega)]
  have e : (if a.val = 1 then k0_pay6 (F := Ideal) (grid0.coords t) (iblk m c 1 t) (ix2 0 d) else k0_pay8 (F := Ideal) (grid0.coords t) (iblk m c 0 t) (iblk m c 1 t) (ix2 a d))
      = before (ap m c) 2 (row t a) d := by
    by_cases h : a.val = 1
    · rw [if_pos h, last t (ap m c) _ (blk1 m c t)]
      unfold before
      by_cases h1 : 1 ≤ t.val
      · rw [dif_pos h1, dif_neg (by show ¬ 256 * t.val + a.val < 2; omega)]
        exact congrArg (fun r => z (ap m c) r d) (Fin.ext (by show 256 * t.val - 1 = 256 * t.val + a.val - 2; omega))
      · rw [dif_neg h1, dif_pos (by show 256 * t.val + a.val < 2; omega)]
    · rw [if_neg h]
      exact shift_two t (ap m c) _ (blk1 m c t) a d h _ (blk0 m c t)
  exact congrArg₂ (· * ·) rfl (congrArg₂ (· + ·) (congrArg₂ (· + ·) (congrArg₂ (· * ·) e rfl) rfl) rfl)

/-- The output. -/
theorem output : (dats m 0 c).arrAt 3 (cfgs 0).N = val_main_v30 (F := Ideal) (ap m c) (ac m c) := by
  refine (dats m 0 c).arrAt_eq_of_covers 3 _ (by decide +kernel) fun t _ y => ?_
  blk_simp
  rw [after0_3, show (win0_3.blk t).view.emb y = ix2 (row t (y 0)) (y 1) by blk_ext [idx t, row], eq_ix2 y]
  exact block_out m c t (y 0) (y 1)

end Final

end Cert.ConvFwdKernelIdeal.Value
end
-- ==== Proof.ConvFwdClaim.lean ====
/- Kernel and reference end with the same gated convolution. -/
module

public import proofs.«01_k».proof.Defs
public import proofs.«01_k».proof.Proof.ConvFwdValue
public import Idealize.ShloMosaic.Lib.Claim

@[expose] public section

set_option maxRecDepth 16384

noncomputable section

open Idealize.ShloMosaic Idealize.SL.Sem

namespace Cert.ConvFwdClaim

open Cert.ConvFwdKernelIdeal

theorem claim : Cert.algebraic_ConvFwdKernelIdeal_ConvFwdReferenceIdeal := by
  pair_intro
  · run_from Cert.ConvFwdKernelIdeal.Value.run_blocks m g
  · run_from Cert.ConvFwdReferenceIdeal.Value.run m' g'
    all_goals obtain rfl : c = 0 := Subsingleton.elim _ _
    · rw [Cert.ConvFwdKernelIdeal.Value.output m]
      rfl

end Cert.ConvFwdClaim

end
-- ==== Proof.GmlpFwdValue.lean ====
/- The spatial gate's forward pass: a block of 256 rows is written in sixteen rectangles, one for each chunk of 128 rows and each
   group of columns, and every one is the reference's gated mixing. No argument need be finite. -/
module

public import proofs.«01_k».proof.Proof.Gen.GmlpFwdKernelIdeal.Value
public import proofs.«01_k».proof.Proof.Gen.GmlpFwdReferenceIdeal.Read
public import proofs.«01_k».proof.Proof.GmlpRow
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GmlpFwdKernelIdeal.Value

open Cert.GmlpFwdKernelIdeal Cert.GmlpFwdKernelIdeal.Gen
open Cert.GmlpFwdReferenceIdeal.Read
open Cert.GmlpKernelIdeal.Value (keep keep' cdf gel xc rs vh two_root one_lit prow vv wm grp plc mate mix)

/-- The row of a block's row. -/
def row (t : Fin cfg0.N) (a : Fin 256) : Fin 8192 :=
  ⟨256 * t.val + a.val, by have h := lt_of_lt_of_eq t.isLt N_0; have := a.isLt; omega⟩

/-! ## The reference -/

section Whole

variable (P : FVec Ideal S8192x4096 .bf16) (Gn Bn : FVec Ideal Cert.GmlpFwdReferenceIdeal.S2048 .f32) (W : FVec Ideal S8x128x128 .f32)
  (Bs : FVec Ideal Cert.GmlpFwdReferenceIdeal.S8x128 .f32)

theorem ref8 (r : Fin 8192) (k : Fin 4096) : val_main_v8 (F := Ideal) P (ix2 r k) = gel (P (ix2 r k)) := by
  pointwise [val_main_v0, val_main_cst, val_main_v1, val_main_v2, val_main_v3, val_main_cst_0, val_main_v4, val_main_v5, val_main_v6, val_main_v7, val_main_v8]
  rw [two_root, EReal.neg_mul, Ideal.erfc_neg, mul_comm _ (P (ix2 r k)), mul_assoc]
  unfold gel cdf
  rw [one_lit]
theorem ref16 (r : Fin 8192) (k : Fin 2048) : val_main_v16 (F := Ideal) P (ix2 r k) = xc (prow P r) k := by
  pointwise [val_main_v10, val_main_cst_1, val_main_v11, val_main_v12, val_main_cst_2, val_main_v13, val_main_v14, val_main_v15, val_main_v16]
  simp only [ref8]
  rfl
theorem ref24 (r : Fin 8192) : val_main_v24 (F := Ideal) P (ix2 r 0) = rs (prow P r) := by
  pointwise [val_main_v17, val_main_cst_3, val_main_v18, val_main_v19, val_main_cst_4, val_main_v20, val_main_v21, val_main_cst_5, val_main_v22, val_main_v23, val_main_v24]
  simp only [ref16]
  rfl
theorem ref32 (r : Fin 8192) (k : Fin 2048) : val_main_v32 (F := Ideal) P Gn Bn (ix2 r k) = vv P Gn Bn r k := by
  pointwise [val_main_v25, val_main_v26, val_main_v27, val_main_v28, val_main_v29, val_main_v30, val_main_v31, val_main_v32]
  rw [ref16, ref24]
  rfl
theorem ref46 (r : Fin 8192) (k : Fin 2048) : val_main_v46 (F := Ideal) P Gn Bn W Bs (ix2 r k) = mix P Gn Bn W Bs r k := by
  pointwise [val_main_v33, val_main_c, val_main_v34, val_main_call0_v0, val_main_call0_c, val_main_call0_v1, val_main_call0_v2, val_main_call0_v3, val_main_call0_v4, val_main_call0_c_0, val_main_call0_v5, val_main_v35, val_main_v36, val_main_cst_6, val_main_v37, val_main_call1_v0, val_main_v38, val_main_v39, val_main_v40, val_main_v41, val_main_v42, val_main_v43, val_main_v44, val_main_v45, val_main_v46]
  unfold mix wm
  refine congrArg₂ (· + ·) (Fin.sum_fin_congr fun x => ?_) rfl
  rw [keep' _ _ (by omega) x.isLt, ref32, mul_comm, ite_mul, zero_mul]
  rfl
/-- The gate times the mixing. -/
def gated (r : Fin 8192) (k : Fin 2048) : EReal := gel (P (ix2 r ⟨k.val, by have := k.isLt; omega⟩)) * mix P Gn Bn W Bs r k
theorem ref48 (r : Fin 8192) (k : Fin 2048) : val_main_v48 (F := Ideal) P Gn Bn W Bs (ix2 r k) = gated P Gn Bn W Bs r k := by
  pointwise [val_main_v9, val_main_v47, val_main_v48]
  rw [ref8, ref46]
  rfl

end Whole

/-! ## One block -/

section Block

variable (t : Fin cfg0.N) (P : FVec Ideal S8192x4096 .bf16) (Gn Bn : FVec Ideal Cert.GmlpFwdReferenceIdeal.S2048 .f32) (W : FVec Ideal S8x128x128 .f32)
  (Bs : FVec Ideal Cert.GmlpFwdReferenceIdeal.S8x128 .f32)
  (p : Vec Ideal S256x4096 .bf16) (lg lb : Vec Ideal S1x2048 .f32) (w : Vec Ideal S8x128x128 .f32) (bf : Vec Ideal S128x2048 .f32)

/-- What the block holds of the arguments. -/
structure Holds : Prop where
  p : ∀ a k, p (ix2 a k) = P (ix2 (row t a) k)
  lg : ∀ k, lg (ix2 0 k) = Gn (ix1 k)
  lb : ∀ k, lb (ix2 0 k) = Bn (ix1 k)
  w : ∀ g a b, w (ix3 g a b) = W (ix3 g a b)
  bf : ∀ a k, bf (ix2 a k) = Bs (ix2 (grp k) a)

variable {t P Gn Bn W Bs p lg lb w bf} (H : Holds t P Gn Bn W Bs p lg lb w bf)
include H

theorem b3 (a : Fin 256) (k : Fin 4096) : k0_pay3 (F := Ideal) (View.ld p r0_0) (ix2 a k) = gel (P (ix2 (row t a) k)) := by
  pointwise [k0_pay3]
  rw [H.p]
  unfold gel cdf
  rw [one_lit]
  rfl
/-- The gate. -/
theorem b32 (a : Fin 256) (k : Fin 2048) : k0_pay32 (F := Ideal) p lg lb w bf (ix2 a k) = gel (P (ix2 (row t a) ⟨k.val, by have := k.isLt; omega⟩)) := by
  pointwise [k0_pay32, k0_pay4]
  exact b3 H _ _
/-- The normalised half. -/
theorem b33 (a : Fin 256) (k : Fin 2048) : k0_pay33 (F := Ideal) p lg lb w bf (ix2 a k) = vv P Gn Bn (row t a) k := by
  pointwise [k0_pay33, k0_pay5]
  simp only [b3 H, H.lg, H.lb]
  rfl

/-- A store: chunk `q`, group `g`. -/
theorem piece (q : Nat) (g : Fin 8) (a : Fin 128) (d : Fin 256) (j i : S256x2048.Idx) (y : Fin 128 → S256x2048.Idx) (k : Fin 2048)
    (h0 : (j 0).val = 128 * q + a.val) (h1 : (j 1).val = 256 * g.val + d.val) (hy : ∀ x, (y x 0).val = 128 * q + x.val) (hy' : ∀ x, (y x 1).val = 256 * g.val + d.val)
    (hi : (i 0).val = 128 * q + a.val) (hi' : (i 1).val = 256 * g.val + d.val) (hk : k.val = 256 * g.val + d.val) :
    (k0_pay32 (F := Ideal) p lg lb w bf i * ((∑ x : Fin 128, Scalar.select (IntOp.cmpi .sge (BitVec.ofNat 32 a.val) (BitVec.ofNat 32 x.val))
      (w (ix3 g a x) * k0_pay33 (F := Ideal) p lg lb w bf (y x)) 0) + bf (ix2 a k)) : EReal)
      = gated P Gn Bn W Bs (row t (j 0)) (j 1) := by
  have hd := d.isLt
  have ha := a.isLt
  have eg : grp (j 1) = g := Fin.ext (by show (j 1).val / 256 = g.val; omega)
  have ea : plc (row t (j 0)) = a := Fin.ext (by show (256 * t.val + (j 0).val) % 128 = a.val; omega)
  have ek : k = j 1 := Fin.ext (hk.trans h1.symm)
  obtain rfl : i = j := ((eq_ix2 i).trans (congrArg₂ ix2 (Fin.ext (hi.trans h0.symm)) (Fin.ext (hi'.trans h1.symm)))).trans (eq_ix2 j).symm
  unfold gated
  refine congrArg₂ (· * ·) ((congrArg _ (eq_ix2 i)).trans (b32 H (i 0) (i 1))) ?_
  unfold mix
  rw [eg, ea, H.bf, ek, eg]
  congr 1
  refine Fin.sum_fin_congr fun x => ?_
  have hx := hy x
  have er : row t (y x 0) = mate (row t (i 0)) x := Fin.ext (by show 256 * t.val + (y x 0).val = (256 * t.val + (i 0).val) / 128 * 128 + x.val; omega)
  have e : k0_pay33 (F := Ideal) p lg lb w bf (y x) = vv P Gn Bn (mate (row t (i 0)) x) (i 1) :=
    (congrArg _ (eq_ix2 (y x))).trans ((b33 H (y x 0) (y x 1)).trans (congrArg₂ (vv P Gn Bn) er (Fin.ext ((hy' x).trans h1.symm))))
  rw [keep _ _ a.isLt x.isLt, e, H.w]
  unfold wm
  rw [ite_mul, zero_mul]

set_option maxHeartbeats 4000000 in
/-- A block's rows. -/
theorem block (j : S256x2048.Idx) : out0_5 (F := Ideal) p lg lb w bf j = gated P Gn Bn W Bs (row t (j 0)) (j 1) := by
  frame_out
  canon_tiles x h
  all_goals
    obtain ⟨a, d, rfl⟩ : ∃ (a : Fin 128) (d : Fin 256), x = ix2 a d := ⟨x 0, x 1, eq_ix2 x⟩
    pointwise [k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay34, k0_pay35, k0_pay36, k0_pay37, k0_pay38]
    clear x0_lt x1_lt
  case piece0 => exact piece H 1 7 a d j _ _ _ h0 h1 (fun _ => rfl) (fun _ => rfl) rfl rfl rfl
  case piece1 => exact piece H 0 7 a d j _ _ _ (h0.trans (Nat.zero_add _).symm) h1 (fun _ => (Nat.zero_add _).symm) (fun _ => rfl) (Nat.zero_add _).symm rfl rfl
  case piece2 => exact piece H 1 6 a d j _ _ _ h0 h1 (fun _ => rfl) (fun _ => rfl) rfl rfl rfl
  case piece3 => exact piece H 0 6 a d j _ _ _ (h0.trans (Nat.zero_add _).symm) h1 (fun _ => (Nat.zero_add _).symm) (fun _ => rfl) (Nat.zero_add _).symm rfl rfl
  case piece4 => exact piece H 1 5 a d j _ _ _ h0 h1 (fun _ => rfl) (fun _ => rfl) rfl rfl rfl
  case piece5 => exact piece H 0 5 a d j _ _ _ (h0.trans (Nat.zero_add _).symm) h1 (fun _ => (Nat.zero_add _).symm) (fun _ => rfl) (Nat.zero_add _).symm rfl rfl
  case piece6 => exact piece H 1 4 a d j _ _ _ h0 h1 (fun _ => rfl) (fun _ => rfl) rfl rfl rfl
  case piece7 => exact piece H 0 4 a d j _ _ _ (h0.trans (Nat.zero_add _).symm) h1 (fun _ => (Nat.zero_add _).symm) (fun _ => rfl) (Nat.zero_add _).symm rfl rfl
  case piece8 => exact piece H 1 3 a d j _ _ _ h0 h1 (fun _ => rfl) (fun _ => rfl) rfl rfl rfl
  case piece9 => exact piece H 0 3 a d j _ _ _ (h0.trans (Nat.zero_add _).symm) h1 (fun _ => (Nat.zero_add _).symm) (fun _ => rfl) (Nat.zero_add _).symm rfl rfl
  case piece10 => exact piece H 1 2 a d j _ _ _ h0 h1 (fun _ => rfl) (fun _ => rfl) rfl rfl rfl
  case piece11 => exact piece H 0 2 a d j _ _ _ (h0.trans (Nat.zero_add _).symm) h1 (fun _ => (Nat.zero_add _).symm) (fun _ => rfl) (Nat.zero_add _).symm rfl rfl
  case piece12 => exact piece H 1 1 a d j _ _ _ h0 h1 (fun _ => rfl) (fun _ => rfl) rfl rfl rfl
  case piece13 => exact piece H 0 1 a d j _ _ _ (h0.trans (Nat.zero_add _).symm) h1 (fun _ => (Nat.zero_add _).symm) (fun _ => rfl) (Nat.zero_add _).symm rfl rfl
  case piece14 => exact piece H 1 0 a d j _ _ _ h0 (h1.trans (Nat.zero_add _).symm) (fun _ => rfl) (fun _ => (Nat.zero_add _).symm) rfl (Nat.zero_add _).symm (Nat.zero_add _).symm
  case piece15 => exact piece H 0 0 a d j _ _ _ (h0.trans (Nat.zero_add _).symm) (h1.trans (Nat.zero_add _).symm) (fun _ => (Nat.zero_add _).symm) (fun _ => (Nat.zero_add _).symm) (Nat.zero_add _).symm (Nat.zero_add _).symm (Nat.zero_add _).symm

end Block

/-! ## The array -/

variable (m : (ℓ : Loc nD τ sig) → Buf (Elt Ideal) ℓ) (c : Dev nD)

/-- The windows' block indices at a grid point. -/
theorem idx : ∀ t : Fin cfg0.N, win0_0.index t = ![t.val, 0] ∧ win0_1.index t = ![0, 0] ∧ win0_2.index t = ![0, 0] ∧ win0_3.index t = ![0, 0, 0]
    ∧ win0_4.index t = ![0, 0] ∧ win0_5.index t = ![t.val, 0] :=
  (by decide +kernel : ∀ t : Fin grid0.N, _)

abbrev ap : FVec Ideal S8192x4096 .bf16 := m ((c : Thread nD τ).loc main_arg0)
abbrev agn : FVec Ideal Cert.GmlpFwdReferenceIdeal.S2048 .f32 := m ((c : Thread nD τ).loc main_arg1)
abbrev abn : FVec Ideal Cert.GmlpFwdReferenceIdeal.S2048 .f32 := m ((c : Thread nD τ).loc main_arg2)
abbrev aw : FVec Ideal S8x128x128 .f32 := m ((c : Thread nD τ).loc main_arg3)
abbrev abs' : FVec Ideal Cert.GmlpFwdReferenceIdeal.S8x128 .f32 := m ((c : Thread nD τ).loc main_arg4)

theorem hold (t : Fin cfg0.N) : Holds t (ap m c) (agn m c) (abn m c) (aw m c) (abs' m c) (iblk m c 0 t) (iblk m c 1 t) (iblk m c 2 t) (iblk m c 3 t) (iblk m c 4 t) where
  p a k := by blk_ext [iblk, V, idx t, row]
  lg k := by blk_simp [iblk]; entry_read; pointwise; blk_ext [idx t]
  lb k := by blk_simp [iblk]; entry_read; pointwise; blk_ext [idx t]
  w g a b := by blk_ext [iblk, V, idx t]
  bf a k := by blk_simp [iblk]; entry_read; pointwise; blk_ext [idx t, grp]

/-- The output. -/
theorem output : (dats m 0 c).arrAt 5 (cfgs 0).N = val_main_v48 (F := Ideal) (ap m c) (agn m c) (abn m c) (aw m c) (abs' m c) := by
  refine (dats m 0 c).arrAt_eq_of_covers 5 _ (by decide +kernel) fun t _ y => ?_
  blk_simp
  rw [after0_5, show (win0_5.blk t).view.emb y = ix2 (row t (y 0)) (y 1) by blk_ext [idx t, row]]
  exact (block (hold m c t) y).trans (ref48 _ _ _ _ _ _ _).symm

end Cert.GmlpFwdKernelIdeal.Value
end
-- ==== Proof.GmlpFwdClaim.lean ====
/- Kernel and reference end with the same output of the spatial gate. -/
module

public import proofs.«01_k».proof.Defs
public import proofs.«01_k».proof.Proof.GmlpFwdValue
public import Idealize.ShloMosaic.Lib.Claim

@[expose] public section

set_option maxRecDepth 16384

noncomputable section

open Idealize.ShloMosaic Idealize.SL.Sem

namespace Cert.GmlpFwdClaim

open Cert.GmlpFwdKernelIdeal

theorem claim : Cert.algebraic_GmlpFwdKernelIdeal_GmlpFwdReferenceIdeal := by
  pair_intro
  · run_from Cert.GmlpFwdKernelIdeal.Value.run_blocks m g
  · run_from Cert.GmlpFwdReferenceIdeal.Value.run m' g'
    all_goals obtain rfl : c = 0 := Subsingleton.elim _ _
    · rw [Cert.GmlpFwdKernelIdeal.Value.output m]
      refine (Cert.GmlpFwdReferenceIdeal.Read.val_main_v48_eq m' 0).trans ?_
      rw [(hagree 0).1, (hagree 0).2.1, (hagree 0).2.2.1, (hagree 0).2.2.2.1, (hagree 0).2.2.2.2]

end Cert.GmlpFwdClaim

end
-- ==== Proof.ProjLoop.lean ====
/- The projection's backward body: its loop of eight trips. A trip takes 64 rows of the block, writes their gradient and half of it,
   and adds its rows to the gain's gradient. After the trips the two outputs hold one function of the block's rows, and the
   carried value is the sum over all of them. -/
module

public import proofs.«01_k».proof.Proof.Gen.ProjKernelIdeal.Value
public import Idealize.ShloMosaic.Lib.Pipeline.ValueKit
public import Idealize.ShloMosaic.Lib.Pipeline.ReadBack
public import proofs.«01_k».proof.Proof.Rms

@[expose] public section

set_option maxRecDepth 16384

noncomputable section

open Idealize.ShloMosaic Idealize.ShloMosaic.TcCoe Idealize.SL.Sem

namespace Cert.ProjKernelIdeal.Value

open Cert.ProjKernelIdeal Cert.ProjKernelIdeal.Gen

/-! ## A row -/

/-- The reciprocal root of a row's mean square. -/
def rq (x : Fin 2048 → EReal) : EReal :=
  Ideal.rsqrt (Ideal.div (∑ k, x k * x k) (Ideal.ofBits .f32 0x45000000#32) + Ideal.ofBits .f32 0x358637BD#32)
/-- The normalised row. -/
def xq (x : Fin 2048 → EReal) (k : Fin 2048) : EReal := x k * rq x
/-- The row's gradient, the residual `d` added last. -/
def dxq (h x v : Fin 2048 → EReal) (d : EReal) (b : Fin 2048) : EReal :=
  rq x * (h b * v b - xq x b * Ideal.div (∑ k, h k * v k * xq x k) (Ideal.ofBits .f32 0x45000000#32)) + d

theorem pay4_at (x : Vec Ideal S64x2048 .f32) (r : Fin 64) : k0_pay4 (F := Ideal) x (ix2 r 0) = rq fun k => x (ix2 r k) := by
  pointwise [k0_pay4]
  rfl
theorem pay5_at (x : Vec Ideal S64x2048 .f32) (r : Fin 64) (b : Fin 2048) : k0_pay5 (F := Ideal) x (ix2 r b) = xq (fun k => x (ix2 r k)) b := by
  pointwise [k0_pay5]
  rw [pay4_at]
  rfl
theorem pay6_at (v : Vec Ideal S1x2048 .f32) (h x d : Vec Ideal S64x2048 .f32) (r : Fin 64) (b : Fin 2048) :
    k0_pay6 (F := Ideal) v h x d (ix2 r b) = dxq (fun k => h (ix2 r k)) (fun k => x (ix2 r k)) (fun k => v (ix2 0 k)) (d (ix2 r b)) b := by
  pointwise [k0_pay6]
  simp only [pay4_at, pay5_at]
  rfl
theorem pay7_at (v : Vec Ideal S1x2048 .f32) (h x d : Vec Ideal S64x2048 .f32) (r : Fin 64) (b : Fin 2048) :
    k0_pay7 (F := Ideal) v h x d (ix2 r b) = Ideal.ofBits .f32 0x3F000000#32 * dxq (fun k => h (ix2 r k)) (fun k => x (ix2 r k)) (fun k => v (ix2 0 k)) (d (ix2 r b)) b := by
  rw [← pay6_at]
  pointwise [k0_pay7]
theorem pay8_at (o : FVec Ideal S1x2048 .f32) (h x : Vec Ideal S64x2048 .f32) (b : Fin 2048) :
    k0_pay8 (F := Ideal) o h x (ix2 0 b) = (o (ix2 0 b) + ∑ r : Fin 64, h (ix2 r b) * xq (fun k => x (ix2 r k)) b : EReal) := by
  pointwise [k0_pay8]
  simp only [pay5_at]
theorem pay1_at (p : Vec Ideal S512x2048 .bf16) (w : Vec Ideal S1x2048x2048 .bf16) (a : Fin 512) (b : Fin 2048) :
    k0_pay1 (F := Ideal) p w (ix2 a b) = (∑ k : Fin 2048, p (ix2 a k) * w (ix3 0 b k) : EReal) := by
  pointwise [k0_pay1]

/-! ## The trips -/

section Loop

variable (c : Dev nD) (i : grid0.Coords) (arg2 : Memref sig .tc .vmem S512x2048 .bf16) (harg2 : arg2.IsWhole) (arg3 : Memref sig .tc .vmem S1x2048x2048 .bf16) (harg3 : arg3.IsWhole)
  (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole)
  (arg7 : Memref sig .tc .vmem S512x2048 .f32) (harg7 : arg7.IsWhole) (arg8 : Memref sig .tc .vmem S512x2048 .bf16) (harg8 : arg8.IsWhole) (arg9 : Memref sig .tc .vmem S1x2048 .f32) (harg9 : arg9.IsWhole)
  (arg10 : Memref sig .tc .vmem S512x2048 .f32) (harg10 : arg10.IsWhole) (h3 : k0_cond3 i = 1#1) (v : Vec Ideal S1x2048 .f32)
  (X4 : BufTy.Contents (Elt Ideal) arg4.view.ty) (X6 : BufTy.Contents (Elt Ideal) arg6.view.ty) (X10 : BufTy.Contents (Elt Ideal) arg10.view.ty)

/-- What the loop has done before trip `n`. -/
abbrev ST (n : Nat) :=
  st_k0_t1 (F := Ideal) Variants.none c none i arg2 harg2 arg3 harg3 arg4 harg4 arg5 harg5 arg6 harg6 arg7 harg7 arg8 harg8 arg9 harg9 arg10 harg10 h3 v X4 X6 X10 (k0_pay3 (F := Ideal)) n

/-- The block's rows as the loop finds them. -/
abbrev A4 : Vec Ideal S512x2048 .f32 := arg4.view.read (Elt Ideal) X4
abbrev A6 : Vec Ideal S512x2048 .f32 := arg6.view.read (Elt Ideal) X6
abbrev A10 : Vec Ideal S512x2048 .f32 := arg10.view.read (Elt Ideal) X10

theorem trips : k0_t1_loop.trips = 8 := by decide +kernel

/-- The row of a trip's row. -/
def at64 (n : Nat) (hn : n < 8) (r : Fin 64) : Fin 512 := ⟨64 * n + r.val, by have := r.isLt; omega⟩

/-- A trip's load. -/
theorem load_at {arg : Memref sig .tc .vmem S512x2048 .f32} (X : BufTy.Contents (Elt Ideal) arg.view.ty) (k : Fin k0_t1_loop.trips) (inb) (r : Fin 64) (b : Fin 2048) :
    View.readAt (Elt Ideal) arg.view (Rect.unit (s := S512x2048) (k0_off1 k) ![64, 2048] inb).toLoadRect X (ix2 r b)
      = arg.view.read (Elt Ideal) X (ix2 (at64 k.val (trips ▸ k.isLt) r) b) := by
  rw [View.readAt_apply]
  refine congrArg (arg.view.read (Elt Ideal) X) (funext fun a => Fin.ext ?_)
  match a with
  | ⟨0, _⟩ => show k0_off1 k 0 + 1 * r.val = 64 * k.val + r.val; rw [k0_off1_eq]; show 64 * k.val + 1 * r.val = _; omega
  | ⟨1, _⟩ => show k0_off1 k 1 + 1 * b.val = b.val; rw [k0_off1_eq]; show 0 + 1 * b.val = _; omega

/-- The gradient at a row of the block. -/
def dxAt (j : S512x2048.Idx) : EReal :=
  dxq (fun k => A10 arg10 X10 (ix2 (j 0) k)) (fun k => A4 arg4 X4 (ix2 (j 0) k)) (fun k => v (ix2 0 k)) (A6 arg6 X6 (ix2 (j 0) (j 1))) (j 1)
/-- A row's part of the gain's gradient. -/
def dgAt (a : Fin 512) (b : Fin 2048) : EReal := A10 arg10 X10 (ix2 a b) * xq (fun k => A4 arg4 X4 (ix2 a k)) b

/-- A trip's rectangle places a row at its row of the block. -/
theorem emb_at (k : Fin k0_t1_loop.trips) (inb) (r : Fin 64) (b : Fin 2048) :
    (Rect.unit (s := S512x2048) (k0_off1 k) ![64, 2048] inb).emb (ix2 r b) = ix2 (at64 k.val (trips ▸ k.isLt) r) b := by
  refine Rect.emb_eq_of_coords _ _ _ fun a => ?_
  match a with
  | ⟨0, _⟩ => show 64 * k.val + r.val = k0_off1 k 0 + 1 * r.val; rw [k0_off1_eq]; show _ = 64 * k.val + 1 * r.val; omega
  | ⟨1, _⟩ => show b.val = k0_off1 k 1 + 1 * b.val; rw [k0_off1_eq]; show _ = 0 + 1 * b.val; omega

theorem carried (n : Nat) (hn : n ≤ 8) (b : Fin 2048) :
    (ST c i arg2 harg2 arg3 harg3 arg4 harg4 arg5 harg5 arg6 harg6 arg7 harg7 arg8 harg8 arg9 harg9 arg10 harg10 h3 v X4 X6 X10 n).1 (ix2 0 b)
      = (∑ k : Fin n, ∑ r : Fin 64, dgAt arg4 arg10 X4 X10 (at64 k.val (lt_of_lt_of_le k.isLt hn) r) b : EReal) := by
  induction n with
  | zero =>
    show k0_pay3 (F := Ideal) (ix2 0 b) = _
    pointwise [k0_pay3]
    exact (Fin.sum_univ_zero _).symm
  | succ n ih =>
    have e := st_k0_t1_succ (F := Ideal) Variants.none c none i arg2 harg2 arg3 harg3 arg4 harg4 arg5 harg5 arg6 harg6 arg7 harg7 arg8 harg8 arg9 harg9 arg10 harg10 h3 v X4 X6 X10 (k0_pay3 (F := Ideal)) ⟨n, trips ▸ hn⟩
    refine (congrArg (fun s => s.1 (ix2 0 b)) e).trans ?_
    dsimp only
    unfold tripR_k0_t1 trip_k0_t1
    dsimp only
    rw [pay8_at, ih (by omega)]
    refine Eq.trans ?_ (Fin.sum_univ_castSucc _).symm
    simp only [load_at]
    rfl

theorem pieces7 (n : Nat) (hn : n ≤ 8) :
    View.PiecesOf (Val := Elt Ideal) (dxAt arg4 arg6 arg10 v X4 X6 X10)
      (ST c i arg2 harg2 arg3 harg3 arg4 harg4 arg5 harg5 arg6 harg6 arg7 harg7 arg8 harg8 arg9 harg9 arg10 harg10 h3 v X4 X6 X10 n).2.1 := by
  induction n with
  | zero => exact trivial
  | succ n ih =>
    have e := st_k0_t1_succ (F := Ideal) Variants.none c none i arg2 harg2 arg3 harg3 arg4 harg4 arg5 harg5 arg6 harg6 arg7 harg7 arg8 harg8 arg9 harg9 arg10 harg10 h3 v X4 X6 X10 (k0_pay3 (F := Ideal)) ⟨n, trips ▸ hn⟩
    unfold ST
    rw [show n + 1 = (⟨n, trips ▸ hn⟩ : Fin k0_t1_loop.trips).val + 1 from rfl, e]
    dsimp only
    unfold trip_k0_t1
    dsimp only
    refine ⟨fun x => ?_, ih (by omega)⟩
    obtain ⟨r, b, rfl⟩ : ∃ (r : Fin 64) (b : Fin 2048), x = ix2 r b := ⟨x 0, x 1, eq_ix2 x⟩
    dsimp only
    rw [emb_at, pay6_at]
    simp only [load_at]
    rfl

theorem pieces8 (n : Nat) (hn : n ≤ 8) :
    View.PiecesOf (Val := Elt Ideal) (fun j => Ideal.ofBits .f32 0x3F000000#32 * dxAt arg4 arg6 arg10 v X4 X6 X10 j)
      (ST c i arg2 harg2 arg3 harg3 arg4 harg4 arg5 harg5 arg6 harg6 arg7 harg7 arg8 harg8 arg9 harg9 arg10 harg10 h3 v X4 X6 X10 n).2.2 := by
  induction n with
  | zero => exact trivial
  | succ n ih =>
    have e := st_k0_t1_succ (F := Ideal) Variants.none c none i arg2 harg2 arg3 harg3 arg4 harg4 arg5 harg5 arg6 harg6 arg7 harg7 arg8 harg8 arg9 harg9 arg10 harg10 h3 v X4 X6 X10 (k0_pay3 (F := Ideal)) ⟨n, trips ▸ hn⟩
    unfold ST
    rw [show n + 1 = (⟨n, trips ▸ hn⟩ : Fin k0_t1_loop.trips).val + 1 from rfl, e]
    dsimp only
    unfold trip_k0_t1
    dsimp only
    refine ⟨fun x => ?_, ih (by omega)⟩
    obtain ⟨r, b, rfl⟩ : ∃ (r : Fin 64) (b : Fin 2048), x = ix2 r b := ⟨x 0, x 1, eq_ix2 x⟩
    dsimp only
    rw [emb_at, pay7_at]
    simp only [load_at]
    rfl

end Loop

end Cert.ProjKernelIdeal.Value
end
-- ==== Proof.ProjBody.lean ====
/- The projection's backward body at one block of 512 rows, its gain's gradient started (case A) or continued (case B): what it
   leaves in its three outputs, as a function of the blocks it reads. -/
module

public import proofs.«01_k».proof.Proof.ProjLoop
public import Idealize.ShloMosaic.Lib.VecWindow

@[expose] public section

set_option maxRecDepth 16384

noncomputable section

open Idealize.ShloMosaic Idealize.ShloMosaic.TcCoe Idealize.SL.Sem

namespace Cert.ProjKernelIdeal.Value

open Cert.ProjKernelIdeal Cert.ProjKernelIdeal.Gen

/-- A row of the product: the cotangent's row with the rows of the weights. -/
def hq (p : Vec Ideal S512x2048 .bf16) (w : Vec Ideal S1x2048x2048 .bf16) (a : Fin 512) (b : Fin 2048) : EReal :=
  ∑ k : Fin 2048, p (ix2 a k) * w (ix3 0 b k)
/-- The gradient at a row of a block. -/
def dxB (p : Vec Ideal S512x2048 .bf16) (w : Vec Ideal S1x2048x2048 .bf16) (x : Vec Ideal S512x2048 .f32) (g : Vec Ideal S1x2048 .f32)
    (d : Vec Ideal S512x2048 .f32) (j : S512x2048.Idx) : EReal :=
  dxq (hq p w (j 0)) (fun k => x (ix2 (j 0) k)) (fun k => g (ix2 0 k)) (d (ix2 (j 0) (j 1))) (j 1)
/-- The block's part of the gain's gradient. -/
def dgB (p : Vec Ideal S512x2048 .bf16) (w : Vec Ideal S1x2048x2048 .bf16) (x : Vec Ideal S512x2048 .f32) (b : Fin 2048) : EReal :=
  ∑ a : Fin 512, hq p w a b * xq (fun k => x (ix2 a k)) b

section Out

variable (c : Dev nD) (i : grid0.Coords) (arg2 : Memref sig .tc .vmem S512x2048 .bf16) (harg2 : arg2.IsWhole) (arg3 : Memref sig .tc .vmem S1x2048x2048 .bf16) (harg3 : arg3.IsWhole)
  (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole)
  (arg7 : Memref sig .tc .vmem S512x2048 .f32) (harg7 : arg7.IsWhole) (arg8 : Memref sig .tc .vmem S512x2048 .bf16) (harg8 : arg8.IsWhole) (arg9 : Memref sig .tc .vmem S1x2048 .f32) (harg9 : arg9.IsWhole)
  (arg10 : Memref sig .tc .vmem S512x2048 .f32) (harg10 : arg10.IsWhole)
  (x0 : Vec Ideal S512x2048 .bf16) (x1 : Vec Ideal S1x2048x2048 .bf16) (x2 : Vec Ideal S512x2048 .f32) (x3 : Vec Ideal S1x2048 .f32) (x4 : Vec Ideal S512x2048 .f32)

/-- The scratch as the trips find it: the block's product. -/
abbrev SC : BufTy.Contents (Elt Ideal) arg10.view.ty :=
  arg10.view.writes (Elt Ideal) arg10.view.junk (kernelRun0_A.sl.HS0_1 (F := Ideal) c arg2 harg2 arg3 harg3 x0 x1)
/-- The gain as the body loads it. -/
abbrev GN : Vec Ideal S1x2048 .f32 :=
  View.readAt (Elt Ideal) arg5.view (Rect.unit (s := S1x2048) ![0, 0] ![1, 2048] inb_S1x2048_S1x2048_0_0).toLoadRect (harg5.unread x3)

theorem sc_at (a : Fin 512) (b : Fin 2048) : arg10.view.read (Elt Ideal) (SC c arg2 harg2 arg3 harg3 arg10 x0 x1) (ix2 a b) = hq x0 x1 a b := by
  unfold SC kernelRun0_A.sl.HS0_1
  refine (congrFun (View.read_writes_full _ _ _ _ _) (ix2 a b)).trans ((pay1_at _ _ a b).trans (Fin.sum_fin_congr fun k => ?_))
  exact congrArg₂ (fun u v : EReal => u * v)
    (congrFun ((View.readAt_full _ _ _).trans (harg2.read_unread x0)) (ix2 a k))
    (congrFun ((View.readAt_full _ _ _).trans (harg3.read_unread x1)) (ix3 0 b k))

theorem gn_at (b : Fin 2048) : GN arg5 harg5 x3 (ix2 0 b) = x3 (ix2 0 b) :=
  congrFun ((View.readAt_full _ _ _).trans (harg5.read_unread x3)) (ix2 0 b)

theorem dx_blk (y : S512x2048.Idx) :
    dxAt arg4 arg6 arg10 (GN arg5 harg5 x3) (harg4.unread x2) (harg6.unread x4) (SC c arg2 harg2 arg3 harg3 arg10 x0 x1) y
      = dxB x0 x1 x2 x3 x4 y := by
  unfold dxAt dxB
  simp only [A4, A6, A10, gn_at, Memref.IsWhole.read_unread]
  exact congrArg (fun h => dxq h (fun k => x2 (ix2 (y 0) k)) (fun k => x3 (ix2 0 k)) (x4 (ix2 (y 0) (y 1))) (y 1))
    (funext fun k => sc_at c arg2 harg2 arg3 harg3 arg10 x0 x1 (y 0) k)

theorem out5_A (hc0 hc1 hc2 hc3 hc4) (y : S512x2048.Idx) :
    out0_A_5 (F := Ideal) c i arg2 harg2 arg3 harg3 arg4 harg4 arg5 harg5 arg6 harg6 arg7 harg7 arg8 harg8 arg9 harg9 arg10 harg10 hc0 hc1 hc2 hc3 hc4 x0 x1 x2 x3 x4 y = dxB x0 x1 x2 x3 x4 y := by
  rw [← dx_blk c arg2 harg2 arg3 harg3 arg4 harg4 arg5 harg5 arg6 harg6 arg10]
  unfold out0_A_5
  refine View.read_writes_apply_of_pieces _ _ _ _ ?_ y (cover0_A_5 (F := Ideal) c i arg2 harg2 arg3 harg3 arg4 harg4 arg5 harg5 arg6 harg6 arg7 harg7 arg8 harg8 arg9 harg9 arg10 harg10 hc0 hc1 hc2 hc3 hc4 x0 x1 x2 x3 x4 y)
  unfold kernelRun0_A
  exact (pieces7 c i arg2 harg2 arg3 harg3 arg4 harg4 arg5 harg5 arg6 harg6 arg7 harg7 arg8 harg8 arg9 harg9 arg10 harg10 hc2 _ _ _ _ _ (le_of_eq trips)).mem

theorem out6_A (hc0 hc1 hc2 hc3 hc4) (y : S512x2048.Idx) :
    out0_A_6 (F := Ideal) c i arg2 harg2 arg3 harg3 arg4 harg4 arg5 harg5 arg6 harg6 arg7 harg7 arg8 harg8 arg9 harg9 arg10 harg10 hc0 hc1 hc2 hc3 hc4 x0 x1 x2 x3 x4 y
      = Ideal.ofBits .f32 0x3F000000#32 * dxB x0 x1 x2 x3 x4 y := by
  rw [← dx_blk c arg2 harg2 arg3 harg3 arg4 harg4 arg5 harg5 arg6 harg6 arg10]
  unfold out0_A_6
  refine View.read_writes_apply_of_pieces _ _ (fun j => Ideal.ofBits .f32 0x3F000000#32 * dxAt arg4 arg6 arg10 (GN arg5 harg5 x3) (harg4.unread x2) (harg6.unread x4)
    (SC c arg2 harg2 arg3 harg3 arg10 x0 x1) j) _ ?_ y (cover0_A_6 (F := Ideal) c i arg2 harg2 arg3 harg3 arg4 harg4 arg5 harg5 arg6 harg6 arg7 harg7 arg8 harg8 arg9 harg9 arg10 harg10 hc0 hc1 hc2 hc3 hc4 x0 x1 x2 x3 x4 y)
  unfold kernelRun0_A
  exact (pieces8 c i arg2 harg2 arg3 harg3 arg4 harg4 arg5 harg5 arg6 harg6 arg7 harg7 arg8 harg8 arg9 harg9 arg10 harg10 hc2 _ _ _ _ _ (le_of_eq trips)).mem

theorem out5_B (hc0 hc1 hc2 hc3 hc4) (xo7 : Vec Ideal S1x2048 .f32) (y : S512x2048.Idx) :
    out0_B_5 (F := Ideal) c i arg2 harg2 arg3 harg3 arg4 harg4 arg5 harg5 arg6 harg6 arg7 harg7 arg8 harg8 arg9 harg9 arg10 harg10 hc0 hc1 hc2 hc3 hc4 x0 x1 x2 x3 x4 xo7 y = dxB x0 x1 x2 x3 x4 y := by
  rw [← dx_blk c arg2 harg2 arg3 harg3 arg4 harg4 arg5 harg5 arg6 harg6 arg10]
  unfold out0_B_5
  refine View.read_writes_apply_of_pieces _ _ _ _ ?_ y (cover0_B_5 (F := Ideal) c i arg2 harg2 arg3 harg3 arg4 harg4 arg5 harg5 arg6 harg6 arg7 harg7 arg8 harg8 arg9 harg9 arg10 harg10 hc0 hc1 hc2 hc3 hc4 x0 x1 x2 x3 x4 xo7 y)
  unfold kernelRun0_B
  exact (pieces7 c i arg2 harg2 arg3 harg3 arg4 harg4 arg5 harg5 arg6 harg6 arg7 harg7 arg8 harg8 arg9 harg9 arg10 harg10 hc2 _ _ _ _ _ (le_of_eq trips)).mem

theorem out6_B (hc0 hc1 hc2 hc3 hc4) (xo7 : Vec Ideal S1x2048 .f32) (y : S512x2048.Idx) :
    out0_B_6 (F := Ideal) c i arg2 harg2 arg3 harg3 arg4 harg4 arg5 harg5 arg6 harg6 arg7 harg7 arg8 harg8 arg9 harg9 arg10 harg10 hc0 hc1 hc2 hc3 hc4 x0 x1 x2 x3 x4 xo7 y
      = Ideal.ofBits .f32 0x3F000000#32 * dxB x0 x1 x2 x3 x4 y := by
  rw [← dx_blk c arg2 harg2 arg3 harg3 arg4 harg4 arg5 harg5 arg6 harg6 arg10]
  unfold out0_B_6
  refine View.read_writes_apply_of_pieces _ _ (fun j => Ideal.ofBits .f32 0x3F000000#32 * dxAt arg4 arg6 arg10 (GN arg5 harg5 x3) (harg4.unread x2) (harg6.unread x4)
    (SC c arg2 harg2 arg3 harg3 arg10 x0 x1) j) _ ?_ y (cover0_B_6 (F := Ideal) c i arg2 harg2 arg3 harg3 arg4 harg4 arg5 harg5 arg6 harg6 arg7 harg7 arg8 harg8 arg9 harg9 arg10 harg10 hc0 hc1 hc2 hc3 hc4 x0 x1 x2 x3 x4 xo7 y)
  unfold kernelRun0_B
  exact (pieces8 c i arg2 harg2 arg3 harg3 arg4 harg4 arg5 harg5 arg6 harg6 arg7 harg7 arg8 harg8 arg9 harg9 arg10 harg10 hc2 _ _ _ _ _ (le_of_eq trips)).mem

/-- The trips' sums are the block's. -/
theorem dg_blk (b : Fin 2048) :
    (∑ k : Fin 8, ∑ r : Fin 64, dgAt arg4 arg10 (harg4.unread x2) (SC c arg2 harg2 arg3 harg3 arg10 x0 x1) (at64 k.val (lt_of_lt_of_le k.isLt le_rfl) r) b : EReal)
      = dgB x0 x1 x2 b := by
  unfold dgB
  refine Fin.sum_mul_add_congr fun k r hl => ?_
  unfold dgAt
  simp only [A4, A10, sc_at, Memref.IsWhole.read_unread]
  rw [show at64 k.val (lt_of_lt_of_le k.isLt le_rfl) r = ⟨k.val * 64 + r.val, hl⟩ from Fin.ext (by show 64 * k.val + r.val = k.val * 64 + r.val; omega)]

theorem out7_A (hc0 hc1 hc2 hc3 hc4) (b : Fin 2048) :
    out0_A_7 (F := Ideal) c i arg2 harg2 arg3 harg3 arg4 harg4 arg5 harg5 arg6 harg6 arg7 harg7 arg8 harg8 arg9 harg9 arg10 harg10 hc0 hc1 hc2 hc3 hc4 x0 x1 x2 x3 x4 (ix2 0 b) = dgB x0 x1 x2 b := by
  rw [← dg_blk c arg2 harg2 arg3 harg3 arg4 harg4 arg10]
  unfold out0_A_7 kernelRun0_A
  refine (congrFun (View.read_writes_full _ _ _ _ _) (ix2 0 b)).trans ?_
  exact carried c i arg2 harg2 arg3 harg3 arg4 harg4 arg5 harg5 arg6 harg6 arg7 harg7 arg8 harg8 arg9 harg9 arg10 harg10 hc2 _ _ _ _ 8 le_rfl b

theorem out7_B (hc0 hc1 hc2 hc3 hc4) (xo7 : Vec Ideal S1x2048 .f32) (b : Fin 2048) :
    out0_B_7 (F := Ideal) c i arg2 harg2 arg3 harg3 arg4 harg4 arg5 harg5 arg6 harg6 arg7 harg7 arg8 harg8 arg9 harg9 arg10 harg10 hc0 hc1 hc2 hc3 hc4 x0 x1 x2 x3 x4 xo7 (ix2 0 b) = (xo7 (ix2 0 b) + dgB x0 x1 x2 b : EReal) := by
  rw [← dg_blk c arg2 harg2 arg3 harg3 arg4 harg4 arg10]
  unfold out0_B_7 kernelRun0_B
  refine (congrFun (View.read_writes_full _ _ _ _ _) (ix2 0 b)).trans ?_
  pointwise [k0_pay9]
  exact congrArg₂ (fun u v : EReal => u + v) (congrFun ((View.readAt_full _ _ _).trans (harg9.read_unread xo7)) (ix2 0 b))
    (carried c i arg2 harg2 arg3 harg3 arg4 harg4 arg5 harg5 arg6 harg6 arg7 harg7 arg8 harg8 arg9 harg9 arg10 harg10 hc2 _ _ _ _ 8 le_rfl b)

end Out

end Cert.ProjKernelIdeal.Value
end
-- ==== Proof.ProjValue.lean ====
/- The projection's backward pass with its norm and its residual: what the kernel leaves in its three results, and that this is
   what the reference's derivative computes. At rows of reals the two forms of the gradient agree (`Rms.back_eq`); the gain's
   gradient is the same sum, taken by the kernel in sixteen blocks of rows. -/
module

public import proofs.«01_k».proof.Proof.ProjBody
public import proofs.«01_k».proof.Proof.Gen.ProjReferenceIdeal.Read

@[expose] public section

set_option maxRecDepth 16384

noncomputable section

open Idealize.ShloMosaic Idealize.ShloMosaic.TcCoe Idealize.SL.Sem
open Idealize.ShloMosaic.Pipeline (Dat)

namespace Cert.ProjKernelIdeal.Value

open Cert.ProjKernelIdeal Cert.ProjKernelIdeal.Gen

variable (m : (ℓ : Loc nD τ sig) → Buf (Elt Ideal) ℓ)

/-- The windows' block indices at a grid point. -/
theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] :=
  (by decide +kernel : ∀ t : Fin grid0.N, _)

open Cert.Reals

/-- The kernel's gradient at a row, the row real: the residual is added last. -/
theorem dx_ker (X H G : Fin 2048 → ℝ) (d : EReal) (b : Fin 2048) :
    dxq (fun k => (H k : EReal)) (fun k => (X k : EReal)) (fun k => (G k : EReal)) d b
      = ((Rms.back X (fun k => H k * G k) b : ℝ) : EReal) + d := by
  unfold dxq xq rq
  simp only [lit_2048, lit_rmsEps, ← EReal.coe_mul, sum_coe, Rms.div_2048, ← EReal.coe_add, Rms.ms_fold, Rms.rstd_coe,
    ← EReal.coe_sub]
  rfl

/-- A row of the whole product. -/
def hr (w : FVec Ideal S2048x2048 .f32) (y : FVec Ideal S8192x2048 .bf16) (a : Fin 8192) (b : Fin 2048) : EReal :=
  ∑ k : Fin 2048, y (ix2 a k) * w (ix2 b k)

section Ref

open Cert.ProjReferenceIdeal.Read

theorem h_ref (w : FVec Ideal S2048x2048 .f32) (y : FVec Ideal S8192x2048 .bf16) (a : Fin 8192) (b : Fin 2048) :
    val_main_v18 (F := Ideal) w y (ix2 a b) = hr w y a b := by
  pointwise [val_main_v17, val_main_v18]
  rfl

/-- The reference's gradient at a row, the row real. -/
theorem dx_ref (x : FVec Ideal S8192x2048 .f32) (g : FVec Ideal S2048 .f32) (w : FVec Ideal S2048x2048 .f32) (y : FVec Ideal S8192x2048 .bf16)
    (d : FVec Ideal S8192x2048 .f32) (X H G : Fin 2048 → ℝ) (a : Fin 8192) (b : Fin 2048)
    (hx : ∀ k, x (ix2 a k) = ((X k : ℝ) : EReal))
    (hh : ∀ k, hr w y a k = ((H k : ℝ) : EReal))
    (hg : ∀ k, g (ix1 k) = ((G k : ℝ) : EReal)) :
    Cert.ProjReferenceIdeal.Read.val_main_v39 (F := Ideal) x g w y d (ix2 a b)
      = ((Rms.back X (fun k => H k * G k) b : ℝ) : EReal) + d (ix2 a b) := by
  pointwise [val_main_v0, val_main_cst, val_main_v1, val_main_v2, val_main_cst_0, val_main_v3, val_main_v4, val_main_cst_1, val_main_v5,
    val_main_v6, val_main_v7, val_main_v8, val_main_cst_2, val_main_v9, val_main_v10, val_main_v13, val_main_v22, val_main_v23, val_main_v25,
    val_main_cst_5, val_main_v26, val_main_v27, val_main_v28, val_main_v29, val_main_v30, val_main_v31, val_main_cst_6, val_main_v32,
    val_main_v33, val_main_cst_7, val_main_v34, val_main_v35, val_main_v36, val_main_v37, val_main_v38, val_main_v39]
  simp only [h_ref, hx, hh, hg, lit_2048, lit_rmsEps, lit_neg_half, Fin.sum_univ_one, ← EReal.coe_mul, sum_coe, Rms.div_2048, ← EReal.coe_add,
    Rms.ms_fold, Rms.rstd_coe, Rms.div_ms]
  rw [add_assoc, add_assoc, ← EReal.coe_add, add_comm (d _), ← EReal.coe_add, Rms.back_eq X (fun k => H k * G k) b]

/-- The reference's gradient of the gain. -/
theorem dg_ref (x : FVec Ideal S8192x2048 .f32) (w : FVec Ideal S2048x2048 .f32) (y : FVec Ideal S8192x2048 .bf16) (b : Fin 2048) :
    Cert.ProjReferenceIdeal.Read.val_main_v43 (F := Ideal) x w y (ix2 0 b)
      = (∑ a : Fin 8192, hr w y a b * xq (fun k => x (ix2 a k)) b : EReal) := by
  pointwise [val_main_v0, val_main_cst, val_main_v1, val_main_v2, val_main_cst_0, val_main_v3, val_main_v4, val_main_cst_1, val_main_v5,
    val_main_v6, val_main_v7, val_main_v11, val_main_v12, val_main_v19, val_main_cst_3, val_main_v20, val_main_v21, val_main_cst_4,
    val_main_v24, val_main_v43]
  show (_ : EReal) = _
  refine (Fin.sum_univ_one _).trans (Fin.sum_fin_congr fun a => ?_)
  simp only [h_ref]
  exact mul_comm _ _

end Ref

variable (c : Dev nD)

/-- The array row a block's row is. -/
def row (t : Fin cfg0.N) (a : Fin 512) : Fin 8192 :=
  ⟨512 * t.val + a.val, by have h := lt_of_lt_of_eq t.isLt N_0; have := a.isLt; omega⟩

theorem blk0 (t : Fin cfg0.N) (a : Fin 512) (k : Fin 2048) :
    iblk m c 0 t (ix2 a k) = m ((c : Thread nD τ).loc main_arg3) (ix2 (row t a) k) := by
  blk_ext [iblk, V, idx t, row]
theorem blk1 (t : Fin cfg0.N) (j k : Fin 2048) :
    iblk m c 1 t (ix3 0 j k) = m ((c : Thread nD τ).loc main_arg2) (ix2 j k) := by
  blk_simp [iblk]
  entry_read
  pointwise
  blk_ext [idx t]
theorem blk2 (t : Fin cfg0.N) (a : Fin 512) (k : Fin 2048) :
    iblk m c 2 t (ix2 a k) = m ((c : Thread nD τ).loc main_arg0) (ix2 (row t a) k) := by
  blk_ext [iblk, V, idx t, row]
theorem blk3 (t : Fin cfg0.N) (k : Fin 2048) :
    iblk m c 3 t (ix2 0 k) = m ((c : Thread nD τ).loc main_arg1) (ix1 k) := by
  blk_simp [iblk]
  entry_read
  pointwise
  blk_ext [idx t]
theorem blk4 (t : Fin cfg0.N) (a : Fin 512) (k : Fin 2048) :
    iblk m c 4 t (ix2 a k) = m ((c : Thread nD τ).loc main_arg4) (ix2 (row t a) k) := by
  blk_ext [iblk, V, idx t, row]

/-- A block's product is its rows of the array's. -/
theorem hq_blk (t : Fin cfg0.N) (a : Fin 512) (b : Fin 2048) :
    hq (iblk m c 0 t) (iblk m c 1 t) a b
      = hr (m ((c : Thread nD τ).loc main_arg2)) (m ((c : Thread nD τ).loc main_arg3)) (row t a) b := by
  unfold hq hr
  exact Fin.sum_fin_congr fun k => by rw [blk0, blk1]

section Final

variable (X Y : S8192x2048.Idx → ℝ) (G : S2048.Idx → ℝ) (W : S2048x2048.Idx → ℝ)
  (hX : ∀ i, m ((c : Thread nD τ).loc main_arg0) i = ((X i : ℝ) : EReal))
  (hG : ∀ i, m ((c : Thread nD τ).loc main_arg1) i = ((G i : ℝ) : EReal))
  (hW : ∀ i, m ((c : Thread nD τ).loc main_arg2) i = ((W i : ℝ) : EReal))
  (hY : ∀ i, m ((c : Thread nD τ).loc main_arg3) i = ((Y i : ℝ) : EReal))

include hX hG hW hY

/-- What the body computes at a row of a block is the reference's gradient at that row of the array. -/
theorem point (t : Fin cfg0.N) (y : S512x2048.Idx) :
    dxB (iblk m c 0 t) (iblk m c 1 t) (iblk m c 2 t) (iblk m c 3 t) (iblk m c 4 t) y
      = Cert.ProjReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t (y 0)) (y 1)) := by
  have e : ∀ k, hr (m ((c : Thread nD τ).loc main_arg2)) (m ((c : Thread nD τ).loc main_arg3)) (row t (y 0)) k
      = ((∑ l : Fin 2048, Y (ix2 (row t (y 0)) l) * W (ix2 k l) : ℝ) : EReal) := fun k => by
    unfold hr
    simp only [hY, hW, ← EReal.coe_mul, sum_coe]
  refine Eq.trans ?_ (dx_ref _ _ _ _ _ (fun k => X (ix2 (row t (y 0)) k)) (fun k => ∑ l : Fin 2048, Y (ix2 (row t (y 0)) l) * W (ix2 k l))
    (fun k => G (ix1 k)) (row t (y 0)) (y 1) (fun k => hX _) e (fun k => hG _)).symm
  refine Eq.trans ?_ (dx_ker (fun k => X (ix2 (row t (y 0)) k)) (fun k => ∑ l : Fin 2048, Y (ix2 (row t (y 0)) l) * W (ix2 k l))
    (fun k => G (ix1 k)) _ _)
  unfold dxB
  congr 1
  · exact funext fun k => (hq_blk m c t (y 0) k).trans (e k)
  · exact funext fun k => (blk2 m c t (y 0) k).trans (hX _)
  · exact funext fun k => (blk3 m c t k).trans (hG _)
  · exact blk4 m c t (y 0) (y 1)

/-- The gradient of the input. -/
theorem final5 : (dats m 0 c).arrAt 5 (cfgs 0).N = Cert.ProjReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5, show (win0_5.blk t).view.emb y = ix2 (row t (y 0)) (y 1) by blk_ext [idx t, row]]
  have hN := lt_of_lt_of_eq t.isLt N_0
  by_cases h : t.val % 16 = 0
  · rw [outsAt0_A m c t h (by omega)]
    exact (out5_A ..).trans (point m c X Y G W hX hG hW hY t y)
  · rw [outsAt0_B m c t h (by omega)]
    exact (out5_B ..).trans (point m c X Y G W hX hG hW hY t y)

/-- Half of it, for the branch. -/
theorem final6 : (dats m 0 c).arrAt 6 (cfgs 0).N = Cert.ProjReferenceIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6, show (win0_6.blk t).view.emb y = ix2 (row t (y 0)) (y 1) by blk_ext [idx t, row]]
  have hN := lt_of_lt_of_eq t.isLt N_0
  have e := congrArg (fun z : EReal => Ideal.ofBits .f32 0x3F000000#32 * z) (point m c X Y G W hX hG hW hY t y)
  by_cases h : t.val % 16 = 0
  · rw [outsAt0_A m c t h (by omega)]
    exact (out6_A ..).trans e
  · rw [outsAt0_B m c t h (by omega)]
    exact (out6_B ..).trans e

end Final

/-- The blocks' parts add up to the sum over all rows. -/
theorem dg_sum (b : Fin 2048) :
    (∑ t : Fin 16, dgB (iblk m c 0 (Fin.cast N_0.symm t)) (iblk m c 1 (Fin.cast N_0.symm t)) (iblk m c 2 (Fin.cast N_0.symm t)) b : EReal)
      = ∑ a : Fin 8192, hr (m ((c : Thread nD τ).loc main_arg2)) (m ((c : Thread nD τ).loc main_arg3)) a b
          * xq (fun k => m ((c : Thread nD τ).loc main_arg0) (ix2 a k)) b := by
  refine Fin.sum_mul_add_congr fun t a hl => ?_
  have e : row (Fin.cast N_0.symm t) a = ⟨t.val * 512 + a.val, hl⟩ := Fin.ext (by show 512 * t.val + a.val = t.val * 512 + a.val; omega)
  rw [hq_blk, e]
  simp only [blk2, e]

/-- What the gain's gradient holds after a grid point: the sum of the blocks so far. -/
theorem acc7 (b : Fin 2048) : (outsAt0 m c t0_15.val t0_15.isLt).2.2 (ix2 0 b)
    = (∑ t : Fin 16, dgB (iblk m c 0 (Fin.cast N_0.symm t)) (iblk m c 1 (Fin.cast N_0.symm t)) (iblk m c 2 (Fin.cast N_0.symm t)) b : EReal) := by
  refine (Pipeline.eq_sum_fin_of_reset_step_apply_last (fun n h (b : Fin 2048) => (outsAt0 m c n h).2.2 (ix2 0 b)) 16 (fun _ => 0)
    (fun t b => dgB (iblk m c 0 t) (iblk m c 1 t) (iblk m c 2 t) b)
    (fun t h j => ?_)
    (fun t h j => ?_)
    (le_of_eq N_0) t0_15 rfl b).trans (zero_add _)
  · have hN := lt_of_lt_of_eq t.isLt N_0
    rw [outsAt0_A m c t h (by omega), zero_add]
    dsimp only; rw [out7_A]
  · have hN := lt_of_lt_of_eq t.isLt N_0
    rw [outsAt0_B m c t h (by omega)]
    dsimp only; rw [out7_B]

/-- The gain's gradient: the sum over the rows, block by block. -/
theorem final7 : (dats m 0 c).arrAt 7 (cfgs 0).N = Cert.ProjReferenceIdeal.Read.val_main_v43 (F := Ideal) (m ((c : Thread nD τ).loc main_arg0))
    (m ((c : Thread nD τ).loc main_arg2)) (m ((c : Thread nD τ).loc main_arg3)) := by
  refine (dats m 0 c).arrAt_eq_of_after_last 7 t0_15 (by decide +kernel) _ fun j => ?_
  blk_simp
  rw [after0_7]
  obtain ⟨b, rfl⟩ : ∃ b : Fin 2048, j = ix2 0 b := ⟨j 1, by rw [eq_ix2 j]; exact congrArg (fun z => ix2 z _) (Subsingleton.elim _ _)⟩
  refine (acc7 m c b).trans ((dg_sum m c b).trans (Eq.trans (dg_ref _ _ _ b).symm ?_))
  rfl

end Cert.ProjKernelIdeal.Value
end
-- ==== Proof.ProjClaim.lean ====
/- Kernel and reference end with the same gradients of the query projection under its norm, for real inputs, gains, weights and
   cotangents of the product. -/
module

public import proofs.«01_k».proof.Defs
public import proofs.«01_k».proof.Proof.ProjValue
public import proofs.«01_k».proof.Proof.Gen.Pre_proj_finite
public import Idealize.ShloMosaic.Lib.Claim

@[expose] public section

noncomputable section

open Idealize.ShloMosaic Idealize.SL.Sem

namespace Cert.ProjClaim

open Cert.ProjKernelIdeal

/-- What the precondition says: the input, the gain, the weights and the product's cotangent are arrays of reals. -/
theorem reals (x : FVec Ideal Cert.Pre_proj_finite.S8192x2048 .f32) (g : FVec Ideal Cert.Pre_proj_finite.S2048 .f32)
    (w : FVec Ideal Cert.Pre_proj_finite.S2048x2048 .f32)
    (y : FVec Ideal Cert.Pre_proj_finite.S8192x2048 .bf16) (d : FVec Ideal Cert.Pre_proj_finite.S8192x2048 .f32)
    (h : Cert.Pre_proj_finite.fn (F := Ideal) x g w y d = fun _ => 1#1) :
    (∃ X : Cert.Pre_proj_finite.S8192x2048.Idx → ℝ, ∀ i, x i = ((X i : ℝ) : EReal))
    ∧ (∃ G : Cert.Pre_proj_finite.S2048.Idx → ℝ, ∀ i, g i = ((G i : ℝ) : EReal))
    ∧ (∃ W : Cert.Pre_proj_finite.S2048x2048.Idx → ℝ, ∀ i, w i = ((W i : ℝ) : EReal))
    ∧ (∃ Y : Cert.Pre_proj_finite.S8192x2048.Idx → ℝ, ∀ i, y i = ((Y i : ℝ) : EReal)) := by
  have h0 := congrFun h (fun a => a.elim0)
  obtain ⟨h1, hy⟩ := IntOp.andi_eq_one.1 h0
  obtain ⟨h2, hw⟩ := IntOp.andi_eq_one.1 h1
  obtain ⟨hx, hg⟩ := IntOp.andi_eq_one.1 h2
  haveI : Subsingleton Cert.Pre_proj_finite.S_.Idx := ⟨fun a b => funext fun i => i.elim0⟩
  exact ⟨Reals.real_of_all _ _ (fun i => rfl) _ _ _ _ hx, Reals.real_of_all _ _ (fun i => rfl) _ _ _ _ hg,
    Reals.real_of_all _ _ (fun i => rfl) _ _ _ _ hw, Reals.real_of_all _ _ (fun i => rfl) _ _ _ _ hy⟩

theorem claim : Cert.algebraic_ProjKernelIdeal_ProjReferenceIdeal_pre_proj_finite := by
  pair_intro
  · run_from Cert.ProjKernelIdeal.Value.run_blocks m g
  · obtain ⟨⟨X, hX⟩, ⟨G, hG⟩, ⟨W, hW⟩, Y, hY⟩ := reals _ _ _ _ _ (hpre 0)
    run_from Cert.ProjReferenceIdeal.Value.run m' g'
    all_goals obtain rfl : c = 0 := Subsingleton.elim _ _
    · rw [Cert.ProjKernelIdeal.Value.final5 m 0 X Y G W hX hG hW hY]
      rw [Cert.ProjReferenceIdeal.Read.val_main_v39_eq, (hagree 0).1, (hagree 0).2.1, (hagree 0).2.2.1, (hagree 0).2.2.2.1, (hagree 0).2.2.2.2]
    · rw [Cert.ProjKernelIdeal.Value.final6 m 0 X Y G W hX hG hW hY]
      rw [Cert.ProjReferenceIdeal.Read.val_main_v42_eq, (hagree 0).1, (hagree 0).2.1, (hagree 0).2.2.1, (hagree 0).2.2.2.1, (hagree 0).2.2.2.2]
    · rw [Cert.ProjKernelIdeal.Value.final7 m 0]
      rw [Cert.ProjReferenceIdeal.Read.val_main_v43_eq]

end Cert.ProjClaim

end
-- ==== Proof.FfnBody.lean ====
/- The two bodies of the feed-forward layer's kernels, read at an index: the forward body writes eleven chunks of 256 columns of the
   two factors and of the activation, the backward body multiplies the factors by the cotangent's rows. -/
module

public import proofs.«01_k».proof.Proof.Gen.FfnKernelIdeal.Frame
public import proofs.«01_k».proof.Proof.Rms
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnKernelIdeal.Value

open Cert.FfnKernelIdeal Cert.FfnKernelIdeal.Gen

variable (x : FVec Ideal S512x2048 .bf16)

/-! ## The backward body -/

section Backward

variable (w : FVec Ideal S2816x2048 .bf16) (u : FVec Ideal S2x512x2816 .bf16)

/-- The cotangent of the activation. -/
def da (r : Fin 512) (f : Fin 2816) : EReal := ∑ k : Fin 2048, x (ix2 r k) * w (ix2 f k)

/-- A store of the backward body. -/
theorem piece1 (e : Fin 2) (a : Fin 512) (f : Fin 2816) (j : S2x512x2816.Idx) (h0 : (j 0).val = e.val) (h1 : (j 1).val = a.val)
    (h2 : (j 2).val = f.val) : ((∑ k : Fin 2048, x (ix2 a k) * w (ix2 f k)) * u (ix3 e a f) : EReal) = da x w (j 1) (j 2) * u j := by
  obtain rfl : e = j 0 := Fin.ext h0.symm
  obtain rfl : a = j 1 := Fin.ext h1.symm
  obtain rfl : f = j 2 := Fin.ext h2.symm
  rw [← eq_ix3 j]
  rfl

set_option maxHeartbeats 4000000 in
/-- The backward body's output. -/
theorem out1_at (j : S2x512x2816.Idx) : out1_3 (F := Ideal) x w u j = (da x w (j 1) (j 2) * u j : EReal) := by
  frame_out
  canon_tiles y h
  all_goals
    obtain ⟨e, a, b, rfl⟩ : ∃ (e : Fin 1) (a : Fin 512) (b : Fin 256), y = ix3 e a b := ⟨y 0, y 1, y 2, eq_ix3 y⟩
    obtain rfl : e = 0 := Subsingleton.elim _ _
    pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39]
  all_goals exact piece1 x w u _ _ _ j h0 h1 h2

end Backward

/-! ## The forward body -/

section Forward

variable (w w' : FVec Ideal S2x2048x1408 .bf16)

/-- A column of a block of two shards. -/
def wcol (w : FVec Ideal S2x2048x1408 .bf16) (k : Fin 2048) (f : Fin 2816) : EReal :=
  w (ix3 ⟨f.val / 1408, by have := f.isLt; omega⟩ k ⟨f.val % 1408, Nat.mod_lt _ (by decide)⟩)

/-- A row's product with a column. -/
def gB (r : Fin 512) (f : Fin 2816) : EReal := ∑ k : Fin 2048, x (ix2 r k) * wcol w k f

/-- The sigmoid. -/
def sg (g : EReal) : EReal := Ideal.div 1 (1 + Ideal.exp (0 - g))

/-- The factor of the gate's gradient. -/
def fac0 (g u : EReal) : EReal := u * (sg g * (1 + g * (1 - sg g)))

/-- The factor of the up projection's gradient. -/
def fac1 (g : EReal) : EReal := g * sg g

/-- The sum a chunk is computed from. -/
theorem chunk (h : Fin 2) (q : Fin 1408) (a : Fin 512) (r : Fin 512) (f : Fin 2816) (h1 : r.val = a.val) (h2 : f.val = 1408 * h.val + q.val) :
    (∑ k : Fin 2048, x (ix2 a k) * w (ix3 h k q) : EReal) = gB x w r f := by
  obtain rfl : a = r := Fin.ext h1.symm
  have hq := q.isLt
  have e1 : (⟨f.val / 1408, by have := f.isLt; omega⟩ : Fin 2) = h := Fin.ext (by show f.val / 1408 = h.val; omega)
  have e2 : (⟨f.val % 1408, Nat.mod_lt _ (by decide)⟩ : Fin 1408) = q := Fin.ext (by show f.val % 1408 = q.val; omega)
  unfold gB wcol
  rw [e1, e2]

theorem chunk0 (q : Fin 1408) (a r : Fin 512) (f : Fin 2816) (h1 : r.val = a.val) (h2 : f.val = q.val) :
    (∑ k : Fin 2048, x (ix2 a k) * w (ix3 0 k q) : EReal) = gB x w r f := chunk x w 0 q a r f h1 (by show f.val = 1408 * 0 + q.val; omega)
theorem chunk1 (q : Fin 1408) (a r : Fin 512) (f : Fin 2816) (h1 : r.val = a.val) (h2 : f.val = 1408 + q.val) :
    (∑ k : Fin 2048, x (ix2 a k) * w (ix3 1 k q) : EReal) = gB x w r f := chunk x w 1 q a r f h1 (by show f.val = 1408 * 1 + q.val; omega)

/-- The chunk that joins the end of the first shard and the beginning of the second. -/
theorem chunkJ (a r : Fin 512) (b : Fin 256) (f : Fin 2816) (h1 : r.val = a.val) (h2 : f.val = 1280 + b.val) :
    (∑ k : Fin 2048, x (ix2 a k) * (if h : b.val < 128 then w (ix3 0 k ⟨1280 + b.val, by omega⟩) else w (ix3 1 k ⟨b.val - 128, by have := b.isLt; omega⟩)) : EReal)
      = gB x w r f := by
  have hb := b.isLt
  by_cases h : b.val < 128
  · simp only [dif_pos h]
    exact chunk0 x w _ a r f h1 h2
  · simp only [dif_neg h]
    exact chunk1 x w _ a r f h1 (by dsimp only; omega)

set_option maxHeartbeats 8000000 in
/-- The forward body's activation. -/
theorem out0_act (j : S512x2816.Idx) : out0_4 (F := Ideal) x w w' j = (fac1 (gB x w (j 0) (j 1)) * gB x w' (j 0) (j 1) : EReal) := by
  frame_out
  canon_tiles y h
  all_goals
    obtain ⟨a, b, rfl⟩ : ∃ (a : Fin 512) (b : Fin 256), y = ix2 a b := ⟨y 0, y 1, eq_ix2 y⟩
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    have hb : ((ix2 a b : S512x256.Idx) 1).val = b.val := rfl
  case piece5 => exact congrArg₂ (fun g u : EReal => fac1 g * u) (chunkJ x w a (j 0) b (j 1) h0 h1) (chunkJ x w' a (j 0) b (j 1) h0 h1)
  all_goals first
    | exact congrArg₂ (fun g u : EReal => fac1 g * u) (chunk0 x w _ a (j 0) (j 1) h0 h1) (chunk0 x w' _ a (j 0) (j 1) h0 h1)
    | exact congrArg₂ (fun g u : EReal => fac1 g * u) (chunk1 x w _ a (j 0) (j 1) h0 (by dsimp only; omega)) (chunk1 x w' _ a (j 0) (j 1) h0 (by dsimp only; omega))

/-- A store of the forward body's factors. -/
theorem factor (G U : EReal) (e : Fin 2) (h : e.val = 0) : fac0 G U = if e.val = 0 then fac0 G U else fac1 G := by rw [if_pos h]
theorem factor' (G U : EReal) (e : Fin 2) (h : e.val = 1) : fac1 G = if e.val = 0 then fac0 G U else fac1 G := by rw [if_neg (by omega)]

set_option maxHeartbeats 8000000 in
/-- The forward body's two factors. -/
theorem out0_fac (j : S2x512x2816.Idx) : out0_3 (F := Ideal) x w w' j
    = (if (j 0).val = 0 then fac0 (gB x w (j 1) (j 2)) (gB x w' (j 1) (j 2)) else fac1 (gB x w (j 1) (j 2)) : EReal) := by
  frame_out
  canon_tiles y h
  all_goals
    obtain ⟨e, a, b, rfl⟩ : ∃ (e : Fin 1) (a : Fin 512) (b : Fin 256), y = ix3 e a b := ⟨y 0, y 1, y 2, eq_ix3 y⟩
    obtain rfl : e = 0 := Subsingleton.elim _ _
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94]
    have hb : ((ix3 0 a b : S1x512x256.Idx) 2).val = b.val := rfl
  case piece10 => exact (congrArg fac1 (chunkJ x w a (j 1) b (j 2) h1 h2)).trans (factor' _ _ (j 0) h0)
  case piece11 => exact (congrArg₂ fac0 (chunkJ x w a (j 1) b (j 2) h1 h2) (chunkJ x w' a (j 1) b (j 2) h1 h2)).trans (factor _ _ (j 0) h0)
  all_goals first
    | exact (congrArg₂ fac0 (chunk0 x w _ a (j 1) (j 2) h1 h2) (chunk0 x w' _ a (j 1) (j 2) h1 h2)).trans (factor _ _ (j 0) h0)
    | exact (congrArg₂ fac0 (chunk1 x w _ a (j 1) (j 2) h1 (by dsimp only; omega)) (chunk1 x w' _ a (j 1) (j 2) h1 (by dsimp only; omega))).trans (factor _ _ (j 0) h0)
    | exact (congrArg fac1 (chunk0 x w _ a (j 1) (j 2) h1 h2)).trans (factor' _ _ (j 0) h0)
    | exact (congrArg fac1 (chunk1 x w _ a (j 1) (j 2) h1 (by dsimp only; omega))).trans (factor' _ _ (j 0) h0)

end Forward

end Cert.FfnKernelIdeal.Value
end
-- ==== Proof.FfnRef.lean ====
/- The reference of the feed-forward layer at an index, and the equation of the two forms of its gradient: the kernel multiplies the
   cotangent by two saved factors, the reference differentiates the gate and the product one after the other. -/
module

public import proofs.«01_k».proof.Proof.FfnBody
public import proofs.«01_k».proof.Proof.Gen.FfnReferenceIdeal.Read

@[expose] public section

set_option maxRecDepth 16384

noncomputable section

open Idealize.ShloMosaic Idealize.ShloMosaic.TcCoe Idealize.SL.Sem

namespace Cert.FfnKernelIdeal.Value

open Cert.FfnKernelIdeal Cert.FfnReferenceIdeal.Read Cert.Reals

variable (x : FVec Ideal S8192x2048 .bf16) (w : FVec Ideal S2048x11264 .f32) (v : FVec Ideal S5632x2048 .f32) (y : FVec Ideal S8192x2048 .bf16)

/-- A row's product with a column of the joint weights. -/
def gR (a : Fin 8192) (f : Fin 11264) : EReal := ∑ k : Fin 2048, x (ix2 a k) * w (ix2 k f)

/-- The cotangent of the activation. -/
def dR (a : Fin 8192) (f : Fin 5632) : EReal := ∑ k : Fin 2048, y (ix2 a k) * v (ix2 f k)

/-- The gate's and the up projection's column. -/
def lo (f : Fin 5632) : Fin 11264 := ⟨f.val, by have := f.isLt; omega⟩
def hi (f : Fin 5632) : Fin 11264 := ⟨5632 + f.val, by have := f.isLt; omega⟩

theorem lit_one' : Ideal.ofBits .f32 0x3F800000#32 = 1 := by pointwise

/-- The sigmoid as the reference writes it. -/
theorem sg_eq (g : EReal) : sg g = Ideal.div 1 (1 + Ideal.exp (-g)) := by unfold sg; rw [zero_sub]

theorem gate_ref (a : Fin 8192) (f : Fin 5632) : val_main_v2 (F := Ideal) x w (ix2 a f) = gR x w a (lo f) := by
  pointwise [val_main_v0, val_main_v1, val_main_v2]
  rfl
theorem up_ref (a : Fin 8192) (f : Fin 5632) : val_main_v3 (F := Ideal) x w (ix2 a f) = gR x w a (hi f) := by
  pointwise [val_main_v0, val_main_v1, val_main_v3]
  rfl
theorem sg_ref (a : Fin 8192) (f : Fin 5632) : val_main_v4_2 (F := Ideal) x w (ix2 a f) = sg (gR x w a (lo f)) := by
  rw [sg_eq]
  pointwise [val_main_call0_v0, val_main_call0_v1, val_main_call0_cst, val_main_call0_v2, val_main_call0_v3, val_main_call0_cst_0, val_main_call0_v4, val_main_v4_2]
  rw [gate_ref]
theorem act_ref (a : Fin 8192) (f : Fin 5632) : val_main_v19 (F := Ideal) x w (ix2 a f)
    = (fac1 (gR x w a (lo f)) * gR x w a (hi f) : EReal) := by
  unfold fac1
  pointwise [val_main_v4_0, val_main_v5, val_main_v19]
  rw [gate_ref, up_ref, sg_ref]
theorem d_ref (a : Fin 8192) (f : Fin 5632) : val_main_v8 (F := Ideal) v y (ix2 a f) = dR v y a f := by
  pointwise [val_main_v7, val_main_v8]
  rfl
/-- The up projection's gradient. -/
theorem dh1_ref (a : Fin 8192) (f : Fin 5632) : val_main_v18 (F := Ideal) x w v y (ix3 1 a f)
    = (fac1 (gR x w a (lo f)) * dR v y a f : EReal) := by
  unfold fac1
  pointwise [val_main_v4_0, val_main_v9, val_main_v12, val_main_v14, val_main_v16, val_main_v17, val_main_v18]
  rw [gate_ref, d_ref, sg_ref]
/-- The gate's gradient. -/
theorem dh0_ref (a : Fin 8192) (f : Fin 5632) : val_main_v18 (F := Ideal) x w v y (ix3 0 a f)
    = ((dR v y a f * gR x w a (hi f)) * sg (gR x w a (lo f))
      + (gR x w a (lo f) * (dR v y a f * gR x w a (hi f))) * (sg (gR x w a (lo f)) * (1 - sg (gR x w a (lo f)))) : EReal) := by
  have hf := f.isLt
  pointwise [val_main_v10, val_main_call0_cst_1, val_main_call0_v6, val_main_call0_v7, val_main_v4_1, val_main_call1_v0, val_main_call1_v1, val_main_call1_v2, val_main_v11, val_main_v12, val_main_v13,
    val_main_v15, val_main_v17, val_main_v18]
  rw [gate_ref, up_ref, d_ref, sg_ref]

/-- The sigmoid of a real is a real. -/
theorem sg_coe (g : ℝ) : sg (g : EReal) = ((1 / (1 + Real.exp (-g)) : ℝ) : EReal) := by
  rw [sg_eq, ← EReal.coe_neg, exp_coe, ← EReal.coe_one, ← EReal.coe_add, div_coe _ (by positivity)]

/-- The two forms of the gate's gradient, for real gate, up projection and cotangent. -/
theorem gate_eq (g u d : ℝ) : ((d : EReal) * fac0 (g : EReal) (u : EReal) : EReal)
    = ((d : EReal) * (u : EReal)) * sg (g : EReal) + ((g : EReal) * ((d : EReal) * (u : EReal))) * (sg (g : EReal) * (1 - sg (g : EReal))) := by
  unfold fac0
  rw [sg_coe, ← EReal.coe_one]
  simp only [← EReal.coe_mul, ← EReal.coe_add, ← EReal.coe_sub]
  exact congrArg _ (by ring)

end Cert.FfnKernelIdeal.Value
end
-- ==== Proof.FfnRun.lean ====
/- The run of the feed-forward layer's two kernels, one after the other, with what it leaves in its two results. -/
module

public import proofs.«01_k».proof.Proof.Gen.FfnKernelIdeal.Frame

@[expose] public section

set_option maxRecDepth 16384

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.FfnKernelIdeal.Value

open Cert.FfnKernelIdeal Cert.FfnKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run's last valuation read at the results: the backward kernel's output, and the forward kernel's activation, which the
    backward kernel does not touch. -/
theorem run_value : θ_run defs (onTc (τ := τ) (main (F := F))) ⟨m, fun _ => 0, ρ⟩ (fun r => ∀ c : Dev nD,
      r.2.mem ((c.tc : Thread nD τ).loc main_v5) = (dat1 (V3 m ρ) c).arrAt 3 cfg1.N
      ∧ r.2.mem ((c.tc : Thread nD τ).loc main_v3_1) = (dat0 (V1 m ρ) c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨(h c _ (mem_uc main_v5 (by decide))).trans (W4_arr m ρ c 3),
       (h c _ (mem_uc main_v3_1 (by decide))).trans ((W4_of m ρ c main_v3_1 (by decide)).trans ((W3_of m ρ c main_v3_1 (by decide)).trans (W2_arr m ρ c 4))),
       (h c _ (mem_uc main_arg0 (by decide))).trans (W4_main_arg0 m ρ c), (h c _ (mem_uc main_arg1 (by decide))).trans (W4_main_arg1 m ρ c),
       (h c _ (mem_uc main_arg2 (by decide))).trans (W4_main_arg2 m ρ c), (h c _ (mem_uc main_arg3 (by decide))).trans (W4_main_arg3 m ρ c)⟩)

end Cert.FfnKernelIdeal.Value
end
-- ==== Proof.FfnValue.lean ====
/- The two results of the feed-forward layer's kernels as arrays: a grid point is a block of 512 rows and a half of the columns, and
   what its body writes there is the reference's value; the backward kernel reads the factors that the forward kernel wrote. -/
module

public import proofs.«01_k».proof.Proof.FfnRef
public import proofs.«01_k».proof.Proof.FfnRun

@[expose] public section

set_option maxRecDepth 16384

noncomputable section

open Idealize.ShloMosaic Idealize.ShloMosaic.TcCoe Idealize.SL.Sem
open Idealize.ShloMosaic.Pipeline (Dat)

namespace Cert.FfnKernelIdeal.Value

open Cert.FfnKernelIdeal Cert.FfnKernelIdeal.Gen

variable (m : (ℓ : Loc nD τ sig) → Buf (Elt Ideal) ℓ) (ρ : Dev nD → PrngReg) (c : Dev nD)

/-- The windows' block indices at a grid point. -/
theorem idx0 : ∀ t : Fin cfg0.N, win0_0.index t = ![t.val % 16, 0] ∧ win0_1.index t = ![t.val / 16, 0, 0] ∧ win0_2.index t = ![t.val / 16 + 2, 0, 0]
    ∧ win0_3.index t = ![0, t.val % 16, t.val / 16] ∧ win0_4.index t = ![t.val % 16, t.val / 16] :=
  (by decide +kernel : ∀ t : Fin grid0.N, _)
theorem idx1 : ∀ t : Fin cfg1.N, win1_0.index t = ![t.val % 16, 0] ∧ win1_1.index t = ![t.val / 16, 0] ∧ win1_2.index t = ![0, t.val % 16, t.val / 16]
    ∧ win1_3.index t = ![0, t.val % 16, t.val / 16] :=
  (by decide +kernel : ∀ t : Fin grid1.N, _)

abbrev ax : FVec Ideal S8192x2048 .bf16 := m ((c : Thread nD τ).loc main_arg0)
abbrev aw : FVec Ideal S2048x11264 .f32 := m ((c : Thread nD τ).loc main_arg1)
abbrev av : FVec Ideal S5632x2048 .f32 := m ((c : Thread nD τ).loc main_arg2)
abbrev ay : FVec Ideal S8192x2048 .bf16 := m ((c : Thread nD τ).loc main_arg3)

/-- The array row and column of a block's row and column, at a point of the grid. -/
def row (t : Fin 32) (a : Fin 512) : Fin 8192 := ⟨512 * (t.val % 16) + a.val, by have := a.isLt; omega⟩
def col (t : Fin 32) (f : Fin 2816) : Fin 5632 := ⟨2816 * (t.val / 16) + f.val, by have := t.isLt; have := f.isLt; omega⟩
def pt0 (t : Fin cfg0.N) : Fin 32 := ⟨t.val, lt_of_lt_of_eq t.isLt N_0⟩
def pt1 (t : Fin cfg1.N) : Fin 32 := ⟨t.val, lt_of_lt_of_eq t.isLt N_1⟩

/-! ## The forward kernel -/

/-- The shards as the forward kernel is entered: columns of the joint weights. -/
theorem shards (s : Fin 8) (k : Fin 2048) (q : Fin 1408) (f : Fin 11264) (hf : f.val = 1408 * s.val + q.val) :
    V1 m ρ c main_v2 (ix3 s k q) = aw m c (ix2 k f) := by
  show StableHlo.after hostOps0 (W0 m ρ c) (Proc.devRef .tc main_v2) (ix3 s k q) = _
  entry_read
  pointwise
  exact congrArg (fun f => aw m c (ix2 k f)) (Fin.ext (by show s.val * 1408 + q.val = f.val; omega))

theorem blk00 (t : Fin cfg0.N) (a : Fin 512) (k : Fin 2048) : iblk0 (V1 m ρ) c 0 t (ix2 a k) = ax m c (ix2 (row (pt0 t) a) k) := by
  blk_simp [iblk0]
  refine (congrFun (W1_args m ρ c main_arg0 (by decide)) _).trans ?_
  blk_ext [idx0 t, pt0, row]

theorem blk01 (t : Fin cfg0.N) (s : Fin 2) (k : Fin 2048) (q : Fin 1408) :
    iblk0 (V1 m ρ) c 1 t (ix3 s k q) = V1 m ρ c main_v2 (ix3 ⟨2 * (t.val / 16) + s.val, by have := lt_of_lt_of_eq t.isLt N_0; have := s.isLt; omega⟩ k q) := by
  blk_ext [iblk0, idx0 t]

theorem blk02 (t : Fin cfg0.N) (s : Fin 2) (k : Fin 2048) (q : Fin 1408) :
    iblk0 (V1 m ρ) c 2 t (ix3 s k q) = V1 m ρ c main_v2 (ix3 ⟨2 * (t.val / 16 + 2) + s.val, by have := lt_of_lt_of_eq t.isLt N_0; have := s.isLt; omega⟩ k q) := by
  blk_ext [iblk0, idx0 t]

/-- A block's gate and up projection are the array's. -/
theorem gate_blk (t : Fin cfg0.N) (r : Fin 512) (f : Fin 2816) :
    gB (iblk0 (V1 m ρ) c 0 t) (iblk0 (V1 m ρ) c 1 t) r f = gR (ax m c) (aw m c) (row (pt0 t) r) (lo (col (pt0 t) f)) := by
  unfold gB wcol gR
  refine Fin.sum_fin_congr fun k => ?_
  rw [blk00, blk01, shards m ρ c _ _ _ (lo (col (pt0 t) f))
    (by show 2816 * (t.val / 16) + f.val = 1408 * (2 * (t.val / 16) + f.val / 1408) + f.val % 1408; omega)]
theorem up_blk (t : Fin cfg0.N) (r : Fin 512) (f : Fin 2816) :
    gB (iblk0 (V1 m ρ) c 0 t) (iblk0 (V1 m ρ) c 2 t) r f = gR (ax m c) (aw m c) (row (pt0 t) r) (hi (col (pt0 t) f)) := by
  unfold gB wcol gR
  refine Fin.sum_fin_congr fun k => ?_
  rw [blk00, blk02, shards m ρ c _ _ _ (hi (col (pt0 t) f))
    (by show 5632 + (2816 * (t.val / 16) + f.val) = 1408 * (2 * (t.val / 16 + 2) + f.val / 1408) + f.val % 1408; omega)]

/-- The activation. -/
theorem act_final : (dat0 (V1 m ρ) c).arrAt 4 cfg0.N = Cert.FfnReferenceIdeal.Read.val_main_v19 (F := Ideal) (ax m c) (aw m c) := by
  refine (dat0 (V1 m ρ) c).arrAt_eq_of_covers 4 _ (by decide +kernel) fun t _ y => ?_
  blk_simp
  rw [after0_4, show (win0_4.blk t).view.emb y = ix2 (row (pt0 t) (y 0)) (col (pt0 t) (y 1)) by blk_ext [idx0 t, pt0, row, col]]
  refine (out0_act _ _ _ y).trans (Eq.trans ?_ (act_ref _ _ _ _).symm)
  exact congrArg₂ (fun g u : EReal => fac1 g * u) (gate_blk m ρ c t (y 0) (y 1)) (up_blk m ρ c t (y 0) (y 1))

/-- The two factors, as an array. -/
def facs (x : FVec Ideal S8192x2048 .bf16) (w : FVec Ideal S2048x11264 .f32) : FVec Ideal S2x8192x5632 .bf16 := fun i =>
  (if (i 0).val = 0 then fac0 (gR x w (i 1) (lo (i 2))) (gR x w (i 1) (hi (i 2))) else fac1 (gR x w (i 1) (lo (i 2))) : EReal)

theorem fac_final : (dat0 (V1 m ρ) c).arrAt 3 cfg0.N = facs (ax m c) (aw m c) := by
  refine (dat0 (V1 m ρ) c).arrAt_eq_of_covers 3 _ (by decide +kernel) fun t _ y => ?_
  blk_simp
  rw [after0_3, show (win0_3.blk t).view.emb y = ix3 (y 0) (row (pt0 t) (y 1)) (col (pt0 t) (y 2)) by blk_ext [idx0 t, pt0, row, col]]
  refine (out0_fac _ _ _ y).trans ?_
  show _ = (if (y 0).val = 0 then fac0 (gR (ax m c) (aw m c) (row (pt0 t) (y 1)) (lo (col (pt0 t) (y 2)))) (gR (ax m c) (aw m c) (row (pt0 t) (y 1)) (hi (col (pt0 t) (y 2))))
    else fac1 (gR (ax m c) (aw m c) (row (pt0 t) (y 1)) (lo (col (pt0 t) (y 2)))) : EReal)
  rw [gate_blk m ρ c t (y 1) (y 2), up_blk m ρ c t (y 1) (y 2)]

/-! ## The backward kernel -/

theorem blk10 (t : Fin cfg1.N) (a : Fin 512) (k : Fin 2048) : iblk1 (V3 m ρ) c 0 t (ix2 a k) = ay m c (ix2 (row (pt1 t) a) k) := by
  blk_simp [iblk1]
  refine (congrFun (W3_args m ρ c main_arg3 (by decide)) _).trans ?_
  blk_ext [idx1 t, pt1, row]

/-- The cast weights as the backward kernel is entered. -/
theorem weights (i : S5632x2048.Idx) : V3 m ρ c main_v4 i = av m c i := by
  show StableHlo.after hostOps1 (W2 m ρ c) (Proc.devRef .tc main_v4) i = _
  entry_read
  pointwise
  exact congrFun (W2_args m ρ c main_arg2 (by decide)) _

theorem blk11 (t : Fin cfg1.N) (f : Fin 2816) (k : Fin 2048) : iblk1 (V3 m ρ) c 1 t (ix2 f k) = av m c (ix2 (col (pt1 t) f) k) := by
  blk_simp [iblk1]
  refine (weights m ρ c _).trans ?_
  blk_ext [idx1 t, pt1, col]

/-- The factors as the backward kernel is entered: what the forward kernel left. -/
theorem blk12 (t : Fin cfg1.N) (e : Fin 2) (a : Fin 512) (f : Fin 2816) :
    iblk1 (V3 m ρ) c 2 t (ix3 e a f) = facs (ax m c) (aw m c) (ix3 e (row (pt1 t) a) (col (pt1 t) f)) := by
  blk_simp [iblk1]
  refine (congrFun ((W3_of m ρ c main_v3_0 (by decide)).trans ((W2_arr m ρ c 3).trans (fac_final m ρ c))) _).trans ?_
  blk_ext [idx1 t, pt1, row, col]

theorem da_blk (t : Fin cfg1.N) (a : Fin 512) (f : Fin 2816) :
    da (iblk1 (V3 m ρ) c 0 t) (iblk1 (V3 m ρ) c 1 t) a f = dR (av m c) (ay m c) (row (pt1 t) a) (col (pt1 t) f) := by
  unfold da dR
  exact Fin.sum_fin_congr fun k => by rw [blk10, blk11]

section Final

variable (X Y : S8192x2048.Idx → ℝ) (W : S2048x11264.Idx → ℝ) (V : S5632x2048.Idx → ℝ)
  (hX : ∀ i, ax m c i = ((X i : ℝ) : EReal)) (hW : ∀ i, aw m c i = ((W i : ℝ) : EReal))
  (hV : ∀ i, av m c i = ((V i : ℝ) : EReal)) (hY : ∀ i, ay m c i = ((Y i : ℝ) : EReal))

include hX hW hV hY

/-- The backward kernel's point is the reference's gradient. -/
theorem dh_eq (e : Fin 2) (a : Fin 8192) (f : Fin 5632) :
    (dR (av m c) (ay m c) a f * facs (ax m c) (aw m c) (ix3 e a f) : EReal)
      = Cert.FfnReferenceIdeal.Read.val_main_v18 (F := Ideal) (ax m c) (aw m c) (av m c) (ay m c) (ix3 e a f) := by
  have hg : ∀ f, gR (ax m c) (aw m c) a f = ((∑ k : Fin 2048, X (ix2 a k) * W (ix2 k f) : ℝ) : EReal) := fun f => by
    unfold gR
    simp only [hX, hW, ← EReal.coe_mul, Cert.Reals.sum_coe]
  have hd : dR (av m c) (ay m c) a f = ((∑ k : Fin 2048, Y (ix2 a k) * V (ix2 f k) : ℝ) : EReal) := by
    unfold dR
    simp only [hY, hV, ← EReal.coe_mul, Cert.Reals.sum_coe]
  match e with
  | ⟨0, _⟩ =>
    refine Eq.trans ?_ (dh0_ref _ _ _ _ a f).symm
    show (dR (av m c) (ay m c) a f * fac0 (gR (ax m c) (aw m c) a (lo f)) (gR (ax m c) (aw m c) a (hi f)) : EReal) = _
    rw [hg, hg, hd]
    exact gate_eq _ _ _
  | ⟨1, _⟩ =>
    refine Eq.trans ?_ (dh1_ref _ _ _ _ a f).symm
    exact mul_comm _ _

/-- The gradient of the two projections. -/
theorem dh_final : (dat1 (V3 m ρ) c).arrAt 3 cfg1.N
    = Cert.FfnReferenceIdeal.Read.val_main_v18 (F := Ideal) (ax m c) (aw m c) (av m c) (ay m c) := by
  refine (dat1 (V3 m ρ) c).arrAt_eq_of_covers 3 _ (by decide +kernel) fun t _ y => ?_
  blk_simp
  rw [after1_3, show (win1_3.blk t).view.emb y = ix3 (y 0) (row (pt1 t) (y 1)) (col (pt1 t) (y 2)) by blk_ext [idx1 t, pt1, row, col]]
  refine (out1_at _ _ _ y).trans (Eq.trans ?_ (dh_eq m c X Y W V hX hW hV hY (y 0) (row (pt1 t) (y 1)) (col (pt1 t) (y 2))))
  refine congrArg₂ (fun d u : EReal => d * u) (da_blk m ρ c t (y 1) (y 2)) ?_
  exact (congrArg _ (eq_ix3 y)).trans (blk12 m ρ c t (y 0) (y 1) (y 2))

end Final

end Cert.FfnKernelIdeal.Value
end
-- ==== Proof.FfnClaim.lean ====
/- Kernels and reference end with the same activation and the same gradient of the two projections, for real inputs, weights and
   cotangents. -/
module

public import proofs.«01_k».proof.Defs
public import proofs.«01_k».proof.Proof.FfnValue
public import proofs.«01_k».proof.Proof.Gen.FfnReferenceIdeal.Run
public import proofs.«01_k».proof.Proof.Gen.Pre_ffn_finite
public import Idealize.ShloMosaic.Lib.Claim

@[expose] public section

noncomputable section

open Idealize.ShloMosaic Idealize.SL.Sem

namespace Cert.FfnClaim

open Cert.FfnKernelIdeal

/-- What the precondition says: the four arguments are arrays of reals. -/
theorem reals (x : FVec Ideal Cert.Pre_ffn_finite.S8192x2048 .bf16) (w : FVec Ideal Cert.Pre_ffn_finite.S2048x11264 .f32)
    (v : FVec Ideal Cert.Pre_ffn_finite.S5632x2048 .f32) (y : FVec Ideal Cert.Pre_ffn_finite.S8192x2048 .bf16)
    (h : Cert.Pre_ffn_finite.fn (F := Ideal) x w v y = fun _ => 1#1) :
    (∃ X : Cert.Pre_ffn_finite.S8192x2048.Idx → ℝ, ∀ i, x i = ((X i : ℝ) : EReal))
    ∧ (∃ W : Cert.Pre_ffn_finite.S2048x11264.Idx → ℝ, ∀ i, w i = ((W i : ℝ) : EReal))
    ∧ (∃ V : Cert.Pre_ffn_finite.S5632x2048.Idx → ℝ, ∀ i, v i = ((V i : ℝ) : EReal))
    ∧ (∃ Y : Cert.Pre_ffn_finite.S8192x2048.Idx → ℝ, ∀ i, y i = ((Y i : ℝ) : EReal)) := by
  have h0 := congrFun h (fun a => a.elim0)
  obtain ⟨h1, hy⟩ := IntOp.andi_eq_one.1 h0
  obtain ⟨h2, hv⟩ := IntOp.andi_eq_one.1 h1
  obtain ⟨hx, hw⟩ := IntOp.andi_eq_one.1 h2
  haveI : Subsingleton Cert.Pre_ffn_finite.S_.Idx := ⟨fun a b => funext fun i => i.elim0⟩
  exact ⟨Reals.real_of_all _ _ (fun i => rfl) _ _ _ _ hx, Reals.real_of_all _ _ (fun i => rfl) _ _ _ _ hw,
    Reals.real_of_all _ _ (fun i => rfl) _ _ _ _ hv, Reals.real_of_all _ _ (fun i => rfl) _ _ _ _ hy⟩

theorem claim : Cert.algebraic_FfnKernelIdeal_FfnReferenceIdeal_pre_ffn_finite := by
  pair_intro
  · run_from Cert.FfnKernelIdeal.Value.run_value m g
  · obtain ⟨⟨X, hX⟩, ⟨W, hW⟩, ⟨V, hV⟩, Y, hY⟩ := reals _ _ _ _ (hpre 0)
    run_from Cert.FfnReferenceIdeal.Value.run m' g'
    all_goals obtain rfl : c = 0 := Subsingleton.elim _ _
    · rw [Cert.FfnKernelIdeal.Value.dh_final m g 0 X Y W V hX hW hV hY]
      rw [Cert.FfnReferenceIdeal.Read.val_main_v18_eq, (hagree 0).1, (hagree 0).2.1, (hagree 0).2.2.1, (hagree 0).2.2.2]
    · rw [Cert.FfnKernelIdeal.Value.act_final m g 0]
      rw [Cert.FfnReferenceIdeal.Read.val_main_v19_eq]

end Cert.FfnClaim
end
-- ==== Proof.DownValue.lean ====
/- The down projection: every block of 512 rows and 1024 columns is the residual plus half of the product, as in the reference. -/
module

public import proofs.«01_k».proof.Proof.Gen.DownKernelIdeal.Value
public import proofs.«01_k».proof.Proof.Gen.DownReferenceIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DownKernelIdeal.Value

open Cert.DownKernelIdeal Cert.DownKernelIdeal.Gen

theorem idx : ∀ t : Fin cfg0.N, win0_0.index t = ![t.val % 16, 0] ∧ win0_1.index t = ![0, 0, t.val / 16] ∧ win0_2.index t = ![t.val % 16, t.val / 16]
    ∧ win0_3.index t = ![t.val % 16, t.val / 16] :=
  (by decide +kernel : ∀ t : Fin grid0.N, _)

variable (m : (ℓ : Loc nD τ sig) → Buf (Elt Ideal) ℓ) (c : Dev nD)

/-- The array row and column of a block's. -/
def row (t : Fin cfg0.N) (a : Fin 512) : Fin 8192 := ⟨512 * (t.val % 16) + a.val, by have := a.isLt; omega⟩
def col (t : Fin cfg0.N) (b : Fin 1024) : Fin 2048 :=
  ⟨1024 * (t.val / 16) + b.val, by have h := lt_of_lt_of_eq t.isLt N_0; have := b.isLt; omega⟩

abbrev aa : FVec Ideal S8192x5632 .bf16 := m ((c : Thread nD τ).loc main_arg0)
abbrev aw : FVec Ideal S5632x2048 .f32 := m ((c : Thread nD τ).loc main_arg1)
abbrev ax : FVec Ideal S8192x2048 .f32 := m ((c : Thread nD τ).loc main_arg2)

theorem ker (v : Vec Ideal S512x5632 .bf16) (w : Vec Ideal S1x5632x1024 .bf16) (x : Vec Ideal S512x1024 .f32) (a : Fin 512) (b : Fin 1024) :
    k0_pay1 v w x (ix2 a b) = (x (ix2 a b) + Ideal.ofBits .f32 0x3F000000#32 * ∑ k : Fin 5632, v (ix2 a k) * w (ix3 0 k b) : EReal) := by
  pointwise [k0_pay1]

open Cert.DownReferenceIdeal.Read in
theorem ref (y : FVec Ideal S8192x5632 .bf16) (w : FVec Ideal S5632x2048 .f32) (x : FVec Ideal S8192x2048 .f32) (r : Fin 8192) (d : Fin 2048) :
    (val_main_v4 (F := Ideal) y w x (ix2 r d) : EReal) = (x (ix2 r d) + Ideal.ofBits .f32 0x3F000000#32 * ∑ k : Fin 5632, y (ix2 r k) * w (ix2 k d) : EReal) := by
  pointwise [val_main_v0, val_main_v1, val_main_cst, val_main_v2, val_main_v3, val_main_v4]

variable {c}

theorem blk_a (t : Fin cfg0.N) (a : Fin 512) (k : Fin 5632) : iblk m c 0 t (ix2 a k) = aa m c (ix2 (row t a) k) := by
  blk_ext [iblk, V, idx t, row]
theorem blk_w (t : Fin cfg0.N) (k : Fin 5632) (b : Fin 1024) : iblk m c 1 t (ix3 0 k b) = aw m c (ix2 k (col t b)) := by
  blk_simp [iblk]
  entry_read
  pointwise
  blk_ext [idx t, col]
theorem blk_x (t : Fin cfg0.N) (a : Fin 512) (b : Fin 1024) : iblk m c 2 t (ix2 a b) = ax m c (ix2 (row t a) (col t b)) := by
  blk_ext [iblk, V, idx t, row, col]

theorem block_out (t : Fin cfg0.N) (a : Fin 512) (b : Fin 1024) :
    out0_3 (iblk m c 0 t) (iblk m c 1 t) (iblk m c 2 t) (ix2 a b)
      = Cert.DownReferenceIdeal.Read.val_main_v4 (F := Ideal) (aa m c) (aw m c) (ax m c) (ix2 (row t a) (col t b)) := by
  frame_out
  rw [ker, ref]
  simp only [blk_a, blk_w, blk_x]

/-- The output. -/
theorem output : (dats m 0 c).arrAt 3 (cfgs 0).N = Cert.DownReferenceIdeal.Read.val_main_v4 (F := Ideal) (aa m c) (aw m c) (ax m c) := by
  refine (dats m 0 c).arrAt_eq_of_covers 3 _ (by decide +kernel) fun t _ y => ?_
  blk_simp
  rw [after0_3, show (win0_3.blk t).view.emb y = ix2 (row t (y 0)) (col t (y 1)) by blk_ext [idx t, row, col], eq_ix2 y]
  exact block_out m t (y 0) (y 1)

end Cert.DownKernelIdeal.Value
end
-- ==== Proof.DownClaim.lean ====
/- Kernel and reference end with the same residual stream. -/
module

public import proofs.«01_k».proof.Defs
public import proofs.«01_k».proof.Proof.DownValue
public import Idealize.ShloMosaic.Lib.Claim

@[expose] public section

noncomputable section

open Idealize.ShloMosaic Idealize.SL.Sem

namespace Cert.DownClaim

open Cert.DownKernelIdeal

theorem claim : Cert.algebraic_DownKernelIdeal_DownReferenceIdeal := by
  pair_intro
  · run_from Cert.DownKernelIdeal.Value.run_blocks m g
  · run_from Cert.DownReferenceIdeal.Value.run m' g'
    all_goals obtain rfl : c = 0 := Subsingleton.elim _ _
    · rw [Cert.DownKernelIdeal.Value.output m]
      rfl

end Cert.DownClaim

end
-- ==== Proof.DwValue.lean ====
/- The gradient of the first feed-forward weight: each block of the output adds four products of 2048 rows, the reference has one over all 8192. -/
module

public import proofs.«01_k».proof.Proof.Gen.DwKernelIdeal.Value
public import proofs.«01_k».proof.Proof.Gen.DwReferenceIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DwKernelIdeal.Value

open Cert.DwKernelIdeal Cert.DwKernelIdeal.Gen

theorem idx : ∀ t : Fin cfg0.N, win0_0.index t = ![t.val % 4, t.val / 16] ∧ win0_1.index t = ![t.val / 4 % 4 / 2, t.val % 4, t.val / 4 % 2]
    ∧ win0_2.index t = ![t.val / 4 % 4, t.val / 16, 0] :=
  (by decide +kernel : ∀ t : Fin grid0.N, _)

variable (m : (ℓ : Loc nD τ sig) → Buf (Elt Ideal) ℓ) (c : Dev nD)

abbrev ax : FVec Ideal S8192x2048 .bf16 := m ((c : Thread nD τ).loc main_arg0)
abbrev ad : FVec Ideal S2x8192x5632 .bf16 := m ((c : Thread nD τ).loc main_arg1)

/-- The `s`-th part of the product at output row `512 i + a` and column `2816 j + b`. -/
def part (i j s : Fin 4) (a : Fin 512) (b : Fin 2816) : EReal :=
  ∑ k : Fin 2048, ax m c (ix2 (⟨s.val * 2048 + k.val, by omega⟩ : Fin 8192) (⟨512 * i.val + a.val, by omega⟩ : Fin 2048))
    * ad m c (ix3 (⟨j.val / 2, by omega⟩ : Fin 2) (⟨s.val * 2048 + k.val, by omega⟩ : Fin 8192) (⟨2816 * (j.val % 2) + b.val, by omega⟩ : Fin 5632))

/-- The product of two blocks; what a point adds. -/
def dot (x : Vec Ideal S2048x512 .bf16) (d : Vec Ideal S1x2048x2816 .bf16) (a : Fin 512) (b : Fin 2816) : EReal :=
  ∑ k : Fin 2048, x (ix2 k a) * d (ix3 0 k b)
def term (t : Fin cfg0.N) (a : Fin 512) (b : Fin 2816) : EReal := dot (iblk m c 0 t) (iblk m c 1 t) a b

theorem term_eq (i j s : Fin 4) (t : Fin cfg0.N) (h : t.val = 16 * i.val + 4 * j.val + s.val) (a : Fin 512) (b : Fin 2816) :
    term m c t a b = part m c i j s a b := by
  have hs := s.isLt
  have hj := j.isLt
  unfold term part dot
  refine Finset.sum_congr rfl fun k _ => congrArg₂ (fun x y : EReal => x * y) ?_ ?_
  · blk_ext [iblk, V, idx t]
  · blk_ext [iblk, V, idx t]

theorem pay1 (x : Vec Ideal S2048x512 .bf16) (d : Vec Ideal S1x2048x2816 .bf16) (a : Fin 512) (b : Fin 2816) :
    k0_pay1 x d (ix2 a b) = (∑ k : Fin 2048, x (ix2 k a) * d (ix3 0 k b) : EReal) := by
  pointwise [k0_pay1]
theorem pay2 (s : Vec Ideal S512x2816 .f32) (x : Vec Ideal S2048x512 .bf16) (d : Vec Ideal S1x2048x2816 .bf16) (a : Fin 512) (b : Fin 2816) :
    k0_pay2 s x d (ix2 a b) = (s (ix2 a b) + ∑ k : Fin 2048, x (ix2 k a) * d (ix3 0 k b) : EReal) := by
  pointwise [k0_pay2]
theorem pay4 (s : Vec Ideal S512x2816 .f32) (x : Vec Ideal S2048x512 .bf16) (d : Vec Ideal S1x2048x2816 .bf16) (a : Fin 512) (b : Fin 1408) :
    k0_pay4 s x d (ix3 0 a b) = (s (ix2 a ⟨b.val, by omega⟩) + ∑ k : Fin 2048, x (ix2 k a) * d (ix3 0 k ⟨b.val, by omega⟩) : EReal) := by
  pointwise [k0_pay4, k0_pay3]
theorem pay5 (s : Vec Ideal S512x2816 .f32) (x : Vec Ideal S2048x512 .bf16) (d : Vec Ideal S1x2048x2816 .bf16) (a : Fin 512) (b : Fin 1408) :
    k0_pay5 s x d (ix3 0 a b) = (s (ix2 a ⟨1408 + b.val, by omega⟩) + ∑ k : Fin 2048, x (ix2 k a) * d (ix3 0 k ⟨1408 + b.val, by omega⟩) : EReal) := by
  pointwise [k0_pay5, k0_pay3]

/-- The scratch after the first of four points, and after a middle one. -/
theorem first (t : Fin cfg0.N) (h : t.val % 4 = 0) (a : Fin 512) (b : Fin 2816) :
    (outsAt0 m c t.val t.isLt).2 (ix2 a b) = term m c t a b := by
  rw [outsAt0_A m c t h (by omega) (by omega)]
  frame_out
  exact pay1 _ _ a b
theorem middle (t : Fin cfg0.N) (h : 1 ≤ t.val % 4 ∧ t.val % 4 ≤ 2) (a : Fin 512) (b : Fin 2816) :
    (outsAt0 m c t.val t.isLt).2 (ix2 a b)
      = (outsAt0 m c (t.val - 1) (Nat.lt_of_le_of_lt (Nat.sub_le _ _) t.isLt)).2 (ix2 a b) + term m c t a b := by
  rw [outsAt0_B m c t (by omega) h (by omega)]
  frame_out
  simp only [read_unread_whole]
  exact pay2 _ _ _ a b

/-- The product's column of an element of the output's block. -/
def cat (y : S2x512x1408.Idx) : Fin 2816 := ⟨1408 * (y 0).val + (y 2).val, by have h : (y 0).val < 2 := (y 0).isLt; have h' : (y 2).val < 1408 := (y 2).isLt; omega⟩

/-- The output's block after the last of four points: two column halves. -/
theorem last (t : Fin cfg0.N) (h : t.val % 4 = 3) (y : S2x512x1408.Idx) :
    (outsAt0 m c t.val t.isLt).1 y
      = (outsAt0 m c (t.val - 1) (Nat.lt_of_le_of_lt (Nat.sub_le _ _) t.isLt)).2 (ix2 (y 1) (cat y)) + term m c t (y 1) (cat y) := by
  rw [outsAt0_C m c t (by omega) (by omega) h]
  frame_out
  simp only [read_unread_whole]
  generalize (outsAt0 m c (t.val - 1) _).2 = old
  clear h
  canon_tiles x h
  case piece0 =>
    obtain ⟨o, a, b, rfl⟩ : ∃ (o : Fin 1) (a : Fin 512) (b : Fin 1408), x = ix3 o a b := ⟨x 0, x 1, x 2, eq_ix3 x⟩
    obtain rfl : o = 0 := Subsingleton.elim _ _
    rw [show y 1 = a from Fin.ext h1, show cat y = (⟨1408 + b.val, by omega⟩ : Fin 2816) from Fin.ext (by
      show 1408 * (y 0).val + (y 2).val = _
      rw [h0, h2]; rfl)]
    exact pay5 _ _ _ a b
  case piece1 =>
    obtain ⟨o, a, b, rfl⟩ : ∃ (o : Fin 1) (a : Fin 512) (b : Fin 1408), x = ix3 o a b := ⟨x 0, x 1, x 2, eq_ix3 x⟩
    obtain rfl : o = 0 := Subsingleton.elim _ _
    rw [show y 1 = a from Fin.ext h1, show cat y = (⟨b.val, by omega⟩ : Fin 2816) from Fin.ext (by
      show 1408 * (y 0).val + (y 2).val = _
      rw [h0, h2]; exact Nat.zero_add _)]
    exact pay4 _ _ _ a b

/-- The scratch before the last of four points. -/
theorem three (q : ℕ) (hq : 4 * q + 3 < cfg0.N) (a : Fin 512) (b : Fin 2816) :
    (outsAt0 m c (4 * q + 2) (by omega)).2 (ix2 a b)
      = term m c ⟨4 * q, by omega⟩ a b + term m c ⟨4 * q + 1, by omega⟩ a b + term m c ⟨4 * q + 2, by omega⟩ a b :=
  (middle m c ⟨4 * q + 2, by omega⟩ (by show 1 ≤ (4 * q + 2) % 4 ∧ (4 * q + 2) % 4 ≤ 2; omega) a b).trans
    (congrArg (· + term m c ⟨4 * q + 2, by omega⟩ a b)
      ((middle m c ⟨4 * q + 1, by omega⟩ (by show 1 ≤ (4 * q + 1) % 4 ∧ (4 * q + 1) % 4 ≤ 2; omega) a b).trans
        (congrArg (· + term m c ⟨4 * q + 1, by omega⟩ a b) (first m c ⟨4 * q, by omega⟩ (by show (4 * q) % 4 = 0; omega) a b))))

open Cert.DwReferenceIdeal.Read in
/-- The reference at an element: one product over all rows. -/
theorem ref (x : FVec Ideal S8192x2048 .bf16) (d : FVec Ideal S2x8192x5632 .bf16) (g : Fin 8) (r : Fin 2048) (b : Fin 1408) :
    val_main_v28 (F := Ideal) x d (ix3 g r b)
      = (∑ l : Fin 8192, x (ix2 l r) * d (ix3 (⟨g.val / 4, by omega⟩ : Fin 2) l (⟨1408 * (g.val % 4) + b.val, by omega⟩ : Fin 5632)) : EReal) := by
  fin_cases g
  all_goals
    pointwise [val_main_v1, val_main_v3, val_main_v4, val_main_v5, val_main_v6, val_main_v7, val_main_v8, val_main_v9, val_main_v10, val_main_v11, val_main_v12, val_main_v13,
      val_main_v14, val_main_v15, val_main_v16, val_main_v17, val_main_v18, val_main_v19, val_main_v20, val_main_v21, val_main_v22, val_main_v23, val_main_v24,
      val_main_v25, val_main_v26, val_main_v27, val_main_v28]
    refine Finset.sum_congr rfl fun l _ => (mul_comm _ _).trans (congrArg (x (ix2 l r) * ·) ?_)
    try split
    all_goals first
      | omega
      | exact congrArg (fun v : Fin 5632 => d (ix3 0 l v)) (Fin.ext (by first | omega | (dsimp only; omega) | dsimp only))
      | exact congrArg (fun v : Fin 5632 => d (ix3 1 l v)) (Fin.ext (by first | omega | (dsimp only; omega) | dsimp only))

theorem block_out (t : Fin cfg0.N) (h : t.val % 4 = 3) (g : Fin 2) (a : Fin 512) (b : Fin 1408) :
    (outsAt0 m c t.val t.isLt).1 (ix3 g a b)
      = Cert.DwReferenceIdeal.Read.val_main_v28 (F := Ideal) (ax m c) (ad m c)
          (ix3 (⟨2 * (t.val / 4 % 4) + g.val, by have := g.isLt; omega⟩ : Fin 8)
            (⟨512 * (t.val / 16) + a.val, by have := lt_of_lt_of_eq t.isLt N_0; omega⟩ : Fin 2048) b) := by
  have hN := lt_of_lt_of_eq t.isLt N_0
  have hg := g.isLt
  refine (last m c t h (ix3 g a b)).trans (Eq.trans ?_ (ref _ _ _ _ _).symm)
  obtain ⟨n, hn⟩ := t
  obtain ⟨q, rfl⟩ : ∃ q, n = 4 * q + 3 := ⟨n / 4, by have : n % 4 = 3 := h; omega⟩
  have hq : q < 16 := by have : 4 * q + 3 < 64 := hN; omega
  refine (congrArg (· + term m c ⟨4 * q + 3, hn⟩ a (cat (ix3 g a b))) (three m c q hn a (cat (ix3 g a b)))).trans ?_
  rw [term_eq m c ⟨q / 4, by omega⟩ ⟨q % 4, by omega⟩ 0 _ (by show 4 * q = 16 * (q / 4) + 4 * (q % 4) + 0; omega),
    term_eq m c ⟨q / 4, by omega⟩ ⟨q % 4, by omega⟩ 1 _ (by show 4 * q + 1 = 16 * (q / 4) + 4 * (q % 4) + 1; omega),
    term_eq m c ⟨q / 4, by omega⟩ ⟨q % 4, by omega⟩ 2 _ (by show 4 * q + 2 = 16 * (q / 4) + 4 * (q % 4) + 2; omega),
    term_eq m c ⟨q / 4, by omega⟩ ⟨q % 4, by omega⟩ 3 _ (by show 4 * q + 3 = 16 * (q / 4) + 4 * (q % 4) + 3; omega)]
  refine (Fin.sum_univ_four fun s => part m c ⟨q / 4, by omega⟩ ⟨q % 4, by omega⟩ s a (cat (ix3 g a b))).symm.trans ?_
  refine Fin.sum_mul_add_congr fun s k hl => congrArg₂ (fun u v : EReal => u * v) ?_ ?_
  · refine congrArg (ax m c) (congrArg (ix2 _) (Fin.ext ?_))
    show 512 * (q / 4) + a.val = 512 * ((4 * q + 3) / 16) + a.val
    omega
  · refine congrArg (ad m c) ?_
    refine congrArg₂ (fun (u : Fin 2) (v : Fin 5632) => (ix3 u _ v : S2x8192x5632.Idx)) (Fin.ext ?_) (Fin.ext ?_)
    · show q % 4 / 2 = (2 * ((4 * q + 3) / 4 % 4) + g.val) / 4
      omega
    · show 2816 * (q % 4 % 2) + (1408 * g.val + b.val) = 1408 * ((2 * ((4 * q + 3) / 4 % 4) + g.val) % 4) + b.val
      omega

/-- The output. -/
theorem output : (dats m 0 c).arrAt 2 (cfgs 0).N = Cert.DwReferenceIdeal.Read.val_main_v28 (F := Ideal) (ax m c) (ad m c) := by
  refine (dats m 0 c).arrAt_eq_of_covers 2 _ (by decide +kernel) fun t hf y => ?_
  blk_simp
  have hy0 : (y 0).val < 2 := (y 0).isLt
  have hy1 : (y 1).val < 512 := (y 1).isLt
  have hN := lt_of_lt_of_eq t.isLt N_0
  rw [after0_2, show (win0_2.blk t).view.emb y = ix3 (⟨2 * (t.val / 4 % 4) + (y 0).val, by omega⟩ : Fin 8)
    (⟨512 * (t.val / 16) + (y 1).val, by omega⟩ : Fin 2048) (y 2) by blk_ext [idx t]]
  refine (congrArg (outsAt0 m c t.val t.isLt).1 (eq_ix3 y)).trans ?_
  exact block_out m c t ((flush0_2 t).mp hf) (y 0) (y 1) (y 2)

end Cert.DwKernelIdeal.Value
end
-- ==== Proof.DwClaim.lean ====
/- Kernel and reference end with the same gradient of the first feed-forward weight. -/
module

public import proofs.«01_k».proof.Defs
public import proofs.«01_k».proof.Proof.DwValue
public import Idealize.ShloMosaic.Lib.Claim

@[expose] public section

set_option maxRecDepth 16384

noncomputable section

open Idealize.ShloMosaic Idealize.SL.Sem

namespace Cert.DwClaim

open Cert.DwKernelIdeal

theorem claim : Cert.algebraic_DwKernelIdeal_DwReferenceIdeal := by
  pair_intro
  · run_from Cert.DwKernelIdeal.Value.run_blocks m g
  · run_from Cert.DwReferenceIdeal.Value.run m' g'
    all_goals obtain rfl : c = 0 := Subsingleton.elim _ _
    · rw [Cert.DwKernelIdeal.Value.output m, Cert.DwReferenceIdeal.Read.val_main_v28_eq, (hagree 0).1, (hagree 0).2]

end Cert.DwClaim

end
-- ==== Proof.DxnValue.lean ====
/- The gradient of the normalised input: each block of 512 rows adds four pairs of products of 1408 columns, the reference has one over all 11264. -/
module

public import proofs.«01_k».proof.Proof.Gen.DxnKernelIdeal.Value
public import proofs.«01_k».proof.Proof.Gen.DxnReferenceIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DxnKernelIdeal.Value

open Cert.DxnKernelIdeal Cert.DxnKernelIdeal.Gen

theorem idx : ∀ t : Fin cfg0.N, win0_0.index t = ![t.val % 4 / 2, t.val / 4, t.val % 2] ∧ win0_1.index t = ![t.val % 4, 0, 0]
    ∧ win0_2.index t = ![t.val / 4, 0] :=
  (by decide +kernel : ∀ t : Fin grid0.N, _)

variable (m : (ℓ : Loc nD τ sig) → Buf (Elt Ideal) ℓ) (c : Dev nD)

abbrev aw : FVec Ideal S2048x11264 .f32 := m ((c : Thread nD τ).loc main_arg0)
abbrev ad : FVec Ideal S2x8192x5632 .bf16 := m ((c : Thread nD τ).loc main_arg1)

/-- The output's row of a block's. -/
def row (t : Fin cfg0.N) (a : Fin 512) : Fin 8192 :=
  ⟨512 * (t.val / 4) + a.val, by have h := lt_of_lt_of_eq t.isLt N_0; have := a.isLt; omega⟩

/-- One factor pair of the full product, the gradient's columns counted across both its halves. -/
def fac (r : Fin 8192) (d : Fin 2048) (n : Fin 11264) : EReal :=
  ad m c (ix3 (⟨n.val / 5632, by omega⟩ : Fin 2) r (⟨n.val % 5632, by omega⟩ : Fin 5632)) * aw m c (ix2 d n)

/-- The product of two blocks of 1408 columns. -/
def dot (x : Vec Ideal S1x512x2816 .bf16) (w : Vec Ideal S2x2048x1408 .bf16) (g : Fin 2) (a : Fin 512) (d : Fin 2048) : EReal :=
  ∑ k : Fin 1408, x (ix3 0 a (⟨g.val * 1408 + k.val, by omega⟩ : Fin 2816)) * w (ix3 g d k)
/-- What a point adds. -/
def term (t : Fin cfg0.N) (a : Fin 512) (d : Fin 2048) : EReal :=
  dot (iblk m c 0 t) (iblk m c 1 t) 0 a d + dot (iblk m c 0 t) (iblk m c 1 t) 1 a d

theorem blk_d (t : Fin cfg0.N) (a : Fin 512) (k : Fin 2816) :
    iblk m c 0 t (ix3 0 a k) = ad m c (ix3 (⟨t.val % 4 / 2, by omega⟩ : Fin 2) (row t a) (⟨2816 * (t.val % 2) + k.val, by omega⟩ : Fin 5632)) := by
  blk_ext [iblk, V, idx t, row]
theorem blk_w (t : Fin cfg0.N) (g : Fin 2) (d : Fin 2048) (k : Fin 1408) :
    iblk m c 1 t (ix3 g d k) = aw m c (ix2 d (⟨(2 * (t.val % 4) + g.val) * 1408 + k.val, by omega⟩ : Fin 11264)) := by
  blk_simp [iblk]
  entry_read
  pointwise
  blk_ext [idx t]

theorem term_eq (t : Fin cfg0.N) (a : Fin 512) (d : Fin 2048) :
    term m c t a d = ∑ g : Fin 2, ∑ k : Fin 1408, fac m c (row t a) d (⟨(2 * (t.val % 4) + g.val) * 1408 + k.val, by omega⟩ : Fin 11264) := by
  rw [Fin.sum_univ_two]
  unfold term dot fac
  refine congrArg₂ (fun x y : EReal => x + y) ?_ ?_
  all_goals
    refine Finset.sum_congr rfl fun k _ => congrArg₂ (fun x y : EReal => x * y) ?_ (blk_w m c t _ d k)
    rw [blk_d]
    blk_ext

/-- The payloads: a product of two pairs of blocks, alone and added to the scratch. -/
theorem pay1 (p q : Vec Ideal S1x512x1408 .bf16) (v w : Vec Ideal S1x2048x1408 .bf16) (a : Fin 512) (d : Fin 2048) :
    k0_pay1 p v q w (ix2 a d) = ((∑ k : Fin 1408, p (ix3 0 a k) * v (ix3 0 d k)) + ∑ k : Fin 1408, q (ix3 0 a k) * w (ix3 0 d k) : EReal) := by
  pointwise [k0_pay1]
theorem pay2 (s : Vec Ideal S512x2048 .f32) (p q : Vec Ideal S1x512x1408 .bf16) (v w : Vec Ideal S1x2048x1408 .bf16) (a : Fin 512) (d : Fin 2048) :
    k0_pay2 s p v q w (ix2 a d) = (s (ix2 a d) + ((∑ k : Fin 1408, p (ix3 0 a k) * v (ix3 0 d k)) + ∑ k : Fin 1408, q (ix3 0 a k) * w (ix3 0 d k)) : EReal) := by
  pointwise [k0_pay2]
theorem pay3 (s : Vec Ideal S512x2048 .f32) (p q : Vec Ideal S1x512x1408 .bf16) (v w : Vec Ideal S1x2048x1408 .bf16) (a : Fin 512) (d : Fin 2048) :
    k0_pay3 s p v q w (ix2 a d) = (s (ix2 a d) + ((∑ k : Fin 1408, p (ix3 0 a k) * v (ix3 0 d k)) + ∑ k : Fin 1408, q (ix3 0 a k) * w (ix3 0 d k)) : EReal) := by
  pointwise [k0_pay3]

/-- The pairs of blocks, as they are read. -/
theorem halves (x : Vec Ideal S1x512x2816 .bf16) (w : Vec Ideal S2x2048x1408 .bf16) (a : Fin 512) (d : Fin 2048) :
    ((∑ k : Fin 1408, View.ld x (Rect.unit ![0, 0, 0] ![1, 512, 1408] inb_S1x512x2816_S1x512x1408_0_0_0) (ix3 0 a k)
        * View.ld w (Rect.unit ![0, 0, 0] ![1, 2048, 1408] inb_S2x2048x1408_S1x2048x1408_0_0_0) (ix3 0 d k))
      + ∑ k : Fin 1408, View.ld x (Rect.unit ![0, 0, 1408] ![1, 512, 1408] inb_S1x512x2816_S1x512x1408_0_0_1408) (ix3 0 a k)
        * View.ld w (Rect.unit ![1, 0, 0] ![1, 2048, 1408] inb_S2x2048x1408_S1x2048x1408_1_0_0) (ix3 0 d k) : EReal)
      = dot x w 0 a d + dot x w 1 a d := by
  unfold dot
  refine congrArg₂ (fun u v : EReal => u + v) ?_ ?_
  all_goals
    refine Finset.sum_congr rfl fun k _ => congrArg₂ (fun u v : EReal => u * v) ?_ ?_
    all_goals pointwise
    all_goals blk_ext

/-- The scratch after the first of four points and after a middle one, the output's block after the last. -/
theorem first (t : Fin cfg0.N) (h : t.val % 4 = 0) (a : Fin 512) (d : Fin 2048) :
    (outsAt0 m c t.val t.isLt).2 (ix2 a d) = term m c t a d := by
  rw [outsAt0_A m c t h (by omega) (by omega)]
  frame_out
  exact (pay1 _ _ _ _ a d).trans (halves _ _ a d)
theorem middle (t : Fin cfg0.N) (h : 1 ≤ t.val % 4 ∧ t.val % 4 ≤ 2) (a : Fin 512) (d : Fin 2048) :
    (outsAt0 m c t.val t.isLt).2 (ix2 a d)
      = (outsAt0 m c (t.val - 1) (Nat.lt_of_le_of_lt (Nat.sub_le _ _) t.isLt)).2 (ix2 a d) + term m c t a d := by
  rw [outsAt0_B m c t (by omega) h (by omega)]
  frame_out
  simp only [read_unread_whole]
  exact (pay2 _ _ _ _ _ a d).trans (congrArg (_ + ·) (halves _ _ a d))
theorem last (t : Fin cfg0.N) (h : t.val % 4 = 3) (a : Fin 512) (d : Fin 2048) :
    (outsAt0 m c t.val t.isLt).1 (ix2 a d)
      = (outsAt0 m c (t.val - 1) (Nat.lt_of_le_of_lt (Nat.sub_le _ _) t.isLt)).2 (ix2 a d) + term m c t a d := by
  rw [outsAt0_C m c t (by omega) (by omega) h]
  frame_out
  simp only [read_unread_whole]
  exact (pay3 _ _ _ _ _ a d).trans (congrArg (_ + ·) (halves _ _ a d))

/-- The scratch before the last of four points. -/
theorem three (q : ℕ) (hq : 4 * q + 3 < cfg0.N) (a : Fin 512) (d : Fin 2048) :
    (outsAt0 m c (4 * q + 2) (by omega)).2 (ix2 a d)
      = term m c ⟨4 * q, by omega⟩ a d + term m c ⟨4 * q + 1, by omega⟩ a d + term m c ⟨4 * q + 2, by omega⟩ a d :=
  (middle m c ⟨4 * q + 2, by omega⟩ (by show 1 ≤ (4 * q + 2) % 4 ∧ (4 * q + 2) % 4 ≤ 2; omega) a d).trans
    (congrArg (· + term m c ⟨4 * q + 2, by omega⟩ a d)
      ((middle m c ⟨4 * q + 1, by omega⟩ (by show 1 ≤ (4 * q + 1) % 4 ∧ (4 * q + 1) % 4 ≤ 2; omega) a d).trans
        (congrArg (· + term m c ⟨4 * q + 1, by omega⟩ a d) (first m c ⟨4 * q, by omega⟩ (by show (4 * q) % 4 = 0; omega) a d))))

/-- The reference at an element: one product over all columns. -/
theorem ref (r : Fin 8192) (d : Fin 2048) :
    Cert.DxnReferenceIdeal.Read.val_main_v9 (F := Ideal) (aw m c) (ad m c) (ix2 r d) = (∑ n : Fin 11264, fac m c r d n : EReal) := by
  rw [← Cert.DxnReferenceIdeal.Read.val_main_v9_eq]
  pointwise
  refine Eq.trans ?_ (Fin.sum_mul_add_congr (S := 2) (n := 5632) (F := fun h x => fac m c r d (⟨h.val * 5632 + x.val, by omega⟩ : Fin 11264))
    fun h x hl => rfl)
  rw [Fin.sum_univ_two]
  refine congrArg₂ (fun u v : EReal => u + v) (Finset.sum_congr rfl fun x _ => ?_) (Finset.sum_congr rfl fun x _ => ?_)
  all_goals
    unfold fac
    refine congrArg₂ (fun u v : EReal => u * v) (congrArg (ad m c) ?_) (congrArg (aw m c) (congrArg (ix2 d) (Fin.ext ?_)))
    on_goal 1 => refine congrArg₂ (fun (u : Fin 2) (v : Fin 5632) => (ix3 u r v : S2x8192x5632.Idx)) (Fin.ext ?_) (Fin.ext ?_)
  · show 0 = (0 * 5632 + x.val) / 5632
    omega
  · show x.val = (0 * 5632 + x.val) % 5632
    omega
  · show x.val = 0 * 5632 + x.val
    omega
  · show 1 = (1 * 5632 + x.val) / 5632
    omega
  · show x.val = (1 * 5632 + x.val) % 5632
    omega
  · show 5632 + x.val = 1 * 5632 + x.val
    omega

theorem block_out (t : Fin cfg0.N) (h : t.val % 4 = 3) (a : Fin 512) (d : Fin 2048) :
    (outsAt0 m c t.val t.isLt).1 (ix2 a d) = Cert.DxnReferenceIdeal.Read.val_main_v9 (F := Ideal) (aw m c) (ad m c) (ix2 (row t a) d) := by
  have hN := lt_of_lt_of_eq t.isLt N_0
  rw [last m c t h, ref]
  obtain ⟨n, hn⟩ := t
  obtain ⟨q, rfl⟩ : ∃ q, n = 4 * q + 3 := ⟨n / 4, by have : n % 4 = 3 := h; omega⟩
  refine (congrArg (· + _) (three m c q hn a d)).trans ?_
  have e (s : Fin 4) (hs : 4 * q + s.val < cfg0.N) : term m c ⟨4 * q + s.val, hs⟩ a d
      = ∑ g : Fin 2, ∑ k : Fin 1408, fac m c (row ⟨4 * q + 3, hn⟩ a) d (⟨(s.val * 2 + g.val) * 1408 + k.val, by omega⟩ : Fin 11264) := by
    rw [term_eq]
    refine Finset.sum_congr rfl fun g _ => Finset.sum_congr rfl fun k _ => ?_
    refine congrArg₂ (fun u v => fac m c u d v) (Fin.ext ?_) (Fin.ext ?_)
    · show 512 * ((4 * q + s.val) / 4) + a.val = 512 * ((4 * q + 3) / 4) + a.val
      omega
    · show (2 * ((4 * q + s.val) % 4) + g.val) * 1408 + k.val = (s.val * 2 + g.val) * 1408 + k.val
      omega
  refine (congrArg₂ (fun u v : EReal => u + v) (congrArg₂ (fun u v : EReal => u + v) (congrArg₂ (fun u v : EReal => u + v) (e 0 _) (e 1 _)) (e 2 _)) (e 3 _)).trans ?_
  refine (Fin.sum_univ_four fun s : Fin 4 => ∑ g : Fin 2, ∑ k : Fin 1408,
    fac m c (row ⟨4 * q + 3, hn⟩ a) d (⟨(s.val * 2 + g.val) * 1408 + k.val, by omega⟩ : Fin 11264)).symm.trans ?_
  refine (Fin.sum_mul_add_congr (L := 8) (f := fun g : Fin 8 => ∑ k : Fin 1408, fac m c (row ⟨4 * q + 3, hn⟩ a) d (⟨g.val * 1408 + k.val, by omega⟩ : Fin 11264))
    fun s g hl => rfl).trans ?_
  exact Fin.sum_mul_add_congr fun g k hl => rfl

/-- The output. -/
theorem output : (dats m 0 c).arrAt 2 (cfgs 0).N = Cert.DxnReferenceIdeal.Read.val_main_v9 (F := Ideal) (aw m c) (ad m c) := by
  refine (dats m 0 c).arrAt_eq_of_covers 2 _ (by decide +kernel) fun t hf y => ?_
  blk_simp
  rw [after0_2, show (win0_2.blk t).view.emb y = ix2 (row t (y 0)) (y 1) by blk_ext [idx t, row], eq_ix2 y]
  exact block_out m c t ((flush0_2 t).mp hf) (y 0) (y 1)

end Cert.DxnKernelIdeal.Value
end
-- ==== Proof.DxnClaim.lean ====
/- Kernel and reference end with the same gradient of the normalised input. -/
module

public import proofs.«01_k».proof.Defs
public import proofs.«01_k».proof.Proof.DxnValue
public import Idealize.ShloMosaic.Lib.Claim

@[expose] public section

set_option maxRecDepth 16384

noncomputable section

open Idealize.ShloMosaic Idealize.SL.Sem

namespace Cert.DxnClaim

open Cert.DxnKernelIdeal

theorem claim : Cert.algebraic_DxnKernelIdeal_DxnReferenceIdeal := by
  pair_intro
  · run_from Cert.DxnKernelIdeal.Value.run_blocks m g
  · run_from Cert.DxnReferenceIdeal.Value.run m' g'
    all_goals obtain rfl : c = 0 := Subsingleton.elim _ _
    · rw [Cert.DxnKernelIdeal.Value.output m, Cert.DxnReferenceIdeal.Read.val_main_v9_eq]

end Cert.DxnClaim

end
-- ==== Proof.AdamValue.lean ====
/- The optimiser on the sharded weight: the kernel adds the partial gradients block by block and takes the step, as the reference does over the arrays. -/
module

public import proofs.«01_k».proof.Proof.Gen.AdamKernelIdeal.Value
public import proofs.«01_k».proof.Proof.Gen.AdamReferenceIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AdamKernelIdeal.Value

open Cert.AdamKernelIdeal Cert.AdamKernelIdeal.Gen
open Cert.AdamReferenceIdeal.Read

theorem idx : ∀ t : Fin cfg0.N, win0_2.index t = ![t.val / 8, t.val % 8, 0] ∧ win0_3.index t = ![t.val / 8, t.val % 8, 0]
    ∧ win0_4.index t = ![t.val / 8, t.val % 8, 0] ∧ win0_5.index t = ![t.val / 8, t.val % 8, 0] ∧ win0_6.index t = ![t.val / 8, t.val % 8, 0]
    ∧ win0_7.index t = ![t.val / 8, t.val % 8, 0] ∧ win0_8.index t = ![t.val / 8, t.val % 8, 0] :=
  (by decide +kernel : ∀ t : Fin grid0.N, _)
theorem idx0 : ∀ t : Fin cfg0.N, t.val < 8 → win0_0.index t = ![0, t.val % 8, 0] :=
  (by decide +kernel : ∀ t : Fin grid0.N, _)
theorem idx1 : ∀ t : Fin cfg0.N, 8 ≤ t.val → win0_1.index t = ![0, t.val % 8, 0] :=
  (by decide +kernel : ∀ t : Fin grid0.N, _)

variable (m : (ℓ : Loc nD τ sig) → Buf (Elt Ideal) ℓ) (c : Dev nD)

abbrev ap : FVec Ideal S8x2048x1408 .bf16 := m ((c : Thread nD τ).loc main_arg0)
abbrev aq : FVec Ideal S8x2048x1408 .bf16 := m ((c : Thread nD τ).loc main_arg1)
abbrev aw : FVec Ideal S2x2048x1408 .f32 := m ((c : Thread nD τ).loc main_arg2)
abbrev am : FVec Ideal S2x2048x1408 .f32 := m ((c : Thread nD τ).loc main_arg3)
abbrev av : FVec Ideal S2x2048x1408 .f32 := m ((c : Thread nD τ).loc main_arg4)

/-- The layer of a point, and the array row of a block's. -/
def lay (t : Fin cfg0.N) : Fin 2 := ⟨t.val / 8, by have h := lt_of_lt_of_eq t.isLt N_0; omega⟩
def row (t : Fin cfg0.N) (a : Fin 256) : Fin 2048 := ⟨256 * (t.val % 8) + a.val, by have := a.isLt; omega⟩

theorem blk_p (t : Fin cfg0.N) (h : t.val < 8) (j : Fin 8) (a : Fin 256) (b : Fin 1408) : iblk m c 0 t (ix3 j a b) = ap m c (ix3 j (row t a) b) := by
  blk_ext [iblk, V, idx0 t h, row]
theorem blk_q (t : Fin cfg0.N) (h : 8 ≤ t.val) (j : Fin 8) (a : Fin 256) (b : Fin 1408) : iblk m c 1 t (ix3 j a b) = aq m c (ix3 j (row t a) b) := by
  blk_ext [iblk, V, idx1 t h, row]
theorem blk_w (t : Fin cfg0.N) (a : Fin 256) (b : Fin 1408) : iblk m c 2 t (ix3 0 a b) = aw m c (ix3 (lay t) (row t a) b) := by
  blk_ext [iblk, V, idx t, row, lay]
theorem blk_m (t : Fin cfg0.N) (a : Fin 256) (b : Fin 1408) : iblk m c 3 t (ix3 0 a b) = am m c (ix3 (lay t) (row t a) b) := by
  blk_ext [iblk, V, idx t, row, lay]
theorem blk_v (t : Fin cfg0.N) (a : Fin 256) (b : Fin 1408) : iblk m c 4 t (ix3 0 a b) = av m c (ix3 (lay t) (row t a) b) := by
  blk_ext [iblk, V, idx t, row, lay]

theorem ref0 (p q : FVec Ideal S8x2048x1408 .bf16) (r : Fin 2048) (b : Fin 1408) :
    (val_main_v6 (F := Ideal) p q (ix3 0 r b) : EReal) = ∑ j : Fin 8, p (ix3 j r b) := by
  pointwise [val_main_v0, val_main_cst, val_main_v1, val_main_v4, val_main_v5, val_main_v6]
theorem ref1 (p q : FVec Ideal S8x2048x1408 .bf16) (r : Fin 2048) (b : Fin 1408) :
    (val_main_v6 (F := Ideal) p q (ix3 1 r b) : EReal) = ∑ j : Fin 8, q (ix3 j r b) := by
  pointwise [val_main_v2, val_main_cst_0, val_main_v3, val_main_v4, val_main_v5, val_main_v6]

/-- The eight devices' partials, added one after another. -/
def sum8 (x : S8x256x1408.Idx → EReal) (a : Fin 256) (b : Fin 1408) : EReal :=
  x (ix3 0 a b) + x (ix3 1 a b) + x (ix3 2 a b) + x (ix3 3 a b) + x (ix3 4 a b) + x (ix3 5 a b) + x (ix3 6 a b) + x (ix3 7 a b)

/-- The summed partials of a block are the reference's gradient there. -/
theorem sum_p (t : Fin cfg0.N) (h : t.val < 8) (a : Fin 256) (b : Fin 1408) :
    sum8 (iblk m c 0 t) a b
      = (val_main_v6 (F := Ideal) (ap m c) (aq m c) (ix3 (lay t) (row t a) b) : EReal) := by
  rw [show lay t = 0 from Fin.ext (by show t.val / 8 = 0; omega), ref0, Fin.sum_univ_eight, sum8]
  simp only [blk_p m c t h]
theorem sum_q (t : Fin cfg0.N) (h : 8 ≤ t.val) (a : Fin 256) (b : Fin 1408) :
    sum8 (iblk m c 1 t) a b
      = (val_main_v6 (F := Ideal) (ap m c) (aq m c) (ix3 (lay t) (row t a) b) : EReal) := by
  have hN := lt_of_lt_of_eq t.isLt N_0
  rw [show lay t = 1 from Fin.ext (by show t.val / 8 = 1; omega), ref1, Fin.sum_univ_eight, sum8]
  simp only [blk_q m c t h]

theorem g_out (t : Fin cfg0.N) (a : Fin 256) (b : Fin 1408) :
    (outsAt0 m c t.val t.isLt).1 (ix3 0 a b) = val_main_v6 (F := Ideal) (ap m c) (aq m c) (ix3 (lay t) (row t a) b) := by
  by_cases h : t.val < 8
  · rw [outsAt0_A m c t h (by omega), ← sum_p m c t h]
    frame_out
    pointwise [k0_pay5, k0_pay9, sum8]
  · rw [outsAt0_B m c t h (by omega), ← sum_q m c t (by omega)]
    frame_out
    pointwise [k0_pay11, k0_pay15, sum8]

theorem d_out (t : Fin cfg0.N) (a : Fin 256) (b : Fin 1408) :
    (outsAt0 m c t.val t.isLt).2.1 (ix3 0 a b) = val_main_v30 (F := Ideal) (ap m c) (aq m c) (aw m c) (am m c) (av m c) (ix3 (lay t) (row t a) b) := by
  pointwise [val_main_cst_1, val_main_v7, val_main_v8, val_main_cst_2, val_main_v9, val_main_v10, val_main_v11, val_main_cst_3, val_main_v12,
    val_main_v13, val_main_v14, val_main_cst_4, val_main_v15, val_main_v16, val_main_v17, val_main_cst_5, val_main_v18, val_main_v19, val_main_cst_6,
    val_main_v20, val_main_v21, val_main_v22, val_main_cst_7, val_main_v23, val_main_v24, val_main_v25, val_main_cst_8, val_main_v26, val_main_v27,
    val_main_v28, val_main_cst_9, val_main_v29, val_main_v30]
  rw [← blk_w, ← blk_m, ← blk_v]
  by_cases h : t.val < 8
  · rw [outsAt0_A m c t h (by omega), ← sum_p m c t h]
    frame_out
    pointwise [k0_pay5, k0_pay6, k0_pay7, k0_pay8, k0_pay10, sum8]
  · rw [outsAt0_B m c t h (by omega), ← sum_q m c t (by omega)]
    frame_out
    pointwise [k0_pay11, k0_pay12, k0_pay13, k0_pay14, k0_pay16, sum8]

theorem m_out (t : Fin cfg0.N) (a : Fin 256) (b : Fin 1408) :
    (outsAt0 m c t.val t.isLt).2.2.1 (ix3 0 a b) = val_main_v11 (F := Ideal) (ap m c) (aq m c) (am m c) (ix3 (lay t) (row t a) b) := by
  pointwise [val_main_cst_1, val_main_v7, val_main_v8, val_main_cst_2, val_main_v9, val_main_v10, val_main_v11]
  rw [← blk_m]
  by_cases h : t.val < 8
  · rw [outsAt0_A m c t h (by omega), ← sum_p m c t h]
    frame_out
    pointwise [k0_pay1, k0_pay5, k0_pay7, sum8]
  · rw [outsAt0_B m c t h (by omega), ← sum_q m c t (by omega)]
    frame_out
    pointwise [k0_pay3, k0_pay11, k0_pay13, sum8]

theorem v_out (t : Fin cfg0.N) (a : Fin 256) (b : Fin 1408) :
    (outsAt0 m c t.val t.isLt).2.2.2 (ix3 0 a b) = val_main_v17 (F := Ideal) (ap m c) (aq m c) (av m c) (ix3 (lay t) (row t a) b) := by
  pointwise [val_main_cst_3, val_main_v12, val_main_v13, val_main_v14, val_main_cst_4, val_main_v15, val_main_v16, val_main_v17]
  rw [← blk_v]
  by_cases h : t.val < 8
  · rw [outsAt0_A m c t h (by omega), ← sum_p m c t h]
    frame_out
    pointwise [k0_pay2, k0_pay5, k0_pay8, sum8]
  · rw [outsAt0_B m c t h (by omega), ← sum_q m c t (by omega)]
    frame_out
    pointwise [k0_pay4, k0_pay11, k0_pay14, sum8]

/-- A block's elements. -/
theorem eq_elem (y : S1x256x1408.Idx) : y = ix3 0 (y 1) (y 2) := by
  conv_lhs => rw [eq_ix3 y]
  congr 1
  exact Subsingleton.elim _ _

/-- The outputs: the gradient, the step, the two moments. -/
theorem output_g : (dats m 0 c).arrAt 5 (cfgs 0).N = val_main_v6 (F := Ideal) (ap m c) (aq m c) := by
  refine (dats m 0 c).arrAt_eq_of_covers 5 _ (by decide +kernel) fun t _ y => ?_
  blk_simp
  rw [after0_5, show (win0_5.blk t).view.emb y = ix3 (lay t) (row t (y 1)) (y 2) by blk_ext [idx t, row, lay]]
  exact (congrArg _ (eq_elem y)).trans (g_out m c t (y 1) (y 2))
theorem output_d : (dats m 0 c).arrAt 6 (cfgs 0).N = val_main_v30 (F := Ideal) (ap m c) (aq m c) (aw m c) (am m c) (av m c) := by
  refine (dats m 0 c).arrAt_eq_of_covers 6 _ (by decide +kernel) fun t _ y => ?_
  blk_simp
  rw [after0_6, show (win0_6.blk t).view.emb y = ix3 (lay t) (row t (y 1)) (y 2) by blk_ext [idx t, row, lay]]
  exact (congrArg _ (eq_elem y)).trans (d_out m c t (y 1) (y 2))
theorem output_m : (dats m 0 c).arrAt 7 (cfgs 0).N = val_main_v11 (F := Ideal) (ap m c) (aq m c) (am m c) := by
  refine (dats m 0 c).arrAt_eq_of_covers 7 _ (by decide +kernel) fun t _ y => ?_
  blk_simp
  rw [after0_7, show (win0_7.blk t).view.emb y = ix3 (lay t) (row t (y 1)) (y 2) by blk_ext [idx t, row, lay]]
  exact (congrArg _ (eq_elem y)).trans (m_out m c t (y 1) (y 2))
theorem output_v : (dats m 0 c).arrAt 8 (cfgs 0).N = val_main_v17 (F := Ideal) (ap m c) (aq m c) (av m c) := by
  refine (dats m 0 c).arrAt_eq_of_covers 8 _ (by decide +kernel) fun t _ y => ?_
  blk_simp
  rw [after0_8, show (win0_8.blk t).view.emb y = ix3 (lay t) (row t (y 1)) (y 2) by blk_ext [idx t, row, lay]]
  exact (congrArg _ (eq_elem y)).trans (v_out m c t (y 1) (y 2))

end Cert.AdamKernelIdeal.Value
end
-- ==== Proof.AdamClaim.lean ====
/- Kernel and reference end with the same summed gradient, step and moments. -/
module

public import proofs.«01_k».proof.Defs
public import proofs.«01_k».proof.Proof.AdamValue
public import Idealize.ShloMosaic.Lib.Claim

@[expose] public section

set_option maxRecDepth 16384

noncomputable section

open Idealize.ShloMosaic Idealize.SL.Sem

namespace Cert.AdamClaim

open Cert.AdamKernelIdeal

theorem claim : Cert.algebraic_AdamKernelIdeal_AdamReferenceIdeal := by
  pair_intro
  · run_from Cert.AdamKernelIdeal.Value.run_blocks m g
  · run_from Cert.AdamReferenceIdeal.Value.run m' g'
    all_goals obtain rfl : c = 0 := Subsingleton.elim _ _
    · rw [Cert.AdamKernelIdeal.Value.output_g m, Cert.AdamReferenceIdeal.Read.val_main_v6_eq]
    · rw [Cert.AdamKernelIdeal.Value.output_d m, Cert.AdamReferenceIdeal.Read.val_main_v30_eq]
    · rw [Cert.AdamKernelIdeal.Value.output_m m, Cert.AdamReferenceIdeal.Read.val_main_v11_eq]
    · rw [Cert.AdamKernelIdeal.Value.output_v m, Cert.AdamReferenceIdeal.Read.val_main_v17_eq]

end Cert.AdamClaim

end
-- ==== Proof.FlatClaim.lean ====
/- Kernel and reference end with the same step and the same two moments. -/
module

public import proofs.«01_k».proof.Defs
public import proofs.«01_k».proof.Proof.Gen.FlatKernelIdeal.Value
public import proofs.«01_k».proof.Proof.Gen.FlatReferenceIdeal.Run
public import Idealize.ShloMosaic.Lib.Pipeline.ReadBack
public import Idealize.ShloMosaic.Lib.Pipeline.ValueKit
public import Idealize.ShloMosaic.Lib.Claim

@[expose] public section

set_option maxRecDepth 16384

noncomputable section

open Idealize.ShloMosaic Idealize.SL.Sem

namespace Cert.FlatClaim

open Cert.FlatKernelIdeal

theorem claim : Cert.algebraic_FlatKernelIdeal_FlatReferenceIdeal := by
  pair_intro
  · run_from Cert.FlatKernelIdeal.Value.run m g
  · run_from Cert.FlatReferenceIdeal.Value.run m' g'
    all_goals obtain rfl : c = 0 := Subsingleton.elim _ _
    all_goals funext i
    · pointwise
    · pointwise
    · pointwise

end Cert.FlatClaim

end
-- ==== Proof.lean ====
module

public import proofs.«01_k».proof.Defs
public import proofs.«01_k».proof.Proof.Gen.GainKernel
public import proofs.«01_k».proof.Proof.Gen.GainKernel.Skeleton
public import proofs.«01_k».proof.Proof.Gen.GainKernel.Launch
public import proofs.«01_k».proof.Proof.Gen.GainKernel.Points
public import proofs.«01_k».proof.Proof.Gen.GainKernel.Frame
public import proofs.«01_k».proof.Proof.Gen.GainKernelIdeal
public import proofs.«01_k».proof.Proof.Gen.GainKernelIdeal.Skeleton
public import proofs.«01_k».proof.Proof.Gen.GainKernelIdeal.Launch
public import proofs.«01_k».proof.Proof.Gen.GainKernelIdeal.Points
public import proofs.«01_k».proof.Proof.Gen.GainKernelIdeal.Frame
public import proofs.«01_k».proof.Proof.Gen.GainReferenceIdeal
public import proofs.«01_k».proof.Proof.Gen.GainKernelIdeal.Value
public import proofs.«01_k».proof.Proof.Gen.GainReferenceIdeal.Read
public import proofs.«01_k».proof.Proof.GainClaim
public import proofs.«01_k».proof.Proof.Gen.NormKernel
public import proofs.«01_k».proof.Proof.Gen.NormKernel.Skeleton
public import proofs.«01_k».proof.Proof.Gen.NormKernel.Launch
public import proofs.«01_k».proof.Proof.Gen.NormKernel.Points
public import proofs.«01_k».proof.Proof.Gen.NormKernel.Frame
public import proofs.«01_k».proof.Proof.Gen.NormKernelIdeal
public import proofs.«01_k».proof.Proof.Gen.NormKernelIdeal.Skeleton
public import proofs.«01_k».proof.Proof.Gen.NormKernelIdeal.Launch
public import proofs.«01_k».proof.Proof.Gen.NormKernelIdeal.Points
public import proofs.«01_k».proof.Proof.Gen.NormKernelIdeal.Frame
public import proofs.«01_k».proof.Proof.Gen.NormReferenceIdeal
public import proofs.«01_k».proof.Proof.Gen.NormKernelIdeal.Value
public import proofs.«01_k».proof.Proof.Gen.NormReferenceIdeal.Read
public import proofs.«01_k».proof.Proof.NormClaim
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossReferenceIdeal
public import proofs.«01_k».proof.Proof.Gen.LossKernelIdeal.Value
public import proofs.«01_k».proof.Proof.Gen.LossReferenceIdeal.Read
public import proofs.«01_k».proof.Proof.LossClaim
public import proofs.«01_k».proof.Proof.Gen.AttnKernel
public import proofs.«01_k».proof.Proof.Gen.AttnKernel.Skeleton
public import proofs.«01_k».proof.Proof.Gen.AttnKernel.Launch
public import proofs.«01_k».proof.Proof.Gen.AttnKernel.Points
public import proofs.«01_k».proof.Proof.Gen.AttnKernel.Frame
public import proofs.«01_k».proof.Proof.Gen.AttnKernelIdeal
public import proofs.«01_k».proof.Proof.Gen.AttnKernelIdeal.Skeleton
public import proofs.«01_k».proof.Proof.Gen.AttnKernelIdeal.Launch
public import proofs.«01_k».proof.Proof.Gen.AttnKernelIdeal.Points
public import proofs.«01_k».proof.Proof.Gen.AttnKernelIdeal.Frame
public import proofs.«01_k».proof.Proof.Gen.AttnReferenceIdeal
public import proofs.«01_k».proof.Proof.Gen.AttnKernelIdeal.Value
public import proofs.«01_k».proof.Proof.Gen.AttnReferenceIdeal.Read
public import proofs.«01_k».proof.Proof.AttnClaim
public import proofs.«01_k».proof.Proof.Gen.ConvKernel
public import proofs.«01_k».proof.Proof.Gen.ConvKernel.Skeleton
public import proofs.«01_k».proof.Proof.Gen.ConvKernel.Launch
public import proofs.«01_k».proof.Proof.Gen.ConvKernel.Points
public import proofs.«01_k».proof.Proof.Gen.ConvKernel.Frame
public import proofs.«01_k».proof.Proof.Gen.ConvKernelIdeal
public import proofs.«01_k».proof.Proof.Gen.ConvKernelIdeal.Skeleton
public import proofs.«01_k».proof.Proof.Gen.ConvKernelIdeal.Launch
public import proofs.«01_k».proof.Proof.Gen.ConvKernelIdeal.Points
public import proofs.«01_k».proof.Proof.Gen.ConvKernelIdeal.Frame
public import proofs.«01_k».proof.Proof.Gen.ConvReferenceIdeal
public import proofs.«01_k».proof.Proof.Gen.ConvKernelIdeal.Value
public import proofs.«01_k».proof.Proof.Gen.ConvReferenceIdeal.Read
public import proofs.«01_k».proof.Proof.ConvClaim
public import proofs.«01_k».proof.Proof.Gen.GmlpKernel
public import proofs.«01_k».proof.Proof.Gen.GmlpKernel.Skeleton
public import proofs.«01_k».proof.Proof.Gen.GmlpKernel.Launch
public import proofs.«01_k».proof.Proof.Gen.GmlpKernel.Points
public import proofs.«01_k».proof.Proof.Gen.GmlpKernel.Frame
public import proofs.«01_k».proof.Proof.Gen.GmlpKernelIdeal
public import proofs.«01_k».proof.Proof.Gen.GmlpKernelIdeal.Skeleton
public import proofs.«01_k».proof.Proof.Gen.GmlpKernelIdeal.Launch
public import proofs.«01_k».proof.Proof.Gen.GmlpKernelIdeal.Points
public import proofs.«01_k».proof.Proof.Gen.GmlpKernelIdeal.Frame
public import proofs.«01_k».proof.Proof.Gen.GmlpReferenceIdeal
public import proofs.«01_k».proof.Proof.Gen.GmlpKernelIdeal.Value
public import proofs.«01_k».proof.Proof.Gen.GmlpReferenceIdeal.Read
public import proofs.«01_k».proof.Proof.GmlpClaim
public import proofs.«01_k».proof.Proof.Gen.RmsFwdKernel
public import proofs.«01_k».proof.Proof.Gen.RmsFwdKernel.Skeleton
public import proofs.«01_k».proof.Proof.Gen.RmsFwdKernel.Launch
public import proofs.«01_k».proof.Proof.Gen.RmsFwdKernel.Points
public import proofs.«01_k».proof.Proof.Gen.RmsFwdKernel.Frame
public import proofs.«01_k».proof.Proof.Gen.RmsFwdKernelIdeal
public import proofs.«01_k».proof.Proof.Gen.RmsFwdKernelIdeal.Skeleton
public import proofs.«01_k».proof.Proof.Gen.RmsFwdKernelIdeal.Launch
public import proofs.«01_k».proof.Proof.Gen.RmsFwdKernelIdeal.Points
public import proofs.«01_k».proof.Proof.Gen.RmsFwdKernelIdeal.Frame
public import proofs.«01_k».proof.Proof.Gen.RmsFwdReferenceIdeal
public import proofs.«01_k».proof.Proof.Gen.RmsFwdKernelIdeal.Value
public import proofs.«01_k».proof.Proof.Gen.RmsFwdReferenceIdeal.Read
public import proofs.«01_k».proof.Proof.RmsFwdClaim
public import proofs.«01_k».proof.Proof.Gen.AttnFwdKernel
public import proofs.«01_k».proof.Proof.Gen.AttnFwdKernel.Skeleton
public import proofs.«01_k».proof.Proof.Gen.AttnFwdKernel.Launch
public import proofs.«01_k».proof.Proof.Gen.AttnFwdKernel.Points
public import proofs.«01_k».proof.Proof.Gen.AttnFwdKernel.Frame
public import proofs.«01_k».proof.Proof.Gen.AttnFwdKernelIdeal
public import proofs.«01_k».proof.Proof.Gen.AttnFwdKernelIdeal.Skeleton
public import proofs.«01_k».proof.Proof.Gen.AttnFwdKernelIdeal.Launch
public import proofs.«01_k».proof.Proof.Gen.AttnFwdKernelIdeal.Points
public import proofs.«01_k».proof.Proof.Gen.AttnFwdKernelIdeal.Frame
public import proofs.«01_k».proof.Proof.Gen.AttnFwdReferenceIdeal
public import proofs.«01_k».proof.Proof.Gen.AttnFwdKernelIdeal.Value
public import proofs.«01_k».proof.Proof.Gen.AttnFwdReferenceIdeal.Read
public import proofs.«01_k».proof.Proof.AttnFwdClaim
public import proofs.«01_k».proof.Proof.Gen.ConvFwdKernel
public import proofs.«01_k».proof.Proof.Gen.ConvFwdKernel.Skeleton
public import proofs.«01_k».proof.Proof.Gen.ConvFwdKernel.Launch
public import proofs.«01_k».proof.Proof.Gen.ConvFwdKernel.Points
public import proofs.«01_k».proof.Proof.Gen.ConvFwdKernel.Frame
public import proofs.«01_k».proof.Proof.Gen.ConvFwdKernelIdeal
public import proofs.«01_k».proof.Proof.Gen.ConvFwdKernelIdeal.Skeleton
public import proofs.«01_k».proof.Proof.Gen.ConvFwdKernelIdeal.Launch
public import proofs.«01_k».proof.Proof.Gen.ConvFwdKernelIdeal.Points
public import proofs.«01_k».proof.Proof.Gen.ConvFwdKernelIdeal.Frame
public import proofs.«01_k».proof.Proof.Gen.ConvFwdReferenceIdeal
public import proofs.«01_k».proof.Proof.Gen.ConvFwdKernelIdeal.Value
public import proofs.«01_k».proof.Proof.Gen.ConvFwdReferenceIdeal.Read
public import proofs.«01_k».proof.Proof.ConvFwdClaim
public import proofs.«01_k».proof.Proof.Gen.GmlpFwdKernel
public import proofs.«01_k».proof.Proof.Gen.GmlpFwdKernel.Skeleton
public import proofs.«01_k».proof.Proof.Gen.GmlpFwdKernel.Launch
public import proofs.«01_k».proof.Proof.Gen.GmlpFwdKernel.Points
public import proofs.«01_k».proof.Proof.Gen.GmlpFwdKernel.Frame
public import proofs.«01_k».proof.Proof.Gen.GmlpFwdKernelIdeal
public import proofs.«01_k».proof.Proof.Gen.GmlpFwdKernelIdeal.Skeleton
public import proofs.«01_k».proof.Proof.Gen.GmlpFwdKernelIdeal.Launch
public import proofs.«01_k».proof.Proof.Gen.GmlpFwdKernelIdeal.Points
public import proofs.«01_k».proof.Proof.Gen.GmlpFwdKernelIdeal.Frame
public import proofs.«01_k».proof.Proof.Gen.GmlpFwdReferenceIdeal
public import proofs.«01_k».proof.Proof.Gen.GmlpFwdKernelIdeal.Value
public import proofs.«01_k».proof.Proof.Gen.GmlpFwdReferenceIdeal.Read
public import proofs.«01_k».proof.Proof.GmlpFwdClaim
public import proofs.«01_k».proof.Proof.Gen.ProjKernel
public import proofs.«01_k».proof.Proof.Gen.ProjKernel.Skeleton
public import proofs.«01_k».proof.Proof.Gen.ProjKernel.Loops
public import proofs.«01_k».proof.Proof.Gen.ProjKernel.Launch
public import proofs.«01_k».proof.Proof.Gen.ProjKernel.Points
public import proofs.«01_k».proof.Proof.Gen.ProjKernel.Frame
public import proofs.«01_k».proof.Proof.Gen.ProjKernelIdeal
public import proofs.«01_k».proof.Proof.Gen.ProjKernelIdeal.Skeleton
public import proofs.«01_k».proof.Proof.Gen.ProjKernelIdeal.Loops
public import proofs.«01_k».proof.Proof.Gen.ProjKernelIdeal.Launch
public import proofs.«01_k».proof.Proof.Gen.ProjKernelIdeal.Points
public import proofs.«01_k».proof.Proof.Gen.ProjKernelIdeal.Frame
public import proofs.«01_k».proof.Proof.Gen.ProjReferenceIdeal
public import proofs.«01_k».proof.Proof.Gen.ProjKernelIdeal.Value
public import proofs.«01_k».proof.Proof.Gen.ProjReferenceIdeal.Read
public import proofs.«01_k».proof.Proof.ProjClaim
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.FfnReferenceIdeal.Read
public import proofs.«01_k».proof.Proof.FfnClaim
public import proofs.«01_k».proof.Proof.Gen.DownKernel
public import proofs.«01_k».proof.Proof.Gen.DownKernel.Skeleton
public import proofs.«01_k».proof.Proof.Gen.DownKernel.Launch
public import proofs.«01_k».proof.Proof.Gen.DownKernel.Points
public import proofs.«01_k».proof.Proof.Gen.DownKernel.Frame
public import proofs.«01_k».proof.Proof.Gen.DownKernelIdeal
public import proofs.«01_k».proof.Proof.Gen.DownKernelIdeal.Skeleton
public import proofs.«01_k».proof.Proof.Gen.DownKernelIdeal.Launch
public import proofs.«01_k».proof.Proof.Gen.DownKernelIdeal.Points
public import proofs.«01_k».proof.Proof.Gen.DownKernelIdeal.Frame
public import proofs.«01_k».proof.Proof.Gen.DownReferenceIdeal
public import proofs.«01_k».proof.Proof.Gen.DownKernelIdeal.Value
public import proofs.«01_k».proof.Proof.Gen.DownReferenceIdeal.Read
public import proofs.«01_k».proof.Proof.DownClaim
public import proofs.«01_k».proof.Proof.Gen.DwKernel
public import proofs.«01_k».proof.Proof.Gen.DwKernel.Skeleton
public import proofs.«01_k».proof.Proof.Gen.DwKernel.Launch
public import proofs.«01_k».proof.Proof.Gen.DwKernel.Points
public import proofs.«01_k».proof.Proof.Gen.DwKernel.Frame
public import proofs.«01_k».proof.Proof.Gen.DwKernelIdeal
public import proofs.«01_k».proof.Proof.Gen.DwKernelIdeal.Skeleton
public import proofs.«01_k».proof.Proof.Gen.DwKernelIdeal.Launch
public import proofs.«01_k».proof.Proof.Gen.DwKernelIdeal.Points
public import proofs.«01_k».proof.Proof.Gen.DwKernelIdeal.Frame
public import proofs.«01_k».proof.Proof.Gen.DwReferenceIdeal
public import proofs.«01_k».proof.Proof.Gen.DwKernelIdeal.Value
public import proofs.«01_k».proof.Proof.Gen.DwReferenceIdeal.Read
public import proofs.«01_k».proof.Proof.DwClaim
public import proofs.«01_k».proof.Proof.Gen.DxnKernel
public import proofs.«01_k».proof.Proof.Gen.DxnKernel.Skeleton
public import proofs.«01_k».proof.Proof.Gen.DxnKernel.Launch
public import proofs.«01_k».proof.Proof.Gen.DxnKernel.Points
public import proofs.«01_k».proof.Proof.Gen.DxnKernel.Frame
public import proofs.«01_k».proof.Proof.Gen.DxnKernelIdeal
public import proofs.«01_k».proof.Proof.Gen.DxnKernelIdeal.Skeleton
public import proofs.«01_k».proof.Proof.Gen.DxnKernelIdeal.Launch
public import proofs.«01_k».proof.Proof.Gen.DxnKernelIdeal.Points
public import proofs.«01_k».proof.Proof.Gen.DxnKernelIdeal.Frame
public import proofs.«01_k».proof.Proof.Gen.DxnReferenceIdeal
public import proofs.«01_k».proof.Proof.Gen.DxnKernelIdeal.Value
public import proofs.«01_k».proof.Proof.Gen.DxnReferenceIdeal.Read
public import proofs.«01_k».proof.Proof.DxnClaim
public import proofs.«01_k».proof.Proof.Gen.AdamKernel
public import proofs.«01_k».proof.Proof.Gen.AdamKernel.Skeleton
public import proofs.«01_k».proof.Proof.Gen.AdamKernel.Launch
public import proofs.«01_k».proof.Proof.Gen.AdamKernel.Points
public import proofs.«01_k».proof.Proof.Gen.AdamKernel.Frame
public import proofs.«01_k».proof.Proof.Gen.AdamKernelIdeal
public import proofs.«01_k».proof.Proof.Gen.AdamKernelIdeal.Skeleton
public import proofs.«01_k».proof.Proof.Gen.AdamKernelIdeal.Launch
public import proofs.«01_k».proof.Proof.Gen.AdamKernelIdeal.Points
public import proofs.«01_k».proof.Proof.Gen.AdamKernelIdeal.Frame
public import proofs.«01_k».proof.Proof.Gen.AdamReferenceIdeal
public import proofs.«01_k».proof.Proof.Gen.AdamKernelIdeal.Value
public import proofs.«01_k».proof.Proof.Gen.AdamReferenceIdeal.Read
public import proofs.«01_k».proof.Proof.AdamClaim
public import proofs.«01_k».proof.Proof.Gen.FlatKernel
public import proofs.«01_k».proof.Proof.Gen.FlatKernel.Skeleton
public import proofs.«01_k».proof.Proof.Gen.FlatKernel.Launch
public import proofs.«01_k».proof.Proof.Gen.FlatKernel.Points
public import proofs.«01_k».proof.Proof.Gen.FlatKernel.Frame
public import proofs.«01_k».proof.Proof.Gen.FlatKernelIdeal
public import proofs.«01_k».proof.Proof.Gen.FlatKernelIdeal.Skeleton
public import proofs.«01_k».proof.Proof.Gen.FlatKernelIdeal.Launch
public import proofs.«01_k».proof.Proof.Gen.FlatKernelIdeal.Points
public import proofs.«01_k».proof.Proof.Gen.FlatKernelIdeal.Frame
public import proofs.«01_k».proof.Proof.Gen.FlatReferenceIdeal
public import proofs.«01_k».proof.Proof.Gen.FlatKernelIdeal.Value
public import proofs.«01_k».proof.Proof.Gen.FlatReferenceIdeal.Read
public import proofs.«01_k».proof.Proof.FlatClaim
public import proofs.«01_k».proof.Proof.Gen.Pre_norm_finite
public import proofs.«01_k».proof.Proof.Gen.Pre_loss_finite
public import proofs.«01_k».proof.Proof.Gen.Pre_attn_finite
public import proofs.«01_k».proof.Proof.Gen.Pre_gmlp_finite
public import proofs.«01_k».proof.Proof.Gen.Pre_proj_finite
public import proofs.«01_k».proof.Proof.Gen.Pre_ffn_finite
public import Idealize.ShloMosaic.Adequacy
public import Idealize.ShloMosaic.Init

@[expose] public section

noncomputable section

namespace Cert.Proof

open Idealize.ShloMosaic Idealize.SL.Sem

theorem frameGain : Cert.quiescent_GainKernel := fun m ρ _ => Cert.GainKernel.Gen.frame m ρ
theorem frameGainI : Cert.quiescent_GainKernelIdeal := fun m ρ _ => Cert.GainKernelIdeal.Gen.frame m ρ
theorem frameGainR : Cert.quiescent_GainReferenceIdeal := fun m ρ _ => (θ_run Cert.GainReferenceIdeal.defs _ _).mono
  (fun r h => ⟨fun c => (h c).2, Idealize.ShloMosaic.sem_eq_zero_of_no_sems (by decide) r.2⟩)
  (Cert.GainReferenceIdeal.Value.run m ρ)

theorem frameNorm : Cert.quiescent_NormKernel := fun m ρ _ => Cert.NormKernel.Gen.frame m ρ
theorem frameNormI : Cert.quiescent_NormKernelIdeal := fun m ρ _ => Cert.NormKernelIdeal.Gen.frame m ρ
theorem frameNormR : Cert.quiescent_NormReferenceIdeal := fun m ρ _ => (θ_run Cert.NormReferenceIdeal.defs _ _).mono
  (fun r h => ⟨fun c => (h c).2.2.2, Idealize.ShloMosaic.sem_eq_zero_of_no_sems (by decide) r.2⟩)
  (Cert.NormReferenceIdeal.Value.run m ρ)

theorem frameLoss : Cert.quiescent_LossKernel := fun m ρ _ => Cert.LossKernel.Gen.frame m ρ
theorem frameLossI : Cert.quiescent_LossKernelIdeal := fun m ρ _ => Cert.LossKernelIdeal.Gen.frame m ρ
theorem frameLossR : Cert.quiescent_LossReferenceIdeal := fun m ρ _ => (θ_run Cert.LossReferenceIdeal.defs _ _).mono
  (fun r h => ⟨fun c => (h c).2.2.2.2, Idealize.ShloMosaic.sem_eq_zero_of_no_sems (by decide) r.2⟩)
  (Cert.LossReferenceIdeal.Value.run m ρ)

theorem frameAttn : Cert.quiescent_AttnKernel := fun m ρ _ => Cert.AttnKernel.Gen.frame m ρ
theorem frameAttnI : Cert.quiescent_AttnKernelIdeal := fun m ρ _ => Cert.AttnKernelIdeal.Gen.frame m ρ
theorem frameAttnR : Cert.quiescent_AttnReferenceIdeal := fun m ρ _ => (θ_run Cert.AttnReferenceIdeal.defs _ _).mono
  (fun r h => ⟨fun c => (h c).2.2, Idealize.ShloMosaic.sem_eq_zero_of_no_sems (by decide) r.2⟩)
  (Cert.AttnReferenceIdeal.Value.run m ρ)

theorem frameConv : Cert.quiescent_ConvKernel := fun m ρ _ => Cert.ConvKernel.Gen.frame m ρ
theorem frameConvI : Cert.quiescent_ConvKernelIdeal := fun m ρ _ => Cert.ConvKernelIdeal.Gen.frame m ρ
theorem frameConvR : Cert.quiescent_ConvReferenceIdeal := fun m ρ _ => (θ_run Cert.ConvReferenceIdeal.defs _ _).mono
  (fun r h => ⟨fun c => (h c).2.2, Idealize.ShloMosaic.sem_eq_zero_of_no_sems (by decide) r.2⟩)
  (Cert.ConvReferenceIdeal.Value.run m ρ)

theorem frameGmlp : Cert.quiescent_GmlpKernel := fun m ρ _ => Cert.GmlpKernel.Gen.frame m ρ
theorem frameGmlpI : Cert.quiescent_GmlpKernelIdeal := fun m ρ _ => Cert.GmlpKernelIdeal.Gen.frame m ρ
theorem frameGmlpR : Cert.quiescent_GmlpReferenceIdeal := fun m ρ _ => (θ_run Cert.GmlpReferenceIdeal.defs _ _).mono
  (fun r h => ⟨fun c => (h c).2.2.2.2.2, Idealize.ShloMosaic.sem_eq_zero_of_no_sems (by decide) r.2⟩)
  (Cert.GmlpReferenceIdeal.Value.run m ρ)

theorem frameRmsFwd : Cert.quiescent_RmsFwdKernel := fun m ρ _ => Cert.RmsFwdKernel.Gen.frame m ρ
theorem frameRmsFwdI : Cert.quiescent_RmsFwdKernelIdeal := fun m ρ _ => Cert.RmsFwdKernelIdeal.Gen.frame m ρ
theorem frameRmsFwdR : Cert.quiescent_RmsFwdReferenceIdeal := fun m ρ _ => (θ_run Cert.RmsFwdReferenceIdeal.defs _ _).mono
  (fun r h => ⟨fun c => (h c).2, Idealize.ShloMosaic.sem_eq_zero_of_no_sems (by decide) r.2⟩)
  (Cert.RmsFwdReferenceIdeal.Value.run m ρ)

theorem frameAttnFwd : Cert.quiescent_AttnFwdKernel := fun m ρ _ => Cert.AttnFwdKernel.Gen.frame m ρ
theorem frameAttnFwdI : Cert.quiescent_AttnFwdKernelIdeal := fun m ρ _ => Cert.AttnFwdKernelIdeal.Gen.frame m ρ
theorem frameAttnFwdR : Cert.quiescent_AttnFwdReferenceIdeal := fun m ρ _ => (θ_run Cert.AttnFwdReferenceIdeal.defs _ _).mono
  (fun r h => ⟨fun c => (h c).2, Idealize.ShloMosaic.sem_eq_zero_of_no_sems (by decide) r.2⟩)
  (Cert.AttnFwdReferenceIdeal.Value.run m ρ)

theorem frameConvFwd : Cert.quiescent_ConvFwdKernel := fun m ρ _ => Cert.ConvFwdKernel.Gen.frame m ρ
theorem frameConvFwdI : Cert.quiescent_ConvFwdKernelIdeal := fun m ρ _ => Cert.ConvFwdKernelIdeal.Gen.frame m ρ
theorem frameConvFwdR : Cert.quiescent_ConvFwdReferenceIdeal := fun m ρ _ => (θ_run Cert.ConvFwdReferenceIdeal.defs _ _).mono
  (fun r h => ⟨fun c => (h c).2, Idealize.ShloMosaic.sem_eq_zero_of_no_sems (by decide) r.2⟩)
  (Cert.ConvFwdReferenceIdeal.Value.run m ρ)

theorem frameGmlpFwd : Cert.quiescent_GmlpFwdKernel := fun m ρ _ => Cert.GmlpFwdKernel.Gen.frame m ρ
theorem frameGmlpFwdI : Cert.quiescent_GmlpFwdKernelIdeal := fun m ρ _ => Cert.GmlpFwdKernelIdeal.Gen.frame m ρ
theorem frameGmlpFwdR : Cert.quiescent_GmlpFwdReferenceIdeal := fun m ρ _ => (θ_run Cert.GmlpFwdReferenceIdeal.defs _ _).mono
  (fun r h => ⟨fun c => (h c).2, Idealize.ShloMosaic.sem_eq_zero_of_no_sems (by decide) r.2⟩)
  (Cert.GmlpFwdReferenceIdeal.Value.run m ρ)

theorem frameProj : Cert.quiescent_ProjKernel := fun m ρ _ => Cert.ProjKernel.Gen.frame m ρ
theorem frameProjI : Cert.quiescent_ProjKernelIdeal := fun m ρ _ => Cert.ProjKernelIdeal.Gen.frame m ρ
theorem frameProjR : Cert.quiescent_ProjReferenceIdeal := fun m ρ _ => (θ_run Cert.ProjReferenceIdeal.defs _ _).mono
  (fun r h => ⟨fun c => (h c).2.2.2, Idealize.ShloMosaic.sem_eq_zero_of_no_sems (by decide) r.2⟩)
  (Cert.ProjReferenceIdeal.Value.run m ρ)

theorem frameFfn : Cert.quiescent_FfnKernel := fun m ρ _ => Cert.FfnKernel.Gen.frame m ρ
theorem frameFfnI : Cert.quiescent_FfnKernelIdeal := fun m ρ _ => Cert.FfnKernelIdeal.Gen.frame m ρ
theorem frameFfnR : Cert.quiescent_FfnReferenceIdeal := fun m ρ _ => (θ_run Cert.FfnReferenceIdeal.defs _ _).mono
  (fun r h => ⟨fun c => (h c).2.2, Idealize.ShloMosaic.sem_eq_zero_of_no_sems (by decide) r.2⟩)
  (Cert.FfnReferenceIdeal.Value.run m ρ)

theorem frameDown : Cert.quiescent_DownKernel := fun m ρ _ => Cert.DownKernel.Gen.frame m ρ
theorem frameDownI : Cert.quiescent_DownKernelIdeal := fun m ρ _ => Cert.DownKernelIdeal.Gen.frame m ρ
theorem frameDownR : Cert.quiescent_DownReferenceIdeal := fun m ρ _ => (θ_run Cert.DownReferenceIdeal.defs _ _).mono
  (fun r h => ⟨fun c => (h c).2, Idealize.ShloMosaic.sem_eq_zero_of_no_sems (by decide) r.2⟩)
  (Cert.DownReferenceIdeal.Value.run m ρ)

theorem frameDw : Cert.quiescent_DwKernel := fun m ρ _ => Cert.DwKernel.Gen.frame m ρ
theorem frameDwI : Cert.quiescent_DwKernelIdeal := fun m ρ _ => Cert.DwKernelIdeal.Gen.frame m ρ
theorem frameDwR : Cert.quiescent_DwReferenceIdeal := fun m ρ _ => (θ_run Cert.DwReferenceIdeal.defs _ _).mono
  (fun r h => ⟨fun c => (h c).2, Idealize.ShloMosaic.sem_eq_zero_of_no_sems (by decide) r.2⟩)
  (Cert.DwReferenceIdeal.Value.run m ρ)

theorem frameDxn : Cert.quiescent_DxnKernel := fun m ρ _ => Cert.DxnKernel.Gen.frame m ρ
theorem frameDxnI : Cert.quiescent_DxnKernelIdeal := fun m ρ _ => Cert.DxnKernelIdeal.Gen.frame m ρ
theorem frameDxnR : Cert.quiescent_DxnReferenceIdeal := fun m ρ _ => (θ_run Cert.DxnReferenceIdeal.defs _ _).mono
  (fun r h => ⟨fun c => (h c).2, Idealize.ShloMosaic.sem_eq_zero_of_no_sems (by decide) r.2⟩)
  (Cert.DxnReferenceIdeal.Value.run m ρ)

theorem frameAdam : Cert.quiescent_AdamKernel := fun m ρ _ => Cert.AdamKernel.Gen.frame m ρ
theorem frameAdamI : Cert.quiescent_AdamKernelIdeal := fun m ρ _ => Cert.AdamKernelIdeal.Gen.frame m ρ
theorem frameAdamR : Cert.quiescent_AdamReferenceIdeal := fun m ρ _ => (θ_run Cert.AdamReferenceIdeal.defs _ _).mono
  (fun r h => ⟨fun c => (h c).2.2.2.2, Idealize.ShloMosaic.sem_eq_zero_of_no_sems (by decide) r.2⟩)
  (Cert.AdamReferenceIdeal.Value.run m ρ)

theorem frameFlat : Cert.quiescent_FlatKernel := fun m ρ _ => Cert.FlatKernel.Gen.frame m ρ
theorem frameFlatI : Cert.quiescent_FlatKernelIdeal := fun m ρ _ => Cert.FlatKernelIdeal.Gen.frame m ρ
theorem frameFlatR : Cert.quiescent_FlatReferenceIdeal := fun m ρ _ => (θ_run Cert.FlatReferenceIdeal.defs _ _).mono
  (fun r h => ⟨fun c => (h c).2.2.2, Idealize.ShloMosaic.sem_eq_zero_of_no_sems (by decide) r.2⟩)
  (Cert.FlatReferenceIdeal.Value.run m ρ)

/-- The two constants of the GELU that the ideal kernel names are real numbers. -/
theorem preservesGmlp : Cert.preserves_GmlpKernel_GmlpKernelIdeal :=
  ⟨IdealRules.named_const.statement Cert.GmlpKernelIdeal.κ "sqrt_half" .f32 0x3F3504F3#32 _ rfl, IdealRules.named_const.statement Cert.GmlpKernelIdeal.κ "inv_sqrt_2pi" .f32 0x3ECC422A#32 _ rfl⟩

theorem preservesGmlpFwd : Cert.preserves_GmlpFwdKernel_GmlpFwdKernelIdeal :=
  IdealRules.named_const.statement Cert.GmlpFwdKernelIdeal.κ "sqrt_half" .f32 0x3F3504F3#32 _ rfl

theorem claim : Cert.Claim := ⟨Cert.GainKernel.Gen.facts, Cert.GainKernelIdeal.Gen.facts, Cert.GainReferenceIdeal.Gen.facts,
  Cert.NormKernel.Gen.facts, Cert.NormKernelIdeal.Gen.facts, Cert.NormReferenceIdeal.Gen.facts,
  Cert.LossKernel.Gen.facts, Cert.LossKernelIdeal.Gen.facts, Cert.LossReferenceIdeal.Gen.facts,
  Cert.AttnKernel.Gen.facts, Cert.AttnKernelIdeal.Gen.facts, Cert.AttnReferenceIdeal.Gen.facts,
  Cert.ConvKernel.Gen.facts, Cert.ConvKernelIdeal.Gen.facts, Cert.ConvReferenceIdeal.Gen.facts,
  Cert.GmlpKernel.Gen.facts, Cert.GmlpKernelIdeal.Gen.facts, Cert.GmlpReferenceIdeal.Gen.facts,
  Cert.RmsFwdKernel.Gen.facts, Cert.RmsFwdKernelIdeal.Gen.facts, Cert.RmsFwdReferenceIdeal.Gen.facts,
  Cert.AttnFwdKernel.Gen.facts, Cert.AttnFwdKernelIdeal.Gen.facts, Cert.AttnFwdReferenceIdeal.Gen.facts,
  Cert.ConvFwdKernel.Gen.facts, Cert.ConvFwdKernelIdeal.Gen.facts, Cert.ConvFwdReferenceIdeal.Gen.facts,
  Cert.GmlpFwdKernel.Gen.facts, Cert.GmlpFwdKernelIdeal.Gen.facts, Cert.GmlpFwdReferenceIdeal.Gen.facts,
  Cert.ProjKernel.Gen.facts, Cert.ProjKernelIdeal.Gen.facts, Cert.ProjReferenceIdeal.Gen.facts,
  Cert.FfnKernel.Gen.facts, Cert.FfnKernelIdeal.Gen.facts, Cert.FfnReferenceIdeal.Gen.facts,
  Cert.DownKernel.Gen.facts, Cert.DownKernelIdeal.Gen.facts, Cert.DownReferenceIdeal.Gen.facts,
  Cert.DwKernel.Gen.facts, Cert.DwKernelIdeal.Gen.facts, Cert.DwReferenceIdeal.Gen.facts,
  Cert.DxnKernel.Gen.facts, Cert.DxnKernelIdeal.Gen.facts, Cert.DxnReferenceIdeal.Gen.facts,
  Cert.AdamKernel.Gen.facts, Cert.AdamKernelIdeal.Gen.facts, Cert.AdamReferenceIdeal.Gen.facts,
  Cert.FlatKernel.Gen.facts, Cert.FlatKernelIdeal.Gen.facts, Cert.FlatReferenceIdeal.Gen.facts,
  Cert.Pre_norm_finite.Gen.facts, Cert.Pre_loss_finite.Gen.facts, Cert.Pre_attn_finite.Gen.facts,
  Cert.Pre_gmlp_finite.Gen.facts, Cert.Pre_proj_finite.Gen.facts, Cert.Pre_ffn_finite.Gen.facts,
  fun m ρ _ => frameGain m ρ trivial, fun m ρ _ => frameGainI m ρ trivial, fun m ρ _ => frameGainR m ρ trivial,
  fun m ρ _ => frameNorm m ρ trivial, fun m ρ _ => frameNormI m ρ trivial, fun m ρ _ => frameNormI m ρ trivial,
  fun m ρ _ => frameNormR m ρ trivial, fun m ρ _ => frameNormR m ρ trivial, fun m ρ _ => frameLoss m ρ trivial,
  fun m ρ _ => frameLossI m ρ trivial, fun m ρ _ => frameLossI m ρ trivial, fun m ρ _ => frameLossR m ρ trivial,
  fun m ρ _ => frameLossR m ρ trivial, fun m ρ _ => frameAttn m ρ trivial, fun m ρ _ => frameAttnI m ρ trivial,
  fun m ρ _ => frameAttnI m ρ trivial, fun m ρ _ => frameAttnR m ρ trivial, fun m ρ _ => frameAttnR m ρ trivial,
  fun m ρ _ => frameConv m ρ trivial, fun m ρ _ => frameConvI m ρ trivial, fun m ρ _ => frameConvR m ρ trivial,
  fun m ρ _ => frameGmlp m ρ trivial, fun m ρ _ => frameGmlpI m ρ trivial, fun m ρ _ => frameGmlpI m ρ trivial,
  fun m ρ _ => frameGmlpR m ρ trivial, fun m ρ _ => frameGmlpR m ρ trivial, fun m ρ _ => frameRmsFwd m ρ trivial,
  fun m ρ _ => frameRmsFwdI m ρ trivial, fun m ρ _ => frameRmsFwdR m ρ trivial, fun m ρ _ => frameAttnFwd m ρ trivial,
  fun m ρ _ => frameAttnFwdI m ρ trivial, fun m ρ _ => frameAttnFwdR m ρ trivial, fun m ρ _ => frameConvFwd m ρ trivial,
  fun m ρ _ => frameConvFwdI m ρ trivial, fun m ρ _ => frameConvFwdR m ρ trivial, fun m ρ _ => frameGmlpFwd m ρ trivial,
  fun m ρ _ => frameGmlpFwdI m ρ trivial, fun m ρ _ => frameGmlpFwdR m ρ trivial, fun m ρ _ => frameProj m ρ trivial,
  fun m ρ _ => frameProjI m ρ trivial, fun m ρ _ => frameProjI m ρ trivial, fun m ρ _ => frameProjR m ρ trivial,
  fun m ρ _ => frameProjR m ρ trivial, fun m ρ _ => frameFfn m ρ trivial, fun m ρ _ => frameFfnI m ρ trivial,
  fun m ρ _ => frameFfnI m ρ trivial, fun m ρ _ => frameFfnR m ρ trivial, fun m ρ _ => frameFfnR m ρ trivial,
  fun m ρ _ => frameDown m ρ trivial, fun m ρ _ => frameDownI m ρ trivial, fun m ρ _ => frameDownR m ρ trivial,
  fun m ρ _ => frameDw m ρ trivial, fun m ρ _ => frameDwI m ρ trivial, fun m ρ _ => frameDwR m ρ trivial,
  fun m ρ _ => frameDxn m ρ trivial, fun m ρ _ => frameDxnI m ρ trivial, fun m ρ _ => frameDxnR m ρ trivial,
  fun m ρ _ => frameAdam m ρ trivial, fun m ρ _ => frameAdamI m ρ trivial, fun m ρ _ => frameAdamR m ρ trivial,
  fun m ρ _ => frameFlat m ρ trivial, fun m ρ _ => frameFlatI m ρ trivial, fun m ρ _ => frameFlatR m ρ trivial,
  trivial, Cert.GainClaim.claim, trivial,
  Cert.NormClaim.claim, trivial, Cert.LossClaim.claim,
  trivial, Cert.AttnClaim.claim, trivial,
  Cert.ConvClaim.claim, preservesGmlp, Cert.GmlpClaim.claim,
  trivial, Cert.RmsFwdClaim.claim, trivial,
  Cert.AttnFwdClaim.claim, trivial, Cert.ConvFwdClaim.claim,
  preservesGmlpFwd, Cert.GmlpFwdClaim.claim, trivial,
  Cert.ProjClaim.claim, trivial, Cert.FfnClaim.claim,
  trivial, Cert.DownClaim.claim, trivial,
  Cert.DwClaim.claim, trivial, Cert.DxnClaim.claim,
  trivial, Cert.AdamClaim.claim, trivial,
  Cert.FlatClaim.claim⟩

end Cert.Proof

end
